-- ==== Defs.lean ====
def Pre_SsdKernel (m : (ℓ : Loc Cert.SsdKernel.nD Cert.SsdKernel.τ Cert.SsdKernel.sig) → Buf (Elt Bits) ℓ) : Prop :=
  True

def Pre_SsdKernelIdeal (m : (ℓ : Loc Cert.SsdKernelIdeal.nD Cert.SsdKernelIdeal.τ Cert.SsdKernelIdeal.sig) → Buf (Elt Ideal) ℓ) : Prop :=
  True

def Pre_SsdKernelIdeal_dt_nonneg [hPre_dt_nonneg : Cert.Pre_dt_nonneg.Facts] (m : (ℓ : Loc Cert.SsdKernelIdeal.nD Cert.SsdKernelIdeal.τ Cert.SsdKernelIdeal.sig) → Buf (Elt Ideal) ℓ) : Prop :=
  ∀ c : Dev Cert.SsdKernelIdeal.nD,
    (Cert.Pre_dt_nonneg.fn (F := Ideal) (m ((c.tc : Thread Cert.SsdKernelIdeal.nD Cert.SsdKernelIdeal.τ).loc Cert.SsdKernelIdeal.main_arg0)) (m ((c.tc : Thread Cert.SsdKernelIdeal.nD Cert.SsdKernelIdeal.τ).loc Cert.SsdKernelIdeal.main_arg1)) (m ((c.tc : Thread Cert.SsdKernelIdeal.nD Cert.SsdKernelIdeal.τ).loc Cert.SsdKernelIdeal.main_arg2)) (m ((c.tc : Thread Cert.SsdKernelIdeal.nD Cert.SsdKernelIdeal.τ).loc Cert.SsdKernelIdeal.main_arg3)) (m ((c.tc : Thread Cert.SsdKernelIdeal.nD Cert.SsdKernelIdeal.τ).loc Cert.SsdKernelIdeal.main_arg4)) (m ((c.tc : Thread Cert.SsdKernelIdeal.nD Cert.SsdKernelIdeal.τ).loc Cert.SsdKernelIdeal.main_arg5)) (m ((c.tc : Thread Cert.SsdKernelIdeal.nD Cert.SsdKernelIdeal.τ).loc Cert.SsdKernelIdeal.main_arg6)) (m ((c.tc : Thread Cert.SsdKernelIdeal.nD Cert.SsdKernelIdeal.τ).loc Cert.SsdKernelIdeal.main_arg7)) (m ((c.tc : Thread Cert.SsdKernelIdeal.nD Cert.SsdKernelIdeal.τ).loc Cert.SsdKernelIdeal.main_arg8)) (m ((c.tc : Thread Cert.SsdKernelIdeal.nD Cert.SsdKernelIdeal.τ).loc Cert.SsdKernelIdeal.main_arg9))) = (fun _ => 1#1)

def Pre_SsdRefIdeal (m : (ℓ : Loc Cert.SsdRefIdeal.nD Cert.SsdRefIdeal.τ Cert.SsdRefIdeal.sig) → Buf (Elt Ideal) ℓ) : Prop :=
  True

def Pre_SsdRefIdeal_dt_nonneg [hPre_dt_nonneg : Cert.Pre_dt_nonneg.Facts] (m : (ℓ : Loc Cert.SsdRefIdeal.nD Cert.SsdRefIdeal.τ Cert.SsdRefIdeal.sig) → Buf (Elt Ideal) ℓ) : Prop :=
  ∀ c : Dev Cert.SsdRefIdeal.nD,
    (Cert.Pre_dt_nonneg.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5)) (m ((c.tc : Thread Cert.SsdRefIdeal.nD Cert.SsdRefIdeal.τ).loc Cert.SsdRefIdeal.main_arg6)) (m ((c.tc : Thread Cert.SsdRefIdeal.nD Cert.SsdRefIdeal.τ).loc Cert.SsdRefIdeal.main_arg7)) (m ((c.tc : Thread Cert.SsdRefIdeal.nD Cert.SsdRefIdeal.τ).loc Cert.SsdRefIdeal.main_arg8)) (m ((c.tc : Thread Cert.SsdRefIdeal.nD Cert.SsdRefIdeal.τ).loc Cert.SsdRefIdeal.main_arg9))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjPromptKernel (m : (ℓ : Loc Cert.ProjPromptKernel.nD Cert.ProjPromptKernel.τ Cert.ProjPromptKernel.sig) → Buf (Elt Bits) ℓ) : Prop :=
  True

def Pre_ProjPromptKernelIdeal (m : (ℓ : Loc Cert.ProjPromptKernelIdeal.nD Cert.ProjPromptKernelIdeal.τ Cert.ProjPromptKernelIdeal.sig) → Buf (Elt Ideal) ℓ) : Prop :=
  True

def Pre_ProjPromptRefIdeal (m : (ℓ : Loc Cert.ProjPromptRefIdeal.nD Cert.ProjPromptRefIdeal.τ Cert.ProjPromptRefIdeal.sig) → Buf (Elt Ideal) ℓ) : Prop :=
  True

def quiescent_SsdKernel [hSsdKernel : Cert.SsdKernel.Facts] : Prop :=
  ∀ (m : (ℓ : Loc Cert.SsdKernel.nD Cert.SsdKernel.τ Cert.SsdKernel.sig) → Buf (Elt Bits) ℓ) (g : Dev Cert.SsdKernel.nD → PrngReg), Pre_SsdKernel m →
    θ_run (Cert.SsdKernel.defs (F := Bits)) (onTc (τ := Cert.SsdKernel.τ) (Cert.SsdKernel.main (F := Bits))) ⟨m, fun _ => 0, g⟩ (fun r => (∀ c : Dev Cert.SsdKernel.nD,
      r.2.mem ((c.tc : Thread Cert.SsdKernel.nD Cert.SsdKernel.τ).loc Cert.SsdKernel.main_arg0) = m ((c.tc : Thread Cert.SsdKernel.nD Cert.SsdKernel.τ).loc Cert.SsdKernel.main_arg0)
      ∧ r.2.mem ((c.tc : Thread Cert.SsdKernel.nD Cert.SsdKernel.τ).loc Cert.SsdKernel.main_arg1) = m ((c.tc : Thread Cert.SsdKernel.nD Cert.SsdKernel.τ).loc Cert.SsdKernel.main_arg1)
      ∧ r.2.mem ((c.tc : Thread Cert.SsdKernel.nD Cert.SsdKernel.τ).loc Cert.SsdKernel.main_arg2) = m ((c.tc : Thread Cert.SsdKernel.nD Cert.SsdKernel.τ).loc Cert.SsdKernel.main_arg2)
      ∧ r.2.mem ((c.tc : Thread Cert.SsdKernel.nD Cert.SsdKernel.τ).loc Cert.SsdKernel.main_arg3) = m ((c.tc : Thread Cert.SsdKernel.nD Cert.SsdKernel.τ).loc Cert.SsdKernel.main_arg3)
      ∧ r.2.mem ((c.tc : Thread Cert.SsdKernel.nD Cert.SsdKernel.τ).loc Cert.SsdKernel.main_arg4) = m ((c.tc : Thread Cert.SsdKernel.nD Cert.SsdKernel.τ).loc Cert.SsdKernel.main_arg4)
      ∧ r.2.mem ((c.tc : Thread Cert.SsdKernel.nD Cert.SsdKernel.τ).loc Cert.SsdKernel.main_arg5) = m ((c.tc : Thread Cert.SsdKernel.nD Cert.SsdKernel.τ).loc Cert.SsdKernel.main_arg5)
      ∧ r.2.mem ((c.tc : Thread Cert.SsdKernel.nD Cert.SsdKernel.τ).loc Cert.SsdKernel.main_arg6) = m ((c.tc : Thread Cert.SsdKernel.nD Cert.SsdKernel.τ).loc Cert.SsdKernel.main_arg6)
      ∧ r.2.mem ((c.tc : Thread Cert.SsdKernel.nD Cert.SsdKernel.τ).loc Cert.SsdKernel.main_arg7) = m ((c.tc : Thread Cert.SsdKernel.nD Cert.SsdKernel.τ).loc Cert.SsdKernel.main_arg7)
      ∧ r.2.mem ((c.tc : Thread Cert.SsdKernel.nD Cert.SsdKernel.τ).loc Cert.SsdKernel.main_arg8) = m ((c.tc : Thread Cert.SsdKernel.nD Cert.SsdKernel.τ).loc Cert.SsdKernel.main_arg8)
      ∧ r.2.mem ((c.tc : Thread Cert.SsdKernel.nD Cert.SsdKernel.τ).loc Cert.SsdKernel.main_arg9) = m ((c.tc : Thread Cert.SsdKernel.nD Cert.SsdKernel.τ).loc Cert.SsdKernel.main_arg9))
      ∧ r.2.sem = fun _ => 0)

def quiescent_SsdKernelIdeal [hSsdKernelIdeal : Cert.SsdKernelIdeal.Facts] : Prop :=
  ∀ (m : (ℓ : Loc Cert.SsdKernelIdeal.nD Cert.SsdKernelIdeal.τ Cert.SsdKernelIdeal.sig) → Buf (Elt Ideal) ℓ) (g : Dev Cert.SsdKernelIdeal.nD → PrngReg), Pre_SsdKernelIdeal m →
    θ_run (Cert.SsdKernelIdeal.defs (F := Ideal)) (onTc (τ := Cert.SsdKernelIdeal.τ) (Cert.SsdKernelIdeal.main (F := Ideal))) ⟨m, fun _ => 0, g⟩ (fun r => (∀ c : Dev Cert.SsdKernelIdeal.nD,
      r.2.mem ((c.tc : Thread Cert.SsdKernelIdeal.nD Cert.SsdKernelIdeal.τ).loc Cert.SsdKernelIdeal.main_arg0) = m ((c.tc : Thread Cert.SsdKernelIdeal.nD Cert.SsdKernelIdeal.τ).loc Cert.SsdKernelIdeal.main_arg0)
      ∧ r.2.mem ((c.tc : Thread Cert.SsdKernelIdeal.nD Cert.SsdKernelIdeal.τ).loc Cert.SsdKernelIdeal.main_arg1) = m ((c.tc : Thread Cert.SsdKernelIdeal.nD Cert.SsdKernelIdeal.τ).loc Cert.SsdKernelIdeal.main_arg1)
      ∧ r.2.mem ((c.tc : Thread Cert.SsdKernelIdeal.nD Cert.SsdKernelIdeal.τ).loc Cert.SsdKernelIdeal.main_arg2) = m ((c.tc : Thread Cert.SsdKernelIdeal.nD Cert.SsdKernelIdeal.τ).loc Cert.SsdKernelIdeal.main_arg2)
      ∧ r.2.mem ((c.tc : Thread Cert.SsdKernelIdeal.nD Cert.SsdKernelIdeal.τ).loc Cert.SsdKernelIdeal.main_arg3) = m ((c.tc : Thread Cert.SsdKernelIdeal.nD Cert.SsdKernelIdeal.τ).loc Cert.SsdKernelIdeal.main_arg3)
      ∧ r.2.mem ((c.tc : Thread Cert.SsdKernelIdeal.nD Cert.SsdKernelIdeal.τ).loc Cert.SsdKernelIdeal.main_arg4) = m ((c.tc : Thread Cert.SsdKernelIdeal.nD Cert.SsdKernelIdeal.τ).loc Cert.SsdKernelIdeal.main_arg4)
      ∧ r.2.mem ((c.tc : Thread Cert.SsdKernelIdeal.nD Cert.SsdKernelIdeal.τ).loc Cert.SsdKernelIdeal.main_arg5) = m ((c.tc : Thread Cert.SsdKernelIdeal.nD Cert.SsdKernelIdeal.τ).loc Cert.SsdKernelIdeal.main_arg5)
      ∧ r.2.mem ((c.tc : Thread Cert.SsdKernelIdeal.nD Cert.SsdKernelIdeal.τ).loc Cert.SsdKernelIdeal.main_arg6) = m ((c.tc : Thread Cert.SsdKernelIdeal.nD Cert.SsdKernelIdeal.τ).loc Cert.SsdKernelIdeal.main_arg6)
      ∧ r.2.mem ((c.tc : Thread Cert.SsdKernelIdeal.nD Cert.SsdKernelIdeal.τ).loc Cert.SsdKernelIdeal.main_arg7) = m ((c.tc : Thread Cert.SsdKernelIdeal.nD Cert.SsdKernelIdeal.τ).loc Cert.SsdKernelIdeal.main_arg7)
      ∧ r.2.mem ((c.tc : Thread Cert.SsdKernelIdeal.nD Cert.SsdKernelIdeal.τ).loc Cert.SsdKernelIdeal.main_arg8) = m ((c.tc : Thread Cert.SsdKernelIdeal.nD Cert.SsdKernelIdeal.τ).loc Cert.SsdKernelIdeal.main_arg8)
      ∧ r.2.mem ((c.tc : Thread Cert.SsdKernelIdeal.nD Cert.SsdKernelIdeal.τ).loc Cert.SsdKernelIdeal.main_arg9) = m ((c.tc : Thread Cert.SsdKernelIdeal.nD Cert.SsdKernelIdeal.τ).loc Cert.SsdKernelIdeal.main_arg9))
      ∧ r.2.sem = fun _ => 0)

def quiescent_SsdKernelIdeal_pre_dt_nonneg [hSsdKernelIdeal : Cert.SsdKernelIdeal.Facts] [hPre_dt_nonneg : Cert.Pre_dt_nonneg.Facts] : Prop :=
  ∀ (m : (ℓ : Loc Cert.SsdKernelIdeal.nD Cert.SsdKernelIdeal.τ Cert.SsdKernelIdeal.sig) → Buf (Elt Ideal) ℓ) (g : Dev Cert.SsdKernelIdeal.nD → PrngReg), Pre_SsdKernelIdeal_dt_nonneg m →
    θ_run (Cert.SsdKernelIdeal.defs (F := Ideal)) (onTc (τ := Cert.SsdKernelIdeal.τ) (Cert.SsdKernelIdeal.main (F := Ideal))) ⟨m, fun _ => 0, g⟩ (fun r => (∀ c : Dev Cert.SsdKernelIdeal.nD,
      r.2.mem ((c.tc : Thread Cert.SsdKernelIdeal.nD Cert.SsdKernelIdeal.τ).loc Cert.SsdKernelIdeal.main_arg0) = m ((c.tc : Thread Cert.SsdKernelIdeal.nD Cert.SsdKernelIdeal.τ).loc Cert.SsdKernelIdeal.main_arg0)
      ∧ r.2.mem ((c.tc : Thread Cert.SsdKernelIdeal.nD Cert.SsdKernelIdeal.τ).loc Cert.SsdKernelIdeal.main_arg1) = m ((c.tc : Thread Cert.SsdKernelIdeal.nD Cert.SsdKernelIdeal.τ).loc Cert.SsdKernelIdeal.main_arg1)
      ∧ r.2.mem ((c.tc : Thread Cert.SsdKernelIdeal.nD Cert.SsdKernelIdeal.τ).loc Cert.SsdKernelIdeal.main_arg2) = m ((c.tc : Thread Cert.SsdKernelIdeal.nD Cert.SsdKernelIdeal.τ).loc Cert.SsdKernelIdeal.main_arg2)
      ∧ r.2.mem ((c.tc : Thread Cert.SsdKernelIdeal.nD Cert.SsdKernelIdeal.τ).loc Cert.SsdKernelIdeal.main_arg3) = m ((c.tc : Thread Cert.SsdKernelIdeal.nD Cert.SsdKernelIdeal.τ).loc Cert.SsdKernelIdeal.main_arg3)
      ∧ r.2.mem ((c.tc : Thread Cert.SsdKernelIdeal.nD Cert.SsdKernelIdeal.τ).loc Cert.SsdKernelIdeal.main_arg4) = m ((c.tc : Thread Cert.SsdKernelIdeal.nD Cert.SsdKernelIdeal.τ).loc Cert.SsdKernelIdeal.main_arg4)
      ∧ r.2.mem ((c.tc : Thread Cert.SsdKernelIdeal.nD Cert.SsdKernelIdeal.τ).loc Cert.SsdKernelIdeal.main_arg5) = m ((c.tc : Thread Cert.SsdKernelIdeal.nD Cert.SsdKernelIdeal.τ).loc Cert.SsdKernelIdeal.main_arg5)
      ∧ r.2.mem ((c.tc : Thread Cert.SsdKernelIdeal.nD Cert.SsdKernelIdeal.τ).loc Cert.SsdKernelIdeal.main_arg6) = m ((c.tc : Thread Cert.SsdKernelIdeal.nD Cert.SsdKernelIdeal.τ).loc Cert.SsdKernelIdeal.main_arg6)
      ∧ r.2.mem ((c.tc : Thread Cert.SsdKernelIdeal.nD Cert.SsdKernelIdeal.τ).loc Cert.SsdKernelIdeal.main_arg7) = m ((c.tc : Thread Cert.SsdKernelIdeal.nD Cert.SsdKernelIdeal.τ).loc Cert.SsdKernelIdeal.main_arg7)
      ∧ r.2.mem ((c.tc : Thread Cert.SsdKernelIdeal.nD Cert.SsdKernelIdeal.τ).loc Cert.SsdKernelIdeal.main_arg8) = m ((c.tc : Thread Cert.SsdKernelIdeal.nD Cert.SsdKernelIdeal.τ).loc Cert.SsdKernelIdeal.main_arg8)
      ∧ r.2.mem ((c.tc : Thread Cert.SsdKernelIdeal.nD Cert.SsdKernelIdeal.τ).loc Cert.SsdKernelIdeal.main_arg9) = m ((c.tc : Thread Cert.SsdKernelIdeal.nD Cert.SsdKernelIdeal.τ).loc Cert.SsdKernelIdeal.main_arg9))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7)
      ∧ r.2.mem ((c.tc : Thread Cert.SsdRefIdeal.nD Cert.SsdRefIdeal.τ).loc Cert.SsdRefIdeal.main_arg8) = m ((c.tc : Thread Cert.SsdRefIdeal.nD Cert.SsdRefIdeal.τ).loc Cert.SsdRefIdeal.main_arg8)
      ∧ r.2.mem ((c.tc : Thread Cert.SsdRefIdeal.nD Cert.SsdRefIdeal.τ).loc Cert.SsdRefIdeal.main_arg9) = m ((c.tc : Thread Cert.SsdRefIdeal.nD Cert.SsdRefIdeal.τ).loc Cert.SsdRefIdeal.main_arg9))
      ∧ r.2.sem = fun _ => 0)

def quiescent_SsdRefIdeal_pre_dt_nonneg [hSsdRefIdeal : Cert.SsdRefIdeal.Facts] [hPre_dt_nonneg : Cert.Pre_dt_nonneg.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal_dt_nonneg m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7)
      ∧ r.2.mem ((c.tc : Thread Cert.SsdRefIdeal.nD Cert.SsdRefIdeal.τ).loc Cert.SsdRefIdeal.main_arg8) = m ((c.tc : Thread Cert.SsdRefIdeal.nD Cert.SsdRefIdeal.τ).loc Cert.SsdRefIdeal.main_arg8)
      ∧ r.2.mem ((c.tc : Thread Cert.SsdRefIdeal.nD Cert.SsdRefIdeal.τ).loc Cert.SsdRefIdeal.main_arg9) = m ((c.tc : Thread Cert.SsdRefIdeal.nD Cert.SsdRefIdeal.τ).loc Cert.SsdRefIdeal.main_arg9))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6)
      ∧ r.2.mem ((c.tc : Thread Cert.FfnKernel.nD Cert.FfnKernel.τ).loc Cert.FfnKernel.main_arg7) = m ((c.tc : Thread Cert.FfnKernel.nD Cert.FfnKernel.τ).loc Cert.FfnKernel.main_arg7)
      ∧ r.2.mem ((c.tc : Thread Cert.FfnKernel.nD Cert.FfnKernel.τ).loc Cert.FfnKernel.main_arg8) = m ((c.tc : Thread Cert.FfnKernel.nD Cert.FfnKernel.τ).loc Cert.FfnKernel.main_arg8)
      ∧ r.2.mem ((c.tc : Thread Cert.FfnKernel.nD Cert.FfnKernel.τ).loc Cert.FfnKernel.main_arg9) = m ((c.tc : Thread Cert.FfnKernel.nD Cert.FfnKernel.τ).loc Cert.FfnKernel.main_arg9)
      ∧ r.2.mem ((c.tc : Thread Cert.FfnKernel.nD Cert.FfnKernel.τ).loc Cert.FfnKernel.main_arg10) = m ((c.tc : Thread Cert.FfnKernel.nD Cert.FfnKernel.τ).loc Cert.FfnKernel.main_arg10)
      ∧ r.2.mem ((c.tc : Thread Cert.FfnKernel.nD Cert.FfnKernel.τ).loc Cert.FfnKernel.main_arg11) = m ((c.tc : Thread Cert.FfnKernel.nD Cert.FfnKernel.τ).loc Cert.FfnKernel.main_arg11)
      ∧ r.2.mem ((c.tc : Thread Cert.FfnKernel.nD Cert.FfnKernel.τ).loc Cert.FfnKernel.main_arg12) = m ((c.tc : Thread Cert.FfnKernel.nD Cert.FfnKernel.τ).loc Cert.FfnKernel.main_arg12))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
      ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7)
      ∧ r.2.mem ((c.tc : Thread Cert.FfnKernelIdeal.nD Cert.FfnKernelIdeal.τ).loc Cert.FfnKernelIdeal.main_arg8) = m ((c.tc : Thread Cert.FfnKernelIdeal.nD Cert.FfnKernelIdeal.τ).loc Cert.FfnKernelIdeal.main_arg8)
      ∧ r.2.mem ((c.tc : Thread Cert.FfnKernelIdeal.nD Cert.FfnKernelIdeal.τ).loc Cert.FfnKernelIdeal.main_arg9) = m ((c.tc : Thread Cert.FfnKernelIdeal.nD Cert.FfnKernelIdeal.τ).loc Cert.FfnKernelIdeal.main_arg9)
      ∧ r.2.mem ((c.tc : Thread Cert.FfnKernelIdeal.nD Cert.FfnKernelIdeal.τ).loc Cert.FfnKernelIdeal.main_arg10) = m ((c.tc : Thread Cert.FfnKernelIdeal.nD Cert.FfnKernelIdeal.τ).loc Cert.FfnKernelIdeal.main_arg10)
      ∧ r.2.mem ((c.tc : Thread Cert.FfnKernelIdeal.nD Cert.FfnKernelIdeal.τ).loc Cert.FfnKernelIdeal.main_arg11) = m ((c.tc : Thread Cert.FfnKernelIdeal.nD Cert.FfnKernelIdeal.τ).loc Cert.FfnKernelIdeal.main_arg11)
      ∧ r.2.mem ((c.tc : Thread Cert.FfnKernelIdeal.nD Cert.FfnKernelIdeal.τ).loc Cert.FfnKernelIdeal.main_arg12) = m ((c.tc : Thread Cert.FfnKernelIdeal.nD Cert.FfnKernelIdeal.τ).loc Cert.FfnKernelIdeal.main_arg12))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10)
      ∧ r.2.mem ((c.tc : Thread Cert.FfnRefIdeal.nD Cert.FfnRefIdeal.τ).loc Cert.FfnRefIdeal.main_arg11) = m ((c.tc : Thread Cert.FfnRefIdeal.nD Cert.FfnRefIdeal.τ).loc Cert.FfnRefIdeal.main_arg11)
      ∧ r.2.mem ((c.tc : Thread Cert.FfnRefIdeal.nD Cert.FfnRefIdeal.τ).loc Cert.FfnRefIdeal.main_arg12) = m ((c.tc : Thread Cert.FfnRefIdeal.nD Cert.FfnRefIdeal.τ).loc Cert.FfnRefIdeal.main_arg12))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_ProjPromptKernel [hProjPromptKernel : Cert.ProjPromptKernel.Facts] : Prop :=
  ∀ (m : (ℓ : Loc Cert.ProjPromptKernel.nD Cert.ProjPromptKernel.τ Cert.ProjPromptKernel.sig) → Buf (Elt Bits) ℓ) (g : Dev Cert.ProjPromptKernel.nD → PrngReg), Pre_ProjPromptKernel m →
    θ_run (Cert.ProjPromptKernel.defs (F := Bits)) (onTc (τ := Cert.ProjPromptKernel.τ) (Cert.ProjPromptKernel.main (F := Bits))) ⟨m, fun _ => 0, g⟩ (fun r => (∀ c : Dev Cert.ProjPromptKernel.nD,
      r.2.mem ((c.tc : Thread Cert.ProjPromptKernel.nD Cert.ProjPromptKernel.τ).loc Cert.ProjPromptKernel.main_arg0) = m ((c.tc : Thread Cert.ProjPromptKernel.nD Cert.ProjPromptKernel.τ).loc Cert.ProjPromptKernel.main_arg0)
      ∧ r.2.mem ((c.tc : Thread Cert.ProjPromptKernel.nD Cert.ProjPromptKernel.τ).loc Cert.ProjPromptKernel.main_arg1) = m ((c.tc : Thread Cert.ProjPromptKernel.nD Cert.ProjPromptKernel.τ).loc Cert.ProjPromptKernel.main_arg1)
      ∧ r.2.mem ((c.tc : Thread Cert.ProjPromptKernel.nD Cert.ProjPromptKernel.τ).loc Cert.ProjPromptKernel.main_arg2) = m ((c.tc : Thread Cert.ProjPromptKernel.nD Cert.ProjPromptKernel.τ).loc Cert.ProjPromptKernel.main_arg2)
      ∧ r.2.mem ((c.tc : Thread Cert.ProjPromptKernel.nD Cert.ProjPromptKernel.τ).loc Cert.ProjPromptKernel.main_arg3) = m ((c.tc : Thread Cert.ProjPromptKernel.nD Cert.ProjPromptKernel.τ).loc Cert.ProjPromptKernel.main_arg3))
      ∧ r.2.sem = fun _ => 0)

def quiescent_ProjPromptKernelIdeal [hProjPromptKernelIdeal : Cert.ProjPromptKernelIdeal.Facts] : Prop :=
  ∀ (m : (ℓ : Loc Cert.ProjPromptKernelIdeal.nD Cert.ProjPromptKernelIdeal.τ Cert.ProjPromptKernelIdeal.sig) → Buf (Elt Ideal) ℓ) (g : Dev Cert.ProjPromptKernelIdeal.nD → PrngReg), Pre_ProjPromptKernelIdeal m →
    θ_run (Cert.ProjPromptKernelIdeal.defs (F := Ideal)) (onTc (τ := Cert.ProjPromptKernelIdeal.τ) (Cert.ProjPromptKernelIdeal.main (F := Ideal))) ⟨m, fun _ => 0, g⟩ (fun r => (∀ c : Dev Cert.ProjPromptKernelIdeal.nD,
      r.2.mem ((c.tc : Thread Cert.ProjPromptKernelIdeal.nD Cert.ProjPromptKernelIdeal.τ).loc Cert.ProjPromptKernelIdeal.main_arg0) = m ((c.tc : Thread Cert.ProjPromptKernelIdeal.nD Cert.ProjPromptKernelIdeal.τ).loc Cert.ProjPromptKernelIdeal.main_arg0)
      ∧ r.2.mem ((c.tc : Thread Cert.ProjPromptKernelIdeal.nD Cert.ProjPromptKernelIdeal.τ).loc Cert.ProjPromptKernelIdeal.main_arg1) = m ((c.tc : Thread Cert.ProjPromptKernelIdeal.nD Cert.ProjPromptKernelIdeal.τ).loc Cert.ProjPromptKernelIdeal.main_arg1)
      ∧ r.2.mem ((c.tc : Thread Cert.ProjPromptKernelIdeal.nD Cert.ProjPromptKernelIdeal.τ).loc Cert.ProjPromptKernelIdeal.main_arg2) = m ((c.tc : Thread Cert.ProjPromptKernelIdeal.nD Cert.ProjPromptKernelIdeal.τ).loc Cert.ProjPromptKernelIdeal.main_arg2)
      ∧ r.2.mem ((c.tc : Thread Cert.ProjPromptKernelIdeal.nD Cert.ProjPromptKernelIdeal.τ).loc Cert.ProjPromptKernelIdeal.main_arg3) = m ((c.tc : Thread Cert.ProjPromptKernelIdeal.nD Cert.ProjPromptKernelIdeal.τ).loc Cert.ProjPromptKernelIdeal.main_arg3))
      ∧ r.2.sem = fun _ => 0)

def quiescent_ProjPromptRefIdeal [hProjPromptRefIdeal : Cert.ProjPromptRefIdeal.Facts] : Prop :=
  ∀ (m : (ℓ : Loc Cert.ProjPromptRefIdeal.nD Cert.ProjPromptRefIdeal.τ Cert.ProjPromptRefIdeal.sig) → Buf (Elt Ideal) ℓ) (g : Dev Cert.ProjPromptRefIdeal.nD → PrngReg), Pre_ProjPromptRefIdeal m →
    θ_run (Cert.ProjPromptRefIdeal.defs (F := Ideal)) (onTc (τ := Cert.ProjPromptRefIdeal.τ) (Cert.ProjPromptRefIdeal.main (F := Ideal))) ⟨m, fun _ => 0, g⟩ (fun r => (∀ c : Dev Cert.ProjPromptRefIdeal.nD,
      r.2.mem ((c.tc : Thread Cert.ProjPromptRefIdeal.nD Cert.ProjPromptRefIdeal.τ).loc Cert.ProjPromptRefIdeal.main_arg0) = m ((c.tc : Thread Cert.ProjPromptRefIdeal.nD Cert.ProjPromptRefIdeal.τ).loc Cert.ProjPromptRefIdeal.main_arg0)
      ∧ r.2.mem ((c.tc : Thread Cert.ProjPromptRefIdeal.nD Cert.ProjPromptRefIdeal.τ).loc Cert.ProjPromptRefIdeal.main_arg1) = m ((c.tc : Thread Cert.ProjPromptRefIdeal.nD Cert.ProjPromptRefIdeal.τ).loc Cert.ProjPromptRefIdeal.main_arg1)
      ∧ r.2.mem ((c.tc : Thread Cert.ProjPromptRefIdeal.nD Cert.ProjPromptRefIdeal.τ).loc Cert.ProjPromptRefIdeal.main_arg2) = m ((c.tc : Thread Cert.ProjPromptRefIdeal.nD Cert.ProjPromptRefIdeal.τ).loc Cert.ProjPromptRefIdeal.main_arg2)
      ∧ r.2.mem ((c.tc : Thread Cert.ProjPromptRefIdeal.nD Cert.ProjPromptRefIdeal.τ).loc Cert.ProjPromptRefIdeal.main_arg3) = m ((c.tc : Thread Cert.ProjPromptRefIdeal.nD Cert.ProjPromptRefIdeal.τ).loc Cert.ProjPromptRefIdeal.main_arg3))
      ∧ r.2.sem = fun _ => 0)

def preserves_SsdKernel_SsdKernelIdeal : Prop :=
  True

def algebraic_SsdKernelIdeal_SsdRefIdeal_pre_dt_nonneg [hSsdKernelIdeal : Cert.SsdKernelIdeal.Facts] [hSsdRefIdeal : Cert.SsdRefIdeal.Facts] [hPre_dt_nonneg : Cert.Pre_dt_nonneg.Facts] : Prop :=
  ∀ (m : (ℓ : Loc Cert.SsdKernelIdeal.nD Cert.SsdKernelIdeal.τ Cert.SsdKernelIdeal.sig) → Buf (Elt Ideal) ℓ) (g : Dev Cert.SsdKernelIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdKernelIdeal_dt_nonneg m →
    (∀ c : Dev Cert.SsdKernelIdeal.nD,
      m' ((c.tc : Thread Cert.SsdRefIdeal.nD Cert.SsdRefIdeal.τ).loc Cert.SsdRefIdeal.main_arg0) = m ((c.tc : Thread Cert.SsdKernelIdeal.nD Cert.SsdKernelIdeal.τ).loc Cert.SsdKernelIdeal.main_arg0)
      ∧ m' ((c.tc : Thread Cert.SsdRefIdeal.nD Cert.SsdRefIdeal.τ).loc Cert.SsdRefIdeal.main_arg1) = m ((c.tc : Thread Cert.SsdKernelIdeal.nD Cert.SsdKernelIdeal.τ).loc Cert.SsdKernelIdeal.main_arg1)
      ∧ m' ((c.tc : Thread Cert.SsdRefIdeal.nD Cert.SsdRefIdeal.τ).loc Cert.SsdRefIdeal.main_arg2) = m ((c.tc : Thread Cert.SsdKernelIdeal.nD Cert.SsdKernelIdeal.τ).loc Cert.SsdKernelIdeal.main_arg2)
      ∧ m' ((c.tc : Thread Cert.SsdRefIdeal.nD Cert.SsdRefIdeal.τ).loc Cert.SsdRefIdeal.main_arg3) = m ((c.tc : Thread Cert.SsdKernelIdeal.nD Cert.SsdKernelIdeal.τ).loc Cert.SsdKernelIdeal.main_arg3)
      ∧ m' ((c.tc : Thread Cert.SsdRefIdeal.nD Cert.SsdRefIdeal.τ).loc Cert.SsdRefIdeal.main_arg4) = m ((c.tc : Thread Cert.SsdKernelIdeal.nD Cert.SsdKernelIdeal.τ).loc Cert.SsdKernelIdeal.main_arg4)
      ∧ m' ((c.tc : Thread Cert.SsdRefIdeal.nD Cert.SsdRefIdeal.τ).loc Cert.SsdRefIdeal.main_arg5) = m ((c.tc : Thread Cert.SsdKernelIdeal.nD Cert.SsdKernelIdeal.τ).loc Cert.SsdKernelIdeal.main_arg5)
      ∧ m' ((c.tc : Thread Cert.SsdRefIdeal.nD Cert.SsdRefIdeal.τ).loc Cert.SsdRefIdeal.main_arg6) = m ((c.tc : Thread Cert.SsdKernelIdeal.nD Cert.SsdKernelIdeal.τ).loc Cert.SsdKernelIdeal.main_arg6)
      ∧ m' ((c.tc : Thread Cert.SsdRefIdeal.nD Cert.SsdRefIdeal.τ).loc Cert.SsdRefIdeal.main_arg7) = m ((c.tc : Thread Cert.SsdKernelIdeal.nD Cert.SsdKernelIdeal.τ).loc Cert.SsdKernelIdeal.main_arg7)
      ∧ m' ((c.tc : Thread Cert.SsdRefIdeal.nD Cert.SsdRefIdeal.τ).loc Cert.SsdRefIdeal.main_arg8) = m ((c.tc : Thread Cert.SsdKernelIdeal.nD Cert.SsdKernelIdeal.τ).loc Cert.SsdKernelIdeal.main_arg8)
      ∧ m' ((c.tc : Thread Cert.SsdRefIdeal.nD Cert.SsdRefIdeal.τ).loc Cert.SsdRefIdeal.main_arg9) = m ((c.tc : Thread Cert.SsdKernelIdeal.nD Cert.SsdKernelIdeal.τ).loc Cert.SsdKernelIdeal.main_arg9)) →
    ∃ (v0 : (c : Dev Cert.SsdKernelIdeal.nD) → Buf (Elt Ideal) ((c.tc : Thread Cert.SsdKernelIdeal.nD Cert.SsdKernelIdeal.τ).loc Cert.SsdKernelIdeal.main_v16_0)) (v1 : (c : Dev Cert.SsdKernelIdeal.nD) → Buf (Elt Ideal) ((c.tc : Thread Cert.SsdKernelIdeal.nD Cert.SsdKernelIdeal.τ).loc Cert.SsdKernelIdeal.main_v16_1)),
      θ_run (Cert.SsdKernelIdeal.defs (F := Ideal)) (onTc (τ := Cert.SsdKernelIdeal.τ) (Cert.SsdKernelIdeal.main (F := Ideal))) ⟨m, fun _ => 0, g⟩ (fun r => ∀ c : Dev Cert.SsdKernelIdeal.nD,
          r.2.mem ((c.tc : Thread Cert.SsdKernelIdeal.nD Cert.SsdKernelIdeal.τ).loc Cert.SsdKernelIdeal.main_v16_0) = v0 c
          ∧ r.2.mem ((c.tc : Thread Cert.SsdKernelIdeal.nD Cert.SsdKernelIdeal.τ).loc Cert.SsdKernelIdeal.main_v16_1) = v1 c
          ∧ r.2.mem ((c.tc : Thread Cert.SsdKernelIdeal.nD Cert.SsdKernelIdeal.τ).loc Cert.SsdKernelIdeal.main_arg0) = m ((c.tc : Thread Cert.SsdKernelIdeal.nD Cert.SsdKernelIdeal.τ).loc Cert.SsdKernelIdeal.main_arg0)
          ∧ r.2.mem ((c.tc : Thread Cert.SsdKernelIdeal.nD Cert.SsdKernelIdeal.τ).loc Cert.SsdKernelIdeal.main_arg1) = m ((c.tc : Thread Cert.SsdKernelIdeal.nD Cert.SsdKernelIdeal.τ).loc Cert.SsdKernelIdeal.main_arg1)
          ∧ r.2.mem ((c.tc : Thread Cert.SsdKernelIdeal.nD Cert.SsdKernelIdeal.τ).loc Cert.SsdKernelIdeal.main_arg2) = m ((c.tc : Thread Cert.SsdKernelIdeal.nD Cert.SsdKernelIdeal.τ).loc Cert.SsdKernelIdeal.main_arg2)
          ∧ r.2.mem ((c.tc : Thread Cert.SsdKernelIdeal.nD Cert.SsdKernelIdeal.τ).loc Cert.SsdKernelIdeal.main_arg3) = m ((c.tc : Thread Cert.SsdKernelIdeal.nD Cert.SsdKernelIdeal.τ).loc Cert.SsdKernelIdeal.main_arg3)
          ∧ r.2.mem ((c.tc : Thread Cert.SsdKernelIdeal.nD Cert.SsdKernelIdeal.τ).loc Cert.SsdKernelIdeal.main_arg4) = m ((c.tc : Thread Cert.SsdKernelIdeal.nD Cert.SsdKernelIdeal.τ).loc Cert.SsdKernelIdeal.main_arg4)
          ∧ r.2.mem ((c.tc : Thread Cert.SsdKernelIdeal.nD Cert.SsdKernelIdeal.τ).loc Cert.SsdKernelIdeal.main_arg5) = m ((c.tc : Thread Cert.SsdKernelIdeal.nD Cert.SsdKernelIdeal.τ).loc Cert.SsdKernelIdeal.main_arg5)
          ∧ r.2.mem ((c.tc : Thread Cert.SsdKernelIdeal.nD Cert.SsdKernelIdeal.τ).loc Cert.SsdKernelIdeal.main_arg6) = m ((c.tc : Thread Cert.SsdKernelIdeal.nD Cert.SsdKernelIdeal.τ).loc Cert.SsdKernelIdeal.main_arg6)
          ∧ r.2.mem ((c.tc : Thread Cert.SsdKernelIdeal.nD Cert.SsdKernelIdeal.τ).loc Cert.SsdKernelIdeal.main_arg7) = m ((c.tc : Thread Cert.SsdKernelIdeal.nD Cert.SsdKernelIdeal.τ).loc Cert.SsdKernelIdeal.main_arg7)
          ∧ r.2.mem ((c.tc : Thread Cert.SsdKernelIdeal.nD Cert.SsdKernelIdeal.τ).loc Cert.SsdKernelIdeal.main_arg8) = m ((c.tc : Thread Cert.SsdKernelIdeal.nD Cert.SsdKernelIdeal.τ).loc Cert.SsdKernelIdeal.main_arg8)
          ∧ r.2.mem ((c.tc : Thread Cert.SsdKernelIdeal.nD Cert.SsdKernelIdeal.τ).loc Cert.SsdKernelIdeal.main_arg9) = m ((c.tc : Thread Cert.SsdKernelIdeal.nD Cert.SsdKernelIdeal.τ).loc Cert.SsdKernelIdeal.main_arg9))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v117) = v0 c
          ∧ r.2.mem ((c.tc : Thread Cert.SsdRefIdeal.nD Cert.SsdRefIdeal.τ).loc Cert.SsdRefIdeal.main_v118) = v1 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5)
          ∧ r.2.mem ((c.tc : Thread Cert.SsdRefIdeal.nD Cert.SsdRefIdeal.τ).loc Cert.SsdRefIdeal.main_arg6) = m' ((c.tc : Thread Cert.SsdRefIdeal.nD Cert.SsdRefIdeal.τ).loc Cert.SsdRefIdeal.main_arg6)
          ∧ r.2.mem ((c.tc : Thread Cert.SsdRefIdeal.nD Cert.SsdRefIdeal.τ).loc Cert.SsdRefIdeal.main_arg7) = m' ((c.tc : Thread Cert.SsdRefIdeal.nD Cert.SsdRefIdeal.τ).loc Cert.SsdRefIdeal.main_arg7)
          ∧ r.2.mem ((c.tc : Thread Cert.SsdRefIdeal.nD Cert.SsdRefIdeal.τ).loc Cert.SsdRefIdeal.main_arg8) = m' ((c.tc : Thread Cert.SsdRefIdeal.nD Cert.SsdRefIdeal.τ).loc Cert.SsdRefIdeal.main_arg8)
          ∧ r.2.mem ((c.tc : Thread Cert.SsdRefIdeal.nD Cert.SsdRefIdeal.τ).loc Cert.SsdRefIdeal.main_arg9) = m' ((c.tc : Thread Cert.SsdRefIdeal.nD Cert.SsdRefIdeal.τ).loc Cert.SsdRefIdeal.main_arg9))

def preserves_FfnKernel_FfnKernelIdeal : Prop :=
  True

def algebraic_FfnKernelIdeal_FfnRefIdeal [hFfnKernelIdeal : Cert.FfnKernelIdeal.Facts] [hFfnRefIdeal : Cert.FfnRefIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnKernelIdeal m →
    (∀ c : Dev Cert.FfnKernelIdeal.nD,
      m' ((c.tc : Thread Cert.FfnRefIdeal.nD Cert.FfnRefIdeal.τ).loc Cert.FfnRefIdeal.main_arg0) = m ((c.tc : Thread Cert.FfnKernelIdeal.nD Cert.FfnKernelIdeal.τ).loc Cert.FfnKernelIdeal.main_arg0)
      ∧ m' ((c.tc : Thread Cert.FfnRefIdeal.nD Cert.FfnRefIdeal.τ).loc Cert.FfnRefIdeal.main_arg1) = m ((c.tc : Thread Cert.FfnKernelIdeal.nD Cert.FfnKernelIdeal.τ).loc Cert.FfnKernelIdeal.main_arg1)
      ∧ m' ((c.tc : Thread Cert.FfnRefIdeal.nD Cert.FfnRefIdeal.τ).loc Cert.FfnRefIdeal.main_arg2) = m ((c.tc : Thread Cert.FfnKernelIdeal.nD Cert.FfnKernelIdeal.τ).loc Cert.FfnKernelIdeal.main_arg2)
      ∧ m' ((c.tc : Thread Cert.FfnRefIdeal.nD Cert.FfnRefIdeal.τ).loc Cert.FfnRefIdeal.main_arg3) = m ((c.tc : Thread Cert.FfnKernelIdeal.nD Cert.FfnKernelIdeal.τ).loc Cert.FfnKernelIdeal.main_arg3)
      ∧ m' ((c.tc : Thread Cert.FfnRefIdeal.nD Cert.FfnRefIdeal.τ).loc Cert.FfnRefIdeal.main_arg4) = m ((c.tc : Thread Cert.FfnKernelIdeal.nD Cert.FfnKernelIdeal.τ).loc Cert.FfnKernelIdeal.main_arg4)
      ∧ m' ((c.tc : Thread Cert.FfnRefIdeal.nD Cert.FfnRefIdeal.τ).loc Cert.FfnRefIdeal.main_arg5) = m ((c.tc : Thread Cert.FfnKernelIdeal.nD Cert.FfnKernelIdeal.τ).loc Cert.FfnKernelIdeal.main_arg5)
      ∧ m' ((c.tc : Thread Cert.FfnRefIdeal.nD Cert.FfnRefIdeal.τ).loc Cert.FfnRefIdeal.main_arg6) = m ((c.tc : Thread Cert.FfnKernelIdeal.nD Cert.FfnKernelIdeal.τ).loc Cert.FfnKernelIdeal.main_arg6)
      ∧ m' ((c.tc : Thread Cert.FfnRefIdeal.nD Cert.FfnRefIdeal.τ).loc Cert.FfnRefIdeal.main_arg7) = m ((c.tc : Thread Cert.FfnKernelIdeal.nD Cert.FfnKernelIdeal.τ).loc Cert.FfnKernelIdeal.main_arg7)
      ∧ m' ((c.tc : Thread Cert.FfnRefIdeal.nD Cert.FfnRefIdeal.τ).loc Cert.FfnRefIdeal.main_arg8) = m ((c.tc : Thread Cert.FfnKernelIdeal.nD Cert.FfnKernelIdeal.τ).loc Cert.FfnKernelIdeal.main_arg8)
      ∧ m' ((c.tc : Thread Cert.FfnRefIdeal.nD Cert.FfnRefIdeal.τ).loc Cert.FfnRefIdeal.main_arg9) = m ((c.tc : Thread Cert.FfnKernelIdeal.nD Cert.FfnKernelIdeal.τ).loc Cert.FfnKernelIdeal.main_arg9)
      ∧ m' ((c.tc : Thread Cert.FfnRefIdeal.nD Cert.FfnRefIdeal.τ).loc Cert.FfnRefIdeal.main_arg10) = m ((c.tc : Thread Cert.FfnKernelIdeal.nD Cert.FfnKernelIdeal.τ).loc Cert.FfnKernelIdeal.main_arg10)
      ∧ m' ((c.tc : Thread Cert.FfnRefIdeal.nD Cert.FfnRefIdeal.τ).loc Cert.FfnRefIdeal.main_arg11) = m ((c.tc : Thread Cert.FfnKernelIdeal.nD Cert.FfnKernelIdeal.τ).loc Cert.FfnKernelIdeal.main_arg11)
      ∧ m' ((c.tc : Thread Cert.FfnRefIdeal.nD Cert.FfnRefIdeal.τ).loc Cert.FfnRefIdeal.main_arg12) = m ((c.tc : Thread Cert.FfnKernelIdeal.nD Cert.FfnKernelIdeal.τ).loc Cert.FfnKernelIdeal.main_arg12)) →
    ∃ (v0 : (c : Dev Cert.FfnKernelIdeal.nD) → Buf (Elt Ideal) ((c.tc : Thread Cert.FfnKernelIdeal.nD Cert.FfnKernelIdeal.τ).loc Cert.FfnKernelIdeal.main_v17_0)) (v1 : (c : Dev Cert.FfnKernelIdeal.nD) → Buf (Elt Ideal) ((c.tc : Thread Cert.FfnKernelIdeal.nD Cert.FfnKernelIdeal.τ).loc Cert.FfnKernelIdeal.main_v17_1)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v17_0) = v0 c
          ∧ r.2.mem ((c.tc : Thread Cert.FfnKernelIdeal.nD Cert.FfnKernelIdeal.τ).loc Cert.FfnKernelIdeal.main_v17_1) = v1 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
          ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7)
          ∧ r.2.mem ((c.tc : Thread Cert.FfnKernelIdeal.nD Cert.FfnKernelIdeal.τ).loc Cert.FfnKernelIdeal.main_arg8) = m ((c.tc : Thread Cert.FfnKernelIdeal.nD Cert.FfnKernelIdeal.τ).loc Cert.FfnKernelIdeal.main_arg8)
          ∧ r.2.mem ((c.tc : Thread Cert.FfnKernelIdeal.nD Cert.FfnKernelIdeal.τ).loc Cert.FfnKernelIdeal.main_arg9) = m ((c.tc : Thread Cert.FfnKernelIdeal.nD Cert.FfnKernelIdeal.τ).loc Cert.FfnKernelIdeal.main_arg9)
          ∧ r.2.mem ((c.tc : Thread Cert.FfnKernelIdeal.nD Cert.FfnKernelIdeal.τ).loc Cert.FfnKernelIdeal.main_arg10) = m ((c.tc : Thread Cert.FfnKernelIdeal.nD Cert.FfnKernelIdeal.τ).loc Cert.FfnKernelIdeal.main_arg10)
          ∧ r.2.mem ((c.tc : Thread Cert.FfnKernelIdeal.nD Cert.FfnKernelIdeal.τ).loc Cert.FfnKernelIdeal.main_arg11) = m ((c.tc : Thread Cert.FfnKernelIdeal.nD Cert.FfnKernelIdeal.τ).loc Cert.FfnKernelIdeal.main_arg11)
          ∧ r.2.mem ((c.tc : Thread Cert.FfnKernelIdeal.nD Cert.FfnKernelIdeal.τ).loc Cert.FfnKernelIdeal.main_arg12) = m ((c.tc : Thread Cert.FfnKernelIdeal.nD Cert.FfnKernelIdeal.τ).loc Cert.FfnKernelIdeal.main_arg12))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v99) = v0 c
          ∧ r.2.mem ((c.tc : Thread Cert.FfnRefIdeal.nD Cert.FfnRefIdeal.τ).loc Cert.FfnRefIdeal.main_v102) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10)
          ∧ r.2.mem ((c.tc : Thread Cert.FfnRefIdeal.nD Cert.FfnRefIdeal.τ).loc Cert.FfnRefIdeal.main_arg11) = m' ((c.tc : Thread Cert.FfnRefIdeal.nD Cert.FfnRefIdeal.τ).loc Cert.FfnRefIdeal.main_arg11)
          ∧ r.2.mem ((c.tc : Thread Cert.FfnRefIdeal.nD Cert.FfnRefIdeal.τ).loc Cert.FfnRefIdeal.main_arg12) = m' ((c.tc : Thread Cert.FfnRefIdeal.nD Cert.FfnRefIdeal.τ).loc Cert.FfnRefIdeal.main_arg12))

def preserves_ProjKernel_ProjKernelIdeal : Prop :=
  True

def algebraic_ProjKernelIdeal_ProjRefIdeal [hProjKernelIdeal : Cert.ProjKernelIdeal.Facts] [hProjRefIdeal : Cert.ProjRefIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjKernelIdeal m →
    (∀ c : Dev Cert.ProjKernelIdeal.nD,
      m' ((c.tc : Thread Cert.ProjRefIdeal.nD Cert.ProjRefIdeal.τ).loc Cert.ProjRefIdeal.main_arg0) = m ((c.tc : Thread Cert.ProjKernelIdeal.nD Cert.ProjKernelIdeal.τ).loc Cert.ProjKernelIdeal.main_arg0)
      ∧ m' ((c.tc : Thread Cert.ProjRefIdeal.nD Cert.ProjRefIdeal.τ).loc Cert.ProjRefIdeal.main_arg1) = m ((c.tc : Thread Cert.ProjKernelIdeal.nD Cert.ProjKernelIdeal.τ).loc Cert.ProjKernelIdeal.main_arg1)
      ∧ m' ((c.tc : Thread Cert.ProjRefIdeal.nD Cert.ProjRefIdeal.τ).loc Cert.ProjRefIdeal.main_arg2) = m ((c.tc : Thread Cert.ProjKernelIdeal.nD Cert.ProjKernelIdeal.τ).loc Cert.ProjKernelIdeal.main_arg2)
      ∧ m' ((c.tc : Thread Cert.ProjRefIdeal.nD Cert.ProjRefIdeal.τ).loc Cert.ProjRefIdeal.main_arg3) = m ((c.tc : Thread Cert.ProjKernelIdeal.nD Cert.ProjKernelIdeal.τ).loc Cert.ProjKernelIdeal.main_arg3)) →
    ∃ (v0 : (c : Dev Cert.ProjKernelIdeal.nD) → Buf (Elt Ideal) ((c.tc : Thread Cert.ProjKernelIdeal.nD Cert.ProjKernelIdeal.τ).loc Cert.ProjKernelIdeal.main_v8_0)) (v1 : (c : Dev Cert.ProjKernelIdeal.nD) → Buf (Elt Ideal) ((c.tc : Thread Cert.ProjKernelIdeal.nD Cert.ProjKernelIdeal.τ).loc Cert.ProjKernelIdeal.main_v8_1)) (v2 : (c : Dev Cert.ProjKernelIdeal.nD) → Buf (Elt Ideal) ((c.tc : Thread Cert.ProjKernelIdeal.nD Cert.ProjKernelIdeal.τ).loc Cert.ProjKernelIdeal.main_v8_2)) (v3 : (c : Dev Cert.ProjKernelIdeal.nD) → Buf (Elt Ideal) ((c.tc : Thread Cert.ProjKernelIdeal.nD Cert.ProjKernelIdeal.τ).loc Cert.ProjKernelIdeal.main_v8_3)) (v4 : (c : Dev Cert.ProjKernelIdeal.nD) → Buf (Elt Ideal) ((c.tc : Thread Cert.ProjKernelIdeal.nD Cert.ProjKernelIdeal.τ).loc Cert.ProjKernelIdeal.main_v8_4)) (v5 : (c : Dev Cert.ProjKernelIdeal.nD) → Buf (Elt Ideal) ((c.tc : Thread Cert.ProjKernelIdeal.nD Cert.ProjKernelIdeal.τ).loc Cert.ProjKernelIdeal.main_v8_5)) (v6 : (c : Dev Cert.ProjKernelIdeal.nD) → Buf (Elt Ideal) ((c.tc : Thread Cert.ProjKernelIdeal.nD Cert.ProjKernelIdeal.τ).loc Cert.ProjKernelIdeal.main_v8_6)) (v7 : (c : Dev Cert.ProjKernelIdeal.nD) → Buf (Elt Ideal) ((c.tc : Thread Cert.ProjKernelIdeal.nD Cert.ProjKernelIdeal.τ).loc Cert.ProjKernelIdeal.main_v8_7)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v8_0) = v0 c
          ∧ r.2.mem ((c.tc : Thread Cert.ProjKernelIdeal.nD Cert.ProjKernelIdeal.τ).loc Cert.ProjKernelIdeal.main_v8_1) = v1 c
          ∧ r.2.mem ((c.tc : Thread Cert.ProjKernelIdeal.nD Cert.ProjKernelIdeal.τ).loc Cert.ProjKernelIdeal.main_v8_2) = v2 c
          ∧ r.2.mem ((c.tc : Thread Cert.ProjKernelIdeal.nD Cert.ProjKernelIdeal.τ).loc Cert.ProjKernelIdeal.main_v8_3) = v3 c
          ∧ r.2.mem ((c.tc : Thread Cert.ProjKernelIdeal.nD Cert.ProjKernelIdeal.τ).loc Cert.ProjKernelIdeal.main_v8_4) = v4 c
          ∧ r.2.mem ((c.tc : Thread Cert.ProjKernelIdeal.nD Cert.ProjKernelIdeal.τ).loc Cert.ProjKernelIdeal.main_v8_5) = v5 c
          ∧ r.2.mem ((c.tc : Thread Cert.ProjKernelIdeal.nD Cert.ProjKernelIdeal.τ).loc Cert.ProjKernelIdeal.main_v8_6) = v6 c
          ∧ r.2.mem ((c.tc : Thread Cert.ProjKernelIdeal.nD Cert.ProjKernelIdeal.τ).loc Cert.ProjKernelIdeal.main_v8_7) = v7 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v28) = v0 c
          ∧ r.2.mem ((c.tc : Thread Cert.ProjRefIdeal.nD Cert.ProjRefIdeal.τ).loc Cert.ProjRefIdeal.main_v29) = v1 c
          ∧ r.2.mem ((c.tc : Thread Cert.ProjRefIdeal.nD Cert.ProjRefIdeal.τ).loc Cert.ProjRefIdeal.main_v30) = v2 c
          ∧ r.2.mem ((c.tc : Thread Cert.ProjRefIdeal.nD Cert.ProjRefIdeal.τ).loc Cert.ProjRefIdeal.main_v31) = v3 c
          ∧ r.2.mem ((c.tc : Thread Cert.ProjRefIdeal.nD Cert.ProjRefIdeal.τ).loc Cert.ProjRefIdeal.main_v32) = v4 c
          ∧ r.2.mem ((c.tc : Thread Cert.ProjRefIdeal.nD Cert.ProjRefIdeal.τ).loc Cert.ProjRefIdeal.main_v18) = v5 c
          ∧ r.2.mem ((c.tc : Thread Cert.ProjRefIdeal.nD Cert.ProjRefIdeal.τ).loc Cert.ProjRefIdeal.main_v19) = v6 c
          ∧ r.2.mem ((c.tc : Thread Cert.ProjRefIdeal.nD Cert.ProjRefIdeal.τ).loc Cert.ProjRefIdeal.main_v25) = v7 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_ProjPromptKernel_ProjPromptKernelIdeal : Prop :=
  True

def algebraic_ProjPromptKernelIdeal_ProjPromptRefIdeal [hProjPromptKernelIdeal : Cert.ProjPromptKernelIdeal.Facts] [hProjPromptRefIdeal : Cert.ProjPromptRefIdeal.Facts] : Prop :=
  ∀ (m : (ℓ : Loc Cert.ProjPromptKernelIdeal.nD Cert.ProjPromptKernelIdeal.τ Cert.ProjPromptKernelIdeal.sig) → Buf (Elt Ideal) ℓ) (g : Dev Cert.ProjPromptKernelIdeal.nD → PrngReg)
    (m' : (ℓ : Loc Cert.ProjPromptRefIdeal.nD Cert.ProjPromptRefIdeal.τ Cert.ProjPromptRefIdeal.sig) → Buf (Elt Ideal) ℓ) (g' : Dev Cert.ProjPromptRefIdeal.nD → PrngReg), Pre_ProjPromptKernelIdeal m →
    (∀ c : Dev Cert.ProjPromptKernelIdeal.nD,
      m' ((c.tc : Thread Cert.ProjPromptRefIdeal.nD Cert.ProjPromptRefIdeal.τ).loc Cert.ProjPromptRefIdeal.main_arg0) = m ((c.tc : Thread Cert.ProjPromptKernelIdeal.nD Cert.ProjPromptKernelIdeal.τ).loc Cert.ProjPromptKernelIdeal.main_arg0)
      ∧ m' ((c.tc : Thread Cert.ProjPromptRefIdeal.nD Cert.ProjPromptRefIdeal.τ).loc Cert.ProjPromptRefIdeal.main_arg1) = m ((c.tc : Thread Cert.ProjPromptKernelIdeal.nD Cert.ProjPromptKernelIdeal.τ).loc Cert.ProjPromptKernelIdeal.main_arg1)
      ∧ m' ((c.tc : Thread Cert.ProjPromptRefIdeal.nD Cert.ProjPromptRefIdeal.τ).loc Cert.ProjPromptRefIdeal.main_arg2) = m ((c.tc : Thread Cert.ProjPromptKernelIdeal.nD Cert.ProjPromptKernelIdeal.τ).loc Cert.ProjPromptKernelIdeal.main_arg2)
      ∧ m' ((c.tc : Thread Cert.ProjPromptRefIdeal.nD Cert.ProjPromptRefIdeal.τ).loc Cert.ProjPromptRefIdeal.main_arg3) = m ((c.tc : Thread Cert.ProjPromptKernelIdeal.nD Cert.ProjPromptKernelIdeal.τ).loc Cert.ProjPromptKernelIdeal.main_arg3)) →
    ∃ (v0 : (c : Dev Cert.ProjPromptKernelIdeal.nD) → Buf (Elt Ideal) ((c.tc : Thread Cert.ProjPromptKernelIdeal.nD Cert.ProjPromptKernelIdeal.τ).loc Cert.ProjPromptKernelIdeal.main_v7_1)) (v1 : (c : Dev Cert.ProjPromptKernelIdeal.nD) → Buf (Elt Ideal) ((c.tc : Thread Cert.ProjPromptKernelIdeal.nD Cert.ProjPromptKernelIdeal.τ).loc Cert.ProjPromptKernelIdeal.main_v7_3)) (v2 : (c : Dev Cert.ProjPromptKernelIdeal.nD) → Buf (Elt Ideal) ((c.tc : Thread Cert.ProjPromptKernelIdeal.nD Cert.ProjPromptKernelIdeal.τ).loc Cert.ProjPromptKernelIdeal.main_v7_4)) (v3 : (c : Dev Cert.ProjPromptKernelIdeal.nD) → Buf (Elt Ideal) ((c.tc : Thread Cert.ProjPromptKernelIdeal.nD Cert.ProjPromptKernelIdeal.τ).loc Cert.ProjPromptKernelIdeal.main_v7_5)) (v4 : (c : Dev Cert.ProjPromptKernelIdeal.nD) → Buf (Elt Ideal) ((c.tc : Thread Cert.ProjPromptKernelIdeal.nD Cert.ProjPromptKernelIdeal.τ).loc Cert.ProjPromptKernelIdeal.main_v7_6)) (v5 : (c : Dev Cert.ProjPromptKernelIdeal.nD) → Buf (Elt Ideal) ((c.tc : Thread Cert.ProjPromptKernelIdeal.nD Cert.ProjPromptKernelIdeal.τ).loc Cert.ProjPromptKernelIdeal.main_v7_7)),
      θ_run (Cert.ProjPromptKernelIdeal.defs (F := Ideal)) (onTc (τ := Cert.ProjPromptKernelIdeal.τ) (Cert.ProjPromptKernelIdeal.main (F := Ideal))) ⟨m, fun _ => 0, g⟩ (fun r => ∀ c : Dev Cert.ProjPromptKernelIdeal.nD,
          r.2.mem ((c.tc : Thread Cert.ProjPromptKernelIdeal.nD Cert.ProjPromptKernelIdeal.τ).loc Cert.ProjPromptKernelIdeal.main_v7_1) = v0 c
          ∧ r.2.mem ((c.tc : Thread Cert.ProjPromptKernelIdeal.nD Cert.ProjPromptKernelIdeal.τ).loc Cert.ProjPromptKernelIdeal.main_v7_3) = v1 c
          ∧ r.2.mem ((c.tc : Thread Cert.ProjPromptKernelIdeal.nD Cert.ProjPromptKernelIdeal.τ).loc Cert.ProjPromptKernelIdeal.main_v7_4) = v2 c
          ∧ r.2.mem ((c.tc : Thread Cert.ProjPromptKernelIdeal.nD Cert.ProjPromptKernelIdeal.τ).loc Cert.ProjPromptKernelIdeal.main_v7_5) = v3 c
          ∧ r.2.mem ((c.tc : Thread Cert.ProjPromptKernelIdeal.nD Cert.ProjPromptKernelIdeal.τ).loc Cert.ProjPromptKernelIdeal.main_v7_6) = v4 c
          ∧ r.2.mem ((c.tc : Thread Cert.ProjPromptKernelIdeal.nD Cert.ProjPromptKernelIdeal.τ).loc Cert.ProjPromptKernelIdeal.main_v7_7) = v5 c
          ∧ r.2.mem ((c.tc : Thread Cert.ProjPromptKernelIdeal.nD Cert.ProjPromptKernelIdeal.τ).loc Cert.ProjPromptKernelIdeal.main_arg0) = m ((c.tc : Thread Cert.ProjPromptKernelIdeal.nD Cert.ProjPromptKernelIdeal.τ).loc Cert.ProjPromptKernelIdeal.main_arg0)
          ∧ r.2.mem ((c.tc : Thread Cert.ProjPromptKernelIdeal.nD Cert.ProjPromptKernelIdeal.τ).loc Cert.ProjPromptKernelIdeal.main_arg1) = m ((c.tc : Thread Cert.ProjPromptKernelIdeal.nD Cert.ProjPromptKernelIdeal.τ).loc Cert.ProjPromptKernelIdeal.main_arg1)
          ∧ r.2.mem ((c.tc : Thread Cert.ProjPromptKernelIdeal.nD Cert.ProjPromptKernelIdeal.τ).loc Cert.ProjPromptKernelIdeal.main_arg2) = m ((c.tc : Thread Cert.ProjPromptKernelIdeal.nD Cert.ProjPromptKernelIdeal.τ).loc Cert.ProjPromptKernelIdeal.main_arg2)
          ∧ r.2.mem ((c.tc : Thread Cert.ProjPromptKernelIdeal.nD Cert.ProjPromptKernelIdeal.τ).loc Cert.ProjPromptKernelIdeal.main_arg3) = m ((c.tc : Thread Cert.ProjPromptKernelIdeal.nD Cert.ProjPromptKernelIdeal.τ).loc Cert.ProjPromptKernelIdeal.main_arg3))
      ∧ θ_run (Cert.ProjPromptRefIdeal.defs (F := Ideal)) (onTc (τ := Cert.ProjPromptRefIdeal.τ) (Cert.ProjPromptRefIdeal.main (F := Ideal))) ⟨m', fun _ => 0, g'⟩ (fun r => ∀ c : Dev Cert.ProjPromptRefIdeal.nD,
          r.2.mem ((c.tc : Thread Cert.ProjPromptRefIdeal.nD Cert.ProjPromptRefIdeal.τ).loc Cert.ProjPromptRefIdeal.main_v25) = v0 c
          ∧ r.2.mem ((c.tc : Thread Cert.ProjPromptRefIdeal.nD Cert.ProjPromptRefIdeal.τ).loc Cert.ProjPromptRefIdeal.main_v27) = v1 c
          ∧ r.2.mem ((c.tc : Thread Cert.ProjPromptRefIdeal.nD Cert.ProjPromptRefIdeal.τ).loc Cert.ProjPromptRefIdeal.main_v29) = v2 c
          ∧ r.2.mem ((c.tc : Thread Cert.ProjPromptRefIdeal.nD Cert.ProjPromptRefIdeal.τ).loc Cert.ProjPromptRefIdeal.main_v16) = v3 c
          ∧ r.2.mem ((c.tc : Thread Cert.ProjPromptRefIdeal.nD Cert.ProjPromptRefIdeal.τ).loc Cert.ProjPromptRefIdeal.main_v17) = v4 c
          ∧ r.2.mem ((c.tc : Thread Cert.ProjPromptRefIdeal.nD Cert.ProjPromptRefIdeal.τ).loc Cert.ProjPromptRefIdeal.main_v23) = v5 c
          ∧ r.2.mem ((c.tc : Thread Cert.ProjPromptRefIdeal.nD Cert.ProjPromptRefIdeal.τ).loc Cert.ProjPromptRefIdeal.main_arg0) = m' ((c.tc : Thread Cert.ProjPromptRefIdeal.nD Cert.ProjPromptRefIdeal.τ).loc Cert.ProjPromptRefIdeal.main_arg0)
          ∧ r.2.mem ((c.tc : Thread Cert.ProjPromptRefIdeal.nD Cert.ProjPromptRefIdeal.τ).loc Cert.ProjPromptRefIdeal.main_arg1) = m' ((c.tc : Thread Cert.ProjPromptRefIdeal.nD Cert.ProjPromptRefIdeal.τ).loc Cert.ProjPromptRefIdeal.main_arg1)
          ∧ r.2.mem ((c.tc : Thread Cert.ProjPromptRefIdeal.nD Cert.ProjPromptRefIdeal.τ).loc Cert.ProjPromptRefIdeal.main_arg2) = m' ((c.tc : Thread Cert.ProjPromptRefIdeal.nD Cert.ProjPromptRefIdeal.τ).loc Cert.ProjPromptRefIdeal.main_arg2)
          ∧ r.2.mem ((c.tc : Thread Cert.ProjPromptRefIdeal.nD Cert.ProjPromptRefIdeal.τ).loc Cert.ProjPromptRefIdeal.main_arg3) = m' ((c.tc : Thread Cert.ProjPromptRefIdeal.nD Cert.ProjPromptRefIdeal.τ).loc Cert.ProjPromptRefIdeal.main_arg3))

def Claim : Prop :=
  ∃ (hSsdKernel : Cert.SsdKernel.Facts) (hSsdKernelIdeal : Cert.SsdKernelIdeal.Facts) (hSsdRefIdeal : Cert.SsdRefIdeal.Facts) (hFfnKernel : Cert.FfnKernel.Facts) (hFfnKernelIdeal : Cert.FfnKernelIdeal.Facts) (hFfnRefIdeal : Cert.FfnRefIdeal.Facts) (hProjKernel : Cert.ProjKernel.Facts) (hProjKernelIdeal : Cert.ProjKernelIdeal.Facts) (hProjRefIdeal : Cert.ProjRefIdeal.Facts) (hProjPromptKernel : Cert.ProjPromptKernel.Facts) (hProjPromptKernelIdeal : Cert.ProjPromptKernelIdeal.Facts) (hProjPromptRefIdeal : Cert.ProjPromptRefIdeal.Facts) (hPre_dt_nonneg : Cert.Pre_dt_nonneg.Facts),
    quiescent_SsdKernel (hSsdKernel := hSsdKernel)
    ∧ quiescent_SsdKernelIdeal (hSsdKernelIdeal := hSsdKernelIdeal)
    ∧ quiescent_SsdKernelIdeal_pre_dt_nonneg (hSsdKernelIdeal := hSsdKernelIdeal) (hPre_dt_nonneg := hPre_dt_nonneg)
    ∧ quiescent_SsdRefIdeal (hSsdRefIdeal := hSsdRefIdeal)
    ∧ quiescent_SsdRefIdeal_pre_dt_nonneg (hSsdRefIdeal := hSsdRefIdeal) (hPre_dt_nonneg := hPre_dt_nonneg)
    ∧ quiescent_FfnKernel (hFfnKernel := hFfnKernel)
    ∧ quiescent_FfnKernelIdeal (hFfnKernelIdeal := hFfnKernelIdeal)
    ∧ quiescent_FfnRefIdeal (hFfnRefIdeal := hFfnRefIdeal)
    ∧ quiescent_ProjKernel (hProjKernel := hProjKernel)
    ∧ quiescent_ProjKernelIdeal (hProjKernelIdeal := hProjKernelIdeal)
    ∧ quiescent_ProjRefIdeal (hProjRefIdeal := hProjRefIdeal)
    ∧ quiescent_ProjPromptKernel (hProjPromptKernel := hProjPromptKernel)
    ∧ quiescent_ProjPromptKernelIdeal (hProjPromptKernelIdeal := hProjPromptKernelIdeal)
    ∧ quiescent_ProjPromptRefIdeal (hProjPromptRefIdeal := hProjPromptRefIdeal)
    ∧ preserves_SsdKernel_SsdKernelIdeal
    ∧ algebraic_SsdKernelIdeal_SsdRefIdeal_pre_dt_nonneg (hSsdKernelIdeal := hSsdKernelIdeal) (hSsdRefIdeal := hSsdRefIdeal) (hPre_dt_nonneg := hPre_dt_nonneg)
    ∧ preserves_FfnKernel_FfnKernelIdeal
    ∧ algebraic_FfnKernelIdeal_FfnRefIdeal (hFfnKernelIdeal := hFfnKernelIdeal) (hFfnRefIdeal := hFfnRefIdeal)
    ∧ preserves_ProjKernel_ProjKernelIdeal
    ∧ algebraic_ProjKernelIdeal_ProjRefIdeal (hProjKernelIdeal := hProjKernelIdeal) (hProjRefIdeal := hProjRefIdeal)
    ∧ preserves_ProjPromptKernel_ProjPromptKernelIdeal
    ∧ algebraic_ProjPromptKernelIdeal_ProjPromptRefIdeal (hProjPromptKernelIdeal := hProjPromptKernelIdeal) (hProjPromptRefIdeal := hProjPromptRefIdeal)
-- ==== Pre_dt_nonneg.lean ====
abbrev S16x32x768 : Shape := ⟨3, ![16, 32, 768]⟩
abbrev S16x32x512 : Shape := ⟨3, ![16, 32, 512]⟩
abbrev S16x32x128 : Shape := ⟨3, ![16, 32, 128]⟩
abbrev S16x3x768 : Shape := ⟨3, ![16, 3, 768]⟩
abbrev S16x8x64x64 : Shape := ⟨4, ![16, 8, 64, 64]⟩
abbrev S4x768 : Shape := ⟨2, ![4, 768]⟩
abbrev S768 : Shape := ⟨1, ![768]⟩
abbrev S8 : Shape := ⟨1, ![8]⟩
abbrev S512 : Shape := ⟨1, ![512]⟩
abbrev S_ : Shape := ⟨0, ![]⟩

class Facts : Prop where
  bcast_S_S16x32x128 : S_.BroadcastsInDim S16x32x128 (![] : Fin 0 → Fin S16x32x128.rank)

variable [Facts]

def fn {F : FTy → Type} [FloatOps F] (main_arg0 : FVec F S16x32x768 .f32) (main_arg1 : FVec F S16x32x512 .f32) (main_arg2 : FVec F S16x32x128 .f32) (main_arg3 : FVec F S16x3x768 .f32) (main_arg4 : FVec F S16x8x64x64 .f32) (main_arg5 : FVec F S4x768 .f32) (main_arg6 : FVec F S768 .f32) (main_arg7 : FVec F S8 .f32) (main_arg8 : FVec F S8 .f32) (main_arg9 : FVec F S512 .f32) : IVec S16x32x128 1 :=
  let main_cst : FVec F S_ .f32 := constant S_ .f32 0x00000000#32
  let main_v0 : FVec F S16x32x128 .f32 := broadcastInDim S16x32x128 ![] bcast_S_S16x32x128 main_cst
  let main_v1 : IVec S16x32x128 1 := cmpf .oge main_arg2 main_v0
  main_v1
-- ==== SsdKernel.lean ====
abbrev S16x32x768 : Shape := ⟨3, ![16, 32, 768]⟩
abbrev S16x32x512 : Shape := ⟨3, ![16, 32, 512]⟩
abbrev S16x32x128 : Shape := ⟨3, ![16, 32, 128]⟩
abbrev S16x3x768 : Shape := ⟨3, ![16, 3, 768]⟩
abbrev S16x8x64x64 : Shape := ⟨4, ![16, 8, 64, 64]⟩
abbrev S4x768 : Shape := ⟨2, ![4, 768]⟩
abbrev S768 : Shape := ⟨1, ![768]⟩
abbrev S8 : Shape := ⟨1, ![8]⟩
abbrev S512 : Shape := ⟨1, ![512]⟩
abbrev S_ : Shape := ⟨0, ![]⟩
abbrev S16x8x768 : Shape := ⟨3, ![16, 8, 768]⟩
abbrev S1x768 : Shape := ⟨2, ![1, 768]⟩
abbrev S1x8 : Shape := ⟨2, ![1, 8]⟩
abbrev S1x128 : Shape := ⟨2, ![1, 128]⟩
abbrev S8x64 : Shape := ⟨2, ![8, 64]⟩
abbrev S1x512 : Shape := ⟨2, ![1, 512]⟩
abbrev S32 : Shape := ⟨1, ![32]⟩
abbrev S1x32 : Shape := ⟨2, ![1, 32]⟩
abbrev S32x1 : Shape := ⟨2, ![32, 1]⟩
abbrev S32x32 : Shape := ⟨2, ![32, 32]⟩
abbrev S1x32x768 : Shape := ⟨3, ![1, 32, 768]⟩
abbrev S1x32x512 : Shape := ⟨3, ![1, 32, 512]⟩
abbrev S1x32x128 : Shape := ⟨3, ![1, 32, 128]⟩
abbrev S1x8x768 : Shape := ⟨3, ![1, 8, 768]⟩
abbrev S1x8x64x64 : Shape := ⟨4, ![1, 8, 64, 64]⟩
abbrev S8x768 : Shape := ⟨2, ![8, 768]⟩
abbrev S4x128x128 : Shape := ⟨3, ![4, 128, 128]⟩
abbrev S64x64 : Shape := ⟨2, ![64, 64]⟩
abbrev S1x1x64x64 : Shape := ⟨4, ![1, 1, 64, 64]⟩
abbrev S64x128 : Shape := ⟨2, ![64, 128]⟩
abbrev S128x128 : Shape := ⟨2, ![128, 128]⟩
abbrev S1x128x128 : Shape := ⟨3, ![1, 128, 128]⟩
abbrev S32x128 : Shape := ⟨2, ![32, 128]⟩
abbrev S128x32 : Shape := ⟨2, ![128, 32]⟩
abbrev S32x768 : Shape := ⟨2, ![32, 768]⟩
abbrev S24x768 : Shape := ⟨2, ![24, 768]⟩
abbrev S1x1 : Shape := ⟨2, ![1, 1]⟩
abbrev S32x64 : Shape := ⟨2, ![32, 64]⟩
abbrev S1x64x64 : Shape := ⟨3, ![1, 64, 64]⟩

abbrev nBuf : Space → Nat
  | .hbm => 32
  | .vmem => 22
  | .smem => 0
  | _ => 0

abbrev bufTy : (tb : Table) → Fin (tcTables nBuf tb) → BufTy
  | .hbm, ⟨0, _⟩ => ⟨S16x32x768, .f32⟩
  | .hbm, ⟨1, _⟩ => ⟨S16x32x512, .f32⟩
  | .hbm, ⟨2, _⟩ => ⟨S16x32x128, .f32⟩
  | .hbm, ⟨3, _⟩ => ⟨S16x3x768, .f32⟩
  | .hbm, ⟨4, _⟩ => ⟨S16x8x64x64, .f32⟩
  | .hbm, ⟨5, _⟩ => ⟨S4x768, .f32⟩
  | .hbm, ⟨6, _⟩ => ⟨S768, .f32⟩
  | .hbm, ⟨7, _⟩ => ⟨S8, .f32⟩
  | .hbm, ⟨8, _⟩ => ⟨S8, .f32⟩
  | .hbm, ⟨9, _⟩ => ⟨S512, .f32⟩
  | .hbm, ⟨10, _⟩ => ⟨S_, .i32⟩
  | .hbm, ⟨11, _⟩ => ⟨S_, .f32⟩
  | .hbm, ⟨12, _⟩ => ⟨S16x8x768, .f32⟩
  | .hbm, ⟨13, _⟩ => ⟨S1x768, .f32⟩
  | .hbm, ⟨14, _⟩ => ⟨S1x8, .f32⟩
  | .hbm, ⟨15, _⟩ => ⟨S_, .i32⟩
  | .hbm, ⟨16, _⟩ => ⟨S_, .f32⟩
  | .hbm, ⟨17, _⟩ => ⟨S1x128, .f32⟩
  | .hbm, ⟨18, _⟩ => ⟨S8x64, .f32⟩
  | .hbm, ⟨19, _⟩ => ⟨S512, .f32⟩
  | .hbm, ⟨20, _⟩ => ⟨S1x512, .f32⟩
  | .hbm, ⟨21, _⟩ => ⟨S1x512, .f32⟩
  | .hbm, ⟨22, _⟩ => ⟨S32, .i32⟩
  | .hbm, ⟨23, _⟩ => ⟨S1x32, .i32⟩
  | .hbm, ⟨24, _⟩ => ⟨S32, .i32⟩
  | .hbm, ⟨25, _⟩ => ⟨S32x1, .i32⟩
  | .hbm, ⟨26, _⟩ => ⟨S32x32, .i32⟩
  | .hbm, ⟨27, _⟩ => ⟨S32x32, .i32⟩
  | .hbm, ⟨28, _⟩ => ⟨S32x32, .i1⟩
  | .hbm, ⟨29, _⟩ => ⟨S32x32, .bf16⟩
  | .hbm, ⟨30, _⟩ => ⟨S16x32x512, .bf16⟩
  | .hbm, ⟨31, _⟩ => ⟨S16x8x64x64, .f32⟩
  | .local _ .vmem, ⟨0, _⟩ => ⟨S1x32x768, .f32⟩
  | .local _ .vmem, ⟨1, _⟩ => ⟨S1x32x768, .f32⟩
  | .local _ .vmem, ⟨2, _⟩ => ⟨S1x32x512, .f32⟩
  | .local _ .vmem, ⟨3, _⟩ => ⟨S1x32x512, .f32⟩
  | .local _ .vmem, ⟨4, _⟩ => ⟨S1x32x128, .f32⟩
  | .local _ .vmem, ⟨5, _⟩ => ⟨S1x32x128, .f32⟩
  | .local _ .vmem, ⟨6, _⟩ => ⟨S1x8x768, .f32⟩
  | .local _ .vmem, ⟨7, _⟩ => ⟨S1x8x768, .f32⟩
  | .local _ .vmem, ⟨8, _⟩ => ⟨S1x8x64x64, .f32⟩
  | .local _ .vmem, ⟨9, _⟩ => ⟨S1x8x64x64, .f32⟩
  | .local _ .vmem, ⟨10, _⟩ => ⟨S4x768, .f32⟩
  | .local _ .vmem, ⟨11, _⟩ => ⟨S1x768, .f32⟩
  | .local _ .vmem, ⟨12, _⟩ => ⟨S1x128, .f32⟩
  | .local _ .vmem, ⟨13, _⟩ => ⟨S1x512, .f32⟩
  | .local _ .vmem, ⟨14, _⟩ => ⟨S1x512, .f32⟩
  | .local _ .vmem, ⟨15, _⟩ => ⟨S32x32, .bf16⟩
  | .local _ .vmem, ⟨16, _⟩ => ⟨S1x32x512, .bf16⟩
  | .local _ .vmem, ⟨17, _⟩ => ⟨S1x32x512, .bf16⟩
  | .local _ .vmem, ⟨18, _⟩ => ⟨S1x8x64x64, .f32⟩
  | .local _ .vmem, ⟨19, _⟩ => ⟨S1x8x64x64, .f32⟩
  | .local _ .vmem, ⟨20, _⟩ => ⟨S8x768, .f32⟩
  | .local _ .vmem, ⟨21, _⟩ => ⟨S4x128x128, .f32⟩
  | _, _ => ⟨S16x32x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_call1_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_152 : BitVec 32 := 0#32
  let v627 : BitVec 1 := Scalar.cmpi .eq arg1 c0_i32_152
  let v628 : BitVec 32 := Scalar.extui v627
  let c0_i32_153 : BitVec 32 := 0#32
  let v629 : BitVec 1 := Scalar.cmpi .ne v628 c0_i32_153
  v629

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S32x32 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x32x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x64x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== SsdRefIdeal.lean ====
abbrev S16x32x768 : Shape := ⟨3, ![16, 32, 768]⟩
abbrev S16x32x512 : Shape := ⟨3, ![16, 32, 512]⟩
abbrev S16x32x128 : Shape := ⟨3, ![16, 32, 128]⟩
abbrev S16x3x768 : Shape := ⟨3, ![16, 3, 768]⟩
abbrev S16x8x64x64 : Shape := ⟨4, ![16, 8, 64, 64]⟩
abbrev S4x768 : Shape := ⟨2, ![4, 768]⟩
abbrev S768 : Shape := ⟨1, ![768]⟩
abbrev S8 : Shape := ⟨1, ![8]⟩
abbrev S512 : Shape := ⟨1, ![512]⟩
abbrev S16x35x768 : Shape := ⟨3, ![16, 35, 768]⟩
abbrev S1x768 : Shape := ⟨2, ![1, 768]⟩
abbrev S1x1x768 : Shape := ⟨3, ![1, 1, 768]⟩
abbrev S_ : Shape := ⟨0, ![]⟩
abbrev S16x32x2x4x64 : Shape := ⟨5, ![16, 32, 2, 4, 64]⟩
abbrev S16x32x2x64 : Shape := ⟨4, ![16, 32, 2, 64]⟩
abbrev S16x32x8 : Shape := ⟨3, ![16, 32, 8]⟩
abbrev S16x32x2x4 : Shape := ⟨4, ![16, 32, 2, 4]⟩
abbrev S2x4 : Shape := ⟨2, ![2, 4]⟩
abbrev S1x1x2x4 : Shape := ⟨4, ![1, 1, 2, 4]⟩
abbrev S16x32x1x2x4 : Shape := ⟨5, ![16, 32, 1, 2, 4]⟩
abbrev S16x1x32x2x4 : Shape := ⟨5, ![16, 1, 32, 2, 4]⟩
abbrev S16x32x32x2x4 : Shape := ⟨5, ![16, 32, 32, 2, 4]⟩
abbrev S32x32 : Shape := ⟨2, ![32, 32]⟩
abbrev S32x32x1x1 : Shape := ⟨4, ![32, 32, 1, 1]⟩
abbrev S16x2x32x32 : Shape := ⟨4, ![16, 2, 32, 32]⟩
abbrev S16x32x32x2 : Shape := ⟨4, ![16, 32, 32, 2]⟩
abbrev S16x32x32x2x1 : Shape := ⟨5, ![16, 32, 32, 2, 1]⟩
abbrev S16x2x4x64x32 : Shape := ⟨5, ![16, 2, 4, 64, 32]⟩
abbrev S16x1x2x4 : Shape := ⟨4, ![16, 1, 2, 4]⟩
abbrev S16x32x2x1x64 : Shape := ⟨5, ![16, 32, 2, 1, 64]⟩
abbrev S16x32x2x4x1 : Shape := ⟨5, ![16, 32, 2, 4, 1]⟩
abbrev S16x2x4x64x64 : Shape := ⟨5, ![16, 2, 4, 64, 64]⟩
abbrev S16x2x4 : Shape := ⟨3, ![16, 2, 4]⟩
abbrev S16x2x4x1x1 : Shape := ⟨5, ![16, 2, 4, 1, 1]⟩
abbrev S16x32x8x64 : Shape := ⟨4, ![16, 32, 8, 64]⟩
abbrev S8x1 : Shape := ⟨2, ![8, 1]⟩
abbrev S1x1x8x1 : Shape := ⟨4, ![1, 1, 8, 1]⟩
abbrev S16x32 : Shape := ⟨2, ![16, 32]⟩
abbrev S16x32x1 : Shape := ⟨3, ![16, 32, 1]⟩
abbrev S1x1x512 : Shape := ⟨3, ![1, 1, 512]⟩

abbrev nBuf : Space → Nat
  | .hbm => 163
  | .vmem => 0
  | .smem => 0
  | _ => 0

abbrev hbmTy0_0 (i : Nat) : BufTy := match i % 128 with
  | 0 => ⟨S16x32x768, .f32⟩
  | 1 => ⟨S16x32x512, .f32⟩
  | 2 => ⟨S16x32x128, .f32⟩
  | 3 => ⟨S16x3x768, .f32⟩
  | 4 => ⟨S16x8x64x64, .f32⟩
  | 5 => ⟨S4x768, .f32⟩
  | 6 => ⟨S768, .f32⟩
  | 7 => ⟨S8, .f32⟩
  | 8 => ⟨S8, .f32⟩
  | 9 => ⟨S512, .f32⟩
  | 10 => ⟨S16x35x768, .f32⟩
  | 11 => ⟨S16x32x768, .f32⟩
  | 12 => ⟨S16x32x768, .f32⟩
  | 13 => ⟨S1x768, .f32⟩
  | 14 => ⟨S768, .f32⟩
  | 15 => ⟨S1x1x768, .f32⟩
  | 16 => ⟨S16x32x768, .f32⟩
  | 17 => ⟨S16x32x768, .f32⟩
  | 18 => ⟨S16x32x768, .f32⟩
  | 19 => ⟨S16x32x768, .f32⟩
  | 20 => ⟨S1x768, .f32⟩
  | 21 => ⟨S768, .f32⟩
  | 22 => ⟨S1x1x768, .f32⟩
  | 23 => ⟨S16x32x768, .f32⟩
  | 24 => ⟨S16x32x768, .f32⟩
  | 25 => ⟨S16x32x768, .f32⟩
  | 26 => ⟨S16x32x768, .f32⟩
  | 27 => ⟨S1x768, .f32⟩
  | 28 => ⟨S768, .f32⟩
  | 29 => ⟨S1x1x768, .f32⟩
  | 30 => ⟨S16x32x768, .f32⟩
  | 31 => ⟨S16x32x768, .f32⟩
  | 32 => ⟨S16x32x768, .f32⟩
  | 33 => ⟨S16x32x768, .f32⟩
  | 34 => ⟨S1x768, .f32⟩
  | 35 => ⟨S768, .f32⟩
  | 36 => ⟨S1x1x768, .f32⟩
  | 37 => ⟨S16x32x768, .f32⟩
  | 38 => ⟨S16x32x768, .f32⟩
  | 39 => ⟨S16x32x768, .f32⟩
  | 40 => ⟨S16x32x768, .f32⟩
  | 41 => ⟨S16x32x768, .f32⟩
  | 42 => ⟨S_, .f32⟩
  | 43 => ⟨S16x32x768, .f32⟩
  | 44 => ⟨S16x32x768, .f32⟩
  | 45 => ⟨S_, .f32⟩
  | 46 => ⟨S16x32x768, .f32⟩
  | 47 => ⟨S16x32x768, .f32⟩
  | 48 => ⟨S16x32x768, .f32⟩
  | 49 => ⟨S16x32x512, .f32⟩
  | 50 => ⟨S16x32x2x4x64, .f32⟩
  | 51 => ⟨S16x32x128, .f32⟩
  | 52 => ⟨S16x32x2x64, .f32⟩
  | 53 => ⟨S16x32x128, .f32⟩
  | 54 => ⟨S16x32x2x64, .f32⟩
  | 55 => ⟨S16x32x8, .f32⟩
  | 56 => ⟨S16x32x2x4, .f32⟩
  | 57 => ⟨S8, .f32⟩
  | 58 => ⟨S8, .f32⟩
  | 59 => ⟨S2x4, .f32⟩
  | 60 => ⟨S1x1x2x4, .f32⟩
  | 61 => ⟨S16x32x2x4, .f32⟩
  | 62 => ⟨S16x32x2x4, .f32⟩
  | 63 => ⟨S_, .f32⟩
  | 64 => ⟨S_, .f32⟩
  | 65 => ⟨S16x32x2x4, .f32⟩
  | 66 => ⟨S16x32x1x2x4, .f32⟩
  | 67 => ⟨S16x1x32x2x4, .f32⟩
  | 68 => ⟨S16x32x32x2x4, .f32⟩
  | 69 => ⟨S16x32x32x2x4, .f32⟩
  | 70 => ⟨S16x32x32x2x4, .f32⟩
  | 71 => ⟨S_, .i1⟩
  | 72 => ⟨S32x32, .i1⟩
  | 73 => ⟨S32x32, .i32⟩
  | 74 => ⟨S_, .i32⟩
  | 75 => ⟨S32x32, .i32⟩
  | 76 => ⟨S32x32, .i32⟩
  | 77 => ⟨S32x32, .i32⟩
  | 78 => ⟨S32x32, .i1⟩
  | 79 => ⟨S_, .i1⟩
  | 80 => ⟨S32x32, .i1⟩
  | 81 => ⟨S32x32, .i1⟩
  | 82 => ⟨S32x32x1x1, .i1⟩
  | 83 => ⟨S_, .f32⟩
  | 84 => ⟨S_, .f32⟩
  | 85 => ⟨S16x32x32x2x4, .i1⟩
  | 86 => ⟨S16x32x32x2x4, .f32⟩
  | 87 => ⟨S16x32x32x2x4, .f32⟩
  | 88 => ⟨S16x32x32x2x4, .f32⟩
  | 89 => ⟨S16x2x32x32, .f32⟩
  | 90 => ⟨S16x32x32x2, .f32⟩
  | 91 => ⟨S16x32x32x2x1, .f32⟩
  | 92 => ⟨S16x32x32x2x4, .f32⟩
  | 93 => ⟨S16x32x32x2x4, .f32⟩
  | 94 => ⟨S16x1x32x2x4, .f32⟩
  | 95 => ⟨S16x32x32x2x4, .f32⟩
  | 96 => ⟨S16x32x32x2x4, .f32⟩
  | 97 => ⟨S16x2x4x64x32, .f32⟩
  | 98 => ⟨S16x32x2x4x64, .f32⟩
  | 99 => ⟨S16x1x2x4, .f32⟩
  | 100 => ⟨S16x32x2x4, .f32⟩
  | 101 => ⟨S16x32x2x4, .f32⟩
  | 102 => ⟨S16x32x2x4, .f32⟩
  | 103 => ⟨S16x32x2x1x64, .f32⟩
  | 104 => ⟨S16x32x2x4, .f32⟩
  | 105 => ⟨S16x32x2x4x1, .f32⟩
  | 106 => ⟨S16x32x2x4x64, .f32⟩
  | 107 => ⟨S16x32x2x4x64, .f32⟩
  | 108 => ⟨S16x32x2x4x64, .f32⟩
  | 109 => ⟨S16x2x4x64x64, .f32⟩
  | 110 => ⟨S16x2x4x64x64, .f32⟩
  | 111 => ⟨S16x1x2x4, .f32⟩
  | 112 => ⟨S16x2x4, .f32⟩
  | 113 => ⟨S16x2x4, .f32⟩
  | 114 => ⟨S16x2x4x1x1, .f32⟩
  | 115 => ⟨S16x2x4x64x64, .f32⟩
  | 116 => ⟨S16x2x4x64x64, .f32⟩
  | 117 => ⟨S16x2x4x64x64, .f32⟩
  | 118 => ⟨S16x32x2x1x64, .f32⟩
  | 119 => ⟨S16x32x2x4, .f32⟩
  | 120 => ⟨S16x32x2x4x1, .f32⟩
  | 121 => ⟨S16x32x2x4x64, .f32⟩
  | 122 => ⟨S16x32x2x4x64, .f32⟩
  | 123 => ⟨S16x32x2x4x64, .f32⟩
  | 124 => ⟨S16x2x4x64x32, .f32⟩
  | 125 => ⟨S16x32x2x4x64, .f32⟩
  | 126 => ⟨S16x32x2x4x64, .f32⟩
  | 127 => ⟨S16x32x8x64, .f32⟩
  | _ => ⟨S16x32x768, .f32⟩

abbrev hbmTy0_1 (i : Nat) : BufTy := match i % 128 with
  | 0 => ⟨S8x1, .f32⟩
  | 1 => ⟨S16x32x8x64, .f32⟩
  | 2 => ⟨S1x1x8x1, .f32⟩
  | 3 => ⟨S16x32x8x64, .f32⟩
  | 4 => ⟨S16x32x8x64, .f32⟩
  | 5 => ⟨S16x32x8x64, .f32⟩
  | 6 => ⟨S16x32x512, .f32⟩
  | 7 => ⟨S16x32x512, .f32⟩
  | 8 => ⟨S16x32x512, .f32⟩
  | 9 => ⟨S_, .f32⟩
  | 10 => ⟨S16x32x512, .f32⟩
  | 11 => ⟨S16x32x512, .f32⟩
  | 12 => ⟨S_, .f32⟩
  | 13 => ⟨S16x32x512, .f32⟩
  | 14 => ⟨S16x32x512, .f32⟩
  | 15 => ⟨S16x32x512, .f32⟩
  | 16 => ⟨S16x32x512, .f32⟩
  | 17 => ⟨S16x32x512, .f32⟩
  | 18 => ⟨S_, .f32⟩
  | 19 => ⟨S16x32, .f32⟩
  | 20 => ⟨S16x32x1, .f32⟩
  | 21 => ⟨S_, .f32⟩
  | 22 => ⟨S16x32x1, .f32⟩
  | 23 => ⟨S16x32x1, .f32⟩
  | 24 => ⟨S_, .f32⟩
  | 25 => ⟨S16x32x1, .f32⟩
  | 26 => ⟨S16x32x1, .f32⟩
  | 27 => ⟨S16x32x1, .f32⟩
  | 28 => ⟨S16x32x512, .f32⟩
  | 29 => ⟨S16x32x512, .f32⟩
  | 30 => ⟨S1x1x512, .f32⟩
  | 31 => ⟨S16x32x512, .f32⟩
  | 32 => ⟨S16x32x512, .f32⟩
  | 33 => ⟨S16x32x512, .bf16⟩
  | 34 => ⟨S16x8x64x64, .f32⟩
  | _ => ⟨S16x32x768, .f32⟩

abbrev hbmTy (i : Nat) : BufTy := match i / 128 with
  | 0 => hbmTy0_0 i
  | 1 => hbmTy0_1 i
  | _ => ⟨S16x32x768, .f32⟩

abbrev bufTy : (tb : Table) → Fin (tcTables nBuf tb) → BufTy
  | .hbm, ⟨i, _⟩ => hbmTy i
  | _, _ => ⟨S16x32x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_call1_call0_cst : Ref sig .tc := ⟨.hbm, 63, rfl⟩
abbrev main_call1_call0_v0 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c : Ref sig .tc := ⟨.hbm, 71, rfl⟩
abbrev main_v51 : Ref sig .tc := ⟨.hbm, 72, rfl⟩
abbrev main_call2_v0 : Ref sig .tc := ⟨.hbm, 73, rfl⟩
abbrev main_call2_c : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_c_0 : Ref sig .tc := ⟨.hbm, 79, rfl⟩
abbrev main_call2_v5 : Ref sig .tc := ⟨.hbm, 80, rfl⟩
abbrev main_v52 : Ref sig .tc := ⟨.hbm, 81, rfl⟩
abbrev main_v53 : Ref sig .tc := ⟨.hbm, 82, rfl⟩
abbrev main_cst : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_call4_v0 : Ref sig .tc := ⟨.hbm, 135, rfl⟩
abbrev main_call4_v1 : Ref sig .tc := ⟨.hbm, 136, rfl⟩
abbrev main_call4_cst : Ref sig .tc := ⟨.hbm, 137, rfl⟩
abbrev main_call4_v2 : Ref sig .tc := ⟨.hbm, 138, rfl⟩
abbrev main_call4_v3 : Ref sig .tc := ⟨.hbm, 139, rfl⟩
abbrev main_call4_cst_0 : Ref sig .tc := ⟨.hbm, 140, rfl⟩
abbrev main_call4_v4 : Ref sig .tc := ⟨.hbm, 141, rfl⟩
abbrev main_call4_v5 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_0 : Ref sig .tc := ⟨.hbm, 146, rfl⟩
abbrev main_v105 : Ref sig .tc := ⟨.hbm, 147, rfl⟩
abbrev main_v106 : Ref sig .tc := ⟨.hbm, 148, rfl⟩
abbrev main_cst_1 : Ref sig .tc := ⟨.hbm, 149, rfl⟩
abbrev main_v107 : Ref sig .tc := ⟨.hbm, 150, rfl⟩
abbrev main_v108 : Ref sig .tc := ⟨.hbm, 151, rfl⟩
abbrev main_cst_2 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩

abbrev nD : Nat := 1
abbrev τ : Topo := Topo.v7x

variable {F : FTy → Type} [FloatOps F]
-- ==== FfnKernel.lean ====
abbrev S16384x1024 : Shape := ⟨2, ![16384, 1024]⟩
abbrev S16384x512 : Shape := ⟨2, ![16384, 512]⟩
abbrev S8x2x2816 : Shape := ⟨3, ![8, 2, 2816]⟩
abbrev S512 : Shape := ⟨1, ![512]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S3x2816 : Shape := ⟨2, ![3, 2816]⟩
abbrev S2816 : Shape := ⟨1, ![2816]⟩
abbrev S1x2816 : Shape := ⟨2, ![1, 2816]⟩
abbrev S_ : Shape := ⟨0, ![]⟩
abbrev S4x2816 : Shape := ⟨2, ![4, 2816]⟩
abbrev S8x2816 : Shape := ⟨2, ![8, 2816]⟩
abbrev S1x512 : Shape := ⟨2, ![1, 512]⟩
abbrev S1x1024 : Shape := ⟨2, ![1, 1024]⟩
abbrev S512x1024 : Shape := ⟨2, ![512, 1024]⟩
abbrev S8x1x2x11x256 : Shape := ⟨5, ![8, 1, 2, 11, 256]⟩
abbrev S8x1x8x11x256 : Shape := ⟨5, ![8, 1, 8, 11, 256]⟩
abbrev S8x11x1x8x256 : Shape := ⟨5, ![8, 11, 1, 8, 256]⟩
abbrev S8x11x8x256 : Shape := ⟨4, ![8, 11, 8, 256]⟩
abbrev S512x512 : Shape := ⟨2, ![512, 512]⟩
abbrev S1x11x8x256 : Shape := ⟨4, ![1, 11, 8, 256]⟩
abbrev S11x8x256 : Shape := ⟨3, ![11, 8, 256]⟩
abbrev S2x512x256 : Shape := ⟨3, ![2, 512, 256]⟩
abbrev S128x512 : Shape := ⟨2, ![128, 512]⟩
abbrev S128 : Shape := ⟨1, ![128]⟩
abbrev S128x1 : Shape := ⟨2, ![128, 1]⟩
abbrev S128x1024 : Shape := ⟨2, ![128, 1024]⟩
abbrev S512x256 : Shape := ⟨2, ![512, 256]⟩
abbrev S1024x256 : Shape := ⟨2, ![1024, 256]⟩
abbrev S1x512x256 : Shape := ⟨3, ![1, 512, 256]⟩
abbrev S8x256 : Shape := ⟨2, ![8, 256]⟩
abbrev S1x8x256 : Shape := ⟨3, ![1, 8, 256]⟩
abbrev S1x256 : Shape := ⟨2, ![1, 256]⟩
abbrev S256x1024 : Shape := ⟨2, ![256, 1024]⟩

abbrev nBuf : Space → Nat
  | .hbm => 35
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .bf16⟩
  | .hbm, ⟨3, _⟩ => ⟨S8x2x2816, .f32⟩
  | .hbm, ⟨4, _⟩ => ⟨S512, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S1024x5632, .f32⟩
  | .hbm, ⟨10, _⟩ => ⟨S2816x1024, .f32⟩
  | .hbm, ⟨11, _⟩ => ⟨S3x2816, .f32⟩
  | .hbm, ⟨12, _⟩ => ⟨S2816, .f32⟩
  | .hbm, ⟨13, _⟩ => ⟨S1x2816, .f32⟩
  | .hbm, ⟨14, _⟩ => ⟨S_, .f32⟩
  | .hbm, ⟨15, _⟩ => ⟨S4x2816, .f32⟩
  | .hbm, ⟨16, _⟩ => ⟨S8x2816, .f32⟩
  | .hbm, ⟨17, _⟩ => ⟨S1x512, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S512x1024, .f32⟩
  | .hbm, ⟨22, _⟩ => ⟨S512x1024, .bf16⟩
  | .hbm, ⟨23, _⟩ => ⟨S512x1024, .f32⟩
  | .hbm, ⟨24, _⟩ => ⟨S512x1024, .bf16⟩
  | .hbm, ⟨25, _⟩ => ⟨S1024x5632, .bf16⟩
  | .hbm, ⟨26, _⟩ => ⟨S2816x1024, .bf16⟩
  | .hbm, ⟨27, _⟩ => ⟨S8x1x2x11x256, .f32⟩
  | .hbm, ⟨28, _⟩ => ⟨S_, .i32⟩
  | .hbm, ⟨29, _⟩ => ⟨S_, .f32⟩
  | .hbm, ⟨30, _⟩ => ⟨S8x1x8x11x256, .f32⟩
  | .hbm, ⟨31, _⟩ => ⟨S8x11x1x8x256, .f32⟩
  | .hbm, ⟨32, _⟩ => ⟨S8x11x8x256, .f32⟩
  | .hbm, ⟨33, _⟩ => ⟨S16384x1024, .f32⟩
  | .hbm, ⟨34, _⟩ => ⟨S8x11x8x256, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S1x11x8x256, .f32⟩
  | .local _ .vmem, ⟨7, _⟩ => ⟨S1x11x8x256, .f32⟩
  | .local _ .vmem, ⟨8, _⟩ => ⟨S1x512, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S1024x5632, .bf16⟩
  | .local _ .vmem, ⟨15, _⟩ => ⟨S2816x1024, .bf16⟩
  | .local _ .vmem, ⟨16, _⟩ => ⟨S8x2816, .f32⟩
  | .local _ .vmem, ⟨17, _⟩ => ⟨S512x1024, .f32⟩
  | .local _ .vmem, ⟨18, _⟩ => ⟨S512x1024, .f32⟩
  | .local _ .vmem, ⟨19, _⟩ => ⟨S1x11x8x256, .f32⟩
  | .local _ .vmem, ⟨20, _⟩ => ⟨S1x11x8x256, .f32⟩
  | .local _ .vmem, ⟨21, _⟩ => ⟨S512x1024, .bf16⟩
  | .local _ .vmem, ⟨22, _⟩ => ⟨S512x1024, .f32⟩
  | .local _ .vmem, ⟨23, _⟩ => ⟨S11x8x256, .f32⟩
  | .local _ .vmem, ⟨24, _⟩ => ⟨S2x512x256, .f32⟩
  | .local _ .vmem, ⟨25, _⟩ => ⟨S2x512x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_call0_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17_0 : Ref sig .tc := ⟨.hbm, 33, rfl⟩
abbrev main_v17_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_136 : BitVec 32 := 0#32
  let c5_i32 : BitVec 32 := 5#32
  let v257 : BitVec 32 := Scalar.addi c0_i32_136 c5_i32
  let c1_i32 : BitVec 32 := 1#32
  ⟨c0_i32_136, v257, c1_i32⟩
def k0_mult1 (k0_t1 : Fin k0_t1_loop.trips) : BitVec 32 :=
  let c0_i32_220 : BitVec 32 := 0#32
  let c2_i32_216 : BitVec 32 := 2#32
  let c0_i32_136 : BitVec 32 := 0#32
  let c1_i32 : BitVec 32 := 1#32
  let arg22 : BitVec 32 := Scf.iv c0_i32_136 c1_i32 k0_t1
  let v406 : BitVec 32 := Scalar.muli c2_i32_216 arg22
  let c1_i32_217 : BitVec 32 := 1#32
  let v407 : BitVec 32 := Scalar.addi v406 c1_i32_217
  let c256_i32 : BitVec 32 := 256#32
  let v409 : BitVec 32 := Scalar.muli v407 c256_i32
  let v410 : BitVec 32 := Scalar.addi c0_i32_220 v409
  v410
def k0_off1 (k0_t1 : Fin k0_t1_loop.trips) (c0_i32_220 : BitVec 32) : Fin 2 → Nat :=
  let c0_221 : Index := 0#32
  let c2_i32_216 : BitVec 32 := 2#32
  let c0_i32_136 : BitVec 32 := 0#32
  let c1_i32 : BitVec 32 := 1#32
  let arg22 : BitVec 32 := Scf.iv c0_i32_136 c1_i32 k0_t1
  let v406 : BitVec 32 := Scalar.muli c2_i32_216 arg22
  let c1_i32_217 : BitVec 32 := 1#32
  let v407 : BitVec 32 := Scalar.addi v406 c1_i32_217
  let c256_i32 : BitVec 32 := 256#32
  let v409 : BitVec 32 := Scalar.muli v407 c256_i32
  let v410 : BitVec 32 := Scalar.addi c0_i32_220 v409
  let v411 : BitVec 32 := v410
  let v412 : Index := Scalar.indexCast v411
  ![0, v412.toNat]
def k0_mult2 (k0_t1 : Fin k0_t1_loop.trips) : BitVec 32 :=
  let c2816_i32 : BitVec 32 := 2816#32
  let c2_i32_216 : BitVec 32 := 2#32
  let c0_i32_136 : BitVec 32 := 0#32
  let c1_i32 : BitVec 32 := 1#32
  let arg22 : BitVec 32 := Scf.iv c0_i32_136 c1_i32 k0_t1
  let v406 : BitVec 32 := Scalar.muli c2_i32_216 arg22
  let c1_i32_217 : BitVec 32 := 1#32
  let v407 : BitVec 32 := Scalar.addi v406 c1_i32_217
  let c256_i32_225 : BitVec 32 := 256#32
  let v419 : BitVec 32 := Scalar.muli v407 c256_i32_225
  let v420 : BitVec 32 := Scalar.addi c2816_i32 v419
  v420
def k0_mult3 (k0_t1 : Fin k0_t1_loop.trips) : BitVec 32 :=
  let c0_i32_236 : BitVec 32 := 0#32
  let c2_i32_216 : BitVec 32 := 2#32
  let c0_i32_136 : BitVec 32 := 0#32
  let c1_i32 : BitVec 32 := 1#32
  let arg22 : BitVec 32 := Scf.iv c0_i32_136 c1_i32 k0_t1
  let v406 : BitVec 32 := Scalar.muli c2_i32_216 arg22
  let c1_i32_217 : BitVec 32 := 1#32
  let v407 : BitVec 32 := Scalar.addi v406 c1_i32_217
  let c1_i32_231 : BitVec 32 := 1#32
  let v429 : BitVec 32 := Scalar.subi v407 c1_i32_231
  let c256_i32_235 : BitVec 32 := 256#32
  let v432 : BitVec 32 := Scalar.muli v429 c256_i32_235
  let v433 : BitVec 32 := Scalar.addi c0_i32_236 v432
  v433
def k0_off2 (k0_t1 : Fin k0_t1_loop.trips) : Fin 2 → Nat :=
  let c0_237 : Index := 0#32
  let c0_i32_236 : BitVec 32 := 0#32
  let c2_i32_216 : BitVec 32 := 2#32
  let c0_i32_136 : BitVec 32 := 0#32
  let c1_i32 : BitVec 32 := 1#32
  let arg22 : BitVec 32 := Scf.iv c0_i32_136 c1_i32 k0_t1
  let v406 : BitVec 32 := Scalar.muli c2_i32_216 arg22
  let c1_i32_217 : BitVec 32 := 1#32
  let v407 : BitVec 32 := Scalar.addi v406 c1_i32_217
  let c1_i32_231 : BitVec 32 := 1#32
  let v429 : BitVec 32 := Scalar.subi v407 c1_i32_231
  let c256_i32_235 : BitVec 32 := 256#32
  let v432 : BitVec 32 := Scalar.muli v429 c256_i32_235
  let v433 : BitVec 32 := Scalar.addi c0_i32_236 v432
  let v434 : BitVec 32 := v433
  let v435 : Index := Scalar.indexCast v434
  ![0, v435.toNat]
def k0_off3 (k0_t1 : Fin k0_t1_loop.trips) : Fin 3 → Nat :=
  let c2_i32_216 : BitVec 32 := 2#32
  let c0_i32_136 : BitVec 32 := 0#32
  let c1_i32 : BitVec 32 := 1#32
  let arg22 : BitVec 32 := Scf.iv c0_i32_136 c1_i32 k0_t1
  let v406 : BitVec 32 := Scalar.muli c2_i32_216 arg22
  let c1_i32_217 : BitVec 32 := 1#32
  let v407 : BitVec 32 := Scalar.addi v406 c1_i32_217
  let c1_i32_231 : BitVec 32 := 1#32
  let v429 : BitVec 32 := Scalar.subi v407 c1_i32_231
  let v438 : Index := Scalar.indexCast v429
  let c0_238 : Index := 0#32
  let c0_239 : Index := 0#32
  ![v438.toNat, 0, 0]
def k0_mult4 (k0_t1 : Fin k0_t1_loop.trips) : BitVec 32 :=
  let c0_i32_257 : BitVec 32 := 0#32
  let c2_i32_216 : BitVec 32 := 2#32
  let c0_i32_136 : BitVec 32 := 0#32
  let c1_i32 : BitVec 32 := 1#32
  let arg22 : BitVec 32 := Scf.iv c0_i32_136 c1_i32 k0_t1
  let v406 : BitVec 32 := Scalar.muli c2_i32_216 arg22
  let c1_i32_217 : BitVec 32 := 1#32
  let v407 : BitVec 32 := Scalar.addi v406 c1_i32_217
  let c1_i32_231 : BitVec 32 := 1#32
  let v429 : BitVec 32 := Scalar.subi v407 c1_i32_231
  let c256_i32_256 : BitVec 32 := 256#32
  let v497 : BitVec 32 := Scalar.muli v429 c256_i32_256
  let v498 : BitVec 32 := Scalar.addi c0_i32_257 v497
  v498
def k0_off4 (k0_t1 : Fin k0_t1_loop.trips) : Fin 2 → Nat :=
  let c0_i32_257 : BitVec 32 := 0#32
  let c2_i32_216 : BitVec 32 := 2#32
  let c0_i32_136 : BitVec 32 := 0#32
  let c1_i32 : BitVec 32 := 1#32
  let arg22 : BitVec 32 := Scf.iv c0_i32_136 c1_i32 k0_t1
  let v406 : BitVec 32 := Scalar.muli c2_i32_216 arg22
  let c1_i32_217 : BitVec 32 := 1#32
  let v407 : BitVec 32 := Scalar.addi v406 c1_i32_217
  let c1_i32_231 : BitVec 32 := 1#32
  let v429 : BitVec 32 := Scalar.subi v407 c1_i32_231
  let c256_i32_256 : BitVec 32 := 256#32
  let v497 : BitVec 32 := Scalar.muli v429 c256_i32_256
  let v498 : BitVec 32 := Scalar.addi c0_i32_257 v497
  let v499 : BitVec 32 := v498
  let v500 : Index := Scalar.indexCast v499
  let c0_258 : Index := 0#32
  ![v500.toNat, 0]
def k0_mult5 (k0_t1 : Fin k0_t1_loop.trips) : BitVec 32 :=
  let c0_i32_266 : BitVec 32 := 0#32
  let c2_i32_216 : BitVec 32 := 2#32
  let c0_i32_136 : BitVec 32 := 0#32
  let c1_i32 : BitVec 32 := 1#32
  let arg22 : BitVec 32 := Scf.iv c0_i32_136 c1_i32 k0_t1
  let v406 : BitVec 32 := Scalar.muli c2_i32_216 arg22
  let c1_i32_217 : BitVec 32 := 1#32
  let v407 : BitVec 32 := Scalar.addi v406 c1_i32_217
  let c1_i32_262 : BitVec 32 := 1#32
  let v508 : BitVec 32 := Scalar.addi v407 c1_i32_262
  let c256_i32_265 : BitVec 32 := 256#32
  let v510 : BitVec 32 := Scalar.muli v508 c256_i32_265
  let v511 : BitVec 32 := Scalar.addi c0_i32_266 v510
  v511
def k0_off5 (k0_t1 : Fin k0_t1_loop.trips) (c0_i32_266 : BitVec 32) : Fin 2 → Nat :=
  let c0_267 : Index := 0#32
  let c2_i32_216 : BitVec 32 := 2#32
  let c0_i32_136 : BitVec 32 := 0#32
  let c1_i32 : BitVec 32 := 1#32
  let arg22 : BitVec 32 := Scf.iv c0_i32_136 c1_i32 k0_t1
  let v406 : BitVec 32 := Scalar.muli c2_i32_216 arg22
  let c1_i32_217 : BitVec 32 := 1#32
  let v407 : BitVec 32 := Scalar.addi v406 c1_i32_217
  let c1_i32_262 : BitVec 32 := 1#32
  let v508 : BitVec 32 := Scalar.addi v407 c1_i32_262
  let c256_i32_265 : BitVec 32 := 256#32
  let v510 : BitVec 32 := Scalar.muli v508 c256_i32_265
  let v511 : BitVec 32 := Scalar.addi c0_i32_266 v510
  let v512 : BitVec 32 := v511
  let v513 : Index := Scalar.indexCast v512
  ![0, v513.toNat]
def k0_mult6 (k0_t1 : Fin k0_t1_loop.trips) : BitVec 32 :=
  let c2816_i32_273 : BitVec 32 := 2816#32
  let c2_i32_216 : BitVec 32 := 2#32
  let c0_i32_136 : BitVec 32 := 0#32
  let c1_i32 : BitVec 32 := 1#32
  let arg22 : BitVec 32 := Scf.iv c0_i32_136 c1_i32 k0_t1
  let v406 : BitVec 32 := Scalar.muli c2_i32_216 arg22
  let c1_i32_217 : BitVec 32 := 1#32
  let v407 : BitVec 32 := Scalar.addi v406 c1_i32_217
  let c1_i32_262 : BitVec 32 := 1#32
  let v508 : BitVec 32 := Scalar.addi v407 c1_i32_262
  let c256_i32_272 : BitVec 32 := 256#32
  let v520 : BitVec 32 := Scalar.muli v508 c256_i32_272
  let v521 : BitVec 32 := Scalar.addi c2816_i32_273 v520
  v521
def k0_mult7 (k0_t1 : Fin k0_t1_loop.trips) : BitVec 32 :=
  let c0_i32_283 : BitVec 32 := 0#32
  let c2_i32_216 : BitVec 32 := 2#32
  let c0_i32_136 : BitVec 32 := 0#32
  let c1_i32 : BitVec 32 := 1#32
  let arg22 : BitVec 32 := Scf.iv c0_i32_136 c1_i32 k0_t1
  let v406 : BitVec 32 := Scalar.muli c2_i32_216 arg22
  let c1_i32_217 : BitVec 32 := 1#32
  let v407 : BitVec 32 := Scalar.addi v406 c1_i32_217
  let c256_i32_282 : BitVec 32 := 256#32
  let v532 : BitVec 32 := Scalar.muli v407 c256_i32_282
  let v533 : BitVec 32 := Scalar.addi c0_i32_283 v532
  v533
def k0_off6 (k0_t1 : Fin k0_t1_loop.trips) : Fin 2 → Nat :=
  let c0_284 : Index := 0#32
  let c0_i32_283 : BitVec 32 := 0#32
  let c2_i32_216 : BitVec 32 := 2#32
  let c0_i32_136 : BitVec 32 := 0#32
  let c1_i32 : BitVec 32 := 1#32
  let arg22 : BitVec 32 := Scf.iv c0_i32_136 c1_i32 k0_t1
  let v406 : BitVec 32 := Scalar.muli c2_i32_216 arg22
  let c1_i32_217 : BitVec 32 := 1#32
  let v407 : BitVec 32 := Scalar.addi v406 c1_i32_217
  let c256_i32_282 : BitVec 32 := 256#32
  let v532 : BitVec 32 := Scalar.muli v407 c256_i32_282
  let v533 : BitVec 32 := Scalar.addi c0_i32_283 v532
  let v534 : BitVec 32 := v533
  let v535 : Index := Scalar.indexCast v534
  ![0, v535.toNat]
def k0_off7 (k0_t1 : Fin k0_t1_loop.trips) : Fin 3 → Nat :=
  let c2_i32_216 : BitVec 32 := 2#32
  let c0_i32_136 : BitVec 32 := 0#32
  let c1_i32 : BitVec 32 := 1#32
  let arg22 : BitVec 32 := Scf.iv c0_i32_136 c1_i32 k0_t1
  let v406 : BitVec 32 := Scalar.muli c2_i32_216 arg22
  let c1_i32_217 : BitVec 32 := 1#32
  let v407 : BitVec 32 := Scalar.addi v406 c1_i32_217
  let v538 : Index := Scalar.indexCast v407
  let c0_285 : Index := 0#32
  let c0_286 : Index := 0#32
  ![v538.toNat, 0, 0]
def k0_mult8 (k0_t1 : Fin k0_t1_loop.trips) : BitVec 32 :=
  let c0_i32_304 : BitVec 32 := 0#32
  let c2_i32_216 : BitVec 32 := 2#32
  let c0_i32_136 : BitVec 32 := 0#32
  let c1_i32 : BitVec 32 := 1#32
  let arg22 : BitVec 32 := Scf.iv c0_i32_136 c1_i32 k0_t1
  let v406 : BitVec 32 := Scalar.muli c2_i32_216 arg22
  let c1_i32_217 : BitVec 32 := 1#32
  let v407 : BitVec 32 := Scalar.addi v406 c1_i32_217
  let c256_i32_303 : BitVec 32 := 256#32
  let v597 : BitVec 32 := Scalar.muli v407 c256_i32_303
  let v598 : BitVec 32 := Scalar.addi c0_i32_304 v597
  v598
def k0_off8 (k0_t1 : Fin k0_t1_loop.trips) : Fin 2 → Nat :=
  let c0_i32_304 : BitVec 32 := 0#32
  let c2_i32_216 : BitVec 32 := 2#32
  let c0_i32_136 : BitVec 32 := 0#32
  let c1_i32 : BitVec 32 := 1#32
  let arg22 : BitVec 32 := Scf.iv c0_i32_136 c1_i32 k0_t1
  let v406 : BitVec 32 := Scalar.muli c2_i32_216 arg22
  let c1_i32_217 : BitVec 32 := 1#32
  let v407 : BitVec 32 := Scalar.addi v406 c1_i32_217
  let c256_i32_303 : BitVec 32 := 256#32
  let v597 : BitVec 32 := Scalar.muli v407 c256_i32_303
  let v598 : BitVec 32 := Scalar.addi c0_i32_304 v597
  let v599 : BitVec 32 := v598
  let v600 : Index := Scalar.indexCast v599
  let c0_305 : Index := 0#32
  ![v600.toNat, 0]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x11x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S8x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x11x8x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== FfnRefIdeal.lean ====
abbrev S16384x1024 : Shape := ⟨2, ![16384, 1024]⟩
abbrev S16384x512 : Shape := ⟨2, ![16384, 512]⟩
abbrev S8x2x2816 : Shape := ⟨3, ![8, 2, 2816]⟩
abbrev S512 : Shape := ⟨1, ![512]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S3x2816 : Shape := ⟨2, ![3, 2816]⟩
abbrev S2816 : Shape := ⟨1, ![2816]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S1x1024 : Shape := ⟨2, ![1, 1024]⟩
abbrev S16384x5632 : Shape := ⟨2, ![16384, 5632]⟩
abbrev S16384x2816 : Shape := ⟨2, ![16384, 2816]⟩
abbrev S8x2048x2816 : Shape := ⟨3, ![8, 2048, 2816]⟩
abbrev S8x2050x2816 : Shape := ⟨3, ![8, 2050, 2816]⟩
abbrev S1x2816 : Shape := ⟨2, ![1, 2816]⟩
abbrev S1x1x2816 : Shape := ⟨3, ![1, 1, 2816]⟩
abbrev S8x8x2816 : Shape := ⟨3, ![8, 8, 2816]⟩
abbrev S8x8x11x256 : Shape := ⟨4, ![8, 8, 11, 256]⟩
abbrev S8x11x8x256 : Shape := ⟨4, ![8, 11, 8, 256]⟩

abbrev nBuf : Space → Nat
  | .hbm => 132
  | .vmem => 0
  | .smem => 0
  | _ => 0

abbrev hbmTy0_0 (i : Nat) : BufTy := match i % 128 with
  | 0 => ⟨S16384x1024, .f32⟩
  | 1 => ⟨S16384x512, .f32⟩
  | 2 => ⟨S16384x512, .bf16⟩
  | 3 => ⟨S8x2x2816, .f32⟩
  | 4 => ⟨S512, .f32⟩
  | 5 => ⟨S1024, .f32⟩
  | 6 => ⟨S1024, .f32⟩
  | 7 => ⟨S1024, .f32⟩
  | 8 => ⟨S1024x1024, .f32⟩
  | 9 => ⟨S1024x5632, .f32⟩
  | 10 => ⟨S2816x1024, .f32⟩
  | 11 => ⟨S3x2816, .f32⟩
  | 12 => ⟨S2816, .f32⟩
  | 13 => ⟨S16384x512, .f32⟩
  | 14 => ⟨S_, .f32⟩
  | 15 => ⟨S16384, .f32⟩
  | 16 => ⟨S16384x1, .f32⟩
  | 17 => ⟨S_, .f32⟩
  | 18 => ⟨S16384x1, .f32⟩
  | 19 => ⟨S16384x1, .f32⟩
  | 20 => ⟨S_, .f32⟩
  | 21 => ⟨S16384x1, .f32⟩
  | 22 => ⟨S16384x1, .f32⟩
  | 23 => ⟨S16384x1, .f32⟩
  | 24 => ⟨S16384x512, .f32⟩
  | 25 => ⟨S16384x512, .f32⟩
  | 26 => ⟨S1x512, .f32⟩
  | 27 => ⟨S16384x512, .f32⟩
  | 28 => ⟨S16384x512, .f32⟩
  | 29 => ⟨S16384x512, .f32⟩
  | 30 => ⟨S16384x1024, .f32⟩
  | 31 => ⟨S16384x1024, .f32⟩
  | 32 => ⟨S16384x1024, .f32⟩
  | 33 => ⟨S_, .f32⟩
  | 34 => ⟨S16384, .f32⟩
  | 35 => ⟨S16384x1, .f32⟩
  | 36 => ⟨S_, .f32⟩
  | 37 => ⟨S16384x1, .f32⟩
  | 38 => ⟨S16384x1, .f32⟩
  | 39 => ⟨S_, .f32⟩
  | 40 => ⟨S16384x1, .f32⟩
  | 41 => ⟨S16384x1, .f32⟩
  | 42 => ⟨S16384x1, .f32⟩
  | 43 => ⟨S16384x1024, .f32⟩
  | 44 => ⟨S16384x1024, .f32⟩
  | 45 => ⟨S1x1024, .f32⟩
  | 46 => ⟨S16384x1024, .f32⟩
  | 47 => ⟨S16384x1024, .f32⟩
  | 48 => ⟨S16384x1024, .f32⟩
  | 49 => ⟨S16384x1024, .f32⟩
  | 50 => ⟨S_, .f32⟩
  | 51 => ⟨S16384, .f32⟩
  | 52 => ⟨S16384x1, .f32⟩
  | 53 => ⟨S_, .f32⟩
  | 54 => ⟨S16384x1, .f32⟩
  | 55 => ⟨S16384x1, .f32⟩
  | 56 => ⟨S_, .f32⟩
  | 57 => ⟨S16384x1, .f32⟩
  | 58 => ⟨S16384x1, .f32⟩
  | 59 => ⟨S16384x1, .f32⟩
  | 60 => ⟨S16384x1024, .f32⟩
  | 61 => ⟨S16384x1024, .f32⟩
  | 62 => ⟨S1x1024, .f32⟩
  | 63 => ⟨S16384x1024, .f32⟩
  | 64 => ⟨S16384x1024, .f32⟩
  | 65 => ⟨S16384x5632, .f32⟩
  | 66 => ⟨S16384x2816, .f32⟩
  | 67 => ⟨S8x2048x2816, .f32⟩
  | 68 => ⟨S16384x2816, .f32⟩
  | 69 => ⟨S8x2050x2816, .f32⟩
  | 70 => ⟨S8x2048x2816, .f32⟩
  | 71 => ⟨S8x2048x2816, .f32⟩
  | 72 => ⟨S1x2816, .f32⟩
  | 73 => ⟨S2816, .f32⟩
  | 74 => ⟨S1x1x2816, .f32⟩
  | 75 => ⟨S8x2048x2816, .f32⟩
  | 76 => ⟨S8x2048x2816, .f32⟩
  | 77 => ⟨S8x2048x2816, .f32⟩
  | 78 => ⟨S8x2048x2816, .f32⟩
  | 79 => ⟨S1x2816, .f32⟩
  | 80 => ⟨S2816, .f32⟩
  | 81 => ⟨S1x1x2816, .f32⟩
  | 82 => ⟨S8x2048x2816, .f32⟩
  | 83 => ⟨S8x2048x2816, .f32⟩
  | 84 => ⟨S8x2048x2816, .f32⟩
  | 85 => ⟨S8x2048x2816, .f32⟩
  | 86 => ⟨S1x2816, .f32⟩
  | 87 => ⟨S2816, .f32⟩
  | 88 => ⟨S1x1x2816, .f32⟩
  | 89 => ⟨S8x2048x2816, .f32⟩
  | 90 => ⟨S8x2048x2816, .f32⟩
  | 91 => ⟨S8x2048x2816, .f32⟩
  | 92 => ⟨S8x2048x2816, .f32⟩
  | 93 => ⟨S8x2048x2816, .f32⟩
  | 94 => ⟨S_, .f32⟩
  | 95 => ⟨S8x2048x2816, .f32⟩
  | 96 => ⟨S8x2048x2816, .f32⟩
  | 97 => ⟨S8x2048x2816, .f32⟩
  | 98 => ⟨S_, .f32⟩
  | 99 => ⟨S8x2048x2816, .f32⟩
  | 100 => ⟨S8x2048x2816, .f32⟩
  | 101 => ⟨S8x2048x2816, .f32⟩
  | 102 => ⟨S_, .f32⟩
  | 103 => ⟨S8x2048x2816, .f32⟩
  | 104 => ⟨S8x2048x2816, .f32⟩
  | 105 => ⟨S_, .f32⟩
  | 106 => ⟨S8x2048x2816, .f32⟩
  | 107 => ⟨S8x2048x2816, .f32⟩
  | 108 => ⟨S8x2048x2816, .f32⟩
  | 109 => ⟨S16384x2816, .f32⟩
  | 110 => ⟨S16384x2816, .f32⟩
  | 111 => ⟨S16384x1024, .f32⟩
  | 112 => ⟨S16384x1024, .f32⟩
  | 113 => ⟨S_, .f32⟩
  | 114 => ⟨S16384, .f32⟩
  | 115 => ⟨S16384x1, .f32⟩
  | 116 => ⟨S_, .f32⟩
  | 117 => ⟨S16384x1, .f32⟩
  | 118 => ⟨S16384x1, .f32⟩
  | 119 => ⟨S_, .f32⟩
  | 120 => ⟨S16384x1, .f32⟩
  | 121 => ⟨S16384x1, .f32⟩
  | 122 => ⟨S16384x1, .f32⟩
  | 123 => ⟨S16384x1024, .f32⟩
  | 124 => ⟨S16384x1024, .f32⟩
  | 125 => ⟨S1x1024, .f32⟩
  | 126 => ⟨S16384x1024, .f32⟩
  | 127 => ⟨S16384x1024, .f32⟩
  | _ => ⟨S16384x1024, .f32⟩

abbrev hbmTy0_1 (i : Nat) : BufTy := match i % 128 with
  | 0 => ⟨S16384x1024, .f32⟩
  | 1 => ⟨S8x8x2816, .f32⟩
  | 2 => ⟨S8x8x11x256, .f32⟩
  | 3 => ⟨S8x11x8x256, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_8 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_9 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_10 : Ref sig .tc := ⟨.hbm, 102, rfl⟩
abbrev main_v78 : Ref sig .tc := ⟨.hbm, 103, rfl⟩
abbrev main_v79 : Ref sig .tc := ⟨.hbm, 104, rfl⟩
abbrev main_cst_11 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_12 : Ref sig .tc := ⟨.hbm, 113, rfl⟩
abbrev main_v87 : Ref sig .tc := ⟨.hbm, 114, rfl⟩
abbrev main_v88 : Ref sig .tc := ⟨.hbm, 115, rfl⟩
abbrev main_cst_13 : Ref sig .tc := ⟨.hbm, 116, rfl⟩
abbrev main_v89 : Ref sig .tc := ⟨.hbm, 117, rfl⟩
abbrev main_v90 : Ref sig .tc := ⟨.hbm, 118, rfl⟩
abbrev main_cst_14 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩

abbrev nD : Nat := 1
abbrev τ : Topo := Topo.v7x

variable {F : FTy → Type} [FloatOps F]
-- ==== ProjKernel.lean ====
abbrev S512x1024 : Shape := ⟨2, ![512, 1024]⟩
abbrev S1024 : Shape := ⟨1, ![1024]⟩
abbrev S1024x2824 : Shape := ⟨2, ![1024, 2824]⟩
abbrev S8 : Shape := ⟨1, ![8]⟩
abbrev S2824x1024 : Shape := ⟨2, ![2824, 1024]⟩
abbrev S8x1024 : Shape := ⟨2, ![8, 1024]⟩
abbrev S_ : Shape := ⟨0, ![]⟩
abbrev S128x1024 : Shape := ⟨2, ![128, 1024]⟩
abbrev S1x512x1024 : Shape := ⟨3, ![1, 512, 1024]⟩
abbrev S1x1024 : Shape := ⟨2, ![1, 1024]⟩
abbrev S1x8 : Shape := ⟨2, ![1, 8]⟩
abbrev S1x128 : Shape := ⟨2, ![1, 128]⟩
abbrev S1x512x512 : Shape := ⟨3, ![1, 512, 512]⟩
abbrev S1x512x8x64 : Shape := ⟨4, ![1, 512, 8, 64]⟩
abbrev S1x512x768 : Shape := ⟨3, ![1, 512, 768]⟩
abbrev S1x512x128 : Shape := ⟨3, ![1, 512, 128]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S64x8x128 : Shape := ⟨3, ![64, 8, 128]⟩
abbrev S64x1x8x128 : Shape := ⟨4, ![64, 1, 8, 128]⟩
abbrev S64x8x8x128 : Shape := ⟨4, ![64, 8, 8, 128]⟩
abbrev S512x8x128 : Shape := ⟨3, ![512, 8, 128]⟩
abbrev S512x8x64 : Shape := ⟨3, ![512, 8, 64]⟩
abbrev S768x1024 : Shape := ⟨2, ![768, 1024]⟩
abbrev S512x768 : Shape := ⟨2, ![512, 768]⟩

abbrev nBuf : Space → Nat
  | .hbm => 24
  | .vmem => 13
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x2824, .f32⟩
  | .hbm, ⟨3, _⟩ => ⟨S8, .f32⟩
  | .hbm, ⟨4, _⟩ => ⟨S2824x1024, .f32⟩
  | .hbm, ⟨5, _⟩ => ⟨S2824x1024, .bf16⟩
  | .hbm, ⟨6, _⟩ => ⟨S8x1024, .bf16⟩
  | .hbm, ⟨7, _⟩ => ⟨S_, .i32⟩
  | .hbm, ⟨8, _⟩ => ⟨S_, .bf16⟩
  | .hbm, ⟨9, _⟩ => ⟨S128x1024, .bf16⟩
  | .hbm, ⟨10, _⟩ => ⟨S1x512x1024, .f32⟩
  | .hbm, ⟨11, _⟩ => ⟨S1x1024, .f32⟩
  | .hbm, ⟨12, _⟩ => ⟨S1x8, .f32⟩
  | .hbm, ⟨13, _⟩ => ⟨S_, .i32⟩
  | .hbm, ⟨14, _⟩ => ⟨S_, .f32⟩
  | .hbm, ⟨15, _⟩ => ⟨S1x128, .f32⟩
  | .hbm, ⟨16, _⟩ => ⟨S1x512x512, .bf16⟩
  | .hbm, ⟨17, _⟩ => ⟨S1x512x512, .bf16⟩
  | .hbm, ⟨18, _⟩ => ⟨S1x512x512, .bf16⟩
  | .hbm, ⟨19, _⟩ => ⟨S1x512x8x64, .f32⟩
  | .hbm, ⟨20, _⟩ => ⟨S1x512x8x64, .f32⟩
  | .hbm, ⟨21, _⟩ => ⟨S1x512x512, .f32⟩
  | .hbm, ⟨22, _⟩ => ⟨S1x512x768, .f32⟩
  | .hbm, ⟨23, _⟩ => ⟨S1x512x128, .f32⟩
  | .local _ .vmem, ⟨0, _⟩ => ⟨S1x512x1024, .f32⟩
  | .local _ .vmem, ⟨1, _⟩ => ⟨S1x1024, .f32⟩
  | .local _ .vmem, ⟨2, _⟩ => ⟨S2824x1024, .bf16⟩
  | .local _ .vmem, ⟨3, _⟩ => ⟨S128x1024, .bf16⟩
  | .local _ .vmem, ⟨4, _⟩ => ⟨S1x128, .f32⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x8x64, .f32⟩
  | .local _ .vmem, ⟨9, _⟩ => ⟨S1x512x8x64, .f32⟩
  | .local _ .vmem, ⟨10, _⟩ => ⟨S1x512x512, .f32⟩
  | .local _ .vmem, ⟨11, _⟩ => ⟨S1x512x768, .f32⟩
  | .local _ .vmem, ⟨12, _⟩ => ⟨S1x512x128, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev main_v8_6 : Ref sig .tc := ⟨.hbm, 22, rfl⟩
abbrev main_v8_7 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2824x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x512x8x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x512x8x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1x512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1x512x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S1x512x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]
-- ==== ProjRefIdeal.lean ====
abbrev S512x1024 : Shape := ⟨2, ![512, 1024]⟩
abbrev S1024 : Shape := ⟨1, ![1024]⟩
abbrev S1024x2824 : Shape := ⟨2, ![1024, 2824]⟩
abbrev S8 : Shape := ⟨1, ![8]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x2824 : Shape := ⟨2, ![512, 2824]⟩
abbrev S1x512x2824 : Shape := ⟨3, ![1, 512, 2824]⟩
abbrev S1x512x512 : Shape := ⟨3, ![1, 512, 512]⟩
abbrev S1x512x768 : Shape := ⟨3, ![1, 512, 768]⟩
abbrev S1x512x8 : Shape := ⟨3, ![1, 512, 8]⟩
abbrev S1x1x8 : Shape := ⟨3, ![1, 1, 8]⟩
abbrev S1x512x128 : Shape := ⟨3, ![1, 512, 128]⟩
abbrev S1x512x8x64 : Shape := ⟨4, ![1, 512, 8, 64]⟩

abbrev nBuf : Space → Nat
  | .hbm => 56
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x2824, .f32⟩
  | .hbm, ⟨3, _⟩ => ⟨S8, .f32⟩
  | .hbm, ⟨4, _⟩ => ⟨S512x1024, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512x1024, .f32⟩
  | .hbm, ⟨16, _⟩ => ⟨S512x1024, .f32⟩
  | .hbm, ⟨17, _⟩ => ⟨S1x1024, .f32⟩
  | .hbm, ⟨18, _⟩ => ⟨S512x1024, .f32⟩
  | .hbm, ⟨19, _⟩ => ⟨S512x1024, .f32⟩
  | .hbm, ⟨20, _⟩ => ⟨S512x2824, .f32⟩
  | .hbm, ⟨21, _⟩ => ⟨S1x512x2824, .f32⟩
  | .hbm, ⟨22, _⟩ => ⟨S1x512x512, .f32⟩
  | .hbm, ⟨23, _⟩ => ⟨S1x512x512, .f32⟩
  | .hbm, ⟨24, _⟩ => ⟨S1x512x512, .f32⟩
  | .hbm, ⟨25, _⟩ => ⟨S1x512x512, .f32⟩
  | .hbm, ⟨26, _⟩ => ⟨S1x512x768, .f32⟩
  | .hbm, ⟨27, _⟩ => ⟨S1x512x8, .f32⟩
  | .hbm, ⟨28, _⟩ => ⟨S1x1x8, .f32⟩
  | .hbm, ⟨29, _⟩ => ⟨S1x512x8, .f32⟩
  | .hbm, ⟨30, _⟩ => ⟨S1x512x8, .f32⟩
  | .hbm, ⟨31, _⟩ => ⟨S_, .i32⟩
  | .hbm, ⟨32, _⟩ => ⟨S_, .f32⟩
  | .hbm, ⟨33, _⟩ => ⟨S1x512x128, .f32⟩
  | .hbm, ⟨34, _⟩ => ⟨S_, .f32⟩
  | .hbm, ⟨35, _⟩ => ⟨S1x512x128, .f32⟩
  | .hbm, ⟨36, _⟩ => ⟨S1x512x128, .f32⟩
  | .hbm, ⟨37, _⟩ => ⟨S1x512x128, .f32⟩
  | .hbm, ⟨38, _⟩ => ⟨S1x512x128, .f32⟩
  | .hbm, ⟨39, _⟩ => ⟨S1x512x128, .i1⟩
  | .hbm, ⟨40, _⟩ => ⟨S1x512x128, .f32⟩
  | .hbm, ⟨41, _⟩ => ⟨S1x512x128, .f32⟩
  | .hbm, ⟨42, _⟩ => ⟨S1x512x128, .f32⟩
  | .hbm, ⟨43, _⟩ => ⟨S1x512x128, .f32⟩
  | .hbm, ⟨44, _⟩ => ⟨S1x512x128, .f32⟩
  | .hbm, ⟨45, _⟩ => ⟨S1x512x128, .f32⟩
  | .hbm, ⟨46, _⟩ => ⟨S1x512x128, .f32⟩
  | .hbm, ⟨47, _⟩ => ⟨S1x512x128, .f32⟩
  | .hbm, ⟨48, _⟩ => ⟨S_, .f32⟩
  | .hbm, ⟨49, _⟩ => ⟨S1x512x512, .f32⟩
  | .hbm, ⟨50, _⟩ => ⟨S1x512x512, .f32⟩
  | .hbm, ⟨51, _⟩ => ⟨S1x512x512, .bf16⟩
  | .hbm, ⟨52, _⟩ => ⟨S1x512x512, .bf16⟩
  | .hbm, ⟨53, _⟩ => ⟨S1x512x512, .bf16⟩
  | .hbm, ⟨54, _⟩ => ⟨S1x512x8x64, .f32⟩
  | .hbm, ⟨55, _⟩ => ⟨S1x512x8x64, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_call0_v0 : Ref sig .tc := ⟨.hbm, 32, rfl⟩
abbrev main_v24 : Ref sig .tc := ⟨.hbm, 33, rfl⟩
abbrev main_call1_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_v25 : Ref sig .tc := ⟨.hbm, 47, rfl⟩
abbrev main_cst_2 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩

abbrev nD : Nat := 1
abbrev τ : Topo := Topo.v7x

variable {F : FTy → Type} [FloatOps F]
-- ==== ProjPromptKernel.lean ====
abbrev S8x2048x1024 : Shape := ⟨3, ![8, 2048, 1024]⟩
abbrev S1024 : Shape := ⟨1, ![1024]⟩
abbrev S1024x2824 : Shape := ⟨2, ![1024, 2824]⟩
abbrev S8 : Shape := ⟨1, ![8]⟩
abbrev S2824x1024 : Shape := ⟨2, ![2824, 1024]⟩
abbrev S8x1024 : Shape := ⟨2, ![8, 1024]⟩
abbrev S_ : Shape := ⟨0, ![]⟩
abbrev S128x1024 : Shape := ⟨2, ![128, 1024]⟩
abbrev S1x1024 : Shape := ⟨2, ![1, 1024]⟩
abbrev S1x8 : Shape := ⟨2, ![1, 8]⟩
abbrev S1x128 : Shape := ⟨2, ![1, 128]⟩
abbrev S8x4x8x512x128 : Shape := ⟨5, ![8, 4, 8, 512, 128]⟩
abbrev S8x512x2048 : Shape := ⟨3, ![8, 512, 2048]⟩
abbrev S8x8x64x2048 : Shape := ⟨4, ![8, 8, 64, 2048]⟩
abbrev S8x2048x512 : Shape := ⟨3, ![8, 2048, 512]⟩
abbrev S8x2048x768 : Shape := ⟨3, ![8, 2048, 768]⟩
abbrev S8x2048x128 : Shape := ⟨3, ![8, 2048, 128]⟩
abbrev S1x1024x1024 : Shape := ⟨3, ![1, 1024, 1024]⟩
abbrev S1x4x4x512x128 : Shape := ⟨5, ![1, 4, 4, 512, 128]⟩
abbrev S1x512x1024 : Shape := ⟨3, ![1, 512, 1024]⟩
abbrev S1x8x64x1024 : Shape := ⟨4, ![1, 8, 64, 1024]⟩
abbrev S1x1024x512 : Shape := ⟨3, ![1, 1024, 512]⟩
abbrev S1x1024x768 : Shape := ⟨3, ![1, 1024, 768]⟩
abbrev S1x1024x128 : Shape := ⟨3, ![1, 1024, 128]⟩
abbrev S1024x1024 : Shape := ⟨2, ![1024, 1024]⟩
abbrev S1024x1 : Shape := ⟨2, ![1024, 1]⟩
abbrev S512x1024 : Shape := ⟨2, ![512, 1024]⟩
abbrev S1024x512 : Shape := ⟨2, ![1024, 512]⟩
abbrev S256x128 : Shape := ⟨2, ![256, 128]⟩
abbrev S1x1x1x256x128 : Shape := ⟨5, ![1, 1, 1, 256, 128]⟩
abbrev S128x128 : Shape := ⟨2, ![128, 128]⟩
abbrev S1x1x1x128x128 : Shape := ⟨5, ![1, 1, 1, 128, 128]⟩
abbrev S8x64x1024 : Shape := ⟨3, ![8, 64, 1024]⟩
abbrev S768x1024 : Shape := ⟨2, ![768, 1024]⟩
abbrev S1024x768 : Shape := ⟨2, ![1024, 768]⟩
abbrev S1024x128 : Shape := ⟨2, ![1024, 128]⟩

abbrev nBuf : Space → Nat
  | .hbm => 23
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2824, .f32⟩
  | .hbm, ⟨3, _⟩ => ⟨S8, .f32⟩
  | .hbm, ⟨4, _⟩ => ⟨S2824x1024, .f32⟩
  | .hbm, ⟨5, _⟩ => ⟨S2824x1024, .bf16⟩
  | .hbm, ⟨6, _⟩ => ⟨S8x1024, .bf16⟩
  | .hbm, ⟨7, _⟩ => ⟨S_, .i32⟩
  | .hbm, ⟨8, _⟩ => ⟨S_, .bf16⟩
  | .hbm, ⟨9, _⟩ => ⟨S128x1024, .bf16⟩
  | .hbm, ⟨10, _⟩ => ⟨S1x1024, .f32⟩
  | .hbm, ⟨11, _⟩ => ⟨S1x8, .f32⟩
  | .hbm, ⟨12, _⟩ => ⟨S_, .i32⟩
  | .hbm, ⟨13, _⟩ => ⟨S_, .f32⟩
  | .hbm, ⟨14, _⟩ => ⟨S1x128, .f32⟩
  | .hbm, ⟨15, _⟩ => ⟨S8x4x8x512x128, .bf16⟩
  | .hbm, ⟨16, _⟩ => ⟨S8x512x2048, .bf16⟩
  | .hbm, ⟨17, _⟩ => ⟨S8x4x8x512x128, .bf16⟩
  | .hbm, ⟨18, _⟩ => ⟨S8x8x64x2048, .f32⟩
  | .hbm, ⟨19, _⟩ => ⟨S8x8x64x2048, .f32⟩
  | .hbm, ⟨20, _⟩ => ⟨S8x2048x512, .f32⟩
  | .hbm, ⟨21, _⟩ => ⟨S8x2048x768, .f32⟩
  | .hbm, ⟨22, _⟩ => ⟨S8x2048x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S2824x1024, .bf16⟩
  | .local _ .vmem, ⟨4, _⟩ => ⟨S128x1024, .bf16⟩
  | .local _ .vmem, ⟨5, _⟩ => ⟨S1x128, .f32⟩
  | .local _ .vmem, ⟨6, _⟩ => ⟨S1x4x4x512x128, .bf16⟩
  | .local _ .vmem, ⟨7, _⟩ => ⟨S1x4x4x512x128, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x4x4x512x128, .bf16⟩
  | .local _ .vmem, ⟨11, _⟩ => ⟨S1x4x4x512x128, .bf16⟩
  | .local _ .vmem, ⟨12, _⟩ => ⟨S1x8x64x1024, .f32⟩
  | .local _ .vmem, ⟨13, _⟩ => ⟨S1x8x64x1024, .f32⟩
  | .local _ .vmem, ⟨14, _⟩ => ⟨S1x8x64x1024, .f32⟩
  | .local _ .vmem, ⟨15, _⟩ => ⟨S1x8x64x1024, .f32⟩
  | .local _ .vmem, ⟨16, _⟩ => ⟨S1x1024x512, .f32⟩
  | .local _ .vmem, ⟨17, _⟩ => ⟨S1x1024x512, .f32⟩
  | .local _ .vmem, ⟨18, _⟩ => ⟨S1x1024x768, .f32⟩
  | .local _ .vmem, ⟨19, _⟩ => ⟨S1x1024x768, .f32⟩
  | .local _ .vmem, ⟨20, _⟩ => ⟨S1x1024x128, .f32⟩
  | .local _ .vmem, ⟨21, _⟩ => ⟨S1x1024x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v7_5 : Ref sig .tc := ⟨.hbm, 20, rfl⟩
abbrev main_v7_6 : Ref sig .tc := ⟨.hbm, 21, rfl⟩
abbrev main_v7_7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2824x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4x4x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x4x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ProjPromptRefIdeal.lean ====
abbrev S8x2048x1024 : Shape := ⟨3, ![8, 2048, 1024]⟩
abbrev S1024 : Shape := ⟨1, ![1024]⟩
abbrev S1024x2824 : Shape := ⟨2, ![1024, 2824]⟩
abbrev S8 : Shape := ⟨1, ![8]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2824 : Shape := ⟨3, ![8, 2048, 2824]⟩
abbrev S8x2048x512 : Shape := ⟨3, ![8, 2048, 512]⟩
abbrev S8x2048x768 : Shape := ⟨3, ![8, 2048, 768]⟩
abbrev S8x2048x8 : Shape := ⟨3, ![8, 2048, 8]⟩
abbrev S1x1x8 : Shape := ⟨3, ![1, 1, 8]⟩
abbrev S8x2048x128 : Shape := ⟨3, ![8, 2048, 128]⟩
abbrev S8x512x2048 : Shape := ⟨3, ![8, 512, 2048]⟩
abbrev S8x2048x8x64 : Shape := ⟨4, ![8, 2048, 8, 64]⟩
abbrev S8x8x64x2048 : Shape := ⟨4, ![8, 8, 64, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2824, .f32⟩
  | .hbm, ⟨3, _⟩ => ⟨S8, .f32⟩
  | .hbm, ⟨4, _⟩ => ⟨S8x2048x1024, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x1024, .f32⟩
  | .hbm, ⟨16, _⟩ => ⟨S8x2048x1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S8x2048x2824, .f32⟩
  | .hbm, ⟨21, _⟩ => ⟨S8x2048x512, .f32⟩
  | .hbm, ⟨22, _⟩ => ⟨S8x2048x512, .f32⟩
  | .hbm, ⟨23, _⟩ => ⟨S8x2048x512, .f32⟩
  | .hbm, ⟨24, _⟩ => ⟨S8x2048x768, .f32⟩
  | .hbm, ⟨25, _⟩ => ⟨S8x2048x8, .f32⟩
  | .hbm, ⟨26, _⟩ => ⟨S1x1x8, .f32⟩
  | .hbm, ⟨27, _⟩ => ⟨S8x2048x8, .f32⟩
  | .hbm, ⟨28, _⟩ => ⟨S8x2048x8, .f32⟩
  | .hbm, ⟨29, _⟩ => ⟨S_, .i32⟩
  | .hbm, ⟨30, _⟩ => ⟨S_, .f32⟩
  | .hbm, ⟨31, _⟩ => ⟨S8x2048x128, .f32⟩
  | .hbm, ⟨32, _⟩ => ⟨S_, .f32⟩
  | .hbm, ⟨33, _⟩ => ⟨S8x2048x128, .f32⟩
  | .hbm, ⟨34, _⟩ => ⟨S8x2048x128, .f32⟩
  | .hbm, ⟨35, _⟩ => ⟨S8x2048x128, .f32⟩
  | .hbm, ⟨36, _⟩ => ⟨S8x2048x128, .f32⟩
  | .hbm, ⟨37, _⟩ => ⟨S8x2048x128, .i1⟩
  | .hbm, ⟨38, _⟩ => ⟨S8x2048x128, .f32⟩
  | .hbm, ⟨39, _⟩ => ⟨S8x2048x128, .f32⟩
  | .hbm, ⟨40, _⟩ => ⟨S8x2048x128, .f32⟩
  | .hbm, ⟨41, _⟩ => ⟨S8x2048x128, .f32⟩
  | .hbm, ⟨42, _⟩ => ⟨S8x2048x128, .f32⟩
  | .hbm, ⟨43, _⟩ => ⟨S8x2048x128, .f32⟩
  | .hbm, ⟨44, _⟩ => ⟨S8x2048x128, .f32⟩
  | .hbm, ⟨45, _⟩ => ⟨S8x2048x128, .f32⟩
  | .hbm, ⟨46, _⟩ => ⟨S8x512x2048, .f32⟩
  | .hbm, ⟨47, _⟩ => ⟨S8x512x2048, .bf16⟩
  | .hbm, ⟨48, _⟩ => ⟨S8x2048x8x64, .f32⟩
  | .hbm, ⟨49, _⟩ => ⟨S8x8x64x2048, .f32⟩
  | .hbm, ⟨50, _⟩ => ⟨S8x2048x8x64, .f32⟩
  | .hbm, ⟨51, _⟩ => ⟨S8x8x64x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_call0_v0 : Ref sig .tc := ⟨.hbm, 30, rfl⟩
abbrev main_v22 : Ref sig .tc := ⟨.hbm, 31, rfl⟩
abbrev main_call1_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]
-- ==== Proof.SsdBody.lean ====
module

public import proofs.«01_k».proof.Proof.Gen.SsdKernelIdeal.Frame
public import Idealize.ShloMosaic.Lib.Pointwise

/-! # One program of the recurrence, as a chain of named values

`Loads` holds the blocks one program of the grid reads, and the definitions after it are the values the
program computes from them, in its own order. Heads come in pairs: pair `p` is heads `2p` and `2p+1`, side by
side on 128 lanes. -/

@[expose] public section

set_option maxRecDepth 16384

noncomputable section

namespace Ssd

open Idealize.ShloMosaic Cert.SsdKernelIdeal Cert.SsdKernelIdeal.Gen

/-- The values one program loads. -/
structure Loads where
  /-- the projected tokens -/
  x : Vec Ideal S1x32x768 .f32
  /-- the gate, pair by pair -/
  z : Fin 4 → Vec Ideal S1x32x128 .f32
  /-- the step sizes -/
  dt : Vec Ideal S1x32x128 .f32
  /-- the tokens before the chunk, on the last rows -/
  pv : Vec Ideal S8x768 .f32
  /-- the convolution's taps -/
  cw : Fin 4 → Vec Ideal S1x768 .f32
  /-- the convolution's bias -/
  cb : Vec Ideal S1x768 .f32
  /-- the logarithm of the decay rate -/
  al : Vec Ideal S1x128 .f32
  /-- the skip connection's factor, pair by pair -/
  dsk : Fin 4 → Vec Ideal S1x128 .f32
  /-- the output's scale, pair by pair -/
  gn : Fin 4 → Vec Ideal S1x128 .f32
  /-- the lower triangle of ones -/
  tri : Vec Ideal S32x32 .f32
  /-- the state before the chunk, pair by pair: the two heads' blocks on the diagonal -/
  mem : Fin 4 → Vec Ideal S1x128x128 .f32

def xIn (L : Loads) := k0_pay25 L.x
def convA (L : Loads) := k0_pay26 L.x L.pv L.cb (L.cw 3) (L.cw 2)
def convB (L : Loads) := k0_pay27 L.x L.pv
def convW1 (L : Loads) := k0_pay28 (L.cw 1)
def xc (L : Loads) := k0_pay29 (xIn L) L.pv (iota Kind.tc S8x768 32 [0] iota_S8x768_d0_w32) (convA L) (convB L) (convW1 L) (L.cw 0)
def xq3 (L : Loads) := k0_pay52 (xc L)
def st3 (L : Loads) := k0_pay56 (L.mem 3)
def aLast (L : Loads) := k0_pay22 L.dt L.al L.tri
def aend3 (L : Loads) := k0_pay92 (aLast L) k0_pay31
def dt (L : Loads) := k0_pay18 L.dt
def bIn (L : Loads) := k0_pay32 (xIn L) L.pv (iota Kind.tc S8x768 32 [0] iota_S8x768_d0_w32) (convA L) (convB L) (convW1 L) (L.cw 0)
def bSwap (L : Loads) := k0_pay34 (xIn L) L.pv (iota Kind.tc S8x768 32 [0] iota_S8x768_d0_w32) (convA L) (convB L) (convW1 L) (L.cw 0)
def bDup1 (L : Loads) := k0_pay37 k0_pay31 (bIn L) (bSwap L)
def acum (L : Loads) := k0_pay19 L.dt L.al L.tri
def al3 (L : Loads) := k0_pay89 (acum L)
def ar3 (L : Loads) := k0_pay90 (acum L)
def acol3 (L : Loads) := k0_pay91 (k0_pay88 k0_pay31) (al3 L) (ar3 L)
def bs3 (L : Loads) := k0_pay94 (dt L) (aLast L) k0_pay31 (bDup1 L) (k0_pay88 k0_pay31) (al3 L) (ar3 L)
def xq2 (L : Loads) := k0_pay51 (xc L)
def st2 (L : Loads) := k0_pay55 (L.mem 2)
def aend2 (L : Loads) := k0_pay82 (aLast L) k0_pay31
def acol2 (L : Loads) := k0_pay79 (acum L) k0_pay31
def dcl2 (L : Loads) := k0_pay80 (dt L)
def dcr2 (L : Loads) := k0_pay81 (dt L)
def bs2 (L : Loads) := k0_pay85 (aLast L) k0_pay31 (bDup1 L) (acol2 L) (dcl2 L) (dcr2 L)
def sn2 (L : Loads) := k0_pay118 k0_pay24 (xq2 L) (st2 L) (aend2 L) (bs2 L)
def xq1 (L : Loads) := k0_pay50 (xc L)
def st1 (L : Loads) := k0_pay54 (L.mem 1)
def aend1 (L : Loads) := k0_pay73 (aLast L) k0_pay31
def bDup0 (L : Loads) := k0_pay36 k0_pay31 (bIn L) (bSwap L)
def acol1 (L : Loads) := k0_pay69 (acum L) k0_pay31
def dcl1 (L : Loads) := k0_pay70 (dt L)
def dcr1 (L : Loads) := k0_pay72 (dt L)
def bs1 (L : Loads) := k0_pay76 (aLast L) k0_pay31 (bDup0 L) (acol1 L) (dcl1 L) (k0_pay71 k0_pay31) (dcr1 L)
def xq0 (L : Loads) := k0_pay49 (xc L)
def st0 (L : Loads) := k0_pay53 (L.mem 0)
def aend0 (L : Loads) := k0_pay63 (aLast L) k0_pay31
def acol0 (L : Loads) := k0_pay59 (acum L) k0_pay31
def dcl0 (L : Loads) := k0_pay61 (dt L)
def dcr0 (L : Loads) := k0_pay62 (dt L)
def bs0 (L : Loads) := k0_pay66 (aLast L) k0_pay31 (bDup0 L) (acol0 L) (k0_pay60 k0_pay31) (dcl0 L) (dcr0 L)
def cIn (L : Loads) := k0_pay33 (xIn L) L.pv (iota Kind.tc S8x768 32 [0] iota_S8x768_d0_w32) (convA L) (convB L) (convW1 L) (L.cw 0)
def cDup0 (L : Loads) := k0_pay38 k0_pay31 (cIn L)
def cDup1 (L : Loads) := k0_pay39 k0_pay31 (cIn L)
def cb0 (L : Loads) := k0_pay41 k0_pay31 (bIn L) (cIn L)
def cb1 (L : Loads) := k0_pay42 k0_pay31 (bIn L) (cIn L)
def xp0 (L : Loads) := k0_pay45 (xc L)
def acumT (L : Loads) := k0_pay20 L.dt L.al L.tri
def xp1 (L : Loads) := k0_pay46 (xc L)
def xp2 (L : Loads) := k0_pay47 (xc L)
def xp3 (L : Loads) := k0_pay48 (xc L)
def dtT (L : Loads) := k0_pay21 L.dt
def wl0 (L : Loads) := k0_pay57 (acum L) (acumT L) (dtT L) k0_pay23 (cb0 L)
def wr0 (L : Loads) := k0_pay58 (acum L) (acumT L) (dtT L) k0_pay23 (cb0 L)
def w0 (L : Loads) := k0_pay64 (wl0 L) (wr0 L)
def cs0 (L : Loads) := k0_pay65 (cDup0 L) (acol0 L)
def wl1 (L : Loads) := k0_pay67 (acum L) (acumT L) (dtT L) k0_pay23 (cb0 L)
def wr1 (L : Loads) := k0_pay68 (acum L) (acumT L) (dtT L) k0_pay23 (cb0 L)
def w1 (L : Loads) := k0_pay74 (wl1 L) (wr1 L)
def cs1 (L : Loads) := k0_pay75 (cDup0 L) (acol1 L)
def wl2 (L : Loads) := k0_pay77 (acum L) (acumT L) (dtT L) k0_pay23 (cb1 L)
def wr2 (L : Loads) := k0_pay78 (acum L) (acumT L) (dtT L) k0_pay23 (cb1 L)
def w2 (L : Loads) := k0_pay83 (wl2 L) (wr2 L)
def cs2 (L : Loads) := k0_pay84 (cDup1 L) (acol2 L)
def wl3 (L : Loads) := k0_pay86 (acum L) (acumT L) (dtT L) k0_pay23 (cb1 L)
def wr3 (L : Loads) := k0_pay87 (acum L) (acumT L) (dtT L) k0_pay23 (cb1 L)
def cs3 (L : Loads) := k0_pay93 (cDup1 L) (k0_pay88 k0_pay31) (al3 L) (ar3 L)
def yd0 (L : Loads) := k0_pay95 (k0_pay43 k0_pay31) (k0_pay44 k0_pay31) (xq0 L) (w0 L)
def yd1 (L : Loads) := k0_pay96 (k0_pay43 k0_pay31) (k0_pay44 k0_pay31) (xq1 L) (w1 L)
def yd2 (L : Loads) := k0_pay97 (k0_pay43 k0_pay31) (k0_pay44 k0_pay31) (xq2 L) (w2 L)
def yd3 (L : Loads) := k0_pay98 (k0_pay43 k0_pay31) (k0_pay44 k0_pay31) (xq3 L) (wl3 L) (wr3 L)
def yo0 (L : Loads) := k0_pay99 (st0 L) (cs0 L)
def sT1 (L : Loads) := k0_pay100 (st1 L)
def yo2 (L : Loads) := k0_pay101 (st2 L) (cs2 L)
def yo3 (L : Loads) := k0_pay102 (st3 L) (cs3 L)
def yz0 (L : Loads) := k0_pay103 (xp0 L) (yd0 L) (yo0 L) (L.dsk 0) (L.z 0)
def ss0 (L : Loads) := k0_pay104 (xp0 L) (yd0 L) (yo0 L) (L.dsk 0) (L.z 0)
def ysk1 (L : Loads) := k0_pay105 (xp1 L) (cs1 L) (yd1 L) (sT1 L) (constant S32x128 .f32 0#32) (L.dsk 1)
def z1 (L : Loads) := k0_pay106 (L.z 1)
def ez1 (L : Loads) := k0_pay107 (L.z 1)
def yz1 (L : Loads) := k0_pay108 (ysk1 L) (z1 L) (ez1 L) (FloatOps.ofBits .f32 1065353216#32)
def yz2 (L : Loads) := k0_pay109 (xp2 L) (yd2 L) (yo2 L) (L.dsk 2) (L.z 2)
def ss012 (L : Loads) := k0_pay110 (xp2 L) (yd2 L) (yo2 L) (ss0 L) (ysk1 L) (z1 L) (ez1 L) (FloatOps.ofBits .f32 1065353216#32) (L.dsk 2) (L.z 2)
def ysk3 (L : Loads) := k0_pay111 (xp3 L) (yd3 L) (yo3 L) (L.dsk 3)
def z3 (L : Loads) := k0_pay112 (L.z 3)
def ez3 (L : Loads) := k0_pay113 (L.z 3)
def yz3 (L : Loads) := k0_pay114 (ysk3 L) (z3 L) (ez3 L) (FloatOps.ofBits .f32 1065353216#32)
def inv (L : Loads) := k0_pay115 (ss012 L) (ysk3 L) (z3 L) (ez3 L) (FloatOps.ofBits .f32 1065353216#32)
def y2 (L : Loads) := k0_pay123 (yz2 L) (inv L) (L.gn 2)
/-- The state of pair 3 of heads after the chunk. -/
def new3 (L : Loads) := k0_pay120 k0_pay24 (xq3 L) (st3 L) (aend3 L) (bs3 L)
/-- The state of pair 2 of heads after the chunk. -/
def new2 (L : Loads) := k0_pay119 (sn2 L)
/-- The state of pair 1 of heads after the chunk. -/
def new1 (L : Loads) := k0_pay117 k0_pay24 (xq1 L) (st1 L) (aend1 L) (bs1 L)
/-- The state of pair 0 of heads after the chunk. -/
def new0 (L : Loads) := k0_pay116 k0_pay24 (xq0 L) (st0 L) (aend0 L) (bs0 L)
/-- The normalised output of pair 0 of heads. -/
def out0 (L : Loads) := k0_pay121 (yz0 L) (inv L) (L.gn 0)
/-- The normalised output of pair 1 of heads. -/
def out1 (L : Loads) := k0_pay122 (yz1 L) (inv L) (L.gn 1)
/-- The normalised output of pair 2 of heads. -/
def out2 (L : Loads) := k0_pay1 (y2 L)
/-- The normalised output of pair 3 of heads. -/
def out3 (L : Loads) := k0_pay2 (yz3 L) (inv L) (L.gn 3)

end Ssd

end
-- ==== Proof.SsdSpec.lean ====
module

public import Idealize.ShloMosaic.PureOps.Ideal.Laws

/-! # The recurrence over extended reals, for one sequence

The formulas both programs are compared with: a causal convolution of four taps followed by `x · σ(x)`, the
state-space recurrence written as a weighted sum over the tokens of the sequence plus the contribution of the
state before it, the state after it, and the gated and normalised output. -/

@[expose] public section

noncomputable section

namespace Ssd

open Idealize.ShloMosaic

/-- One sequence's arguments, and the weights. -/
structure Args where
  /-- the projected tokens: 512 value channels, 128 input channels, 128 output channels -/
  X : Fin 32 → Fin 768 → EReal
  /-- the gate -/
  Z : Fin 32 → Fin 512 → EReal
  /-- the step sizes -/
  DT : Fin 32 → Fin 8 → EReal
  /-- the three tokens before the sequence -/
  PV : Fin 3 → Fin 768 → EReal
  /-- the state before the sequence: head, value channel, state channel -/
  S0 : Fin 8 → Fin 64 → Fin 64 → EReal
  /-- the convolution's taps -/
  W : Fin 4 → Fin 768 → EReal
  /-- the convolution's bias -/
  Bc : Fin 768 → EReal
  /-- the logarithm of the decay rate -/
  AL : Fin 8 → EReal
  /-- the skip connection's factor -/
  DS : Fin 8 → EReal
  /-- the output's scale -/
  G : Fin 512 → EReal

namespace Args

variable (a : Args)

/-- The tokens with the three before them: row `u` is token `u - 3`. -/
def hist (u : Fin 35) (c : Fin 768) : EReal :=
  if h : u.1 < 3 then a.PV ⟨u.1, h⟩ c else a.X ⟨u.1 - 3, by omega⟩ c

theorem hist_prev (u : Fin 35) (k : Fin 3) (c : Fin 768) (h : u.1 = k.1) : a.hist u c = a.PV k c := by
  unfold hist
  rw [dif_pos (by omega)]
  congr 1
  exact Fin.ext h

theorem hist_tok (u : Fin 35) (s : Fin 32) (c : Fin 768) (h : u.1 = s.1 + 3) : a.hist u c = a.X s c := by
  unfold hist
  rw [dif_neg (by omega)]
  congr 1
  apply Fin.ext
  show u.1 - 3 = s.1
  omega

/-- The causal convolution. -/
def conv (t : Fin 32) (c : Fin 768) : EReal :=
  a.Bc c + a.hist ⟨t.1, by omega⟩ c * a.W 0 c + a.hist ⟨1 + t.1, by omega⟩ c * a.W 1 c
    + a.hist ⟨2 + t.1, by omega⟩ c * a.W 2 c + a.hist ⟨3 + t.1, by omega⟩ c * a.W 3 c

/-- The convolution after its activation. -/
def xc (t : Fin 32) (c : Fin 768) : EReal :=
  a.conv t c * Ideal.div 1 (1 + Ideal.exp (-a.conv t c))

/-- The logarithm of one step's decay. -/
def da (t : Fin 32) (h : Fin 8) : EReal := a.DT t h * -Ideal.exp (a.AL h)

/-- Its running sum. -/
def ac (t : Fin 32) (h : Fin 8) : EReal := ∑ s : Fin 32, if s.1 ≤ t.1 then a.da s h else 0

/-- The value channels of a head. -/
def xv (t : Fin 32) (h : Fin 8) (p : Fin 64) : EReal := a.xc t ⟨h.1 * 64 + p.1, by omega⟩

/-- The input channels of a head's group: four heads share them. -/
def bm (t : Fin 32) (h : Fin 8) (n : Fin 64) : EReal := a.xc t ⟨512 + (h.1 / 4 * 64 + n.1), by omega⟩

/-- The output channels of a head's group. -/
def cm (t : Fin 32) (h : Fin 8) (n : Fin 64) : EReal := a.xc t ⟨640 + (h.1 / 4 * 64 + n.1), by omega⟩

/-- How much token `s` counts for token `t`. -/
def wgt (t s : Fin 32) (h : Fin 8) : EReal :=
  if s.1 ≤ t.1 then (∑ n : Fin 64, a.bm s h n * a.cm t h n) * Ideal.exp (a.ac t h - a.ac s h) * a.DT s h else 0

/-- What the sequence's own tokens contribute. -/
def yd (t : Fin 32) (h : Fin 8) (p : Fin 64) : EReal := ∑ s : Fin 32, a.xv s h p * a.wgt t s h

/-- What the state before the sequence contributes. -/
def yo (t : Fin 32) (h : Fin 8) (p : Fin 64) : EReal :=
  ∑ n : Fin 64, a.S0 h p n * (a.cm t h n * Ideal.exp (a.ac t h))

/-- The state after the sequence. -/
def st (h : Fin 8) (p n : Fin 64) : EReal :=
  Ideal.exp (a.ac 31 h) * a.S0 h p n
    + ∑ s : Fin 32, a.xv s h p * (a.bm s h n * (Ideal.exp (a.ac 31 h - a.ac s h) * a.DT s h))

/-- The gated output before its normalisation, at head `h` and value channel `p`. -/
def yh (t : Fin 32) (h : Fin 8) (p : Fin 64) : EReal :=
  (a.yd t h p + a.yo t h p + a.DS h * a.xv t h p)
    * (a.Z t ⟨h.1 * 64 + p.1, by omega⟩ * Ideal.div 1 (1 + Ideal.exp (-a.Z t ⟨h.1 * 64 + p.1, by omega⟩)))

/-- The same at lane `c` of the 512. -/
def yz (t : Fin 32) (c : Fin 512) : EReal := a.yh t ⟨c.1 / 64, by omega⟩ ⟨c.1 % 64, by omega⟩

/-- The reciprocal root of the mean square of a row. -/
def rs (t : Fin 32) : EReal :=
  Ideal.rsqrt (Ideal.div (∑ c : Fin 512, a.yz t c * a.yz t c) (Ideal.ofBits FTy.f32 1140850688#32)
    + Ideal.ofBits FTy.f32 897988541#32)

/-- The output. -/
def y (t : Fin 32) (c : Fin 512) : EReal := a.yz t c * a.rs t * a.G c

end Args

end Ssd

end
-- ==== Proof.SsdStep.lean ====
module

public import proofs.«01_k».proof.Proof.SsdBody
public import proofs.«01_k».proof.Proof.SsdSpec
public import Idealize.ShloMosaic.Lib.WordCmp

/-! # One program of the recurrence computes the formulas -/

@[expose] public section

set_option maxRecDepth 16384

noncomputable section

namespace Ssd

open Idealize.ShloMosaic Idealize.ShloMosaic.Pointwise Idealize.ShloMosaic.WordCmp Cert.SsdKernelIdeal Cert.SsdKernelIdeal.Gen

/-- The values a program loads are the arguments' entries. -/
structure Reads (L : Loads) (a : Args) : Prop where
  x : ∀ t c, L.x (ix3 0 t c) = a.X t c
  z : ∀ (k : Fin 4) (t : Fin 32) (l : Fin 128), L.z k (ix3 0 t l) = a.Z t ⟨128 * k.1 + l.1, by omega⟩
  dt : ∀ (t : Fin 32) (l : Fin 128) (h : l.1 < 8), L.dt (ix3 0 t l) = a.DT t ⟨l.1, h⟩
  pv5 : ∀ c, L.pv (ix2 5 c) = a.PV 0 c
  pv6 : ∀ c, L.pv (ix2 6 c) = a.PV 1 c
  pv7 : ∀ c, L.pv (ix2 7 c) = a.PV 2 c
  cw : ∀ k c, L.cw k (ix2 0 c) = a.W k c
  cb : ∀ c, L.cb (ix2 0 c) = a.Bc c
  al : ∀ (l : Fin 128) (h : l.1 < 8), L.al (ix2 0 l) = a.AL ⟨l.1, h⟩
  dsk : ∀ (k : Fin 4) (l : Fin 128), L.dsk k (ix2 0 l) = a.DS ⟨2 * k.1 + l.1 / 64, by omega⟩
  gn : ∀ (k : Fin 4) (l : Fin 128), L.gn k (ix2 0 l) = a.G ⟨128 * k.1 + l.1, by omega⟩
  tri : ∀ t s : Fin 32, L.tri (ix2 t s) = if s.1 ≤ t.1 then (1 : EReal) else 0
  mem : ∀ (k : Fin 4) (l l' : Fin 128), L.mem k (ix3 0 l l') =
    if l.1 / 64 = l'.1 / 64 then a.S0 ⟨2 * k.1 + l.1 / 64, by omega⟩ ⟨l.1 % 64, by omega⟩ ⟨l'.1 % 64, by omega⟩ else (0 : EReal)
  nonneg : ∀ t h, 0 ≤ a.DT t h

/-- The head that lane `l` of pair `k` belongs to. -/
def hd (k : Fin 4) (l : Fin 128) : Fin 8 := ⟨2 * k.1 + l.1 / 64, by omega⟩

/-- The place of lane `l` within its head. -/
def pl (l : Fin 128) : Fin 64 := ⟨l.1 % 64, by omega⟩

/-- A statement about the four pairs, one by one. -/
theorem four {P : Fin 4 → Prop} (h0 : P 0) (h1 : P 1) (h2 : P 2) (h3 : P 3) (k : Fin 4) : P k := by
  rcases k with ⟨_ | _ | _ | _ | k, hk⟩
  · exact h0
  · exact h1
  · exact h2
  · exact h3
  · omega

/-- A choice by whether a lane is on the left half. -/
theorem sel_left {α : Type} (l : Fin 128) (x y : α) :
    Scalar.select (IntOp.cmpi .slt (BitVec.ofNat 32 l.1) 64#32) x y = if l.1 < 64 then x else y := by
  rw [cmpi_slt_ofNat (by norm_num; omega) (by norm_num), select_decide]

/-- A choice by whether two lanes are on the same half. -/
theorem sel_same {α : Type} (l l' : Fin 128) (x y : α) :
    Scalar.select (IntOp.xori (IntOp.xori (IntOp.cmpi .slt (BitVec.ofNat 32 l.1) 64#32)
      (IntOp.cmpi .slt (BitVec.ofNat 32 l'.1) 64#32)) 1#1) x y = if l.1 / 64 = l'.1 / 64 then x else y := by
  rw [cmpi_slt_ofNat (by norm_num; omega) (by norm_num), cmpi_slt_ofNat (by norm_num; omega) (by norm_num)]
  by_cases h : l.1 < 64 <;> by_cases h' : l'.1 < 64
  · rw [if_pos (by omega)]; simp only [h, h', decide_true]; rfl
  · rw [if_neg (by omega)]; simp only [h, h', decide_true, decide_false]; rfl
  · rw [if_neg (by omega)]; simp only [h, h', decide_true, decide_false]; rfl
  · rw [if_pos (by omega)]; simp only [h, h', decide_false]; rfl

/-- A choice by whether a row is a given early one. -/
theorem sel_row {α : Type} (t : Fin 32) (k : Nat) (hk : k < 32) (x y : α) :
    Scalar.select (IntOp.cmpi .eq (BitVec.ofNat 32 t.1) (BitVec.ofNat 32 k)) x y = if t.1 = k then x else y := by
  rw [cmpi_eq_eq_toNat, select_decide, toNat_ofNat_of_lt (by omega), toNat_ofNat_of_lt (by omega)]

/-- A sum over 128 lanes is a sum over the two halves. -/
theorem sum_halves (f : Fin 128 → EReal) :
    ∑ x, f x = ∑ n : Fin 64, f ⟨n.1, by omega⟩ + ∑ n : Fin 64, f ⟨64 + n.1, by omega⟩ :=
  Fin.sum_univ_add (a := 64) (b := 64) f

/-- The exponential of an extended real is not negative. -/
theorem exp_nonneg (x : EReal) : 0 ≤ Ideal.exp x := by
  induction x with
  | bot => exact le_refl _
  | top => exact le_top
  | coe r => exact EReal.coe_nonneg.mpr (Real.exp_pos r).le

variable {L : Loads} {a : Args} (R : Reads L a)

include R

/-- The convolution with its activation. -/
theorem xc_at (t : Fin 32) (c : Fin 768) : xc L (ix2 t c) = a.xc t c := by
  have h2 : (if h : t.1 < 8 then
          Scalar.select (IntOp.cmpi CmpIPredicate.eq (BitVec.ofNat 32 t.1) 0#32) (L.pv (ix2 7 c))
            (L.x (ix3 0 ⟨(t.1 + 32 - 1) % 32, by omega⟩ c))
        else L.x (ix3 0 ⟨(8 + (t.1 - 8) + 32 - 1) % 32, by omega⟩ c)) = a.hist ⟨2 + t.1, by omega⟩ c := by
    rw [sel_row t 0 (by omega), R.pv7, R.x, R.x]
    split_ifs <;> first
      | exact (a.hist_prev _ 0 c (by first | omega | (dsimp only; omega))).symm
      | exact (a.hist_prev _ 1 c (by first | omega | (dsimp only; omega))).symm
      | exact (a.hist_prev _ 2 c (by first | omega | (dsimp only; omega))).symm
      | exact (a.hist_tok _ _ c (by first | omega | (dsimp only; omega))).symm
  have h1 : (if h : t.1 < 8 then
      Scalar.select (IntOp.cmpi CmpIPredicate.eq (BitVec.ofNat 32 t.1) 1#32) (L.pv (ix2 7 c))
        (Scalar.select (IntOp.cmpi CmpIPredicate.eq (BitVec.ofNat 32 t.1) 0#32) (L.pv (ix2 6 c))
          (L.x (ix3 0 ⟨(t.1 + 32 - 2) % 32, by omega⟩ c)))
    else L.x (ix3 0 ⟨(8 + (t.1 - 8) + 32 - 2) % 32, by omega⟩ c)) = a.hist ⟨1 + t.1, by omega⟩ c := by
    rw [sel_row t 0 (by omega), sel_row t 1 (by omega), R.pv7, R.pv6, R.x, R.x]
    split_ifs <;> first
      | exact (a.hist_prev _ 0 c (by first | omega | (dsimp only; omega))).symm
      | exact (a.hist_prev _ 1 c (by first | omega | (dsimp only; omega))).symm
      | exact (a.hist_prev _ 2 c (by first | omega | (dsimp only; omega))).symm
      | exact (a.hist_tok _ _ c (by first | omega | (dsimp only; omega))).symm
  have h0 : (if h : t.1 < 8 then
      Scalar.select (IntOp.cmpi CmpIPredicate.eq (BitVec.ofNat 32 t.1) 2#32) (L.pv (ix2 7 c))
        (Scalar.select (IntOp.cmpi CmpIPredicate.eq (BitVec.ofNat 32 t.1) 1#32) (L.pv (ix2 6 c))
         (Scalar.select (IntOp.cmpi CmpIPredicate.eq (BitVec.ofNat 32 t.1) 0#32) (L.pv (ix2 5 c))
          (L.x (ix3 0 ⟨(t.1 + 32 - 3) % 32, by omega⟩ c))))
    else L.x (ix3 0 ⟨(8 + (t.1 - 8) + 32 - 3) % 32, by omega⟩ c)) = a.hist ⟨t.1, by omega⟩ c := by
    rw [sel_row t 0 (by omega), sel_row t 1 (by omega), sel_row t 2 (by omega), R.pv7, R.pv6, R.pv5, R.x, R.x]
    split_ifs <;> first
      | exact (a.hist_prev _ 0 c (by first | omega | (dsimp only; omega))).symm
      | exact (a.hist_prev _ 1 c (by first | omega | (dsimp only; omega))).symm
      | exact (a.hist_prev _ 2 c (by first | omega | (dsimp only; omega))).symm
      | exact (a.hist_tok _ _ c (by first | omega | (dsimp only; omega))).symm
  have h3 : a.X t c = a.hist ⟨3 + t.1, by omega⟩ c :=
    (a.hist_tok _ t c (by dsimp only; omega)).symm
  unfold Args.xc Args.conv
  rw [← h0, ← h1, ← h2, ← h3, ← R.cw 0, ← R.cw 1, ← R.cw 2, ← R.cw 3, ← R.cb, ← R.x]
  have e : ∀ A B C D E : EReal, A + B + C + D + E = A + E + D + C + B := fun A B C D E => by abel
  rw [e]
  pointwise [xc, k0_pay29, xIn, convA, convB, convW1, k0_pay25, k0_pay26, k0_pay27, k0_pay28]
  simp only [zero_sub]

/-- One step's decay is not positive infinity. -/
theorem da_ne_top (t : Fin 32) (h : Fin 8) : a.da t h ≠ ⊤ := by
  have h1 : 0 ≤ a.DT t h * Ideal.exp (a.AL h) := mul_nonneg (R.nonneg t h) (exp_nonneg _)
  have h2 : a.da t h ≤ 0 := by
    unfold Args.da
    rw [mul_neg]
    exact EReal.neg_le.mpr (by rwa [neg_zero])
  exact fun e => absurd (e ▸ h2) (by simp)

omit R in
/-- A number that is not positive infinity is the sum of the three parts the program splits it into. -/
theorem split_parts (d : EReal) (hd : d ≠ ⊤) (m : EReal) (hm : m = 1 ∨ m = 0) :
    m * d + m * (d - d) + m * (d - d - (d - d)) = m * d := by
  rcases hm with rfl | rfl
  · induction d with
    | bot => simp only [one_mul]; rfl
    | top => exact absurd rfl hd
    | coe r =>
      rw [one_mul, one_mul, one_mul, ← EReal.coe_sub, ← EReal.coe_sub, ← EReal.coe_add, ← EReal.coe_add]
      congr 1; ring
  · simp

/-- The running sum of the decays, on the head's lane. -/
theorem acum_at (t : Fin 32) (l : Fin 128) (h : l.1 < 8) : acum L (ix2 t l) = a.ac t ⟨l.1, h⟩ := by
  pointwise [acum, k0_pay19, k0_pay18]
  simp only [R.dt _ l h, R.al l h, R.tri, zero_sub]
  rw [← Finset.sum_add_distrib, ← Finset.sum_add_distrib]
  refine Finset.sum_congr rfl fun s _ => ?_
  refine (split_parts (a.da s ⟨l.1, h⟩) (da_ne_top R s _) _ ?_).trans ?_
  · split_ifs <;> simp
  · split_ifs <;> simp

theorem acumT_at (t : Fin 32) (l : Fin 128) (h : l.1 < 8) : acumT L (ix2 l t) = a.ac t ⟨l.1, h⟩ := by
  rw [← acum_at R t l h]
  pointwise [acumT, k0_pay20, acum, k0_pay19]

theorem aLast_at (l : Fin 128) (h : l.1 < 8) : aLast L (ix2 0 l) = a.ac 31 ⟨l.1, h⟩ := by
  rw [← acum_at R 31 l h]
  pointwise [aLast, k0_pay22, acum, k0_pay19]

theorem dt_at (t : Fin 32) (l : Fin 128) (h : l.1 < 8) : dt L (ix2 t l) = a.DT t ⟨l.1, h⟩ := by
  rw [← R.dt t l h]
  pointwise [dt, k0_pay18]

theorem dtT_at (t : Fin 32) (l : Fin 128) (h : l.1 < 8) : dtT L (ix2 l t) = a.DT t ⟨l.1, h⟩ := by
  rw [← R.dt t l h]
  pointwise [dtT, k0_pay21, k0_pay18]

theorem bIn_at (t : Fin 32) (l : Fin 128) : bIn L (ix2 t l) = a.xc t ⟨512 + l.1, by omega⟩ := by
  rw [← xc_at R]
  pointwise [bIn, k0_pay32, xc, k0_pay29]

theorem cIn_at (t : Fin 32) (l : Fin 128) : cIn L (ix2 t l) = a.xc t ⟨640 + l.1, by omega⟩ := by
  rw [← xc_at R]
  pointwise [cIn, k0_pay33, xc, k0_pay29]

theorem bSwap_at (t : Fin 32) (l : Fin 128) :
    bSwap L (ix2 t l) = a.xc t ⟨512 + (l.1 + 128 - 64) % 128, by omega⟩ := by
  rw [← bIn_at R t ⟨(l.1 + 128 - 64) % 128, by omega⟩]
  pointwise [bSwap, k0_pay34, bIn]

end Ssd

end
-- ==== Proof.SsdPairs.lean ====
module

public import proofs.«01_k».proof.Proof.SsdStep

/-! # The four pairs of heads -/

@[expose] public section

set_option maxRecDepth 16384

noncomputable section

namespace Ssd

open Idealize.ShloMosaic Idealize.ShloMosaic.Pointwise Idealize.ShloMosaic.WordCmp Cert.SsdKernelIdeal Cert.SsdKernelIdeal.Gen

/-! ## A pair's values, by the pair's number -/

/-- The input channels under each of a pair's heads. -/
def bDup (L : Loads) : Fin 4 → Vec Ideal S32x128 .f32
  | 0 => bDup0 L | 1 => bDup0 L | 2 => bDup1 L | 3 => bDup1 L
/-- The output channels under each of a pair's heads. -/
def cDup (L : Loads) : Fin 4 → Vec Ideal S32x128 .f32
  | 0 => cDup0 L | 1 => cDup0 L | 2 => cDup1 L | 3 => cDup1 L
/-- The products of input and output channels of a pair's group. -/
def cbP (L : Loads) : Fin 4 → Vec Ideal S32x32 .f32
  | 0 => cb0 L | 1 => cb0 L | 2 => cb1 L | 3 => cb1 L
/-- The value channels. -/
def xP (L : Loads) : Fin 4 → Vec Ideal S32x128 .f32
  | 0 => xp0 L | 1 => xp1 L | 2 => xp2 L | 3 => xp3 L
/-- The value channels, as the products read them. -/
def xQ (L : Loads) : Fin 4 → Vec Ideal S32x128 .bf16
  | 0 => xq0 L | 1 => xq1 L | 2 => xq2 L | 3 => xq3 L
/-- The state before the chunk. -/
def stP (L : Loads) : Fin 4 → Vec Ideal S128x128 .f32
  | 0 => st0 L | 1 => st1 L | 2 => st2 L | 3 => st3 L
/-- The running decay of each lane's head. -/
def acolP (L : Loads) : Fin 4 → Vec Ideal S32x128 .f32
  | 0 => acol0 L | 1 => acol1 L | 2 => acol2 L | 3 => acol3 L
/-- The whole decay of each lane's head. -/
def aendP (L : Loads) : Fin 4 → Vec Ideal S1x128 .f32
  | 0 => aend0 L | 1 => aend1 L | 2 => aend2 L | 3 => aend3 L
/-- The weights of the left head. -/
def wlP (L : Loads) : Fin 4 → Vec Ideal S32x32 .bf16
  | 0 => wl0 L | 1 => wl1 L | 2 => wl2 L | 3 => wl3 L
/-- The weights of the right head. -/
def wrP (L : Loads) : Fin 4 → Vec Ideal S32x32 .bf16
  | 0 => wr0 L | 1 => wr1 L | 2 => wr2 L | 3 => wr3 L
/-- The output channels times the decay. -/
def csP (L : Loads) : Fin 4 → Vec Ideal S32x128 .bf16
  | 0 => cs0 L | 1 => cs1 L | 2 => cs2 L | 3 => cs3 L
/-- The input channels times the decay that is left and the step. -/
def bsP (L : Loads) : Fin 4 → Vec Ideal S32x128 .bf16
  | 0 => bs0 L | 1 => bs1 L | 2 => bs2 L | 3 => bs3 L
/-- What the chunk's own tokens contribute. -/
def ydP (L : Loads) : Fin 4 → Vec Ideal S32x128 .f32
  | 0 => yd0 L | 1 => yd1 L | 2 => yd2 L | 3 => yd3 L
/-- The gated output before normalisation. -/
def yzP (L : Loads) : Fin 4 → Vec Ideal S32x128 .f32
  | 0 => yz0 L | 1 => yz1 L | 2 => yz2 L | 3 => yz3 L
/-- The state after the chunk. -/
def newP (L : Loads) : Fin 4 → Vec Ideal S1x128x128 .f32
  | 0 => new0 L | 1 => new1 L | 2 => new2 L | 3 => new3 L
/-- The output. -/
def outP (L : Loads) : Fin 4 → Vec Ideal S1x32x128 .bf16
  | 0 => out0 L | 1 => out1 L | 2 => out2 L | 3 => out3 L

variable {L : Loads} {a : Args} (R : Reads L a)

include R

/-- The convolution at two equal columns. -/
theorem xc_col (t : Fin 32) {c c' : Fin 768} (h : c.1 = c'.1) : a.xc t c = a.xc t c' := by rw [Fin.ext h]

theorem bDup_at (k : Fin 4) (t : Fin 32) (l : Fin 128) : bDup L k (ix2 t l) = a.bm t (hd k l) (pl l) := by
  refine four (P := fun k => bDup L k (ix2 t l) = a.bm t (hd k l) (pl l)) ?_ ?_ ?_ ?_ k
  all_goals
    dsimp only [bDup]
    pointwise [bDup0, bDup1, k0_pay36, k0_pay37, k0_pay31]
    rw [sel_left, bIn_at R, bSwap_at R]
    unfold Args.bm
    split_ifs <;> exact xc_col R t (by simp only [hd, pl, Fin.isValue, Fin.val_zero, Fin.val_one, Fin.val_two] ; omega)

theorem cDup_at (k : Fin 4) (t : Fin 32) (l : Fin 128) : cDup L k (ix2 t l) = a.cm t (hd k l) (pl l) := by
  refine four (P := fun k => cDup L k (ix2 t l) = a.cm t (hd k l) (pl l)) ?_ ?_ ?_ ?_ k
  all_goals
    dsimp only [cDup]
    pointwise [cDup0, cDup1, k0_pay38, k0_pay39, k0_pay35, k0_pay31]
    rw [sel_left, cIn_at R, cIn_at R]
    unfold Args.cm
    split_ifs <;> exact xc_col R t (by simp only [hd, pl, Fin.isValue, Fin.val_zero, Fin.val_one, Fin.val_two] ; omega)

theorem xP_at (k : Fin 4) (t : Fin 32) (l : Fin 128) : xP L k (ix2 t l) = a.xv t (hd k l) (pl l) := by
  refine four (P := fun k => xP L k (ix2 t l) = a.xv t (hd k l) (pl l)) ?_ ?_ ?_ ?_ k
  all_goals
    dsimp only [xP]
    pointwise [xp0, xp1, xp2, xp3, k0_pay45, k0_pay46, k0_pay47, k0_pay48]
    rw [xc_at R]
    exact xc_col R t (by simp only [hd, pl, Fin.isValue, Fin.val_zero, Fin.val_one, Fin.val_two] ; omega)

theorem xQ_at (k : Fin 4) (t : Fin 32) (l : Fin 128) : xQ L k (ix2 t l) = a.xv t (hd k l) (pl l) := by
  rw [← xP_at R]
  refine four (P := fun k => xQ L k (ix2 t l) = xP L k (ix2 t l)) ?_ ?_ ?_ ?_ k
  all_goals
    dsimp only [xP, xQ]
    pointwise [xp0, xp1, xp2, xp3, xq0, xq1, xq2, xq3, k0_pay45, k0_pay46, k0_pay47, k0_pay48, k0_pay49, k0_pay50,
      k0_pay51, k0_pay52]

theorem stP_at (k : Fin 4) (l l' : Fin 128) :
    stP L k (ix2 l l') = if l.1 / 64 = l'.1 / 64 then a.S0 (hd k l) (pl l) (pl l') else 0 := by
  rw [show (if l.1 / 64 = l'.1 / 64 then a.S0 (hd k l) (pl l) (pl l') else 0) = L.mem k (ix3 0 l l') from (R.mem k l l').symm]
  refine four (P := fun k => stP L k (ix2 l l') = L.mem k (ix3 0 l l')) ?_ ?_ ?_ ?_ k
  all_goals
    dsimp only [stP]
    pointwise [st0, st1, st2, st3, k0_pay53, k0_pay54, k0_pay55, k0_pay56]

/-- The running decay at the two heads of a pair, chosen by the lane. -/
theorem pick_ac (k : Fin 4) (t : Fin 32) (l : Fin 128) :
    (if l.1 < 64 then a.ac t ⟨2 * k.1, by omega⟩ else a.ac t ⟨2 * k.1 + 1, by omega⟩) = a.ac t (hd k l) := by
  split_ifs <;> (congr 1; apply Fin.ext; simp only [hd]; omega)

/-- The step at the two heads of a pair, chosen by the lane. -/
theorem pick_dt (k : Fin 4) (t : Fin 32) (l : Fin 128) :
    (if l.1 < 64 then a.DT t ⟨2 * k.1, by omega⟩ else a.DT t ⟨2 * k.1 + 1, by omega⟩) = a.DT t (hd k l) := by
  split_ifs <;> (congr 1; apply Fin.ext; simp only [hd]; omega)

theorem acolP_at (k : Fin 4) (t : Fin 32) (l : Fin 128) : acolP L k (ix2 t l) = a.ac t (hd k l) := by
  rw [← pick_ac R]
  refine four (P := fun k => acolP L k (ix2 t l) =
    (if l.1 < 64 then a.ac t ⟨2 * k.1, by omega⟩ else a.ac t ⟨2 * k.1 + 1, by omega⟩)) ?_ ?_ ?_ ?_ k
  all_goals
    dsimp only [acolP]
    pointwise [acol0, acol1, acol2, acol3, al3, ar3, k0_pay31, k0_pay59, k0_pay69, k0_pay79, k0_pay88, k0_pay89,
      k0_pay90, k0_pay91]
    rw [sel_left, acum_at R _ _ (by decide), acum_at R _ _ (by decide)]
    rfl

theorem aendP_at (k : Fin 4) (l : Fin 128) : aendP L k (ix2 0 l) = a.ac 31 (hd k l) := by
  rw [← pick_ac R]
  refine four (P := fun k => aendP L k (ix2 0 l) =
    (if l.1 < 64 then a.ac 31 ⟨2 * k.1, by omega⟩ else a.ac 31 ⟨2 * k.1 + 1, by omega⟩)) ?_ ?_ ?_ ?_ k
  all_goals
    dsimp only [aendP]
    pointwise [aend0, aend1, aend2, aend3, k0_pay31, k0_pay63, k0_pay73, k0_pay82, k0_pay92]
    rw [sel_left, aLast_at R _ (by decide), aLast_at R _ (by decide)]
    rfl

theorem csP_at (k : Fin 4) (t : Fin 32) (l : Fin 128) :
    csP L k (ix2 t l) = a.cm t (hd k l) (pl l) * Ideal.exp (a.ac t (hd k l)) := by
  rw [← cDup_at R, ← acolP_at R]
  refine four (P := fun k => csP L k (ix2 t l) = cDup L k (ix2 t l) * Ideal.exp (acolP L k (ix2 t l))) ?_ ?_ ?_ ?_ k
  all_goals
    dsimp only [csP, cDup, acolP]
    pointwise [cs0, cs1, cs2, cs3, k0_pay65, k0_pay75, k0_pay84, k0_pay93, acol3]

theorem bsP_at (k : Fin 4) (t : Fin 32) (l : Fin 128) :
    bsP L k (ix2 t l) = a.bm t (hd k l) (pl l) * (Ideal.exp (a.ac 31 (hd k l) - a.ac t (hd k l)) * a.DT t (hd k l)) := by
  rw [← bDup_at R, ← aendP_at R, ← acolP_at R, ← pick_dt R]
  refine four (P := fun k => bsP L k (ix2 t l) = bDup L k (ix2 t l) *
    (Ideal.exp (aendP L k (ix2 0 l) - acolP L k (ix2 t l)) *
      (if l.1 < 64 then a.DT t ⟨2 * k.1, by omega⟩ else a.DT t ⟨2 * k.1 + 1, by omega⟩))) ?_ ?_ ?_ ?_ k
  all_goals
    dsimp only [bsP, bDup, acolP, aendP]
    pointwise [bs0, bs1, bs2, bs3, k0_pay66, k0_pay76, k0_pay85, k0_pay94, k0_pay60, k0_pay71, k0_pay88, k0_pay31,
      dcl0, dcr0, dcl1, dcr1, dcl2, dcr2, k0_pay61, k0_pay62, k0_pay70, k0_pay72, k0_pay80, k0_pay81,
      aend0, aend1, aend2, aend3, acol3]
    rw [sel_left, dt_at R _ _ (by decide), dt_at R _ _ (by decide)]
    rfl

/-- The products of the group's channels. -/
theorem cbP_at (k : Fin 4) (t s : Fin 32) (h : Fin 8) (hk : h.1 / 2 = k.1) :
    cbP L k (ix2 t s) = ∑ n : Fin 64, a.bm s h n * a.cm t h n := by
  refine four (P := fun k => h.1 / 2 = k.1 → cbP L k (ix2 t s) = ∑ n : Fin 64, a.bm s h n * a.cm t h n) ?_ ?_ ?_ ?_ k hk
  all_goals
    intro hk
    dsimp only [cbP]
    pointwise [cb0, cb1, k0_pay31, k0_pay40, k0_pay41, k0_pay42]
    simp only [sel_left, cIn_at R, bIn_at R]
    rw [sum_halves]
    unfold Args.bm Args.cm
    dsimp only
    first
      | rw [Finset.sum_eq_zero (s := Finset.univ) (f := fun n : Fin 64 => if 64 + n.1 < 64 then _ else (0 : EReal))
          (fun n _ => if_neg (by omega)), add_zero]
        refine Finset.sum_congr rfl fun n _ => ?_
        rw [if_pos n.2, mul_comm]
        exact congr_arg₂ _ (xc_col R s (by dsimp only; omega)) (xc_col R t (by dsimp only; omega))
      | rw [Finset.sum_eq_zero (s := Finset.univ) (f := fun n : Fin 64 => if n.1 < 64 then (0 : EReal) else _)
          (fun n _ => if_pos n.2), zero_add]
        refine Finset.sum_congr rfl fun n _ => ?_
        rw [if_neg (by omega), mul_comm]
        exact congr_arg₂ _ (xc_col R s (by dsimp only; omega)) (xc_col R t (by dsimp only; omega))

/-- The weights of the left head. -/
theorem wlP_at (k : Fin 4) (t s : Fin 32) : wlP L k (ix2 t s) = a.wgt t s ⟨2 * k.1, by omega⟩ := by
  unfold Args.wgt
  rw [← cbP_at R k t s ⟨2 * k.1, by omega⟩ (by dsimp only; omega)]
  refine four (P := fun k => wlP L k (ix2 t s) = if s.1 ≤ t.1 then cbP L k (ix2 t s) *
    Ideal.exp (a.ac t ⟨2 * k.1, by omega⟩ - a.ac s ⟨2 * k.1, by omega⟩) * a.DT s ⟨2 * k.1, by omega⟩ else 0) ?_ ?_ ?_ ?_ k
  all_goals
    dsimp only [wlP, cbP]
    pointwise [wl0, wl1, wl2, wl3, k0_pay23, k0_pay57, k0_pay67, k0_pay77, k0_pay86]
    rw [cmpi_sle_ofNat (by norm_num; omega) (by norm_num; omega), select_decide,
      acum_at R _ _ (by decide), acumT_at R _ _ (by decide), dtT_at R _ _ (by decide)]
    rfl

/-- The weights of the right head. -/
theorem wrP_at (k : Fin 4) (t s : Fin 32) : wrP L k (ix2 t s) = a.wgt t s ⟨2 * k.1 + 1, by omega⟩ := by
  unfold Args.wgt
  rw [← cbP_at R k t s ⟨2 * k.1 + 1, by omega⟩ (by dsimp only; omega)]
  refine four (P := fun k => wrP L k (ix2 t s) = if s.1 ≤ t.1 then cbP L k (ix2 t s) *
    Ideal.exp (a.ac t ⟨2 * k.1 + 1, by omega⟩ - a.ac s ⟨2 * k.1 + 1, by omega⟩) * a.DT s ⟨2 * k.1 + 1, by omega⟩ else 0)
    ?_ ?_ ?_ ?_ k
  all_goals
    dsimp only [wrP, cbP]
    pointwise [wr0, wr1, wr2, wr3, k0_pay23, k0_pay58, k0_pay68, k0_pay78, k0_pay87]
    rw [cmpi_sle_ofNat (by norm_num; omega) (by norm_num; omega), select_decide,
      acum_at R _ _ (by decide), acumT_at R _ _ (by decide), dtT_at R _ _ (by decide)]
    rfl

omit R in
/-- Each half of the lanes sums with its own head's weights. -/
theorem ydP_eq (k : Fin 4) (t : Fin 32) (l : Fin 128) : ydP L k (ix2 t l) =
    ∑ s : Fin 32, (if l.1 < 64 then wlP L k (ix2 t s) * xQ L k (ix2 s l) else 0)
      + ∑ s : Fin 32, (if l.1 < 64 then 0 else wrP L k (ix2 t s) * xQ L k (ix2 s l)) := by
  refine four (P := fun k => ydP L k (ix2 t l) =
    ∑ s : Fin 32, (if l.1 < 64 then wlP L k (ix2 t s) * xQ L k (ix2 s l) else 0)
      + ∑ s : Fin 32, (if l.1 < 64 then 0 else wrP L k (ix2 t s) * xQ L k (ix2 s l))) ?_ ?_ ?_ ?_ k
  all_goals
    dsimp only [ydP, wlP, wrP, xQ]
    pointwise [yd0, yd1, yd2, yd3, k0_pay31, k0_pay43, k0_pay44, k0_pay95, k0_pay96, k0_pay97, k0_pay98, w0, w1, w2,
      k0_pay64, k0_pay74, k0_pay83]
    simp only [sel_left]

/-- What the chunk's own tokens contribute. -/
theorem ydP_at (k : Fin 4) (t : Fin 32) (l : Fin 128) : ydP L k (ix2 t l) = a.yd t (hd k l) (pl l) := by
  rw [ydP_eq]
  unfold Args.yd
  by_cases h : l.1 < 64
  · have e : hd k l = ⟨2 * k.1, by omega⟩ := Fin.ext (by simp only [hd]; omega)
    simp only [h, if_true, Finset.sum_const_zero, add_zero, wlP_at R, xQ_at R, e]
    exact Finset.sum_congr rfl fun s _ => mul_comm _ _
  · have e : hd k l = ⟨2 * k.1 + 1, by omega⟩ := Fin.ext (by simp only [hd]; omega)
    simp only [h, if_false, Finset.sum_const_zero, zero_add, wrP_at R, xQ_at R, e]
    exact Finset.sum_congr rfl fun s _ => mul_comm _ _

/-- The sum over the lanes of a product with the block-diagonal state is a sum over the lane's own block. -/
theorem yo_at (k : Fin 4) (t : Fin 32) (l : Fin 128) :
    ∑ x : Fin 128, csP L k (ix2 t x) * stP L k (ix2 l x) = a.yo t (hd k l) (pl l) := by
  unfold Args.yo
  simp only [csP_at R, stP_at R]
  rw [sum_halves]
  by_cases h : l.1 < 64
  · rw [Finset.sum_eq_zero (f := fun n : Fin 64 => _ * (if l.1 / 64 = (64 + n.1) / 64 then _ else (0 : EReal)))
      (fun n _ => by rw [if_neg (by omega), mul_zero]), add_zero]
    refine Finset.sum_congr rfl fun n _ => ?_
    rw [if_pos (by dsimp only; omega), mul_comm]
    rw [show hd k ⟨n.1, by omega⟩ = hd k l from Fin.ext (by simp only [hd]; omega),
      show pl ⟨n.1, by omega⟩ = n from Fin.ext (by simp only [pl]; omega)]
  · rw [Finset.sum_eq_zero (f := fun n : Fin 64 => _ * (if l.1 / 64 = n.1 / 64 then _ else (0 : EReal)))
      (fun n _ => by rw [if_neg (by omega), mul_zero]), zero_add]
    refine Finset.sum_congr rfl fun n _ => ?_
    rw [if_pos (by dsimp only; omega), mul_comm]
    rw [show hd k ⟨64 + n.1, by omega⟩ = hd k l from Fin.ext (by simp only [hd]; omega),
      show pl ⟨64 + n.1, by omega⟩ = n from Fin.ext (by simp only [pl]; omega)]

omit R in
theorem yzP_eq (k : Fin 4) (t : Fin 32) (l : Fin 128) : yzP L k (ix2 t l) =
    (ydP L k (ix2 t l) + ∑ x : Fin 128, csP L k (ix2 t x) * stP L k (ix2 l x) + L.dsk k (ix2 0 l) * xP L k (ix2 t l))
      * (L.z k (ix3 0 t l) * Ideal.div 1 (1 + Ideal.exp (-L.z k (ix3 0 t l)))) := by
  refine four (P := fun k => yzP L k (ix2 t l) =
    (ydP L k (ix2 t l) + ∑ x : Fin 128, csP L k (ix2 t x) * stP L k (ix2 l x) + L.dsk k (ix2 0 l) * xP L k (ix2 t l))
      * (L.z k (ix3 0 t l) * Ideal.div 1 (1 + Ideal.exp (-L.z k (ix3 0 t l))))) ?_ ?_ ?_ ?_ k
  all_goals
    dsimp only [yzP, ydP, csP, stP, xP]
    pointwise [yz0, yz1, yz2, yz3, k0_pay103, k0_pay108, k0_pay109, k0_pay114, ysk1, z1, ez1, ysk3, z3, ez3, k0_pay105,
      k0_pay106, k0_pay107, k0_pay111, k0_pay112, k0_pay113, yo0, sT1, yo2, yo3, k0_pay99, k0_pay100, k0_pay101,
      k0_pay102, st1, k0_pay54]
    simp only [zero_sub]

/-- The gated output before its normalisation. -/
theorem yzP_at (k : Fin 4) (t : Fin 32) (l : Fin 128) : yzP L k (ix2 t l) = a.yh t (hd k l) (pl l) := by
  rw [yzP_eq, ydP_at R, yo_at R, xP_at R, R.z, R.dsk]
  unfold Args.yh
  rw [show (⟨(hd k l).1 * 64 + (pl l).1, by omega⟩ : Fin 512) = ⟨128 * k.1 + l.1, by omega⟩ from
    Fin.ext (by simp only [hd, pl]; omega)]
  rfl

omit R in
/-- A row of 512 lanes is the four pairs' rows. -/
theorem sum_pairs (f : Fin 512 → EReal) :
    ∑ c, f c = ∑ l : Fin 128, f ⟨l.1, by omega⟩ + ∑ l : Fin 128, f ⟨128 + l.1, by omega⟩
      + ∑ l : Fin 128, f ⟨256 + l.1, by omega⟩ + ∑ l : Fin 128, f ⟨384 + l.1, by omega⟩ := by
  rw [show ∑ c, f c = ∑ c : Fin 384, f ⟨c.1, by omega⟩ + ∑ c : Fin 128, f ⟨384 + c.1, by omega⟩ from
    Fin.sum_univ_add (a := 384) (b := 128) f]
  rw [show ∑ c : Fin 384, f ⟨c.1, by omega⟩ = ∑ c : Fin 256, f ⟨c.1, by omega⟩ + ∑ c : Fin 128, f ⟨256 + c.1, by omega⟩ from
    Fin.sum_univ_add (a := 256) (b := 128) (fun c : Fin 384 => f ⟨c.1, by omega⟩)]
  rw [show ∑ c : Fin 256, f ⟨c.1, by omega⟩ = ∑ c : Fin 128, f ⟨c.1, by omega⟩ + ∑ c : Fin 128, f ⟨128 + c.1, by omega⟩ from
    Fin.sum_univ_add (a := 128) (b := 128) (fun c : Fin 256 => f ⟨c.1, by omega⟩)]

omit R in
theorem inv_eq (t : Fin 32) : inv L (ix2 t 0) =
    Ideal.rsqrt ((∑ l : Fin 128, yzP L 0 (ix2 t l) * yzP L 0 (ix2 t l) + ∑ l : Fin 128, yzP L 1 (ix2 t l) * yzP L 1 (ix2 t l)
      + ∑ l : Fin 128, yzP L 2 (ix2 t l) * yzP L 2 (ix2 t l) + ∑ l : Fin 128, yzP L 3 (ix2 t l) * yzP L 3 (ix2 t l))
        * Ideal.ofBits FTy.f32 989855744#32 + Ideal.ofBits FTy.f32 897988541#32) := by
  dsimp only [yzP]
  pointwise [inv, k0_pay115, yz0, yz1, yz2, yz3, ss012, k0_pay110, ss0, k0_pay104]

omit R in
/-- The divisor 512. -/
theorem ofBits_512 : Ideal.ofBits FTy.f32 1140850688#32 = ((512 : ℝ) : EReal) := by
  simp [Ideal.ofBits, Ideal.ieee]
  rw [← EReal.coe_mul]
  congr 1
  norm_num

omit R in
/-- Its reciprocal. -/
theorem ofBits_inv512 : Ideal.ofBits FTy.f32 989855744#32 = ((1 / 512 : ℝ) : EReal) := by
  simp [Ideal.ofBits, Ideal.ieee]
  rw [← EReal.coe_mul]
  congr 1
  norm_num

/-- The reciprocal root of a row's mean square. -/
theorem inv_at (t : Fin 32) : inv L (ix2 t 0) = a.rs t := by
  rw [inv_eq]
  unfold Args.rs
  rw [ofBits_512, ofBits_inv512, Ideal.div_coe (by norm_num), sum_pairs]
  have e : ∀ (k : Fin 4) (l : Fin 128) (c : Fin 512), c.1 = 128 * k.1 + l.1 → yzP L k (ix2 t l) = a.yz t c := by
    intro k l c hc
    rw [yzP_at R]
    unfold Args.yz
    rw [show hd k l = ⟨c.1 / 64, by omega⟩ from Fin.ext (by simp only [hd]; omega),
      show pl l = ⟨c.1 % 64, by omega⟩ from Fin.ext (by simp only [pl]; omega)]
  have e' : ∀ (k : Fin 4) (c : Fin 128 → Fin 512), (∀ l, (c l).1 = 128 * k.1 + l.1) →
      ∑ l : Fin 128, yzP L k (ix2 t l) * yzP L k (ix2 t l) = ∑ l : Fin 128, a.yz t (c l) * a.yz t (c l) :=
    fun k c hc => Finset.sum_congr rfl fun l _ => by rw [e k l (c l) (hc l)]
  rw [e' 0 (fun l => ⟨l.1, by omega⟩) (fun l => by dsimp only; omega),
    e' 1 (fun l => ⟨128 + l.1, by omega⟩) (fun l => by dsimp only; omega),
    e' 2 (fun l => ⟨256 + l.1, by omega⟩) (fun l => by dsimp only; omega),
    e' 3 (fun l => ⟨384 + l.1, by omega⟩) (fun l => by dsimp only; omega)]

/-- THE OUTPUT of the program, pair by pair. -/
theorem outP_at (k : Fin 4) (t : Fin 32) (l : Fin 128) : outP L k (ix3 0 t l) = a.y t ⟨128 * k.1 + l.1, by omega⟩ := by
  unfold Args.y Args.yz
  rw [show (⟨(128 * k.1 + l.1) / 64, by omega⟩ : Fin 8) = hd k l from Fin.ext (by simp only [hd]; omega),
      show (⟨(128 * k.1 + l.1) % 64, by omega⟩ : Fin 64) = pl l from Fin.ext (by simp only [pl]; omega),
      ← yzP_at R, ← inv_at R, ← R.gn]
  refine four (P := fun k => outP L k (ix3 0 t l) = yzP L k (ix2 t l) * inv L (ix2 t 0) * L.gn k (ix2 0 l)) ?_ ?_ ?_ ?_ k
  all_goals
    dsimp only [outP, yzP]
    pointwise [out0, out1, out2, out3, k0_pay121, k0_pay122, k0_pay1, k0_pay2, y2, k0_pay123]

omit R in
theorem newP_eq (k : Fin 4) (l l' : Fin 128) : newP L k (ix3 0 l l') =
    stP L k (ix2 l l') * Ideal.exp (aendP L k (ix2 0 l'))
      + (if l.1 / 64 = l'.1 / 64 then ∑ x : Fin 32, xQ L k (ix2 x l) * bsP L k (ix2 x l') else 0) := by
  refine four (P := fun k => newP L k (ix3 0 l l') = stP L k (ix2 l l') * Ideal.exp (aendP L k (ix2 0 l'))
      + (if l.1 / 64 = l'.1 / 64 then ∑ x : Fin 32, xQ L k (ix2 x l) * bsP L k (ix2 x l') else 0)) ?_ ?_ ?_ ?_ k
  all_goals
    dsimp only [newP, stP, aendP, xQ, bsP]
    pointwise [new0, new1, new2, new3, k0_pay116, k0_pay117, k0_pay118, k0_pay119, k0_pay120, k0_pay24, sn2]
    rw [sel_same]

/-- THE STATE after the program, pair by pair, on the two heads' blocks. -/
theorem newP_at (k : Fin 4) (l l' : Fin 128) (h : l.1 / 64 = l'.1 / 64) :
    newP L k (ix3 0 l l') = a.st (hd k l) (pl l) (pl l') := by
  have e : hd k l' = hd k l := Fin.ext (by simp only [hd]; omega)
  rw [newP_eq, if_pos h, stP_at R, if_pos h, aendP_at R]
  simp only [xQ_at R, bsP_at R, e]
  rw [mul_comm (a.S0 _ _ _)]
  rfl

end Ssd

end
-- ==== Proof.SsdBlock.lean ====
module

public import proofs.«01_k».proof.Proof.SsdPairs
public import Idealize.ShloMosaic.Lib.Pipeline.ReadBack
public import Idealize.ShloMosaic.Lib.Pipeline.ValueKit.Tiles

/-! # What one program leaves in its two output blocks

The loads of one program, from its input blocks; the pieces it stores; and the two output blocks read at an
index. -/

@[expose] public section

set_option maxRecDepth 16384

noncomputable section

namespace Ssd

open Idealize.ShloMosaic Idealize.ShloMosaic.Pointwise Cert.SsdKernelIdeal Cert.SsdKernelIdeal.Gen

/-- Under a last write of one slab, the contents are its payload on the slab and the earlier contents off it. -/
theorem canon_slab (k : Nat) (inb : ∀ a, (![k, 0, 0] : Fin 3 → Nat) a + S1x128x128.size a ≤ S4x128x128.size a)
    (w : S1x128x128.Idx → Elt Ideal .f32) (P : List (View.Piece (Elt Ideal) S4x128x128 .f32)) (q : Fin 4) (l l' : Fin 128) :
    View.canon (⟨Rect.unit (s := S4x128x128) ![k, 0, 0] S1x128x128.size inb, w⟩ :: P) (ix3 q l l')
      = if q.1 = k then w (ix3 0 l l') else View.canon P (ix3 q l l') := by
  by_cases h : q.1 = k
  · subst h
    rw [if_pos rfl]
    have e : (ix3 q l l' : S4x128x128.Idx) = (Rect.unit (s := S4x128x128) ![q.1, 0, 0] S1x128x128.size inb).emb (ix3 0 l l') := by
      funext a
      apply Fin.ext
      rw [Rect.emb_apply]
      fin_cases a
      · show q.1 = q.1 + 1 * 0; omega
      · show l.1 = 0 + 1 * l.1; omega
      · show l'.1 = 0 + 1 * l'.1; omega
    rw [e]; exact View.canon_cons_emb (Rect.unit (s := S4x128x128) ![q.1, 0, 0] S1x128x128.size inb) w P _
  · rw [if_neg h]
    refine View.canon_cons_of_not_mem _ P ?_
    intro hm
    have := (Rect.mem_set_unit (inb := inb).mp hm) 0
    apply h
    have h1 : k ≤ q.1 := this.1
    have h2 : q.1 < k + 1 := this.2
    omega

/-- Four values by number. -/
def pick {α : Type} (a b c d : α) : Fin 4 → α
  | 0 => a | 1 => b | 2 => c | 3 => d

section Run
variable (c : Dev nD) (i : grid0.Coords)
  (arg2 : Memref sig .tc .vmem S1x32x768 .f32) (harg2 : arg2.IsWhole)
  (arg3 : Memref sig .tc .vmem S1x32x512 .f32) (harg3 : arg3.IsWhole)
  (arg4 : Memref sig .tc .vmem S1x32x128 .f32) (harg4 : arg4.IsWhole)
  (arg5 : Memref sig .tc .vmem S1x8x768 .f32) (harg5 : arg5.IsWhole)
  (arg6 : Memref sig .tc .vmem S1x8x64x64 .f32) (harg6 : arg6.IsWhole)
  (arg7 : Memref sig .tc .vmem S4x768 .f32) (harg7 : arg7.IsWhole)
  (arg8 : Memref sig .tc .vmem S1x768 .f32) (harg8 : arg8.IsWhole)
  (arg9 : Memref sig .tc .vmem S1x128 .f32) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S32x32 .bf16) (harg12 : arg12.IsWhole)
  (arg13 : Memref sig .tc .vmem S1x32x512 .bf16) (harg13 : arg13.IsWhole)
  (arg14 : Memref sig .tc .vmem S1x8x64x64 .f32) (harg14 : arg14.IsWhole)
  (arg15 : Memref sig .tc .vmem S8x768 .f32) (harg15 : arg15.IsWhole)
  (arg16 : Memref sig .tc .vmem S4x128x128 .f32) (harg16 : arg16.IsWhole)
  (hc0 : cond0_0 i) (hc1 : cond0_1 i)
  (x0 : Vec Ideal S1x32x768 .f32) (x1 : Vec Ideal S1x32x512 .f32) (x2 : Vec Ideal S1x32x128 .f32) (x3 : Vec Ideal S1x8x768 .f32) (x4 : Vec Ideal S1x8x64x64 .f32) (x5 : Vec Ideal S4x768 .f32) (x6 : Vec Ideal S1x768 .f32) (x7 : Vec Ideal S1x128 .f32) (x8 : Vec Ideal S1x512 .f32) (x9 : Vec Ideal S1x512 .f32) (x10 : Vec Ideal S32x32 .bf16)

/-- The state's four slabs as the program first writes them, last first. -/
def slabs : List (View.Piece (Elt Ideal) S4x128x128 .f32) :=
  [⟨(Rect.unit (s := S4x128x128) ![3, 0, 0] S1x128x128.size inb_S4x128x128_S1x128x128_3_0_0), k0_pay17 k0_pay8 (View.readAt (Elt Ideal) arg6.view (Rect.unit (s := S1x8x64x64) ![0, 6, 0, 0] S1x1x64x64.size inb_S1x8x64x64_S1x1x64x64_0_6_0_0).toLoadRect (harg6.unread x4)) (View.readAt (Elt Ideal) arg6.view (Rect.unit (s := S1x8x64x64) ![0, 7, 0, 0] S1x1x64x64.size inb_S1x8x64x64_S1x1x64x64_0_7_0_0).toLoadRect (harg6.unread x4))⟩, ⟨(Rect.unit (s := S4x128x128) ![2, 0, 0] S1x128x128.size inb_S4x128x128_S1x128x128_2_0_0), k0_pay16 k0_pay8 (View.readAt (Elt Ideal) arg6.view (Rect.unit (s := S1x8x64x64) ![0, 4, 0, 0] S1x1x64x64.size inb_S1x8x64x64_S1x1x64x64_0_4_0_0).toLoadRect (harg6.unread x4)) (View.readAt (Elt Ideal) arg6.view (Rect.unit (s := S1x8x64x64) ![0, 5, 0, 0] S1x1x64x64.size inb_S1x8x64x64_S1x1x64x64_0_5_0_0).toLoadRect (harg6.unread x4))⟩, ⟨(Rect.unit (s := S4x128x128) ![1, 0, 0] S1x128x128.size inb_S4x128x128_S1x128x128_1_0_0), k0_pay10 (View.readAt (Elt Ideal) arg6.view (Rect.unit (s := S1x8x64x64) ![0, 2, 0, 0] S1x1x64x64.size inb_S1x8x64x64_S1x1x64x64_0_2_0_0).toLoadRect (harg6.unread x4)) (View.readAt (Elt Ideal) arg6.view (Rect.unit (s := S1x8x64x64) ![0, 3, 0, 0] S1x1x64x64.size inb_S1x8x64x64_S1x1x64x64_0_3_0_0).toLoadRect (harg6.unread x4))⟩, ⟨(Rect.unit (s := S4x128x128) ![0, 0, 0] S1x128x128.size inb_S4x128x128_S1x128x128_0_0_0), k0_pay9 (View.readAt (Elt Ideal) arg6.view (Rect.unit (s := S1x8x64x64) ![0, 0, 0, 0] S1x1x64x64.size inb_S1x8x64x64_S1x1x64x64_0_0_0_0).toLoadRect (harg6.unread x4)) (View.readAt (Elt Ideal) arg6.view (Rect.unit (s := S1x8x64x64) ![0, 1, 0, 0] S1x1x64x64.size inb_S1x8x64x64_S1x1x64x64_0_1_0_0).toLoadRect (harg6.unread x4))⟩]

/-- What the program loads. -/
def loads : Loads where
  x := View.readAt (Elt Ideal) arg2.view (Rect.unit (s := S1x32x768) ![0, 0, 0] S1x32x768.size inb_S1x32x768_S1x32x768_0_0_0).toLoadRect (harg2.unread x0)
  z := pick
    (View.readAt (Elt Ideal) arg3.view (Rect.unit (s := S1x32x512) ![0, 0, 0] S1x32x128.size inb_S1x32x512_S1x32x128_0_0_0).toLoadRect (harg3.unread x1))
    (View.readAt (Elt Ideal) arg3.view (Rect.unit (s := S1x32x512) ![0, 0, 128] S1x32x128.size inb_S1x32x512_S1x32x128_0_0_128).toLoadRect (harg3.unread x1))
    (View.readAt (Elt Ideal) arg3.view (Rect.unit (s := S1x32x512) ![0, 0, 256] S1x32x128.size inb_S1x32x512_S1x32x128_0_0_256).toLoadRect (harg3.unread x1))
    (View.readAt (Elt Ideal) arg3.view (Rect.unit (s := S1x32x512) ![0, 0, 384] S1x32x128.size inb_S1x32x512_S1x32x128_0_0_384).toLoadRect (harg3.unread x1))
  dt := View.readAt (Elt Ideal) arg4.view (Rect.unit (s := S1x32x128) ![0, 0, 0] S1x32x128.size inb_S1x32x128_S1x32x128_0_0_0).toLoadRect (harg4.unread x2)
  pv := arg15.view.readCov [⟨Rect.unit ![0, 0] S8x768.size inb_S8x768_S8x768_0_0, k0_pay7 (View.readAt (Elt Ideal) arg5.view (Rect.unit (s := S1x8x768) ![0, 0, 0] S1x8x768.size inb_S1x8x768_S1x8x768_0_0_0).toLoadRect (harg5.unread x3))⟩]
    (Rect.unit ![0, 0] S8x768.size inb_S8x768_S8x768_0_0).toLoadRect
  cw := pick
    (View.readAt (Elt Ideal) arg7.view (Rect.unit (s := S4x768) ![0, 0] S1x768.size inb_S4x768_S1x768_0_0).toLoadRect (harg7.unread x5))
    (View.readAt (Elt Ideal) arg7.view (Rect.unit (s := S4x768) ![1, 0] S1x768.size inb_S4x768_S1x768_1_0).toLoadRect (harg7.unread x5))
    (View.readAt (Elt Ideal) arg7.view (Rect.unit (s := S4x768) ![2, 0] S1x768.size inb_S4x768_S1x768_2_0).toLoadRect (harg7.unread x5))
    (View.readAt (Elt Ideal) arg7.view (Rect.unit (s := S4x768) ![3, 0] S1x768.size inb_S4x768_S1x768_3_0).toLoadRect (harg7.unread x5))
  cb := View.readAt (Elt Ideal) arg8.view (Rect.unit (s := S1x768) ![0, 0] S1x768.size inb_S1x768_S1x768_0_0).toLoadRect (harg8.unread x6)
  al := View.readAt (Elt Ideal) arg9.view (Rect.unit (s := S1x128) ![0, 0] S1x128.size inb_S1x128_S1x128_0_0).toLoadRect (harg9.unread x7)
  dsk := pick
    (View.readAt (Elt Ideal) arg10.view (Rect.unit (s := S1x512) ![0, 0] S1x128.size inb_S1x512_S1x128_0_0).toLoadRect (harg10.unread x8))
    (View.readAt (Elt Ideal) arg10.view (Rect.unit (s := S1x512) ![0, 128] S1x128.size inb_S1x512_S1x128_0_128).toLoadRect (harg10.unread x8))
    (View.readAt (Elt Ideal) arg10.view (Rect.unit (s := S1x512) ![0, 256] S1x128.size inb_S1x512_S1x128_0_256).toLoadRect (harg10.unread x8))
    (View.readAt (Elt Ideal) arg10.view (Rect.unit (s := S1x512) ![0, 384] S1x128.size inb_S1x512_S1x128_0_384).toLoadRect (harg10.unread x8))
  gn := pick
    (View.readAt (Elt Ideal) arg11.view (Rect.unit (s := S1x512) ![0, 0] S1x128.size inb_S1x512_S1x128_0_0).toLoadRect (harg11.unread x9))
    (View.readAt (Elt Ideal) arg11.view (Rect.unit (s := S1x512) ![0, 128] S1x128.size inb_S1x512_S1x128_0_128).toLoadRect (harg11.unread x9))
    (View.readAt (Elt Ideal) arg11.view (Rect.unit (s := S1x512) ![0, 256] S1x128.size inb_S1x512_S1x128_0_256).toLoadRect (harg11.unread x9))
    (View.readAt (Elt Ideal) arg11.view (Rect.unit (s := S1x512) ![0, 384] S1x128.size inb_S1x512_S1x128_0_384).toLoadRect (harg11.unread x9))
  tri := View.readAt (Elt Ideal) arg12.view (Rect.unit (s := S32x32) ![0, 0] S32x32.size inb_S32x32_S32x32_0_0).toLoadRect (harg12.unread x10)
  mem := pick
    (arg16.view.readCov (slabs arg6 harg6 x4) (Rect.unit (s := S4x128x128) ![0, 0, 0] S1x128x128.size inb_S4x128x128_S1x128x128_0_0_0).toLoadRect)
    (arg16.view.readCov (slabs arg6 harg6 x4) (Rect.unit (s := S4x128x128) ![1, 0, 0] S1x128x128.size inb_S4x128x128_S1x128x128_1_0_0).toLoadRect)
    (arg16.view.readCov (slabs arg6 harg6 x4) (Rect.unit (s := S4x128x128) ![2, 0, 0] S1x128x128.size inb_S4x128x128_S1x128x128_2_0_0).toLoadRect)
    (arg16.view.readCov (slabs arg6 harg6 x4) (Rect.unit (s := S4x128x128) ![3, 0, 0] S1x128x128.size inb_S4x128x128_S1x128x128_3_0_0).toLoadRect)

/-- The state's four slabs at the end, last first. -/
def slabsEnd (L : Loads) : List (View.Piece (Elt Ideal) S4x128x128 .f32) :=
  ⟨(Rect.unit (s := S4x128x128) ![3, 0, 0] S1x128x128.size inb_S4x128x128_S1x128x128_3_0_0), new3 L⟩ :: ⟨(Rect.unit (s := S4x128x128) ![2, 0, 0] S1x128x128.size inb_S4x128x128_S1x128x128_2_0_0), new2 L⟩ :: ⟨(Rect.unit (s := S4x128x128) ![1, 0, 0] S1x128x128.size inb_S4x128x128_S1x128x128_1_0_0), new1 L⟩ :: ⟨(Rect.unit (s := S4x128x128) ![0, 0, 0] S1x128x128.size inb_S4x128x128_S1x128x128_0_0_0), new0 L⟩ :: slabs arg6 harg6 x4

/-- The pieces stored to the first output. -/
def outPieces (L : Loads) : List (View.Piece (Elt Ideal) S1x32x512 .bf16) :=
  [⟨Rect.unit (s := S1x32x512) ![0, 0, 384] S1x32x128.size inb_S1x32x512_S1x32x128_0_0_384, out3 L⟩, ⟨Rect.unit (s := S1x32x512) ![0, 0, 256] S1x32x128.size inb_S1x32x512_S1x32x128_0_0_256, out2 L⟩, ⟨Rect.unit (s := S1x32x512) ![0, 0, 128] S1x32x128.size inb_S1x32x512_S1x32x128_0_0_128, out1 L⟩, ⟨Rect.unit (s := S1x32x512) ![0, 0, 0] S1x32x128.size inb_S1x32x512_S1x32x128_0_0_0, out0 L⟩]

/-- The pieces stored to the second output. -/
def statePieces (L : Loads) : List (View.Piece (Elt Ideal) S1x8x64x64 .f32) :=
  [⟨Rect.unit (s := S1x8x64x64) ![0, 7, 0, 0] S1x1x64x64.size inb_S1x8x64x64_S1x1x64x64_0_7_0_0, k0_pay6 (arg16.view.readCov (slabsEnd arg6 harg6 x4 L) (Rect.unit (s := S4x128x128) ![3, 64, 64] S1x64x64.size inb_S4x128x128_S1x64x64_3_64_64).toLoadRect)⟩, ⟨Rect.unit (s := S1x8x64x64) ![0, 6, 0, 0] S1x1x64x64.size inb_S1x8x64x64_S1x1x64x64_0_6_0_0, k0_pay5 (arg16.view.readCov (slabsEnd arg6 harg6 x4 L) (Rect.unit (s := S4x128x128) ![3, 0, 0] S1x64x64.size inb_S4x128x128_S1x64x64_3_0_0).toLoadRect)⟩, ⟨Rect.unit (s := S1x8x64x64) ![0, 5, 0, 0] S1x1x64x64.size inb_S1x8x64x64_S1x1x64x64_0_5_0_0, k0_pay4 (arg16.view.readCov (slabsEnd arg6 harg6 x4 L) (Rect.unit (s := S4x128x128) ![2, 64, 64] S1x64x64.size inb_S4x128x128_S1x64x64_2_64_64).toLoadRect)⟩, ⟨Rect.unit (s := S1x8x64x64) ![0, 4, 0, 0] S1x1x64x64.size inb_S1x8x64x64_S1x1x64x64_0_4_0_0, k0_pay3 (k0_pay15 (arg16.view.readCov (slabsEnd arg6 harg6 x4 L) (Rect.unit (s := S4x128x128) ![2, 0, 0] S1x64x64.size inb_S4x128x128_S1x64x64_2_0_0).toLoadRect))⟩, ⟨Rect.unit (s := S1x8x64x64) ![0, 3, 0, 0] S1x1x64x64.size inb_S1x8x64x64_S1x1x64x64_0_3_0_0, k0_pay14 (arg16.view.readCov (slabsEnd arg6 harg6 x4 L) (Rect.unit (s := S4x128x128) ![1, 64, 64] S1x64x64.size inb_S4x128x128_S1x64x64_1_64_64).toLoadRect)⟩, ⟨Rect.unit (s := S1x8x64x64) ![0, 2, 0, 0] S1x1x64x64.size inb_S1x8x64x64_S1x1x64x64_0_2_0_0, k0_pay13 (arg16.view.readCov (slabsEnd arg6 harg6 x4 L) (Rect.unit (s := S4x128x128) ![1, 0, 0] S1x64x64.size inb_S4x128x128_S1x64x64_1_0_0).toLoadRect)⟩, ⟨Rect.unit (s := S1x8x64x64) ![0, 1, 0, 0] S1x1x64x64.size inb_S1x8x64x64_S1x1x64x64_0_1_0_0, k0_pay12 (arg16.view.readCov (slabsEnd arg6 harg6 x4 L) (Rect.unit (s := S4x128x128) ![0, 64, 64] S1x64x64.size inb_S4x128x128_S1x64x64_0_64_64).toLoadRect)⟩, ⟨Rect.unit (s := S1x8x64x64) ![0, 0, 0, 0] S1x1x64x64.size inb_S1x8x64x64_S1x1x64x64_0_0_0_0, k0_pay11 (arg16.view.readCov (slabsEnd arg6 harg6 x4 L) (Rect.unit (s := S4x128x128) ![0, 0, 0] S1x64x64.size inb_S4x128x128_S1x64x64_0_0_0).toLoadRect)⟩]

set_option maxHeartbeats 2000000 in
/-- What the run stores to the first output. -/
theorem run_out : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).1 = outPieces (loads arg2 harg2 arg3 harg3 arg4 harg4 arg5 harg5 arg6 harg6 arg7 harg7 arg8 harg8 arg9 harg9 arg10 harg10 arg11 harg11 arg12 harg12 arg15 arg16 x0 x1 x2 x3 x4 x5 x6 x7 x8 x9 x10) := by
  sl_kernel_rfl

set_option maxHeartbeats 2000000 in
/-- What the run stores to the second output. -/
theorem run_state : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).2.1 = statePieces arg6 harg6 arg16 x4 (loads arg2 harg2 arg3 harg3 arg4 harg4 arg5 harg5 arg6 harg6 arg7 harg7 arg8 harg8 arg9 harg9 arg10 harg10 arg11 harg11 arg12 harg12 arg15 arg16 x0 x1 x2 x3 x4 x5 x6 x7 x8 x9 x10) := by
  sl_kernel_rfl

end Run

end Ssd

end
-- ==== Proof.SsdWrite.lean ====
module

public import proofs.«01_k».proof.Proof.SsdBlock

/-! # The two output blocks of one program, read at an index -/

@[expose] public section

set_option maxRecDepth 16384

noncomputable section

namespace Ssd

open Idealize.ShloMosaic Idealize.ShloMosaic.Pointwise Cert.SsdKernelIdeal Cert.SsdKernelIdeal.Gen

/-- What the input blocks of one program hold, as one sequence's arguments. -/
structure Blocks (x0 : Vec Ideal S1x32x768 .f32) (x1 : Vec Ideal S1x32x512 .f32) (x2 : Vec Ideal S1x32x128 .f32) (x3 : Vec Ideal S1x8x768 .f32) (x4 : Vec Ideal S1x8x64x64 .f32) (x5 : Vec Ideal S4x768 .f32) (x6 : Vec Ideal S1x768 .f32) (x7 : Vec Ideal S1x128 .f32) (x8 : Vec Ideal S1x512 .f32) (x9 : Vec Ideal S1x512 .f32) (x10 : Vec Ideal S32x32 .bf16) (a : Args) : Prop where
  x : ∀ t c, x0 (ix3 0 t c) = a.X t c
  z : ∀ t c, x1 (ix3 0 t c) = a.Z t c
  dt : ∀ (t : Fin 32) (h : Fin 8), x2 (ix3 0 t ⟨h.1, by omega⟩) = a.DT t h
  pv : ∀ (k : Fin 3) (c : Fin 768), x3 (ix3 0 ⟨5 + k.1, by omega⟩ c) = a.PV k c
  s0 : ∀ h p n, x4 (ix4 0 h p n) = a.S0 h p n
  cw : ∀ k c, x5 (ix2 k c) = a.W k c
  cb : ∀ c, x6 (ix2 0 c) = a.Bc c
  al : ∀ h : Fin 8, x7 (ix2 0 ⟨h.1, by omega⟩) = a.AL h
  ds : ∀ c : Fin 512, x8 (ix2 0 c) = a.DS ⟨c.1 / 64, by omega⟩
  gn : ∀ c, x9 (ix2 0 c) = a.G c
  tri : ∀ t s : Fin 32, x10 (ix2 t s) = if s.1 ≤ t.1 then (1 : EReal) else 0
  nonneg : ∀ t h, 0 ≤ a.DT t h

/-- A load of a rectangle of a whole buffer, at an index. -/
theorem load_at {s : Shape} {e : EltTy} {M : Memref sig .tc .vmem s e} (h : M.IsWhole) (X : Vec Ideal s e) (off size : Fin s.rank → Nat)
    (inb : ∀ a, off a + size a ≤ s.size a) (x : (Rect.unit off size inb).shape.Idx) (i : s.Idx)
    (hi : ∀ a, (i a : Nat) = off a + x a) :
    View.readAt (Elt Ideal) M.view (Rect.unit off size inb).toLoadRect (h.unread X) x = X i := by
  rw [View.readAt_eq_ld, h.read_unread]
  exact View.ld_unit_apply_of X off size inb x i hi

/-- A slab read back from writes. -/
theorem slab_read (M : Memref sig .tc .vmem S4x128x128 .f32) (P : List (View.Piece (Elt Ideal) S4x128x128 .f32)) (k : Nat) (hk : k < 4)
    (inb : ∀ a, (![k, 0, 0] : Fin 3 → Nat) a + S1x128x128.size a ≤ S4x128x128.size a) (l l' : Fin 128) :
    M.view.readCov P (Rect.unit (s := S4x128x128) ![k, 0, 0] S1x128x128.size inb).toLoadRect (ix3 0 l l') = View.canon P (ix3 ⟨k, hk⟩ l l') := by
  rw [View.readCov_eq_canon']
  refine congrArg (View.canon P) ?_
  funext a; apply Fin.ext; refine (Rect.idx_unit_val _ _ _ _ a).trans ?_
  fin_cases a
  · exact Nat.add_zero _
  · exact Nat.zero_add _
  · exact Nat.zero_add _

/-- One head's block of a slab read back from writes. -/
theorem block_read (M : Memref sig .tc .vmem S4x128x128 .f32) (P : List (View.Piece (Elt Ideal) S4x128x128 .f32)) (k : Fin 4) (u : Fin 2) (o : Nat)
    (ho : o = 64 * u.1)
    (inb : ∀ a, (![k.1, o, o] : Fin 3 → Nat) a + S1x64x64.size a ≤ S4x128x128.size a) (p n : Fin 64) :
    M.view.readCov P (Rect.unit (s := S4x128x128) ![k.1, o, o] S1x64x64.size inb).toLoadRect (ix3 0 p n)
      = View.canon P (ix3 k ⟨64 * u.1 + p.1, by omega⟩ ⟨64 * u.1 + n.1, by omega⟩) := by
  subst ho
  rw [View.readCov_eq_canon']
  refine congrArg (View.canon P) ?_
  funext a; apply Fin.ext; refine (Rect.idx_unit_val _ _ _ _ a).trans ?_
  fin_cases a
  · exact Nat.add_zero _
  · rfl
  · rfl

/-- The tokens before the chunk, as kept between steps and read back. -/
theorem pv_at (A : Memref sig .tc .vmem S1x8x768 .f32) (hA : A.IsWhole) (M : Memref sig .tc .vmem S8x768 .f32) (X : Vec Ideal S1x8x768 .f32)
    (r : Fin 8) (c : Fin 768) :
    M.view.readCov [⟨Rect.unit ![0, 0] S8x768.size inb_S8x768_S8x768_0_0, k0_pay7 (View.readAt (Elt Ideal) A.view (Rect.unit (s := S1x8x768) ![0, 0, 0] S1x8x768.size inb_S1x8x768_S1x8x768_0_0_0).toLoadRect (hA.unread X))⟩]
    (Rect.unit ![0, 0] S8x768.size inb_S8x768_S8x768_0_0).toLoadRect (ix2 r c) = X (ix3 0 r c) := by
  rw [View.readCov_cons_toLoadRect]
  pointwise [k0_pay7]
  exact load_at hA X _ _ _ _ _ (by intro a; fin_cases a <;> first | rfl | exact (Nat.zero_add _).symm)

section Run
variable (c : Dev nD) (i : grid0.Coords)
  (arg2 : Memref sig .tc .vmem S1x32x768 .f32) (harg2 : arg2.IsWhole)
  (arg3 : Memref sig .tc .vmem S1x32x512 .f32) (harg3 : arg3.IsWhole)
  (arg4 : Memref sig .tc .vmem S1x32x128 .f32) (harg4 : arg4.IsWhole)
  (arg5 : Memref sig .tc .vmem S1x8x768 .f32) (harg5 : arg5.IsWhole)
  (arg6 : Memref sig .tc .vmem S1x8x64x64 .f32) (harg6 : arg6.IsWhole)
  (arg7 : Memref sig .tc .vmem S4x768 .f32) (harg7 : arg7.IsWhole)
  (arg8 : Memref sig .tc .vmem S1x768 .f32) (harg8 : arg8.IsWhole)
  (arg9 : Memref sig .tc .vmem S1x128 .f32) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S32x32 .bf16) (harg12 : arg12.IsWhole)
  (arg13 : Memref sig .tc .vmem S1x32x512 .bf16) (harg13 : arg13.IsWhole)
  (arg14 : Memref sig .tc .vmem S1x8x64x64 .f32) (harg14 : arg14.IsWhole)
  (arg15 : Memref sig .tc .vmem S8x768 .f32) (harg15 : arg15.IsWhole)
  (arg16 : Memref sig .tc .vmem S4x128x128 .f32) (harg16 : arg16.IsWhole)
  (hc0 : cond0_0 i) (hc1 : cond0_1 i)
  {x0 : Vec Ideal S1x32x768 .f32} {x1 : Vec Ideal S1x32x512 .f32} {x2 : Vec Ideal S1x32x128 .f32} {x3 : Vec Ideal S1x8x768 .f32} {x4 : Vec Ideal S1x8x64x64 .f32} {x5 : Vec Ideal S4x768 .f32} {x6 : Vec Ideal S1x768 .f32} {x7 : Vec Ideal S1x128 .f32} {x8 : Vec Ideal S1x512 .f32} {x9 : Vec Ideal S1x512 .f32} {x10 : Vec Ideal S32x32 .bf16} {a : Args} (B : Blocks x0 x1 x2 x3 x4 x5 x6 x7 x8 x9 x10 a)

include B

/-- The state's slabs as first written: the two heads' states on the diagonal, zero elsewhere. -/
theorem slabs_at (k : Fin 4) (l l' : Fin 128) : View.canon (slabs arg6 harg6 x4) (ix3 k l l') =
    if l.1 / 64 = l'.1 / 64 then a.S0 ⟨2 * k.1 + l.1 / 64, by omega⟩ ⟨l.1 % 64, by omega⟩ ⟨l'.1 % 64, by omega⟩ else (0 : EReal) := by
  have key : ∀ (u v : Fin 8) (e : Fin 64 → Fin 64 → EReal) (f : Fin 64 → Fin 64 → EReal), u.1 = 2 * k.1 → v.1 = 2 * k.1 + 1 →
      (∀ p n, e p n = a.S0 u p n) → (∀ p n, f p n = a.S0 v p n) →
      (if h : l.1 < 64 then if h_1 : l'.1 < 64 then e ⟨l.1, h⟩ ⟨l'.1, h_1⟩ else 0
        else if h_1 : l'.1 < 64 then 0 else f ⟨l.1 - 64, by omega⟩ ⟨l'.1 - 64, by omega⟩) =
      if l.1 / 64 = l'.1 / 64 then a.S0 ⟨2 * k.1 + l.1 / 64, by omega⟩ ⟨l.1 % 64, by omega⟩ ⟨l'.1 % 64, by omega⟩ else (0 : EReal) := by
    intro u v e f hu hv he hf
    simp only [he, hf]
    by_cases h : l.1 < 64 <;> by_cases h' : l'.1 < 64
    · rw [dif_pos h, dif_pos h', if_pos (by omega)]
      congr 1 <;> apply Fin.ext <;> dsimp only <;> omega
    · rw [dif_pos h, dif_neg h', if_neg (by omega)]
    · rw [dif_neg h, dif_pos h', if_neg (by omega)]
    · rw [dif_neg h, dif_neg h', if_pos (by omega)]
      congr 1 <;> apply Fin.ext <;> dsimp only <;> omega
  have ld : ∀ (h : Nat) (hh : h < 8) (inb : ∀ b, (![0, h, 0, 0] : Fin 4 → Nat) b + S1x1x64x64.size b ≤ S1x8x64x64.size b) (p n : Fin 64),
      View.readAt (Elt Ideal) arg6.view (Rect.unit (s := S1x8x64x64) ![0, h, 0, 0] S1x1x64x64.size inb).toLoadRect (harg6.unread x4) (ix4 0 0 p n)
        = a.S0 ⟨h, hh⟩ p n := by
    intro h hh inb p n
    rw [← B.s0]
    exact load_at harg6 x4 _ _ _ _ _ (by intro a; fin_cases a <;> first | rfl | exact (Nat.zero_add _).symm)
  unfold slabs
  rw [canon_slab 3, canon_slab 2, canon_slab 1, canon_slab 0]
  rcases k with ⟨_ | _ | _ | _ | k, hk⟩
  · rw [if_neg (by norm_num), if_neg (by norm_num), if_neg (by norm_num), if_pos (by norm_num)]
    pointwise [k0_pay9, k0_pay8]
    have e0 : ∀ n : Nat, 2 * 0 + n = n := fun n => by omega
    have := key 0 1 _ _ rfl rfl (ld 0 (by norm_num) inb_S1x8x64x64_S1x1x64x64_0_0_0_0) (ld 1 (by norm_num) inb_S1x8x64x64_S1x1x64x64_0_1_0_0)
    simp only [e0] at this
    exact this
  · rw [if_neg (by norm_num), if_neg (by norm_num), if_pos (by norm_num)]
    pointwise [k0_pay10, k0_pay8]
    exact key 2 3 _ _ rfl rfl (ld 2 (by norm_num) inb_S1x8x64x64_S1x1x64x64_0_2_0_0) (ld 3 (by norm_num) inb_S1x8x64x64_S1x1x64x64_0_3_0_0)
  · rw [if_neg (by norm_num), if_pos (by norm_num)]
    pointwise [k0_pay16, k0_pay8]
    exact key 4 5 _ _ rfl rfl (ld 4 (by norm_num) inb_S1x8x64x64_S1x1x64x64_0_4_0_0) (ld 5 (by norm_num) inb_S1x8x64x64_S1x1x64x64_0_5_0_0)
  · rw [if_pos (by norm_num)]
    pointwise [k0_pay17, k0_pay8]
    exact key 6 7 _ _ rfl rfl (ld 6 (by norm_num) inb_S1x8x64x64_S1x1x64x64_0_6_0_0) (ld 7 (by norm_num) inb_S1x8x64x64_S1x1x64x64_0_7_0_0)
  · omega

/-- What the program loads is what the sequence's arguments say. -/
theorem reads : Reads (loads arg2 harg2 arg3 harg3 arg4 harg4 arg5 harg5 arg6 harg6 arg7 harg7 arg8 harg8 arg9 harg9 arg10 harg10 arg11 harg11 arg12 harg12 arg15 arg16 x0 x1 x2 x3 x4 x5 x6 x7 x8 x9 x10) a where
  x t c := by
    rw [← B.x]; dsimp only [loads]; exact load_at harg2 x0 _ _ _ _ _ (by intro a; fin_cases a <;> first | rfl | exact (Nat.zero_add _).symm)
  z k t l := by
    rw [← B.z]
    refine four (P := fun k => (loads arg2 harg2 arg3 harg3 arg4 harg4 arg5 harg5 arg6 harg6 arg7 harg7 arg8 harg8 arg9 harg9 arg10 harg10 arg11 harg11 arg12 harg12 arg15 arg16 x0 x1 x2 x3 x4 x5 x6 x7 x8 x9 x10).z k (ix3 0 t l) = x1 (ix3 0 t ⟨128 * k.1 + l.1, by omega⟩)) ?_ ?_ ?_ ?_ k
    all_goals dsimp only [loads, pick]
    all_goals exact load_at harg3 x1 _ _ _ _ _ (by intro a; fin_cases a <;> first | rfl | exact (Nat.zero_add _).symm)
  dt t l h := by
    rw [← B.dt t ⟨l.1, h⟩]; dsimp only [loads]; exact load_at harg4 x2 _ _ _ _ _ (by intro a; fin_cases a <;> first | rfl | exact (Nat.zero_add _).symm)
  pv5 c := by
    rw [← B.pv]; exact pv_at arg5 harg5 arg15 x3 5 c
  pv6 c := by
    rw [← B.pv]; exact pv_at arg5 harg5 arg15 x3 6 c
  pv7 c := by
    rw [← B.pv]; exact pv_at arg5 harg5 arg15 x3 7 c
  cw k c := by
    rw [← B.cw]
    refine four (P := fun k => (loads arg2 harg2 arg3 harg3 arg4 harg4 arg5 harg5 arg6 harg6 arg7 harg7 arg8 harg8 arg9 harg9 arg10 harg10 arg11 harg11 arg12 harg12 arg15 arg16 x0 x1 x2 x3 x4 x5 x6 x7 x8 x9 x10).cw k (ix2 0 c) = x5 (ix2 k c)) ?_ ?_ ?_ ?_ k
    all_goals dsimp only [loads, pick]
    all_goals exact load_at harg7 x5 _ _ _ _ _ (by intro a; fin_cases a <;> first | rfl | exact (Nat.zero_add _).symm)
  cb c := by
    rw [← B.cb]; dsimp only [loads]; exact load_at harg8 x6 _ _ _ _ _ (by intro a; fin_cases a <;> first | rfl | exact (Nat.zero_add _).symm)
  al l h := by
    rw [← B.al ⟨l.1, h⟩]; dsimp only [loads]; exact load_at harg9 x7 _ _ _ _ _ (by intro a; fin_cases a <;> first | rfl | exact (Nat.zero_add _).symm)
  dsk k l := by
    rw [show (⟨2 * k.1 + l.1 / 64, by omega⟩ : Fin 8) = ⟨(128 * k.1 + l.1) / 64, by omega⟩ from Fin.ext (by dsimp only; omega),
      ← B.ds ⟨128 * k.1 + l.1, by omega⟩]
    refine four (P := fun k => (loads arg2 harg2 arg3 harg3 arg4 harg4 arg5 harg5 arg6 harg6 arg7 harg7 arg8 harg8 arg9 harg9 arg10 harg10 arg11 harg11 arg12 harg12 arg15 arg16 x0 x1 x2 x3 x4 x5 x6 x7 x8 x9 x10).dsk k (ix2 0 l) = x8 (ix2 0 ⟨128 * k.1 + l.1, by omega⟩)) ?_ ?_ ?_ ?_ k
    all_goals dsimp only [loads, pick]
    all_goals exact load_at harg10 x8 _ _ _ _ _ (by intro a; fin_cases a <;> first | rfl | exact (Nat.zero_add _).symm)
  gn k l := by
    rw [← B.gn]
    refine four (P := fun k => (loads arg2 harg2 arg3 harg3 arg4 harg4 arg5 harg5 arg6 harg6 arg7 harg7 arg8 harg8 arg9 harg9 arg10 harg10 arg11 harg11 arg12 harg12 arg15 arg16 x0 x1 x2 x3 x4 x5 x6 x7 x8 x9 x10).gn k (ix2 0 l) = x9 (ix2 0 ⟨128 * k.1 + l.1, by omega⟩)) ?_ ?_ ?_ ?_ k
    all_goals dsimp only [loads, pick]
    all_goals exact load_at harg11 x9 _ _ _ _ _ (by intro a; fin_cases a <;> first | rfl | exact (Nat.zero_add _).symm)
  tri t s := by
    rw [← B.tri]; dsimp only [loads]; exact load_at harg12 x10 _ _ _ _ _ (by intro a; fin_cases a <;> first | rfl | exact (Nat.zero_add _).symm)
  mem k l l' := by
    revert l l'
    refine four (P := fun k => ∀ l l' : Fin 128, (loads arg2 harg2 arg3 harg3 arg4 harg4 arg5 harg5 arg6 harg6 arg7 harg7 arg8 harg8 arg9 harg9 arg10 harg10 arg11 harg11 arg12 harg12 arg15 arg16 x0 x1 x2 x3 x4 x5 x6 x7 x8 x9 x10).mem k (ix3 0 l l') =
      if l.1 / 64 = l'.1 / 64 then a.S0 ⟨2 * k.1 + l.1 / 64, by omega⟩ ⟨l.1 % 64, by omega⟩ ⟨l'.1 % 64, by omega⟩ else (0 : EReal)) ?_ ?_ ?_ ?_ k
    · intro l l'
      rw [← slabs_at arg6 harg6 B]
      dsimp only [loads, pick]
      exact slab_read arg16 _ 0 (by norm_num) inb_S4x128x128_S1x128x128_0_0_0 l l'
    · intro l l'
      rw [← slabs_at arg6 harg6 B]
      dsimp only [loads, pick]
      exact slab_read arg16 _ 1 (by norm_num) inb_S4x128x128_S1x128x128_1_0_0 l l'
    · intro l l'
      rw [← slabs_at arg6 harg6 B]
      dsimp only [loads, pick]
      exact slab_read arg16 _ 2 (by norm_num) inb_S4x128x128_S1x128x128_2_0_0 l l'
    · intro l l'
      rw [← slabs_at arg6 harg6 B]
      dsimp only [loads, pick]
      exact slab_read arg16 _ 3 (by norm_num) inb_S4x128x128_S1x128x128_3_0_0 l l'
  nonneg := B.nonneg

omit B in
/-- The slabs at the end. -/
theorem slabsEnd_at (L : Loads) (k : Fin 4) (l l' : Fin 128) :
    View.canon (slabsEnd arg6 harg6 x4 L) (ix3 k l l') = newP L k (ix3 0 l l') := by
  unfold slabsEnd
  rw [canon_slab 3, canon_slab 2, canon_slab 1, canon_slab 0]
  rcases k with ⟨_ | _ | _ | _ | k, hk⟩
  · rw [if_neg (by norm_num), if_neg (by norm_num), if_neg (by norm_num), if_pos (by norm_num)]; rfl
  · rw [if_neg (by norm_num), if_neg (by norm_num), if_pos (by norm_num)]; rfl
  · rw [if_neg (by norm_num), if_pos (by norm_num)]; rfl
  · rw [if_pos (by norm_num)]; rfl
  · omega

/-- THE FIRST OUTPUT BLOCK is the sequence's output. -/
theorem out_at (t : Fin 32) (l : Fin 512) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 (ix3 0 t l) = a.y t l := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10)]
  refine View.canon_apply_of_pieces (fun y : S1x32x512.Idx => a.y (y 1) (y 2)) _ ?_ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 _)
  rw [run_out]
  have R := reads arg2 harg2 arg3 harg3 arg4 harg4 arg5 harg5 arg6 harg6 arg7 harg7 arg8 harg8 arg9 harg9 arg10 harg10 arg11 harg11 arg12 harg12 arg15 arg16 B
  have key : ∀ (k : Fin 4) (o : Nat) (ho : o = 128 * k.1) (inb : ∀ b, (![0, 0, o] : Fin 3 → Nat) b + S1x32x128.size b ≤ S1x32x512.size b) (x : S1x32x128.Idx),
      outP (loads arg2 harg2 arg3 harg3 arg4 harg4 arg5 harg5 arg6 harg6 arg7 harg7 arg8 harg8 arg9 harg9 arg10 harg10 arg11 harg11 arg12 harg12 arg15 arg16 x0 x1 x2 x3 x4 x5 x6 x7 x8 x9 x10) k x = (fun y : S1x32x512.Idx => a.y (y 1) (y 2)) ((Rect.unit (s := S1x32x512) ![0, 0, o] S1x32x128.size inb).emb x) := by
    intro k o ho inb x
    subst ho
    obtain ⟨x0, x1, x2, rfl⟩ : ∃ x0 x1 x2, x = ix3 x0 x1 x2 := ⟨x 0, x 1, x 2, by funext a; fin_cases a <;> rfl⟩
    obtain rfl : x0 = 0 := Subsingleton.elim _ _
    rw [outP_at R]
    congr 1
    · apply Fin.ext; rw [Rect.emb_apply]; show x1.1 = 0 + 1 * x1.1; omega
    · apply Fin.ext; rw [Rect.emb_apply]; show 128 * k.1 + x2.1 = 128 * k.1 + 1 * x2.1; omega
  intro p hp x
  unfold outPieces at hp
  simp only [List.mem_cons, List.not_mem_nil, or_false] at hp
  rcases hp with rfl | rfl | rfl | rfl
  · exact key 3 384 rfl inb_S1x32x512_S1x32x128_0_0_384 x
  · exact key 2 256 rfl inb_S1x32x512_S1x32x128_0_0_256 x
  · exact key 1 128 rfl inb_S1x32x512_S1x32x128_0_0_128 x
  · exact key 0 0 rfl inb_S1x32x512_S1x32x128_0_0_0 x

/-- THE SECOND OUTPUT BLOCK is the sequence's state after its tokens. -/
theorem state_at (h : Fin 8) (p n : Fin 64) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 (ix4 0 h p n) = a.st h p n := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10)]
  refine View.canon_apply_of_pieces (fun y : S1x8x64x64.Idx => a.st (y 1) (y 2) (y 3)) _ ?_ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 _)
  rw [run_state]
  have R := reads arg2 harg2 arg3 harg3 arg4 harg4 arg5 harg5 arg6 harg6 arg7 harg7 arg8 harg8 arg9 harg9 arg10 harg10 arg11 harg11 arg12 harg12 arg15 arg16 B
  generalize (loads arg2 harg2 arg3 harg3 arg4 harg4 arg5 harg5 arg6 harg6 arg7 harg7 arg8 harg8 arg9 harg9 arg10 harg10 arg11 harg11 arg12 harg12 arg15 arg16 x0 x1 x2 x3 x4 x5 x6 x7 x8 x9 x10) = L at R ⊢
  have key : ∀ (k : Fin 4) (u : Fin 2) (o q : Nat) (ho : o = 64 * u.1) (hq : q = 2 * k.1 + u.1) (inb) (inb' : ∀ b, (![0, q, 0, 0] : Fin 4 → Nat) b + S1x1x64x64.size b ≤ S1x8x64x64.size b)
      (p n : Fin 64) (v : EReal),
      v = arg16.view.readCov (slabsEnd arg6 harg6 x4 L) (Rect.unit (s := S4x128x128) ![k.1, o, o] S1x64x64.size inb).toLoadRect (ix3 0 p n) →
      v = (fun y : S1x8x64x64.Idx => a.st (y 1) (y 2) (y 3)) ((Rect.unit (s := S1x8x64x64) ![0, q, 0, 0] S1x1x64x64.size inb').emb (ix4 0 0 p n)) := by
    intro k u o q ho hq inb inb' p n v hv
    rw [hv, block_read arg16 _ k u o ho]
    rw [slabsEnd_at, newP_at R k _ _ (by dsimp only; omega)]
    subst hq
    dsimp only
    congr 1
    · apply Fin.ext; rw [Rect.emb_apply]; show 2 * k.1 + (64 * u.1 + p.1) / 64 = 2 * k.1 + u.1 + 1 * 0; omega
    · apply Fin.ext; rw [Rect.emb_apply]; show (64 * u.1 + p.1) % 64 = 0 + 1 * p.1; omega
    · apply Fin.ext; rw [Rect.emb_apply]; show (64 * u.1 + n.1) % 64 = 0 + 1 * n.1; omega
  intro p hp x
  unfold statePieces at hp
  simp only [List.mem_cons, List.not_mem_nil, or_false] at hp
  have hx : ∀ x : S1x1x64x64.Idx, ∃ p n : Fin 64, x = ix4 0 0 p n := by
    intro x; refine ⟨x 2, x 3, ?_⟩; funext a; fin_cases a
    · exact Subsingleton.elim (α := Fin 1) _ _
    · exact Subsingleton.elim (α := Fin 1) _ _
    · rfl
    · rfl
  rcases hp with rfl | rfl | rfl | rfl | rfl | rfl | rfl | rfl
  · obtain ⟨p, n, rfl⟩ := hx x
    refine key 3 1 64 7 rfl rfl inb_S4x128x128_S1x64x64_3_64_64 inb_S1x8x64x64_S1x1x64x64_0_7_0_0 p n _ ?_
    pointwise [k0_pay6]
  · obtain ⟨p, n, rfl⟩ := hx x
    refine key 3 0 0 6 rfl rfl inb_S4x128x128_S1x64x64_3_0_0 inb_S1x8x64x64_S1x1x64x64_0_6_0_0 p n _ ?_
    pointwise [k0_pay5]
  · obtain ⟨p, n, rfl⟩ := hx x
    refine key 2 1 64 5 rfl rfl inb_S4x128x128_S1x64x64_2_64_64 inb_S1x8x64x64_S1x1x64x64_0_5_0_0 p n _ ?_
    pointwise [k0_pay4]
  · obtain ⟨p, n, rfl⟩ := hx x
    refine key 2 0 0 4 rfl rfl inb_S4x128x128_S1x64x64_2_0_0 inb_S1x8x64x64_S1x1x64x64_0_4_0_0 p n _ ?_
    pointwise [k0_pay3, k0_pay15]
  · obtain ⟨p, n, rfl⟩ := hx x
    refine key 1 1 64 3 rfl rfl inb_S4x128x128_S1x64x64_1_64_64 inb_S1x8x64x64_S1x1x64x64_0_3_0_0 p n _ ?_
    pointwise [k0_pay14]
  · obtain ⟨p, n, rfl⟩ := hx x
    refine key 1 0 0 2 rfl rfl inb_S4x128x128_S1x64x64_1_0_0 inb_S1x8x64x64_S1x1x64x64_0_2_0_0 p n _ ?_
    pointwise [k0_pay13]
  · obtain ⟨p, n, rfl⟩ := hx x
    refine key 0 1 64 1 rfl rfl inb_S4x128x128_S1x64x64_0_64_64 inb_S1x8x64x64_S1x1x64x64_0_1_0_0 p n _ ?_
    pointwise [k0_pay12]
  · obtain ⟨p, n, rfl⟩ := hx x
    refine key 0 0 0 0 rfl rfl inb_S4x128x128_S1x64x64_0_0_0 inb_S1x8x64x64_S1x1x64x64_0_0_0_0 p n _ ?_
    pointwise [k0_pay11]

end Run

end Ssd

end
-- ==== Proof.SsdCumsum.lean ====
module

public import proofs.«01_k».proof.Proof.Gen.SsdRefIdeal.Read
public import Idealize.ShloMosaic.Lib.Pointwise

/-! # The running sum along the tokens -/

@[expose] public section

set_option maxRecDepth 16384

noncomputable section

namespace Ssd

open Idealize.ShloMosaic Idealize.ShloMosaic.Pointwise Cert.SsdRefIdeal Cert.SsdRefIdeal.Gen

/-- A left fold of addition over all indices is their sum. -/
theorem foldl_add_finRange {n : Nat} (g : Fin n → EReal) :
    (List.finRange n).foldl (fun r i => r + g i) 0 = ∑ i, g i := by
  rw [← List.sum_ofFn, List.ofFn_eq_map, List.sum_eq_foldl, List.foldl_map]

/-- The window's positions run along its second axis. -/
theorem window_pos : ∀ n : Fin (⟨4, ![1, 32, 1, 1]⟩ : Shape).numel,
    ((⟨4, ![1, 32, 1, 1]⟩ : Shape).rowMajor.symm n 0).val = 0 ∧ ((⟨4, ![1, 32, 1, 1]⟩ : Shape).rowMajor.symm n 1).val = n.val
    ∧ ((⟨4, ![1, 32, 1, 1]⟩ : Shape).rowMajor.symm n 2).val = 0 ∧ ((⟨4, ![1, 32, 1, 1]⟩ : Shape).rowMajor.symm n 3).val = 0 := by
  decide +kernel

/-- The running sum at token `t` is the sum over the tokens up to it. -/
theorem cumsum_apply (x : FVec Ideal S16x32x2x4 .f32) (init : FVec Ideal S_ .f32) (h0 : init (Shape.Idx.first h_S_) = (0 : EReal))
    (b : Fin 16) (t : Fin 32) (g : Fin 2) (r : Fin 4) :
    Host.reduceWindowAdd ![1, 32, 1, 1] ![1, 1, 1, 1] ![0, 31, 0, 0] ![0, 0, 0, 0] x init
      reduceWindows_S16x32x2x4_S16x32x2x4_w1s1p0_0_w32s1p31_0_w1s1p0_0_w1s1p0_0 h_S_ (ix4 b t g r)
    = ∑ s : Fin 32, if s.1 ≤ t.1 then (x (ix4 b s g r) : EReal) else 0 := by
  show Host.reduceWindow (· + ·) ![1, 32, 1, 1] ![1, 1, 1, 1] ![0, 31, 0, 0] ![0, 0, 0, 0] x (fun _ : S_.Idx => init (Shape.Idx.first h_S_))
      reduceWindows_S16x32x2x4_S16x32x2x4_w1s1p0_0_w32s1p31_0_w1s1p0_0_w1s1p0_0 h_S_ (ix4 b t g r) = _
  unfold Host.reduceWindow
  dsimp only
  rw [h0]
  refine (foldl_add_finRange _).trans ?_
  have hN : (⟨4, ![1, 32, 1, 1]⟩ : Shape).numel = 32 := by decide
  refine Fintype.sum_equiv ((finCongr hN).trans (Equiv.addRight (t + 1))) _ _ fun n => ?_
  obtain ⟨w0, w1, w2, w3⟩ := window_pos n
  have hn : n.val < 32 := lt_of_lt_of_eq n.isLt hN
  have hs : (((finCongr hN).trans (Equiv.addRight (t + 1))) n).val = (n.val + (t.val + 1)) % 32 := by
    show ((finCongr hN n) + (t + 1) : Fin 32).val = _
    rw [Fin.val_add, Fin.val_add]
    show (n.val + (t.val + 1) % 32) % 32 = _
    omega
  generalize ((finCongr hN).trans (Equiv.addRight (t + 1))) n = s at hs ⊢
  by_cases hc : s.1 ≤ t.1
  · rw [if_pos hc, dif_pos]
    · refine congrArg x (funext fun a => Fin.ext ?_)
      match a with
      | ⟨0, _⟩ => show b.val * 1 + ((⟨4, ![1, 32, 1, 1]⟩ : Shape).rowMajor.symm n 0).val - 0 = b.val; rw [w0]; omega
      | ⟨1, _⟩ => show t.val * 1 + ((⟨4, ![1, 32, 1, 1]⟩ : Shape).rowMajor.symm n 1).val - 31 = s.val; rw [w1]; omega
      | ⟨2, _⟩ => show g.val * 1 + ((⟨4, ![1, 32, 1, 1]⟩ : Shape).rowMajor.symm n 2).val - 0 = g.val; rw [w2]; omega
      | ⟨3, _⟩ => show r.val * 1 + ((⟨4, ![1, 32, 1, 1]⟩ : Shape).rowMajor.symm n 3).val - 0 = r.val; rw [w3]; omega
    · intro a
      match a with
      | ⟨0, _⟩ => show 0 ≤ b.val * 1 + ((⟨4, ![1, 32, 1, 1]⟩ : Shape).rowMajor.symm n 0).val ∧ b.val * 1 + ((⟨4, ![1, 32, 1, 1]⟩ : Shape).rowMajor.symm n 0).val - 0 < 16; rw [w0]; omega
      | ⟨1, _⟩ => show 31 ≤ t.val * 1 + ((⟨4, ![1, 32, 1, 1]⟩ : Shape).rowMajor.symm n 1).val ∧ t.val * 1 + ((⟨4, ![1, 32, 1, 1]⟩ : Shape).rowMajor.symm n 1).val - 31 < 32; rw [w1]; omega
      | ⟨2, _⟩ => show 0 ≤ g.val * 1 + ((⟨4, ![1, 32, 1, 1]⟩ : Shape).rowMajor.symm n 2).val ∧ g.val * 1 + ((⟨4, ![1, 32, 1, 1]⟩ : Shape).rowMajor.symm n 2).val - 0 < 2; rw [w2]; omega
      | ⟨3, _⟩ => show 0 ≤ r.val * 1 + ((⟨4, ![1, 32, 1, 1]⟩ : Shape).rowMajor.symm n 3).val ∧ r.val * 1 + ((⟨4, ![1, 32, 1, 1]⟩ : Shape).rowMajor.symm n 3).val - 0 < 4; rw [w3]; omega
  · rw [if_neg hc, dif_neg]
    intro hin
    have h1 : 31 ≤ t.val * 1 + ((⟨4, ![1, 32, 1, 1]⟩ : Shape).rowMajor.symm n 1).val := (hin 1).1
    rw [w1] at h1
    omega

end Ssd

end
-- ==== Proof.SsdRefValue.lean ====
module

public import proofs.«01_k».proof.Proof.SsdCumsum
public import proofs.«01_k».proof.Proof.SsdSpec
public import Idealize.ShloMosaic.Lib.WordCmp

/-! # The reference's two results are the formulas -/

@[expose] public section

set_option maxRecDepth 16384

noncomputable section

namespace Ssd

open Idealize.ShloMosaic Idealize.ShloMosaic.Pointwise Idealize.ShloMosaic.WordCmp Cert.SsdRefIdeal Cert.SsdRefIdeal.Gen
open Cert.SsdRefIdeal.Read

variable (x0 : Vec Ideal S16x32x768 .f32) (x1 : Vec Ideal S16x32x512 .f32) (x2 : Vec Ideal S16x32x128 .f32)
  (x3 : Vec Ideal S16x3x768 .f32) (x4 : Vec Ideal S16x8x64x64 .f32) (x5 : Vec Ideal S4x768 .f32) (x6 : Vec Ideal S768 .f32)
  (x7 x8 : Vec Ideal S8 .f32) (x9 : Vec Ideal S512 .f32)

/-- Sequence `b` of the arguments. -/
def argsOf (b : Fin 16) : Args where
  X t c := x0 (ix3 b t c)
  Z t c := x1 (ix3 b t c)
  DT t h := x2 (ix3 b t ⟨h.1, by omega⟩)
  PV k c := x3 (ix3 b k c)
  S0 h p n := x4 (ix4 b h p n)
  W k c := x5 (ix2 k c)
  Bc c := x6 (ix1 c)
  AL h := x7 (ix1 h)
  DS h := x8 (ix1 h)
  G c := x9 (ix1 c)

/-- A head from its group and its place in the group. -/
def gr (g : Fin 2) (r : Fin 4) : Fin 8 := ⟨g.1 * 4 + r.1, by omega⟩

theorem ref_hist (b : Fin 16) (u : Fin 35) (c : Fin 768) :
    val_main_v0 (F := Ideal) x0 x3 (ix3 b u c) = (argsOf x0 x1 x2 x3 x4 x5 x6 x7 x8 x9 b).hist u c := by
  pointwise [val_main_v0]
  rfl

theorem ref_xc (b : Fin 16) (t : Fin 32) (c : Fin 768) :
    val_main_v30 (F := Ideal) x0 x3 x5 x6 (ix3 b t c) = (argsOf x0 x1 x2 x3 x4 x5 x6 x7 x8 x9 b).xc t c := by
  pointwise [val_main_v30, val_main_call0_v5, val_main_call0_v3, val_main_call0_v1, val_main_call0_v0,
      val_main_v29, val_main_v28, val_main_v27, val_main_v26, val_main_v25, val_main_v24, val_main_v23,
      val_main_v22, val_main_v21, val_main_v20, val_main_v19, val_main_v18, val_main_v17, val_main_v16,
      val_main_v15, val_main_v14, val_main_v13, val_main_v12, val_main_v11, val_main_v10, val_main_v9,
      val_main_v8, val_main_v7, val_main_v6, val_main_v5, val_main_v4, val_main_v3, val_main_v2,
      val_main_v1, val_main_call0_v2, val_main_call0_cst, val_main_call0_v4, val_main_call0_cst_0]
  simp only [ref_hist x0 x1 x2 x3 x4 x5 x6 x7 x8 x9]
  rfl

theorem ref_ac (b : Fin 16) (t : Fin 32) (g : Fin 2) (r : Fin 4) :
    val_main_v45 (F := Ideal) x2 x7 (ix4 b t g r) = (argsOf x0 x1 x2 x3 x4 x5 x6 x7 x8 x9 b).ac t (gr g r) := by
  unfold val_main_v45
  rw [cumsum_apply]
  · refine Finset.sum_congr rfl fun s _ => ?_
    congr 1
    pointwise [val_main_v44, val_main_v43, val_main_v42, val_main_v41, val_main_v40, val_main_v39, val_main_v38,
      val_main_v37]
    rfl
  · pointwise [val_main_call1_call0_v0, val_main_call1_call0_cst]

/-- The activation at equal columns. -/
theorem xc_eq_of (a : Args) (t : Fin 32) {c c' : Fin 768} (h : c.1 = c'.1) : a.xc t c = a.xc t c' := by
  rw [Fin.ext h]

theorem col_v (a : Args) (t : Fin 32) (g : Fin 2) (r : Fin 4) (p : Fin 64) :
    a.xc t ⟨g.1 * 256 + r.1 * 64 + p.1, by omega⟩ = a.xv t (gr g r) p :=
  xc_eq_of a t (by simp only [gr]; omega)

theorem col_b (a : Args) (t : Fin 32) (g : Fin 2) (r : Fin 4) (n : Fin 64) :
    a.xc t ⟨512 + (g.1 * 64 + n.1), by omega⟩ = a.bm t (gr g r) n :=
  xc_eq_of a t (by simp only [gr]; omega)

theorem col_c (a : Args) (t : Fin 32) (g : Fin 2) (r : Fin 4) (n : Fin 64) :
    a.xc t ⟨640 + (g.1 * 64 + n.1), by omega⟩ = a.cm t (gr g r) n :=
  xc_eq_of a t (by simp only [gr]; omega)

/-- The literal that stands for minus infinity. -/
theorem ofBits_bot : Ideal.ofBits FTy.f32 4286578688#32 = (⊥ : EReal) := by
  simp [Ideal.ofBits, Ideal.ieee]

/-- A token's exponent is masked by minus infinity where it comes later. -/
theorem mask_exp (t s : Fin 32) (x c d : EReal) :
    c * Ideal.exp (Scalar.select (Scalar.select
        (IntOp.cmpi CmpIPredicate.sge (IntOp.addi (BitVec.ofNat 32 t.1) 0#32) (BitVec.ofNat 32 s.1)) 1#1 0#1)
      x (id (constant (F := Ideal) S_ FTy.f32 4286578688#32) ix0)) * d
    = if s.1 ≤ t.1 then c * Ideal.exp x * d else 0 := by
  have e : IntOp.addi (BitVec.ofNat 32 t.1) 0#32 = BitVec.ofNat 32 t.1 := BitVec.add_zero _
  rw [e, cmpi_sge_ofNat (by norm_num; omega) (by norm_num; omega)]
  rw [show (id (constant (F := Ideal) S_ FTy.f32 4286578688#32) ix0 : EReal) = ⊥ from ofBits_bot]
  by_cases h : s.1 ≤ t.1
  · rw [if_pos h, select_decide, if_pos h]; rfl
  · rw [if_neg h, select_decide, if_neg h]
    show c * 0 * d = 0
    rw [mul_zero, zero_mul]

theorem ref_yd (b : Fin 16) (t : Fin 32) (g : Fin 2) (r : Fin 4) (p : Fin 64) :
    val_main_v65 (F := Ideal) x0 x2 x3 x5 x6 x7 (ix5 b t g r p) = (argsOf x0 x1 x2 x3 x4 x5 x6 x7 x8 x9 b).yd t (gr g r) p := by
  pointwise [val_main_v65, val_main_v64, val_main_v63, val_main_v62, val_main_v61, val_main_v38, val_main_v37,
      val_main_v60, val_main_v55, val_main_v54, val_main_call3_v2, val_main_call3_v0, val_main_cst,
      val_main_v50, val_main_v49, val_main_v47, val_main_v48, val_main_v46, val_main_call3_v1,
      val_main_v53, val_main_v52, val_main_call2_v5, val_main_call2_c_0, val_main_v51, val_main_c,
      val_main_call2_v4, val_main_call2_v3, val_main_call2_v2, val_main_call2_v1, val_main_call2_c,
      val_main_call2_v0, val_main_v59, val_main_v58, val_main_v57, val_main_v56, val_main_v36,
      val_main_v35, val_main_v34, val_main_v33, val_main_v32, val_main_v31]
  simp only [ref_xc x0 x1 x2 x3 x4 x5 x6 x7 x8 x9, ref_ac x0 x1 x2 x3 x4 x5 x6 x7 x8 x9, col_v, col_b _ _ g r,
    col_c _ _ g r]
  exact Finset.sum_congr rfl fun x _ => congrArg ((argsOf x0 x1 x2 x3 x4 x5 x6 x7 x8 x9 b).xv x (gr g r) p * ·) (mask_exp t x _ _ _)

theorem ref_yo (b : Fin 16) (t : Fin 32) (g : Fin 2) (r : Fin 4) (p : Fin 64) :
    val_main_v92 (F := Ideal) x0 x2 x3 x4 x5 x6 x7 (ix5 b t g r p) = (argsOf x0 x1 x2 x3 x4 x5 x6 x7 x8 x9 b).yo t (gr g r) p := by
  pointwise [val_main_v92, val_main_v91, val_main_v90, val_main_v89, val_main_v87, val_main_v86, val_main_v88,
      val_main_v85, val_main_v36, val_main_v35, val_main_v77]
  simp only [ref_xc x0 x1 x2 x3 x4 x5 x6 x7 x8 x9, ref_ac x0 x1 x2 x3 x4 x5 x6 x7 x8 x9, col_c _ _ g r]
  rfl

theorem ref_st (b : Fin 16) (g : Fin 2) (r : Fin 4) (p n : Fin 64) :
    val_main_v84 (F := Ideal) x0 x2 x3 x4 x5 x6 x7 (ix5 b g r p n) = (argsOf x0 x1 x2 x3 x4 x5 x6 x7 x8 x9 b).st (gr g r) p n := by
  pointwise [val_main_v84, val_main_v76, val_main_v75, val_main_v74, val_main_v72, val_main_v71, val_main_v38,
      val_main_v37, val_main_v69, val_main_v68, val_main_v67, val_main_v66, val_main_v73, val_main_v70,
      val_main_v34, val_main_v33, val_main_v32, val_main_v31, val_main_v83, val_main_v77, val_main_v82,
      val_main_v81, val_main_v80, val_main_v79, val_main_v78]
  simp only [ref_xc x0 x1 x2 x3 x4 x5 x6 x7 x8 x9, ref_ac x0 x1 x2 x3 x4 x5 x6 x7 x8 x9, col_v, col_b _ _ g r]
  rfl

/-- THE STATE of the reference. -/
theorem ref_state (b : Fin 16) (h : Fin 8) (p n : Fin 64) :
    val_main_v118 (F := Ideal) x0 x2 x3 x4 x5 x6 x7 (ix4 b h p n) = (argsOf x0 x1 x2 x3 x4 x5 x6 x7 x8 x9 b).st h p n := by
  pointwise [val_main_v118]
  rw [ref_st x0 x1 x2 x3 x4 x5 x6 x7 x8 x9]
  congr 1
  apply Fin.ext
  simp only [gr]
  omega

theorem ref_yz (b : Fin 16) (t : Fin 32) (c : Fin 512) :
    val_main_v103 (F := Ideal) x0 x1 x2 x3 x4 x5 x6 x7 x8 (ix3 b t c) = (argsOf x0 x1 x2 x3 x4 x5 x6 x7 x8 x9 b).yz t c := by
  pointwise [val_main_v103, val_main_v102, val_main_call4_v5, val_main_call4_v3, val_main_call4_v1,
      val_main_call4_v0, val_main_call4_v2, val_main_call4_cst, val_main_call4_v4, val_main_call4_cst_0,
      val_main_v101, val_main_v100, val_main_v99, val_main_v96, val_main_v32, val_main_v31, val_main_v98,
      val_main_v97, val_main_v95, val_main_v94, val_main_v93]
  rw [ref_yd x0 x1 x2 x3 x4 x5 x6 x7 x8 x9, ref_yo x0 x1 x2 x3 x4 x5 x6 x7 x8 x9, ref_xc x0 x1 x2 x3 x4 x5 x6 x7 x8 x9]
  have e : gr ⟨c.1 / 64 / 4, by omega⟩ ⟨c.1 / 64 % 4, by omega⟩ = ⟨c.1 / 64, by omega⟩ :=
    Fin.ext (by simp only [gr]; omega)
  rw [e]
  unfold Args.yz Args.yh Args.xv
  have e' : ∀ hc, (⟨c.1 / 64 * 64 + c.1 % 64, hc⟩ : Fin 512) = c := fun hc => Fin.ext (by dsimp only; omega)
  have e'' : ∀ hc, (⟨c.1 / 64 * 64 + c.1 % 64, hc⟩ : Fin 768) = ⟨c.1, by omega⟩ := fun hc => Fin.ext (by dsimp only; omega)
  rw [e', e'']
  rfl

/-- THE OUTPUT of the reference. -/
theorem ref_out (b : Fin 16) (t : Fin 32) (c : Fin 512) :
    val_main_v117 (F := Ideal) x0 x1 x2 x3 x4 x5 x6 x7 x8 x9 (ix3 b t c) = (argsOf x0 x1 x2 x3 x4 x5 x6 x7 x8 x9 b).y t c := by
  pointwise [val_main_v117, val_main_v116, val_main_v115, val_main_v114, val_main_v113, val_main_v112,
      val_main_v111, val_main_v110, val_main_v109, val_main_cst_2, val_main_v108, val_main_v107,
      val_main_cst_1, val_main_v106, val_main_v105, val_main_cst_0, val_main_v104]
  simp only [ref_yz x0 x1 x2 x3 x4 x5 x6 x7 x8 x9]
  rfl

end Ssd

end
-- ==== Proof.SsdValue.lean ====
module
public import proofs.«01_k».proof.Proof.SsdWrite
public import proofs.«01_k».proof.Proof.SsdRefValue
public import proofs.«01_k».proof.Proof.Gen.SsdKernelIdeal.Value
public import Idealize.ShloMosaic.Lib.Claim
public import Idealize.ShloMosaic.Lib.Pipeline.ValueKit

/-! # The recurrence's two result arrays

Program `b` of the grid works on sequence `b`: its input blocks hold that sequence's arguments, and its output
blocks are block `b` of the result arrays. -/

@[expose] public section

set_option maxRecDepth 16384

noncomputable section

namespace Ssd

open Idealize.ShloMosaic Idealize.ShloMosaic.Pointwise Idealize.ShloMosaic.WordCmp Idealize.ShloMosaic.TcCoe Idealize.SL.Sem
open Cert.SsdKernelIdeal Cert.SsdKernelIdeal.Gen
open Idealize.ShloMosaic.Pipeline (Dat)

variable (m : (ℓ : Loc nD τ sig) → Buf (Elt Ideal) ℓ) (c : Dev nD)

theorem index0 : ∀ t : Fin grid0.N, win0_0.index t = ![t.1, 0, 0] := by decide +kernel
theorem index1 : ∀ t : Fin grid0.N, win0_1.index t = ![t.1, 0, 0] := by decide +kernel
theorem index2 : ∀ t : Fin grid0.N, win0_2.index t = ![t.1, 0, 0] := by decide +kernel
theorem index3 : ∀ t : Fin grid0.N, win0_3.index t = ![t.1, 0, 0] := by decide +kernel
theorem index4 : ∀ t : Fin grid0.N, win0_4.index t = ![t.1, 0, 0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![0, 0] := by decide +kernel
theorem index10 : ∀ t : Fin grid0.N, win0_10.index t = ![0, 0] := by decide +kernel
theorem index11 : ∀ t : Fin grid0.N, win0_11.index t = ![t.1, 0, 0] := by decide +kernel
theorem index12 : ∀ t : Fin grid0.N, win0_12.index t = ![t.1, 0, 0, 0] := by decide +kernel

/-- Input block 0 of point `t`. -/
theorem blk0 (t : Fin cfg0.N) (b : Fin 16) (hb : b.1 = t.1) (a1 : Fin 32) (a2 : Fin 768) :
    iblk m c 0 t (ix3 0 a1 a2) = (V m c main_arg0 : Vec Ideal S16x32x768 .f32) (ix3 b a1 a2) := by
  unfold iblk
  rw [View.read_apply]
  show V m c main_arg0 _ = _
  congr 1
  funext a
  apply Fin.ext
  have h := index0 t
  match a with
  | ⟨0, _⟩ => show win0_0.index t 0 * 1 + 1 * 0 = b.1; rw [h, hb]; show t.1 * 1 + 1 * 0 = t.1; omega
  | ⟨1, _⟩ => show win0_0.index t 1 * 32 + 1 * a1.1 = a1.1; rw [h]; show 0 * 32 + 1 * a1.1 = a1.1; omega
  | ⟨2, _⟩ => show win0_0.index t 2 * 768 + 1 * a2.1 = a2.1; rw [h]; show 0 * 768 + 1 * a2.1 = a2.1; omega

/-- Input block 1 of point `t`. -/
theorem blk1 (t : Fin cfg0.N) (b : Fin 16) (hb : b.1 = t.1) (a1 : Fin 32) (a2 : Fin 512) :
    iblk m c 1 t (ix3 0 a1 a2) = (V m c main_arg1 : Vec Ideal S16x32x512 .f32) (ix3 b a1 a2) := by
  unfold iblk
  rw [View.read_apply]
  show V m c main_arg1 _ = _
  congr 1
  funext a
  apply Fin.ext
  have h := index1 t
  match a with
  | ⟨0, _⟩ => show win0_1.index t 0 * 1 + 1 * 0 = b.1; rw [h, hb]; show t.1 * 1 + 1 * 0 = t.1; omega
  | ⟨1, _⟩ => show win0_1.index t 1 * 32 + 1 * a1.1 = a1.1; rw [h]; show 0 * 32 + 1 * a1.1 = a1.1; omega
  | ⟨2, _⟩ => show win0_1.index t 2 * 512 + 1 * a2.1 = a2.1; rw [h]; show 0 * 512 + 1 * a2.1 = a2.1; omega

/-- Input block 2 of point `t`. -/
theorem blk2 (t : Fin cfg0.N) (b : Fin 16) (hb : b.1 = t.1) (a1 : Fin 32) (a2 : Fin 128) :
    iblk m c 2 t (ix3 0 a1 a2) = (V m c main_arg2 : Vec Ideal S16x32x128 .f32) (ix3 b a1 a2) := by
  unfold iblk
  rw [View.read_apply]
  show V m c main_arg2 _ = _
  congr 1
  funext a
  apply Fin.ext
  have h := index2 t
  match a with
  | ⟨0, _⟩ => show win0_2.index t 0 * 1 + 1 * 0 = b.1; rw [h, hb]; show t.1 * 1 + 1 * 0 = t.1; omega
  | ⟨1, _⟩ => show win0_2.index t 1 * 32 + 1 * a1.1 = a1.1; rw [h]; show 0 * 32 + 1 * a1.1 = a1.1; omega
  | ⟨2, _⟩ => show win0_2.index t 2 * 128 + 1 * a2.1 = a2.1; rw [h]; show 0 * 128 + 1 * a2.1 = a2.1; omega

/-- Input block 3 of point `t`. -/
theorem blk3 (t : Fin cfg0.N) (b : Fin 16) (hb : b.1 = t.1) (a1 : Fin 8) (a2 : Fin 768) :
    iblk m c 3 t (ix3 0 a1 a2) = (V m c main_v0 : Vec Ideal S16x8x768 .f32) (ix3 b a1 a2) := by
  unfold iblk
  rw [View.read_apply]
  show V m c main_v0 _ = _
  congr 1
  funext a
  apply Fin.ext
  have h := index3 t
  match a with
  | ⟨0, _⟩ => show win0_3.index t 0 * 1 + 1 * 0 = b.1; rw [h, hb]; show t.1 * 1 + 1 * 0 = t.1; omega
  | ⟨1, _⟩ => show win0_3.index t 1 * 8 + 1 * a1.1 = a1.1; rw [h]; show 0 * 8 + 1 * a1.1 = a1.1; omega
  | ⟨2, _⟩ => show win0_3.index t 2 * 768 + 1 * a2.1 = a2.1; rw [h]; show 0 * 768 + 1 * a2.1 = a2.1; omega

/-- Input block 4 of point `t`. -/
theorem blk4 (t : Fin cfg0.N) (b : Fin 16) (hb : b.1 = t.1) (a1 : Fin 8) (a2 : Fin 64) (a3 : Fin 64) :
    iblk m c 4 t (ix4 0 a1 a2 a3) = (V m c main_arg4 : Vec Ideal S16x8x64x64 .f32) (ix4 b a1 a2 a3) := by
  unfold iblk
  rw [View.read_apply]
  show V m c main_arg4 _ = _
  congr 1
  funext a
  apply Fin.ext
  have h := index4 t
  match a with
  | ⟨0, _⟩ => show win0_4.index t 0 * 1 + 1 * 0 = b.1; rw [h, hb]; show t.1 * 1 + 1 * 0 = t.1; omega
  | ⟨1, _⟩ => show win0_4.index t 1 * 8 + 1 * a1.1 = a1.1; rw [h]; show 0 * 8 + 1 * a1.1 = a1.1; omega
  | ⟨2, _⟩ => show win0_4.index t 2 * 64 + 1 * a2.1 = a2.1; rw [h]; show 0 * 64 + 1 * a2.1 = a2.1; omega
  | ⟨3, _⟩ => show win0_4.index t 3 * 64 + 1 * a3.1 = a3.1; rw [h]; show 0 * 64 + 1 * a3.1 = a3.1; omega

/-- Input block 5 of point `t`. -/
theorem blk5 (t : Fin cfg0.N) (a0 : Fin 4) (a1 : Fin 768) :
    iblk m c 5 t (ix2 a0 a1) = (V m c main_arg5 : Vec Ideal S4x768 .f32) (ix2 a0 a1) := by
  unfold iblk
  rw [View.read_apply]
  show V m c main_arg5 _ = _
  congr 1
  funext a
  apply Fin.ext
  have h := index5 t
  match a with
  | ⟨0, _⟩ => show win0_5.index t 0 * 4 + 1 * a0.1 = a0.1; rw [h]; show 0 * 4 + 1 * a0.1 = a0.1; omega
  | ⟨1, _⟩ => show win0_5.index t 1 * 768 + 1 * a1.1 = a1.1; rw [h]; show 0 * 768 + 1 * a1.1 = a1.1; omega

/-- Input block 6 of point `t`. -/
theorem blk6 (t : Fin cfg0.N) (a0 : Fin 1) (a1 : Fin 768) :
    iblk m c 6 t (ix2 a0 a1) = (V m c main_v1 : Vec Ideal S1x768 .f32) (ix2 a0 a1) := by
  unfold iblk
  rw [View.read_apply]
  show V m c main_v1 _ = _
  congr 1
  funext a
  apply Fin.ext
  have h := index6 t
  match a with
  | ⟨0, _⟩ => show win0_6.index t 0 * 1 + 1 * a0.1 = a0.1; rw [h]; show 0 * 1 + 1 * a0.1 = a0.1; omega
  | ⟨1, _⟩ => show win0_6.index t 1 * 768 + 1 * a1.1 = a1.1; rw [h]; show 0 * 768 + 1 * a1.1 = a1.1; omega

/-- Input block 7 of point `t`. -/
theorem blk7 (t : Fin cfg0.N) (a0 : Fin 1) (a1 : Fin 128) :
    iblk m c 7 t (ix2 a0 a1) = (V m c main_v3 : Vec Ideal S1x128 .f32) (ix2 a0 a1) := by
  unfold iblk
  rw [View.read_apply]
  show V m c main_v3 _ = _
  congr 1
  funext a
  apply Fin.ext
  have h := index7 t
  match a with
  | ⟨0, _⟩ => show win0_7.index t 0 * 1 + 1 * a0.1 = a0.1; rw [h]; show 0 * 1 + 1 * a0.1 = a0.1; omega
  | ⟨1, _⟩ => show win0_7.index t 1 * 128 + 1 * a1.1 = a1.1; rw [h]; show 0 * 128 + 1 * a1.1 = a1.1; omega

/-- Input block 8 of point `t`. -/
theorem blk8 (t : Fin cfg0.N) (a0 : Fin 1) (a1 : Fin 512) :
    iblk m c 8 t (ix2 a0 a1) = (V m c main_v6 : Vec Ideal S1x512 .f32) (ix2 a0 a1) := by
  unfold iblk
  rw [View.read_apply]
  show V m c main_v6 _ = _
  congr 1
  funext a
  apply Fin.ext
  have h := index8 t
  match a with
  | ⟨0, _⟩ => show win0_8.index t 0 * 1 + 1 * a0.1 = a0.1; rw [h]; show 0 * 1 + 1 * a0.1 = a0.1; omega
  | ⟨1, _⟩ => show win0_8.index t 1 * 512 + 1 * a1.1 = a1.1; rw [h]; show 0 * 512 + 1 * a1.1 = a1.1; omega

/-- Input block 9 of point `t`. -/
theorem blk9 (t : Fin cfg0.N) (a0 : Fin 1) (a1 : Fin 512) :
    iblk m c 9 t (ix2 a0 a1) = (V m c main_v7 : Vec Ideal S1x512 .f32) (ix2 a0 a1) := by
  unfold iblk
  rw [View.read_apply]
  show V m c main_v7 _ = _
  congr 1
  funext a
  apply Fin.ext
  have h := index9 t
  match a with
  | ⟨0, _⟩ => show win0_9.index t 0 * 1 + 1 * a0.1 = a0.1; rw [h]; show 0 * 1 + 1 * a0.1 = a0.1; omega
  | ⟨1, _⟩ => show win0_9.index t 1 * 512 + 1 * a1.1 = a1.1; rw [h]; show 0 * 512 + 1 * a1.1 = a1.1; omega

/-- Input block 10 of point `t`. -/
theorem blk10 (t : Fin cfg0.N) (a0 : Fin 32) (a1 : Fin 32) :
    iblk m c 10 t (ix2 a0 a1) = (V m c main_v15 : Vec Ideal S32x32 .bf16) (ix2 a0 a1) := by
  unfold iblk
  rw [View.read_apply]
  show V m c main_v15 _ = _
  congr 1
  funext a
  apply Fin.ext
  have h := index10 t
  match a with
  | ⟨0, _⟩ => show win0_10.index t 0 * 32 + 1 * a0.1 = a0.1; rw [h]; show 0 * 32 + 1 * a0.1 = a0.1; omega
  | ⟨1, _⟩ => show win0_10.index t 1 * 32 + 1 * a1.1 = a1.1; rw [h]; show 0 * 32 + 1 * a1.1 = a1.1; omega

/-- The triangle the host makes. -/
theorem entry_tri (t s : Fin 32) : (V m c main_v15 : Vec Ideal S32x32 .bf16) (ix2 t s) = if s.1 ≤ t.1 then (1 : EReal) else 0 := by
  unfold V
  simp only [hostOps0, hostOps0_1, hostOps0_2, hostOps0_3, hostOps0_4, List.flatten_cons, List.flatten_nil, List.append_nil,
    List.cons_append, List.nil_append]
  after_results
  pointwise []
  rw [cmpi_sle_ofNat (by norm_num; omega) (by norm_num; omega)]
  by_cases h : s.1 ≤ t.1
  · rw [decide_eq_true h, if_pos h]; exact EReal.coe_eq_coe_iff.mpr (by norm_num [show BitVec.toNat (1 : BitVec 1) = 1 from rfl])
  · rw [decide_eq_false h, if_neg h]; exact EReal.coe_eq_coe_iff.mpr (by norm_num)

theorem entry_pv (b : Fin 16) (k : Fin 3) (s : Fin 768) :
    (V m c main_v0 : Vec Ideal S16x8x768 .f32) (ix3 b ⟨5 + k.1, by omega⟩ s) = m ((c : Thread nD τ).loc main_arg3) (ix3 b k s) := by
  unfold V
  simp only [hostOps0, hostOps0_1, hostOps0_2, hostOps0_3, hostOps0_4, List.flatten_cons, List.flatten_nil, List.append_nil,
    List.cons_append, List.nil_append]
  after_results
  let x : Vec Ideal S16x3x768 .f32 := m ((c : Thread nD τ).loc main_arg3)
  let v : Vec Ideal S_ .f32 := sitofp (F := Ideal) .f32 (constantI S_ 32 0#32)
  change pad S16x8x768 ![0, 5, 0] ![0, 0, 0] ![0, 0, 0] x v pads_S16x3x768_S16x8x768_000_500_000 h_S_ (ix3 b ⟨5 + k.1, by omega⟩ s) = x (ix3 b k s)
  clear_value x v
  unfold pad
  have hk := k.2
  have hs := s.2
  rw [dif_pos]
  · congr 1
    funext a
    apply Fin.ext
    match a with
    | ⟨0, _⟩ => show (b.1 - 0) / 1 = b.1; omega
    | ⟨1, _⟩ => show (5 + k.1 - 5) / 1 = k.1; omega
    | ⟨2, _⟩ => show (s.1 - 0) / 1 = s.1; omega
  · intro a
    match a with
    | ⟨0, _⟩ => show 0 ≤ b.1 ∧ (b.1 - 0) % 1 = 0 ∧ (b.1 - 0) / 1 < 16; omega
    | ⟨1, _⟩ => show 5 ≤ 5 + k.1 ∧ (5 + k.1 - 5) % 1 = 0 ∧ (5 + k.1 - 5) / 1 < 3; omega
    | ⟨2, _⟩ => show 0 ≤ s.1 ∧ (s.1 - 0) % 1 = 0 ∧ (s.1 - 0) / 1 < 768; omega

theorem entry_cb (s : Fin 768) : (V m c main_v1 : Vec Ideal S1x768 .f32) (ix2 0 s) = m ((c : Thread nD τ).loc main_arg6) (ix1 s) := by
  unfold V
  simp only [hostOps0, hostOps0_1, hostOps0_2, hostOps0_3, hostOps0_4, List.flatten_cons, List.flatten_nil, List.append_nil,
    List.cons_append, List.nil_append]
  after_results
  pointwise []

theorem entry_ds (s : Fin 512) : (V m c main_v6 : Vec Ideal S1x512 .f32) (ix2 0 s)
    = m ((c : Thread nD τ).loc main_arg8) (ix1 ⟨s.1 / 64, by omega⟩) := by
  unfold V
  simp only [hostOps0, hostOps0_1, hostOps0_2, hostOps0_3, hostOps0_4, List.flatten_cons, List.flatten_nil, List.append_nil,
    List.cons_append, List.nil_append]
  after_results
  pointwise []

theorem entry_al (s : Fin 8) : (V m c main_v3 : Vec Ideal S1x128 .f32) (ix2 0 ⟨s.1, by omega⟩)
    = m ((c : Thread nD τ).loc main_arg7) (ix1 s) := by
  unfold V
  simp only [hostOps0, hostOps0_1, hostOps0_2, hostOps0_3, hostOps0_4, List.flatten_cons, List.flatten_nil, List.append_nil,
    List.cons_append, List.nil_append]
  after_results
  let x : Vec Ideal S1x8 .f32 := shapeCast S1x8 (m ((c : Thread nD τ).loc main_arg7) : Vec Ideal S8 .f32) shapeCasts_S8_S1x8
  let v : Vec Ideal S_ .f32 := sitofp (F := Ideal) .f32 (constantI S_ 32 0#32)
  have hx : x (ix2 0 s) = m ((c : Thread nD τ).loc main_arg7) (ix1 s) := by show shapeCast S1x8 _ _ _ = _; pointwise []
  rw [← hx]
  change pad S1x128 ![0, 0] ![0, 120] ![0, 0] x v pads_S1x8_S1x128_000_01200 h_S_ (ix2 0 ⟨s.1, by omega⟩) = _
  clear_value x v
  unfold pad
  have hs := s.2
  rw [dif_pos]
  · congr 1
    funext a
    apply Fin.ext
    match a with
    | ⟨0, _⟩ => show (0 - 0) / 1 = 0; rfl
    | ⟨1, _⟩ => show (s.1 - 0) / 1 = s.1; omega
  · intro a
    match a with
    | ⟨0, _⟩ => show 0 ≤ 0 ∧ (0 - 0) % 1 = 0 ∧ (0 - 0) / 1 < 1; omega
    | ⟨1, _⟩ => show 0 ≤ s.1 ∧ (s.1 - 0) % 1 = 0 ∧ (s.1 - 0) / 1 < 8; omega

theorem entry_g (s : Fin 512) : (V m c main_v7 : Vec Ideal S1x512 .f32) (ix2 0 s) = m ((c : Thread nD τ).loc main_arg9) (ix1 s) := by
  unfold V
  simp only [hostOps0, hostOps0_1, hostOps0_2, hostOps0_3, hostOps0_4, List.flatten_cons, List.flatten_nil, List.append_nil,
    List.cons_append, List.nil_append]
  after_results
  pointwise []

/-- Sequence `b` of the arguments as launched. -/
abbrev seq (b : Fin 16) : Args := argsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b

/-- No step size is negative. -/
def DtNonneg : Prop := ∀ (b : Fin 16) (t : Fin 32) (h : Fin 128), (0 : EReal) ≤ (m ((c : Thread nD τ).loc main_arg2) : Vec Ideal S16x32x128 .f32) (ix3 b t h)

/-- The input blocks of point `t` hold sequence `t`. -/
theorem blocks (hdt : DtNonneg m c) (t : Fin cfg0.N) (b : Fin 16) (hb : b.1 = t.1) : Blocks (iblk m c 0 t) (iblk m c 1 t) (iblk m c 2 t) (iblk m c 3 t) (iblk m c 4 t) (iblk m c 5 t) (iblk m c 6 t) (iblk m c 7 t) (iblk m c 8 t) (iblk m c 9 t) (iblk m c 10 t) (seq m c b) where
  x r l := (blk0 m c t b hb r l).trans (congrFun (V_main_arg0 m c) _)
  z r l := (blk1 m c t b hb r l).trans (congrFun (V_main_arg1 m c) _)
  dt r h := (blk2 m c t b hb r _).trans (congrFun (V_main_arg2 m c) _)
  pv k l := (blk3 m c t b hb _ l).trans (entry_pv m c b k l)
  s0 h p n := (blk4 m c t b hb h p n).trans (congrFun (V_main_arg4 m c) _)
  cw k l := (blk5 m c t k l).trans (congrFun (V_main_arg5 m c) _)
  cb l := (blk6 m c t 0 l).trans (entry_cb m c l)
  al h := (blk7 m c t 0 _).trans (entry_al m c h)
  ds l := (blk8 m c t 0 l).trans (entry_ds m c l)
  gn l := (blk9 m c t 0 l).trans (entry_g m c l)
  tri r s := (blk10 m c t r s).trans (entry_tri m c r s)
  nonneg r h := hdt b r _

/-- The first result: the reference's output. -/
def resY : Vec Ideal S16x32x512 .bf16 := Cert.SsdRefIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
/-- The second result: the reference's state. -/
def resS : Vec Ideal S16x8x64x64 .f32 := Cert.SsdRefIdeal.Read.val_main_v118 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

theorem N16 : cfg0.N = 16 := N_0

/-- What point `t` writes back to result 1 is block `t` of the reference's result. -/
theorem flushed11_eq (hdt : DtNonneg m c) (t : Fin cfg0.N) :
    (dats m 0 c).flushed 11 t = ((cfg0.win 11).blk t).view.read (Elt Ideal) (resY m c) := by
  rw [Value.flushed11_A]
  have ht : t.1 < 16 := lt_of_lt_of_eq t.isLt N16
  have B := blocks m c hdt t ⟨t.1, ht⟩ rfl
  funext j
  obtain ⟨i0, i1, i2, rfl⟩ : ∃ (i0 : Fin 1) (i1 : Fin 32) (i2 : Fin 512), j = (ix3 i0 i1 i2 : S1x32x512.Idx) :=
    ⟨j 0, j 1, j 2, by funext a; fin_cases a <;> rfl⟩
  obtain rfl : i0 = 0 := Subsingleton.elim _ _
  rw [View.read_apply]
  have e : ((cfg0.win 11).blk t).view.emb (ix3 0 i1 i2 : S1x32x512.Idx) = (ix3 ⟨t.1, ht⟩ i1 i2 : S16x32x512.Idx) := by
    funext a
    apply Fin.ext
    have h := index11 t
    match a with
    | ⟨0, _⟩ => show win0_11.index t 0 * 1 + 1 * 0 = t.1; rw [h]; show t.1 * 1 + 1 * 0 = t.1; omega
    | ⟨1, _⟩ => show win0_11.index t 1 * 32 + 1 * i1.1 = i1.1; rw [h]; show 0 * 32 + 1 * i1.1 = i1.1; omega
    | ⟨2, _⟩ => show win0_11.index t 2 * 512 + 1 * i2.1 = i2.1; rw [h]; show 0 * 512 + 1 * i2.1 = i2.1; omega
  refine (out_at c (grid0.coords t) _ _ _ _ _ _ _ _ _ _ _ _ _ _ _ _ _ _ _ _ _ _ _ _ _ _ _ _ _ _ _ _ B i1 i2).trans ?_
  refine (ref_out _ _ _ _ _ _ _ _ _ _ ⟨t.1, ht⟩ i1 i2).symm.trans ?_
  exact (congrArg (resY m c) e).symm

/-- RESULT 1 after the run is the reference's. -/
theorem final11 (hdt : DtNonneg m c) : (dats m 0 c).arrAt 11 cfg0.N = resY m c :=
  (dats m 0 c).arrAt_eq_of_cover 11 (resY m c) (fun t _ => flushed11_eq m c hdt t) (Pipeline.Window.Covers.cover win0_11 (by decide +kernel) (arr_whole0 11))

/-- What point `t` writes back to result 2 is block `t` of the reference's result. -/
theorem flushed12_eq (hdt : DtNonneg m c) (t : Fin cfg0.N) :
    (dats m 0 c).flushed 12 t = ((cfg0.win 12).blk t).view.read (Elt Ideal) (resS m c) := by
  rw [Value.flushed12_A]
  have ht : t.1 < 16 := lt_of_lt_of_eq t.isLt N16
  have B := blocks m c hdt t ⟨t.1, ht⟩ rfl
  funext j
  obtain ⟨i0, i1, i2, i3, rfl⟩ : ∃ (i0 : Fin 1) (i1 : Fin 8) (i2 : Fin 64) (i3 : Fin 64), j = (ix4 i0 i1 i2 i3 : S1x8x64x64.Idx) :=
    ⟨j 0, j 1, j 2, j 3, by funext a; fin_cases a <;> rfl⟩
  obtain rfl : i0 = 0 := Subsingleton.elim _ _
  rw [View.read_apply]
  have e : ((cfg0.win 12).blk t).view.emb (ix4 0 i1 i2 i3 : S1x8x64x64.Idx) = (ix4 ⟨t.1, ht⟩ i1 i2 i3 : S16x8x64x64.Idx) := by
    funext a
    apply Fin.ext
    have h := index12 t
    match a with
    | ⟨0, _⟩ => show win0_12.index t 0 * 1 + 1 * 0 = t.1; rw [h]; show t.1 * 1 + 1 * 0 = t.1; omega
    | ⟨1, _⟩ => show win0_12.index t 1 * 8 + 1 * i1.1 = i1.1; rw [h]; show 0 * 8 + 1 * i1.1 = i1.1; omega
    | ⟨2, _⟩ => show win0_12.index t 2 * 64 + 1 * i2.1 = i2.1; rw [h]; show 0 * 64 + 1 * i2.1 = i2.1; omega
    | ⟨3, _⟩ => show win0_12.index t 3 * 64 + 1 * i3.1 = i3.1; rw [h]; show 0 * 64 + 1 * i3.1 = i3.1; omega
  refine (state_at c (grid0.coords t) _ _ _ _ _ _ _ _ _ _ _ _ _ _ _ _ _ _ _ _ _ _ _ _ _ _ _ _ _ _ _ _ B i1 i2 i3).trans ?_
  refine (ref_state _ _ _ _ _ _ _ _ _ _ ⟨t.1, ht⟩ i1 i2 i3).symm.trans ?_
  exact (congrArg (resS m c) e).symm

/-- RESULT 2 after the run is the reference's. -/
theorem final12 (hdt : DtNonneg m c) : (dats m 0 c).arrAt 12 cfg0.N = resS m c :=
  (dats m 0 c).arrAt_eq_of_cover 12 (resS m c) (fun t _ => flushed12_eq m c hdt t) (Pipeline.Window.Covers.cover win0_12 (by decide +kernel) (arr_whole0 12))

end Ssd

end
-- ==== Proof.FfnAny.lean ====
module

public import proofs.«01_k».proof.Proof.Gen.FfnKernel.Frame
public import proofs.«01_k».proof.Proof.Gen.FfnKernel.Loops

/-! # The feed-forward call's program, its stores forgotten

Each part of one tile's program, and the parts one after the other: the input buffers stay as they were and every
other buffer ends holding something. -/

@[expose] public section

set_option maxRecDepth 16384

noncomputable section

namespace Cert.FfnKernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnKernel Cert.FfnKernel.Gen

variable {F : FTy → Type} [FloatOps F]

local notation "𝕄" => MT nD τ sig Unit (Elt F) ℕ (UR sig nD τ) ℕ

section Parts
variable (c : Dev nD) (i : grid0.Coords) (arg2 : Memref sig .tc .vmem S512x1024 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S1x11x8x256 .f32) (harg5 : arg5.IsWhole) (arg6 : Memref sig .tc .vmem S1x512 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S1024x5632 .bf16) (harg12 : arg12.IsWhole) (arg13 : Memref sig .tc .vmem S2816x1024 .bf16) (harg13 : arg13.IsWhole) (arg14 : Memref sig .tc .vmem S8x2816 .f32) (harg14 : arg14.IsWhole) (arg15 : Memref sig .tc .vmem S512x1024 .f32) (harg15 : arg15.IsWhole) (arg16 : Memref sig .tc .vmem S1x11x8x256 .f32) (harg16 : arg16.IsWhole) (arg17 : Memref sig .tc .vmem S512x1024 .bf16) (harg17 : arg17.IsWhole) (arg18 : Memref sig .tc .vmem S512x1024 .f32) (harg18 : arg18.IsWhole) (arg19 : Memref sig .tc .vmem S11x8x256 .f32) (harg19 : arg19.IsWhole) (arg20 : Memref sig .tc .vmem S2x512x256 .f32) (harg20 : arg20.IsWhole) (arg21 : Memref sig .tc .vmem S2x512x256 .f32) (harg21 : arg21.IsWhole)

variable {arg2 arg3 arg4 arg5 arg6 arg7 arg8 arg9 arg10 arg11 arg12 arg13 arg14 arg15 arg16 arg17 arg18 arg19 arg20 arg21}
variable (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty)

set_option maxHeartbeats 1000000 in
/-- Part 6 of the program. -/
theorem part6_any (E : Set ℕ)  (K : _ → sProp 𝕄) :
    iprop((arg3.view.loc (c : Thread nD τ) ↦[arg3.view.set]{fullShare} f3) ∗ (arg5.view.loc (c : Thread nD τ) ↦[arg5.view.set]{fullShare} f5) ∗ (arg6.view.loc (c : Thread nD τ) ↦[arg6.view.set]{fullShare} f6) ∗ (arg19.view.loc (c : Thread nD τ) ↦[arg19.view.set]{fullShare} f19)
        ∗ (∀ (v18 : FVec F S128x512 .bf16) (v34 : FVec F S128x512 .bf16) (v35 : Vec F S128x512 .f32) (v36 : Vec F S1x512 .f32) (g19 : BufTy.Contents (Elt F) arg19.view.ty), iprop((arg3.view.loc (c : Thread nD τ) ↦[arg3.view.set]{fullShare} f3) ∗ (arg5.view.loc (c : Thread nD τ) ↦[arg5.view.set]{fullShare} f5) ∗ (arg6.view.loc (c : Thread nD τ) ↦[arg6.view.set]{fullShare} f6) ∗ (arg19.view.loc (c : Thread nD τ) ↦[arg19.view.set]{fullShare} g19)) -∗ K ⟨v18, v34, v35, v36⟩))
      ⊢ wp frame (wpE (defs₀ (F := F)) Variants.none c none) E (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 ) K := by
  simp only [k0_part6_eq_skeleton]; unfold k0_part6_skel
  iintro ⟨H3, H5, H6, H19, Hk⟩
  sl_exec
  sl_step
  iapply Hk
  isplitl [H3]; · iexact H3
  isplitl [H5]; · iexact H5
  isplitl [H6]; · iexact H6
  iexact H19

set_option maxHeartbeats 1000000 in
/-- Part 7 of the program. -/
theorem part7_any (E : Set ℕ) (v18 : FVec F S128x512 .bf16) (v35 : Vec F S128x512 .f32) (v36 : Vec F S1x512 .f32) (K : _ → sProp 𝕄) :
    iprop((arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6) ∗ (arg10.view.loc (c : Thread nD τ) ↦[arg10.view.set]{fullShare} f10) ∗ (arg11.view.loc (c : Thread nD τ) ↦[arg11.view.set]{fullShare} f11)
        ∗ (∀ (v50 : FVec F S128x512 .bf16) (v66 : FVec F S128x512 .bf16) (v74 : FVec F S128x1024 .f32) (v76 : FVec F S512x1024 .bf16), iprop((arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6) ∗ (arg10.view.loc (c : Thread nD τ) ↦[arg10.view.set]{fullShare} f10) ∗ (arg11.view.loc (c : Thread nD τ) ↦[arg11.view.set]{fullShare} f11)) -∗ K ⟨v50, v66, v74, v76⟩))
      ⊢ wp frame (wpE (defs₀ (F := F)) Variants.none c none) E (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v18 v35 v36) K := by
  simp only [k0_part7_eq_skeleton]; unfold k0_part7_skel
  iintro ⟨H3, H4, H6, H10, H11, Hk⟩
  sl_exec
  sl_step
  iapply Hk
  isplitl [H3]; · iexact H3
  isplitl [H4]; · iexact H4
  isplitl [H6]; · iexact H6
  isplitl [H10]; · iexact H10
  iexact H11

set_option maxHeartbeats 1000000 in
/-- Part 8 of the program. -/
theorem part8_any (E : Set ℕ) (v34 : FVec F S128x512 .bf16) (v50 : FVec F S128x512 .bf16) (v66 : FVec F S128x512 .bf16) (v74 : FVec F S128x1024 .f32) (v76 : FVec F S512x1024 .bf16) (K : _ → sProp 𝕄) :
    iprop((arg2.view.loc (c : Thread nD τ) ↦[arg2.view.set]{fullShare} f2) ∗ (arg4.view.loc (c : Thread nD τ) ↦[arg4.view.set]{fullShare} f4) ∗ (arg7.view.loc (c : Thread nD τ) ↦[arg7.view.set]{fullShare} f7) ∗ (arg10.view.loc (c : Thread nD τ) ↦[arg10.view.set]{fullShare} f10) ∗ (arg11.view.loc (c : Thread nD τ) ↦[arg11.view.set]{fullShare} f11)
        ∗ (∀ (v82 : FVec F S128x1024 .f32) (v90 : FVec F S128x1024 .f32) (v98 : FVec F S128x1024 .f32) (v99 : Vec F S128x1024 .f32) (v101 : FVec F S1x1024 .f32) (v106 : FVec F S128x1 .f32) (v107 : FVec F S128x1 .f32), iprop((arg2.view.loc (c : Thread nD τ) ↦[arg2.view.set]{fullShare} f2) ∗ (arg4.view.loc (c : Thread nD τ) ↦[arg4.view.set]{fullShare} f4) ∗ (arg7.view.loc (c : Thread nD τ) ↦[arg7.view.set]{fullShare} f7) ∗ (arg10.view.loc (c : Thread nD τ) ↦[arg10.view.set]{fullShare} f10) ∗ (arg11.view.loc (c : Thread nD τ) ↦[arg11.view.set]{fullShare} f11)) -∗ K ⟨v82, v90, v98, v99, v101, v106, v107⟩))
      ⊢ wp frame (wpE (defs₀ (F := F)) Variants.none c none) E (k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v34 v50 v66 v74 v76) K := by
  simp only [k0_part8_eq_skeleton]; unfold k0_part8_skel
  iintro ⟨H2, H4, H7, H10, H11, Hk⟩
  sl_exec
  sl_step
  iapply Hk
  isplitl [H2]; · iexact H2
  isplitl [H4]; · iexact H4
  isplitl [H7]; · iexact H7
  isplitl [H10]; · iexact H10
  iexact H11

set_option maxHeartbeats 1000000 in
/-- Part 9 of the program. -/
theorem part9_any (E : Set ℕ) (v74 : FVec F S128x1024 .f32) (v82 : FVec F S128x1024 .f32) (v90 : FVec F S128x1024 .f32) (v99 : Vec F S128x1024 .f32) (v101 : FVec F S1x1024 .f32) (v106 : FVec F S128x1 .f32) (v107 : FVec F S128x1 .f32) (K : _ → sProp 𝕄) :
    iprop((arg2.view.loc (c : Thread nD τ) ↦[arg2.view.set]{fullShare} f2) ∗ (arg7.view.loc (c : Thread nD τ) ↦[arg7.view.set]{fullShare} f7)
        ∗ (∀ (v114 : FVec F S128x1024 .f32) (v130 : FVec F S128x1024 .f32) (v146 : FVec F S128x1024 .f32) (v147 : Vec F S128x1024 .f32) (v149 : FVec F S1x1024 .f32), iprop((arg2.view.loc (c : Thread nD τ) ↦[arg2.view.set]{fullShare} f2) ∗ (arg7.view.loc (c : Thread nD τ) ↦[arg7.view.set]{fullShare} f7)) -∗ K ⟨v114, v130, v146, v147, v149⟩))
      ⊢ wp frame (wpE (defs₀ (F := F)) Variants.none c none) E (k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v74 v82 v90 v99 v101 v106 v107) K := by
  simp only [k0_part9_eq_skeleton]; unfold k0_part9_skel
  iintro ⟨H2, H7, Hk⟩
  sl_exec
  sl_step
  iapply Hk
  isplitl [H2]; · iexact H2
  iexact H7

set_option maxHeartbeats 1000000 in
/-- Part 10 of the program. -/
theorem part10_any (E : Set ℕ) (v98 : FVec F S128x1024 .f32) (v114 : FVec F S128x1024 .f32) (v130 : FVec F S128x1024 .f32) (v147 : Vec F S128x1024 .f32) (v149 : FVec F S1x1024 .f32) (K : _ → sProp 𝕄) :
    iprop((arg8.view.loc (c : Thread nD τ) ↦[arg8.view.set]{fullShare} f8) ∗ (arg15.view.loc (c : Thread nD τ) ↦[arg15.view.set]{fullShare} f15) ∗ (arg17.view.loc (c : Thread nD τ) ↦[arg17.view.set]{fullShare} f17)
        ∗ (∀ (v162 : FVec F S128x1024 .f32) (v184 : FVec F S1x1024 .f32) (v187 : FVec F S128x1 .f32) (v188 : FVec F S128x1 .f32) (g15 : BufTy.Contents (Elt F) arg15.view.ty) (g17 : BufTy.Contents (Elt F) arg17.view.ty), iprop((arg8.view.loc (c : Thread nD τ) ↦[arg8.view.set]{fullShare} f8) ∗ (arg15.view.loc (c : Thread nD τ) ↦[arg15.view.set]{fullShare} g15) ∗ (arg17.view.loc (c : Thread nD τ) ↦[arg17.view.set]{fullShare} g17)) -∗ K ⟨v162, v184, v187, v188⟩))
      ⊢ wp frame (wpE (defs₀ (F := F)) Variants.none c none) E (k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v98 v114 v130 v147 v149) K := by
  simp only [k0_part10_eq_skeleton]; unfold k0_part10_skel
  iintro ⟨H8, H15, H17, Hk⟩
  sl_exec
  sl_step
  iapply Hk
  isplitl [H8]; · iexact H8
  isplitl [H15]; · iexact H15
  iexact H17

set_option maxHeartbeats 1000000 in
/-- Part 11 of the program. -/
theorem part11_any (E : Set ℕ) (v130 : FVec F S128x1024 .f32) (v146 : FVec F S128x1024 .f32) (v162 : FVec F S128x1024 .f32) (v184 : FVec F S1x1024 .f32) (v187 : FVec F S128x1 .f32) (v188 : FVec F S128x1 .f32) (K : _ → sProp 𝕄) :
    iprop((arg8.view.loc (c : Thread nD τ) ↦[arg8.view.set]{fullShare} f8) ∗ (arg15.view.loc (c : Thread nD τ) ↦[arg15.view.set]{fullShare} f15) ∗ (arg17.view.loc (c : Thread nD τ) ↦[arg17.view.set]{fullShare} f17)
        ∗ (∀ (v222 : FVec F S1x1024 .f32) (v225 : FVec F S128x1 .f32) (v226 : FVec F S128x1 .f32) (g15 : BufTy.Contents (Elt F) arg15.view.ty) (g17 : BufTy.Contents (Elt F) arg17.view.ty), iprop((arg8.view.loc (c : Thread nD τ) ↦[arg8.view.set]{fullShare} f8) ∗ (arg15.view.loc (c : Thread nD τ) ↦[arg15.view.set]{fullShare} g15) ∗ (arg17.view.loc (c : Thread nD τ) ↦[arg17.view.set]{fullShare} g17)) -∗ K ⟨v222, v225, v226⟩))
      ⊢ wp frame (wpE (defs₀ (F := F)) Variants.none c none) E (k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v130 v146 v162 v184 v187 v188) K := by
  simp only [k0_part11_eq_skeleton]; unfold k0_part11_skel
  iintro ⟨H8, H15, H17, Hk⟩
  sl_exec
  sl_step
  iapply Hk
  isplitl [H8]; · iexact H8
  isplitl [H15]; · iexact H15
  iexact H17

set_option maxHeartbeats 1000000 in
/-- Part 12 of the program. -/
theorem part12_any (E : Set ℕ) (v162 : FVec F S128x1024 .f32) (v222 : FVec F S1x1024 .f32) (v225 : FVec F S128x1 .f32) (v226 : FVec F S128x1 .f32) (K : _ → sProp 𝕄) :
    iprop((arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21)
        ∗ (∀ (v239 : IVec S512x256 32) (g17 : BufTy.Contents (Elt F) arg17.view.ty) (g18 : BufTy.Contents (Elt F) arg18.view.ty) (g19 : BufTy.Contents (Elt F) arg19.view.ty) (g20 : BufTy.Contents (Elt F) arg20.view.ty) (g21 : BufTy.Contents (Elt F) arg21.view.ty), iprop((arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21)) -∗ K v239))
      ⊢ wp frame (wpE (defs₀ (F := F)) Variants.none c none) E (k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v162 v222 v225 v226) K := by
  simp only [k0_part12_eq_skeleton]; unfold k0_part12_skel
  iintro ⟨H12, H13, H14, H17, H18, H19, H20, H21, Hk⟩
  sl_exec
  sl_step
  iapply Hk
  isplitl [H12]; · iexact H12
  isplitl [H13]; · iexact H13
  isplitl [H14]; · iexact H14
  isplitl [H17]; · iexact H17
  isplitl [H18]; · iexact H18
  isplitl [H19]; · iexact H19
  isplitl [H20]; · iexact H20
  iexact H21

set_option maxHeartbeats 1000000 in
/-- Part 13 of the program. -/
theorem part13_any (E : Set ℕ) (v239 : IVec S512x256 32) (K : _ → sProp 𝕄) :
    iprop((arg14.view.loc (c : Thread nD τ) ↦[arg14.view.set]{fullShare} f14) ∗ (arg20.view.loc (c : Thread nD τ) ↦[arg20.view.set]{fullShare} f20) ∗ (arg19.view.loc (c : Thread nD τ) ↦[arg19.view.set]{fullShare} f19)
        ∗ (∀ (v296 : FVec F S512x256 .f32) (g19 : BufTy.Contents (Elt F) arg19.view.ty), iprop((arg14.view.loc (c : Thread nD τ) ↦[arg14.view.set]{fullShare} f14) ∗ (arg20.view.loc (c : Thread nD τ) ↦[arg20.view.set]{fullShare} f20) ∗ (arg19.view.loc (c : Thread nD τ) ↦[arg19.view.set]{fullShare} g19)) -∗ K v296))
      ⊢ wp frame (wpE (defs₀ (F := F)) Variants.none c none) E (k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v239) K := by
  simp only [k0_part13_eq_skeleton]; unfold k0_part13_skel
  iintro ⟨H14, H20, H19, Hk⟩
  sl_exec
  sl_step
  iapply Hk
  isplitl [H14]; · iexact H14
  isplitl [H20]; · iexact H20
  iexact H19

set_option maxHeartbeats 1000000 in
/-- Part 14 of the program. -/
theorem part14_any (E : Set ℕ) (v296 : FVec F S512x256 .f32) (K : _ → sProp 𝕄) :
    iprop((arg9.view.loc (c : Thread nD τ) ↦[arg9.view.set]{fullShare} f9) ∗ (arg13.view.loc (c : Thread nD τ) ↦[arg13.view.set]{fullShare} f13) ∗ (arg15.view.loc (c : Thread nD τ) ↦[arg15.view.set]{fullShare} f15) ∗ (arg21.view.loc (c : Thread nD τ) ↦[arg21.view.set]{fullShare} f21) ∗ (arg18.view.loc (c : Thread nD τ) ↦[arg18.view.set]{fullShare} f18)
        ∗ (∀ (v327 : FVec F S128x1024 .f32) (v328 : Vec F S128x1024 .f32) (v330 : FVec F S1x1024 .f32) (v335 : FVec F S128x1 .f32) (v336 : FVec F S128x1 .f32) (g18 : BufTy.Contents (Elt F) arg18.view.ty), iprop((arg9.view.loc (c : Thread nD τ) ↦[arg9.view.set]{fullShare} f9) ∗ (arg13.view.loc (c : Thread nD τ) ↦[arg13.view.set]{fullShare} f13) ∗ (arg15.view.loc (c : Thread nD τ) ↦[arg15.view.set]{fullShare} f15) ∗ (arg21.view.loc (c : Thread nD τ) ↦[arg21.view.set]{fullShare} f21) ∗ (arg18.view.loc (c : Thread nD τ) ↦[arg18.view.set]{fullShare} g18)) -∗ K ⟨v327, v328, v330, v335, v336⟩))
      ⊢ wp frame (wpE (defs₀ (F := F)) Variants.none c none) E (k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v296) K := by
  simp only [k0_part14_eq_skeleton]; unfold k0_part14_skel
  iintro ⟨H9, H13, H15, H21, H18, Hk⟩
  sl_exec
  sl_step
  iapply Hk
  isplitl [H9]; · iexact H9
  isplitl [H13]; · iexact H13
  isplitl [H15]; · iexact H15
  isplitl [H21]; · iexact H21
  iexact H18

set_option maxHeartbeats 1000000 in
/-- Part 15 of the program. -/
theorem part15_any (E : Set ℕ) (v327 : FVec F S128x1024 .f32) (v328 : Vec F S128x1024 .f32) (v330 : FVec F S1x1024 .f32) (v335 : FVec F S128x1 .f32) (v336 : FVec F S128x1 .f32) (K : _ → sProp 𝕄) :
    iprop((arg9.view.loc (c : Thread nD τ) ↦[arg9.view.set]{fullShare} f9) ∗ (arg18.view.loc (c : Thread nD τ) ↦[arg18.view.set]{fullShare} f18) ∗ (arg15.view.loc (c : Thread nD τ) ↦[arg15.view.set]{fullShare} f15)
        ∗ (∀ (v365 : FVec F S128x1024 .f32) (v366 : Vec F S128x1024 .f32) (v368 : FVec F S1x1024 .f32) (v373 : FVec F S128x1 .f32) (g15 : BufTy.Contents (Elt F) arg15.view.ty), iprop((arg9.view.loc (c : Thread nD τ) ↦[arg9.view.set]{fullShare} f9) ∗ (arg18.view.loc (c : Thread nD τ) ↦[arg18.view.set]{fullShare} f18) ∗ (arg15.view.loc (c : Thread nD τ) ↦[arg15.view.set]{fullShare} g15)) -∗ K ⟨v365, v366, v368, v373⟩))
      ⊢ wp frame (wpE (defs₀ (F := F)) Variants.none c none) E (k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v327 v328 v330 v335 v336) K := by
  simp only [k0_part15_eq_skeleton]; unfold k0_part15_skel
  iintro ⟨H9, H18, H15, Hk⟩
  sl_exec
  sl_step
  iapply Hk
  isplitl [H9]; · iexact H9
  isplitl [H18]; · iexact H18
  iexact H15

set_option maxHeartbeats 4000000 in
/-- The program of one tile: the input buffers stay as they were, and the others end holding something. -/
theorem tile_any (E : Set ℕ) (K : _ → sProp 𝕄) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21)
        ∗ (∀ (g15 : BufTy.Contents (Elt F) arg15.view.ty) (g16 : BufTy.Contents (Elt F) arg16.view.ty) (g17 : BufTy.Contents (Elt F) arg17.view.ty) (g18 : BufTy.Contents (Elt F) arg18.view.ty) (g19 : BufTy.Contents (Elt F) arg19.view.ty) (g20 : BufTy.Contents (Elt F) arg20.view.ty) (g21 : BufTy.Contents (Elt F) arg21.view.ty), iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21)) -∗ K PUnit.unit))
      ⊢ wp frame (wpE (defs₀ (F := F)) Variants.none c none) E (cc0_out_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_out_ffn_eq_skeleton]; unfold cc0_out_ffn_skel
  simp only [k0_part16_eq_skeleton]; unfold k0_part16_skel
  iintro ⟨H2, H3, H4, H5, H6, H7, H8, H9, H10, H11, H12, H13, H14, H15, H16, H17, H18, H19, H20, H21, Hk⟩
  rw [wp_bind]
  rw [wp_bind]
  iapply (part6_any c i harg2 harg3 harg4 harg5 harg6 harg7 harg8 harg9 harg10 harg11 harg12 harg13 harg14 harg15 harg16 harg17 harg18 harg19 harg20 harg21 f3 f5 f6 f19 E  _)
  isplitl [H3]; · iexact H3
  isplitl [H5]; · iexact H5
  isplitl [H6]; · iexact H6
  isplitl [H19]; · iexact H19
  iintro %v18 %v34 %v35 %v36 %g19_6 ⟨H3, H5, H6, H19⟩
  dsimp only
  rw [wp_bind]
  iapply (part7_any c i harg2 harg3 harg4 harg5 harg6 harg7 harg8 harg9 harg10 harg11 harg12 harg13 harg14 harg15 harg16 harg17 harg18 harg19 harg20 harg21 f3 f4 f6 f10 f11 E _ _ _ _)
  isplitl [H3]; · iexact H3
  isplitl [H4]; · iexact H4
  isplitl [H6]; · iexact H6
  isplitl [H10]; · iexact H10
  isplitl [H11]; · iexact H11
  iintro %v50 %v66 %v74 %v76 ⟨H3, H4, H6, H10, H11⟩
  dsimp only
  rw [wp_bind]
  iapply (part8_any c i harg2 harg3 harg4 harg5 harg6 harg7 harg8 harg9 harg10 harg11 harg12 harg13 harg14 harg15 harg16 harg17 harg18 harg19 harg20 harg21 f2 f4 f7 f10 f11 E _ _ _ _ _ _)
  isplitl [H2]; · iexact H2
  isplitl [H4]; · iexact H4
  isplitl [H7]; · iexact H7
  isplitl [H10]; · iexact H10
  isplitl [H11]; · iexact H11
  iintro %v82 %v90 %v98 %v99 %v101 %v106 %v107 ⟨H2, H4, H7, H10, H11⟩
  dsimp only
  rw [wp_bind]
  iapply (part9_any c i harg2 harg3 harg4 harg5 harg6 harg7 harg8 harg9 harg10 harg11 harg12 harg13 harg14 harg15 harg16 harg17 harg18 harg19 harg20 harg21 f2 f7 E _ _ _ _ _ _ _ _)
  isplitl [H2]; · iexact H2
  isplitl [H7]; · iexact H7
  iintro %v114 %v130 %v146 %v147 %v149 ⟨H2, H7⟩
  dsimp only
  rw [wp_bind]
  iapply (part10_any c i harg2 harg3 harg4 harg5 harg6 harg7 harg8 harg9 harg10 harg11 harg12 harg13 harg14 harg15 harg16 harg17 harg18 harg19 harg20 harg21 f8 f15 f17 E _ _ _ _ _ _)
  isplitl [H8]; · iexact H8
  isplitl [H15]; · iexact H15
  isplitl [H17]; · iexact H17
  iintro %v162 %v184 %v187 %v188 %g15_10 %g17_10 ⟨H8, H15, H17⟩
  dsimp only
  rw [wp_bind]
  iapply (part11_any c i harg2 harg3 harg4 harg5 harg6 harg7 harg8 harg9 harg10 harg11 harg12 harg13 harg14 harg15 harg16 harg17 harg18 harg19 harg20 harg21 f8 g15_10 g17_10 E _ _ _ _ _ _ _)
  isplitl [H8]; · iexact H8
  isplitl [H15]; · iexact H15
  isplitl [H17]; · iexact H17
  iintro %v222 %v225 %v226 %g15_11 %g17_11 ⟨H8, H15, H17⟩
  dsimp only
  rw [wp_bind]
  iapply (part12_any c i harg2 harg3 harg4 harg5 harg6 harg7 harg8 harg9 harg10 harg11 harg12 harg13 harg14 harg15 harg16 harg17 harg18 harg19 harg20 harg21 f12 f13 f14 g17_11 f18 g19_6 f20 f21 E _ _ _ _ _)
  isplitl [H12]; · iexact H12
  isplitl [H13]; · iexact H13
  isplitl [H14]; · iexact H14
  isplitl [H17]; · iexact H17
  isplitl [H18]; · iexact H18
  isplitl [H19]; · iexact H19
  isplitl [H20]; · iexact H20
  isplitl [H21]; · iexact H21
  iintro %v239 %g17_12 %g18_12 %g19_12 %g20_12 %g21_12 ⟨H12, H13, H14, H17, H18, H19, H20, H21⟩
  rw [wp_bind]
  iapply (part13_any c i harg2 harg3 harg4 harg5 harg6 harg7 harg8 harg9 harg10 harg11 harg12 harg13 harg14 harg15 harg16 harg17 harg18 harg19 harg20 harg21 f14 g19_12 g20_12 E _ _)
  isplitl [H14]; · iexact H14
  isplitl [H20]; · iexact H20
  isplitl [H19]; · iexact H19
  iintro %v296 %g19_13 ⟨H14, H20, H19⟩
  rw [wp_bind]
  iapply (part14_any c i harg2 harg3 harg4 harg5 harg6 harg7 harg8 harg9 harg10 harg11 harg12 harg13 harg14 harg15 harg16 harg17 harg18 harg19 harg20 harg21 f9 f13 g15_11 g18_12 g21_12 E _ _)
  isplitl [H9]; · iexact H9
  isplitl [H13]; · iexact H13
  isplitl [H15]; · iexact H15
  isplitl [H21]; · iexact H21
  isplitl [H18]; · iexact H18
  iintro %v327 %v328 %v330 %v335 %v336 %g18_14 ⟨H9, H13, H15, H21, H18⟩
  dsimp only
  rw [wp_bind]
  iapply (part15_any c i harg2 harg3 harg4 harg5 harg6 harg7 harg8 harg9 harg10 harg11 harg12 harg13 harg14 harg15 harg16 harg17 harg18 harg19 harg20 harg21 f9 g15_11 g18_14 E _ _ _ _ _ _)
  isplitl [H9]; · iexact H9
  isplitl [H18]; · iexact H18
  isplitl [H15]; · iexact H15
  iintro %v365 %v366 %v368 %v373 %g15_15 ⟨H9, H18, H15⟩
  dsimp only
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

end Parts

end Cert.FfnKernel.Run

end
-- ==== Proof.FfnFrame.lean ====
module

public import proofs.«01_k».proof.Proof.FfnAny

/-! # The frame of the feed-forward call: it ends, leaving every argument as it was

The pipeline's proof data name the input blocks and say nothing of what the body leaves in the two output windows
and in the scratch. -/

@[expose] public section

set_option maxRecDepth 16384

noncomputable section

namespace Cert.FfnKernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.FfnKernel Cert.FfnKernel.Gen

variable {F : FTy → Type} [FloatOps F]

local notation "𝕄" => MT nD τ sig Unit (Elt F) ℕ (UR sig nD τ) ℕ

/-- A buffer owned at some contents is its elements held at some contents. -/
theorem raw_of_owns {s : Shape} {e : EltTy} (c : Dev nD) (M : Memref sig .tc .vmem s e) :
    (iprop(∃ d, owns (c : Thread nD τ) M fullShare d) : sProp 𝕄) ⊢ iprop(∃ f, M.view.loc (c : Thread nD τ) ↦[M.view.set]{fullShare} f) := by
  unfold owns
  iintro ⟨%d, %f, -, H⟩; iexists f; iexact H

/-- and the other way. -/
theorem owns_of_raw {s : Shape} {e : EltTy} (c : Dev nD) (M : Memref sig .tc .vmem s e) :
    (iprop(∃ f, M.view.loc (c : Thread nD τ) ↦[M.view.set]{fullShare} f) : sProp 𝕄) ⊢ iprop(∃ d, owns (c : Thread nD τ) M fullShare d) := by
  unfold owns
  iintro ⟨%f, H⟩; iexists _, f; isplitr
  swap; · iexact H
  ipureintro; rfl

set_option maxHeartbeats 2000000 in
/-- The body at any point, its stores forgotten: the inputs stay as they were, every other buffer holds something. -/
theorem body_any (c : Dev nD) (i : grid0.Coords) (arg2 : Memref sig .tc .vmem S512x1024 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S1x11x8x256 .f32) (harg5 : arg5.IsWhole) (arg6 : Memref sig .tc .vmem S1x512 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S1024x5632 .bf16) (harg12 : arg12.IsWhole) (arg13 : Memref sig .tc .vmem S2816x1024 .bf16) (harg13 : arg13.IsWhole) (arg14 : Memref sig .tc .vmem S8x2816 .f32) (harg14 : arg14.IsWhole) (arg15 : Memref sig .tc .vmem S512x1024 .f32) (harg15 : arg15.IsWhole) (arg16 : Memref sig .tc .vmem S1x11x8x256 .f32) (harg16 : arg16.IsWhole) (arg17 : Memref sig .tc .vmem S512x1024 .bf16) (harg17 : arg17.IsWhole) (arg18 : Memref sig .tc .vmem S512x1024 .f32) (harg18 : arg18.IsWhole) (arg19 : Memref sig .tc .vmem S11x8x256 .f32) (harg19 : arg19.IsWhole) (arg20 : Memref sig .tc .vmem S2x512x256 .f32) (harg20 : arg20.IsWhole) (arg21 : Memref sig .tc .vmem S2x512x256 .f32) (harg21 : arg21.IsWhole)
    (x0 : Vec F S512x1024 .f32) (x1 : Vec F S512x512 .f32) (x2 : Vec F S512x512 .bf16) (x3 : Vec F S1x11x8x256 .f32) (x4 : Vec F S1x512 .f32) (x5 : Vec F S1x1024 .f32) (x6 : Vec F S1x1024 .f32) (x7 : Vec F S1x1024 .f32) (x8 : Vec F S512x1024 .bf16) (x9 : Vec F S512x1024 .bf16) (x10 : Vec F S1024x5632 .bf16) (x11 : Vec F S2816x1024 .bf16) (x12 : Vec F S8x2816 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
        ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12
          ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f)) -∗ K ⟨⟩))
      ⊢ wp frame (wpE (defs₀ (F := F)) Variants.none c none) E (cc0_out_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, H15⟩, ⟨%f16, H16⟩, ⟨%f17, H17⟩, ⟨%f18, H18⟩, ⟨%f19, H19⟩, ⟨%f20, H20⟩, ⟨%f21, H21⟩, Hk⟩
  iapply (tile_any c i harg2 harg3 harg4 harg5 harg6 harg7 harg8 harg9 harg10 harg11 harg12 harg13 harg14 harg15 harg16 harg17 harg18 harg19 harg20 harg21 f2 f3 f4 f5 f6 f7 f8 f9 f10 f11 f12 f13 f14 f15 f16 f17 f18 f19 f20 f21 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iintro %g15 %g16 %g17 %g18 %g19 %g20 %g21 ⟨H2, H3, H4, H5, H6, H7, H8, H9, H10, H11, H12, H13, H14, H15, H16, H17, H18, H19, H20, H21⟩
  iapply Hk
  isplitl [H2]
  · iexists f2; isplitr
    · ipureintro; exact e2
    iexact H2
  isplitl [H3]
  · iexists f3; isplitr
    · ipureintro; exact e3
    iexact H3
  isplitl [H4]
  · iexists f4; isplitr
    · ipureintro; exact e4
    iexact H4
  isplitl [H5]
  · iexists f5; isplitr
    · ipureintro; exact e5
    iexact H5
  isplitl [H6]
  · iexists f6; isplitr
    · ipureintro; exact e6
    iexact H6
  isplitl [H7]
  · iexists f7; isplitr
    · ipureintro; exact e7
    iexact H7
  isplitl [H8]
  · iexists f8; isplitr
    · ipureintro; exact e8
    iexact H8
  isplitl [H9]
  · iexists f9; isplitr
    · ipureintro; exact e9
    iexact H9
  isplitl [H10]
  · iexists f10; isplitr
    · ipureintro; exact e10
    iexact H10
  isplitl [H11]
  · iexists f11; isplitr
    · ipureintro; exact e11
    iexact H11
  isplitl [H12]
  · iexists f12; isplitr
    · ipureintro; exact e12
    iexact H12
  isplitl [H13]
  · iexists f13; isplitr
    · ipureintro; exact e13
    iexact H13
  isplitl [H14]
  · iexists f14; isplitr
    · ipureintro; exact e14
    iexact H14
  isplitl [H15]; · iexists g15; iexact H15
  isplitl [H16]; · iexists g16; iexact H16
  isplitl [H17]; · iexists g17; iexact H17
  isplitl [H18]; · iexists g18; iexact H18
  isplitl [H19]; · iexists g19; iexact H19
  isplitl [H20]; · iexists g20; iexact H20
  iexists g21; iexact H21

/-! ## The buffers of a point -/

/-- The staging buffer a window is on at a point, and that it is a whole buffer. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x11x8x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x5632 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2816x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x2816 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x11x8x256 .f32 := win0_14.stage (cfg0.slots t 14)
abbrev hs0_14 (t : Fin cfg0.N) : (ms0_14 t).IsWhole := hstage0_14 ((cfg0.slots t 14).cast nbuf0_14)
/-- The scratch buffers. -/
abbrev scM0_0 : Memref sig .tc .vmem S512x1024 .bf16 := Memref.whole cc0_scratch0
abbrev scM0_1 : Memref sig .tc .vmem S512x1024 .f32 := Memref.whole cc0_scratch1
abbrev scM0_2 : Memref sig .tc .vmem S11x8x256 .f32 := Memref.whole cc0_scratch2
abbrev scM0_3 : Memref sig .tc .vmem S2x512x256 .f32 := Memref.whole cc0_scratch3
abbrev scM0_4 : Memref sig .tc .vmem S2x512x256 .f32 := Memref.whole cc0_scratch4

/-- What the body is handed beside the windows: each scratch buffer at some contents, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

variable (m : (ℓ : Loc nD τ sig) → Buf (Elt F) ℓ) (ρ : Dev nD → PrngReg)

/-! ## The proof data -/

/-- The proof data: the arrays as the region finds them, each input's buffer at its block, the outputs' unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => Dat.unnamed 13 t
    | ⟨14, _⟩ => Dat.unnamed 14 t
  Φ _ := Pipeline.ΦA spec0 c
  q _ := fullShare
  owed _ := 0

/-- The two output windows, of which nothing is said. -/
def outs (w : Fin cfg0.W) : Bool := decide (13 ≤ w.val)

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body at a point -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ X, owns (c : Thread nD τ) (ms0_13 t) fullShare X)
    ∗ (∃ X, owns (c : Thread nD τ) (ms0_14 t) fullShare X))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (∃ X, owns (c : Thread nD τ) (ms0_13 t) fullShare X)
    ∗ (∃ X, owns (c : Thread nD τ) (ms0_14 t) fullShare X))

set_option maxHeartbeats 2000000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  rw [show (dats m 0 c).leavesExact 4 t = owns (c : Thread nD τ) (ms0_4 t) fullShare ((dats m 0 c).after 4 t) from rfl, after0_4]
  rw [show (dats m 0 c).leavesExact 5 t = owns (c : Thread nD τ) (ms0_5 t) fullShare ((dats m 0 c).after 5 t) from rfl, after0_5]
  rw [show (dats m 0 c).leavesExact 6 t = owns (c : Thread nD τ) (ms0_6 t) fullShare ((dats m 0 c).after 6 t) from rfl, after0_6]
  rw [show (dats m 0 c).leavesExact 7 t = owns (c : Thread nD τ) (ms0_7 t) fullShare ((dats m 0 c).after 7 t) from rfl, after0_7]
  rw [show (dats m 0 c).leavesExact 8 t = owns (c : Thread nD τ) (ms0_8 t) fullShare ((dats m 0 c).after 8 t) from rfl, after0_8]
  rw [show (dats m 0 c).leavesExact 9 t = owns (c : Thread nD τ) (ms0_9 t) fullShare ((dats m 0 c).after 9 t) from rfl, after0_9]
  rw [show (dats m 0 c).leavesExact 10 t = owns (c : Thread nD τ) (ms0_10 t) fullShare ((dats m 0 c).after 10 t) from rfl, after0_10]
  rw [show (dats m 0 c).leavesExact 11 t = owns (c : Thread nD τ) (ms0_11 t) fullShare ((dats m 0 c).after 11 t) from rfl, after0_11]
  rw [show (dats m 0 c).leavesExact 12 t = owns (c : Thread nD τ) (ms0_12 t) fullShare ((dats m 0 c).after 12 t) from rfl, after0_12]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13, H14⟩
  iapply (body_any c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iapply (raw_of_owns c _); iexact H13
  isplitl [H14]; · iapply (raw_of_owns c _); iexact H14
  isplitl [HS0]; · iapply (raw_of_owns c _); iexact HS0
  isplitl [HS1]; · iapply (raw_of_owns c _); iexact HS1
  isplitl [HS2]; · iapply (raw_of_owns c _); iexact HS2
  isplitl [HS3]; · iapply (raw_of_owns c _); iexact HS3
  isplitl [HS4]; · iapply (raw_of_owns c _); iexact HS4
  iintro ⟨H0, H1, H2, H3, H4, H5, H6, H7, H8, H9, H10, H11, H12, H13, H14, HS0, HS1, HS2, HS3, HS4⟩
  isplitl [HS0 HS1 HS2 HS3 HS4 Hg]
  · isplitl [HS0 HS1 HS2 HS3 HS4]
    · isplitl [HS0]; · iapply (owns_of_raw c _); iexact HS0
      isplitl [HS1]; · iapply (owns_of_raw c _); iexact HS1
      isplitl [HS2]; · iapply (owns_of_raw c _); iexact HS2
      isplitl [HS3]; · iapply (owns_of_raw c _); iexact HS3
      iapply (owns_of_raw c _); iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iapply (owns_of_raw c _); iexact H13
  iapply (owns_of_raw c _); iexact H14

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The pipeline's obligation on the body. -/
theorem body_obligation (c : Dev nD) : BodyObligationLoose (dats (F := F) m 0 c) (defs₀ (F := F)) Variants.none () Set.univ outs := fun t => by
  rw [bigSep_W0, bigSep_W0, defs₀_row]
  exact triple_restated (sound_body m c t) rfl .rfl fun _ => .rfl

/-! ## The run -/

set_option backward.isDefEq.respectTransparency.types false in
/-- The run: the arrays end as the relational data say, nothing else is touched, and every semaphore counter is zero. -/
theorem run_main : θ_run defs (onTc (τ := τ) (main (F := F))) (s₀ m ρ)
    (fun r => Pipeline.RDat.FramePost cfg0 (fun c => (dats m 0 c).toRForget outs) (V m) r ∧ r.2.sem = fun _ => 0) :=
  Pipeline.θ_run_frame_forget (Q' := _) cfgs (dats m) (0 : Fin 1) launch0 defs₀ Variants.none outs m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the arguments end as they began, and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c)⟩, h.2⟩) (run_main m ρ)

end Cert.FfnKernel.Run

end
-- ==== Proof.FfnStep.lean ====
module

public import proofs.«01_k».proof.Proof.Gen.FfnKernelIdeal.Skeleton
public import Idealize.ShloMosaic.Lib.Pointwise
public import Idealize.ShloMosaic.Lib.WordCmp

/-! # The values one tile of the feed-forward call computes

The mathematics of one tile of 512 rows, and the kernel's vector expressions read at an index in its terms. -/

@[expose] public section

set_option maxRecDepth 16384

noncomputable section

namespace Ffn

open Idealize.ShloMosaic Idealize.ShloMosaic.Pointwise Idealize.ShloMosaic.WordCmp Cert.FfnKernelIdeal Cert.FfnKernelIdeal.Gen

/-- The constant added to a mean square before its root is taken. -/
def eps : EReal := Ideal.ofBits FTy.f32 0x358637BD#32
/-- The constant 0.044715 of the approximate gelu. -/
def gk : EReal := Ideal.ofBits FTy.f32 0x3D372713#32
/-- The constant √(2/π) of the approximate gelu. -/
def gs : EReal := Ideal.ofBits FTy.f32 0x3F4C422A#32
/-- One half. -/
def half : EReal := Ideal.ofBits FTy.f32 0x3F000000#32

/-- The reciprocal root of a row's mean square, `c` the bits of the row's length. -/
def inv (c : BitVec 32) {n : Nat} (v : Fin n → EReal) : EReal :=
  Ideal.rsqrt (Ideal.div (∑ k, v k * v k) (Ideal.ofBits FTy.f32 c) + eps)

/-- The approximate gelu, in the order of the kernel's products. -/
def gelu (x : EReal) : EReal := half * x * (1 + Ideal.tanh (gs * (x + gk * (x * x * x))))

/-- The three-tap convolution at row `r`, the two rows before the tile being `p0`, `p1`. -/
def conv (g : Fin 512 → EReal) (p0 p1 c0 c1 c2 c3 : EReal) (r : Fin 512) : EReal :=
  c3 + (if r.1 = 0 then p0 else if r.1 = 1 then p1 else g ⟨r.1 - 2, by omega⟩) * c0
    + (if r.1 = 0 then p1 else g ⟨r.1 - 1, by omega⟩) * c1 + g r * c2

/-- Choosing by a row number. -/
theorem sel_row {α : Type} (t : Fin 512) (k : Nat) (hk : k < 512) (x y : α) :
    Scalar.select (IntOp.cmpi .eq (BitVec.ofNat 32 t.1) (BitVec.ofNat 32 k)) x y = if t.1 = k then x else y := by
  rw [cmpi_eq_eq_toNat, select_decide, toNat_ofNat_of_lt (by omega), toNat_ofNat_of_lt (by omega)]

/-- The convolution with its rows turned round the tile. -/
theorem conv_roll (g : Fin 512 → EReal) (p0 p1 c0 c1 c2 c3 : EReal) (r : Fin 512) :
    c3 + Scalar.select (IntOp.cmpi .eq (BitVec.ofNat 32 r.1) 0#32) p0
        (Scalar.select (IntOp.cmpi .eq (BitVec.ofNat 32 r.1) 1#32) p1 (g ⟨(r.1 + 512 - 2) % 512, Nat.mod_lt _ (by omega)⟩)) * c0
      + Scalar.select (IntOp.cmpi .eq (BitVec.ofNat 32 r.1) 0#32) p1 (g ⟨(r.1 + 512 - 1) % 512, Nat.mod_lt _ (by omega)⟩) * c1
      + g r * c2 = conv g p0 p1 c0 c1 c2 c3 r := by
  rw [sel_row r 0 (by omega), sel_row r 1 (by omega), sel_row r 0 (by omega)]
  unfold conv
  have e2 : (if r.1 = 0 then p0 else if r.1 = 1 then p1 else g ⟨(r.1 + 512 - 2) % 512, Nat.mod_lt _ (by omega)⟩)
      = if r.1 = 0 then p0 else if r.1 = 1 then p1 else g ⟨r.1 - 2, by omega⟩ := by
    split_ifs with h h' <;> first | rfl | exact congrArg g (Fin.ext (show (r.1 + 512 - 2) % 512 = r.1 - 2 by omega))
  have e1 : (if r.1 = 0 then p1 else g ⟨(r.1 + 512 - 1) % 512, Nat.mod_lt _ (by omega)⟩)
      = if r.1 = 0 then p1 else g ⟨r.1 - 1, by omega⟩ := by
    split_ifs with h <;> first | rfl | exact congrArg g (Fin.ext (show (r.1 + 512 - 1) % 512 = r.1 - 1 by omega))
  rw [e2, e1]

section Products
variable (h : Vec Ideal S512x1024 .bf16) (w : Vec Ideal S1024x256 .bf16) (r : Fin 512) (x : Fin 256)

theorem pay2_at : k0_pay2 h w (ix3 0 r x) = (∑ d : Fin 1024, h (ix2 r d) * w (ix2 d x) : EReal) := by pointwise [k0_pay2]
theorem pay3_at : k0_pay3 h w (ix3 0 r x) = (∑ d : Fin 1024, h (ix2 r d) * w (ix2 d x) : EReal) := by pointwise [k0_pay3]
theorem pay11_at : k0_pay11 h w (ix3 0 r x) = (∑ d : Fin 1024, h (ix2 r d) * w (ix2 d x) : EReal) := by pointwise [k0_pay11]
theorem pay12_at : k0_pay12 h w (ix3 0 r x) = (∑ d : Fin 1024, h (ix2 r d) * w (ix2 d x) : EReal) := by pointwise [k0_pay12]
theorem pay50_at : k0_pay50 h w (ix3 0 r x) = (∑ d : Fin 1024, h (ix2 r d) * w (ix2 d x) : EReal) := by pointwise [k0_pay50]
theorem pay51_at : k0_pay51 h w (ix3 0 r x) = (∑ d : Fin 1024, h (ix2 r d) * w (ix2 d x) : EReal) := by pointwise [k0_pay51]

end Products

/-- The row numbers of the tile, as the kernel makes them. -/
abbrev rowIota : IVec S512x256 32 := iota Kind.tc S512x256 32 [0] iota_S512x256_d0_w32

section Stage
variable (g : Vec Ideal S1x512x256 .f32) (w : Vec Ideal S8x256 .f32) (p : Vec Ideal S1x8x256 .f32) (r : Fin 512) (x : Fin 256)

/-- The convolution of a chunk of gate rows. -/
abbrev cv : EReal := conv (fun r' => g (ix3 0 r' x)) (p (ix3 0 6 x)) (p (ix3 0 7 x)) (w (ix2 0 x)) (w (ix2 1 x)) (w (ix2 2 x)) (w (ix2 3 x)) r

theorem pay6_at : k0_pay6 rowIota (k0_pay4 g) (k0_pay5 w) p (ix2 r x) = cv g w p r x := by
  rw [cv, ← conv_roll]
  pointwise [k0_pay6, k0_pay4, k0_pay5]

theorem pay54_at : k0_pay54 rowIota g w p (ix2 r x) = cv g w p r x := by
  rw [cv, ← conv_roll]
  pointwise [k0_pay54, k0_pay53]

theorem pay7_at (q : Fin 8) : k0_pay7 (k0_pay4 g) (ix3 0 q x) = g (ix3 0 ⟨504 + q.1, by omega⟩ x) := by
  pointwise [k0_pay7, k0_pay4]
theorem pay19_at (q : Fin 8) : k0_pay19 (k0_pay13 g) (ix3 0 q x) = g (ix3 0 ⟨504 + q.1, by omega⟩ x) := by
  pointwise [k0_pay19, k0_pay13]
theorem pay55_at (q : Fin 8) : k0_pay55 g (ix3 0 q x) = g (ix3 0 ⟨504 + q.1, by omega⟩ x) := by
  pointwise [k0_pay55, k0_pay53]

variable (acc : Vec Ideal S512x1024 .f32) (u : Vec Ideal S1x512x256 .f32) (wd : Vec Ideal S256x1024 .bf16) (d : Fin 1024)

theorem pay10_at : k0_pay10 (k0_pay8 rowIota (k0_pay4 g) (k0_pay5 w) p) (k0_pay9 rowIota (k0_pay4 g) (k0_pay5 w) p) acc u wd (ix2 r d)
    = acc (ix2 r d) + ∑ x : Fin 256, gelu (cv g w p r x) * u (ix3 0 r x) * wd (ix2 x d) := by
  pointwise [k0_pay10, k0_pay8, k0_pay9]
  simp only [pay6_at]
  rfl

theorem pay56_at : k0_pay56 (k0_pay54 rowIota g w p) acc u wd (ix2 r d)
    = acc (ix2 r d) + ∑ x : Fin 256, gelu (cv g w p r x) * u (ix3 0 r x) * wd (ix2 x d) := by
  pointwise [k0_pay56]
  simp only [pay54_at]
  rfl

theorem pay20_at : k0_pay20 (k0_pay13 g) (k0_pay14 w) (k0_pay17 rowIota g p) (k0_pay18 rowIota g p) u wd (ix2 r d)
    = ∑ x : Fin 256, gelu (cv g w p r x) * u (ix3 0 r x) * wd (ix2 x d) := by
  simp only [cv, ← conv_roll]
  pointwise [k0_pay20, k0_pay13, k0_pay14, k0_pay15, k0_pay16, k0_pay17, k0_pay18]
  rfl

theorem pay52_at (b : FVec Ideal S512x1024 .f32) : k0_pay52 acc b (ix2 r d) = acc (ix2 r d) + b (ix2 r d) := by
  pointwise [k0_pay52]

end Stage

section Rows
variable (a : Vec Ideal S128x512 .f32) (ga : Vec Ideal S1x512 .f32) (r : Fin 128)

theorem pay22_at (e : Fin 512) : k0_pay22 a ga (ix2 r e) = a (ix2 r e) * inv 0x44000000#32 (fun k => a (ix2 r k)) * ga (ix2 0 e) := by
  pointwise [k0_pay22]; rfl
theorem pay23_at (e : Fin 512) : k0_pay23 a ga (ix2 r e) = a (ix2 r e) * inv 0x44000000#32 (fun k => a (ix2 r k)) * ga (ix2 0 e) := by
  pointwise [k0_pay23]; rfl
theorem pay24_at (e : Fin 512) : k0_pay24 a ga (ix2 r e) = a (ix2 r e) * inv 0x44000000#32 (fun k => a (ix2 r k)) * ga (ix2 0 e) := by
  pointwise [k0_pay24]; rfl
theorem pay25_at (e : Fin 512) : k0_pay25 a ga (ix2 r e) = a (ix2 r e) * inv 0x44000000#32 (fun k => a (ix2 r k)) * ga (ix2 0 e) := by
  pointwise [k0_pay25]; rfl

variable (an : FVec Ideal S128x512 .bf16) (wa : Vec Ideal S512x1024 .bf16) (ys : Vec Ideal S128x512 .bf16) (ws : Vec Ideal S512x1024 .bf16) (d : Fin 1024)

theorem pay26_at : k0_pay26 an wa ys ws (ix2 r d) = (∑ e : Fin 512, an (ix2 r e) * wa (ix2 e d) + ∑ e : Fin 512, ys (ix2 r e) * ws (ix2 e d) : EReal) := by
  pointwise [k0_pay26]
theorem pay28_at : k0_pay28 an (k0_pay27 wa) ys ws (ix2 r d) = (∑ e : Fin 512, an (ix2 r e) * wa (ix2 e d) + ∑ e : Fin 512, ys (ix2 r e) * ws (ix2 e d) : EReal) := by
  pointwise [k0_pay28, k0_pay27]
theorem pay29_at : k0_pay29 an wa ys ws (ix2 r d) = (∑ e : Fin 512, an (ix2 r e) * wa (ix2 e d) + ∑ e : Fin 512, ys (ix2 r e) * ws (ix2 e d) : EReal) := by
  pointwise [k0_pay29]
theorem pay30_at : k0_pay30 an wa ys ws (ix2 r d) = (∑ e : Fin 512, an (ix2 r e) * wa (ix2 e d) + ∑ e : Fin 512, ys (ix2 r e) * ws (ix2 e d) : EReal) := by
  pointwise [k0_pay30]

variable (m : FVec Ideal S128x1024 .f32) (x : Vec Ideal S128x1024 .f32) (g : Vec Ideal S1x1024 .f32)

theorem pay34_at : k0_pay34 m x (k0_pay31 g) (k0_pay32 m) k0_pay33 (ix2 r d)
    = x (ix2 r d) + m (ix2 r d) * inv 0x44800000#32 (fun k => m (ix2 r k)) * g (ix2 0 d) := by
  pointwise [k0_pay34, k0_pay31, k0_pay32, k0_pay33]; rfl
theorem pay35_at : k0_pay35 m x g (ix2 r d)
    = x (ix2 r d) + m (ix2 r d) * inv 0x44800000#32 (fun k => m (ix2 r k)) * g (ix2 0 d) := by
  pointwise [k0_pay35]; rfl
theorem pay36_at : k0_pay36 m x g (ix2 r d)
    = x (ix2 r d) + m (ix2 r d) * inv 0x44800000#32 (fun k => m (ix2 r k)) * g (ix2 0 d) := by
  pointwise [k0_pay36]; rfl
theorem pay38_at : k0_pay38 m x (k0_pay37 g) (ix2 r d)
    = x (ix2 r d) + m (ix2 r d) * inv 0x44800000#32 (fun k => m (ix2 r k)) * g (ix2 0 d) := by
  pointwise [k0_pay38, k0_pay37]; rfl

theorem pay39_at : k0_pay39 m g (ix2 r d) = m (ix2 r d) * inv 0x44800000#32 (fun k => m (ix2 r k)) * g (ix2 0 d) := by
  pointwise [k0_pay39]; rfl
theorem pay43_at : k0_pay43 m (k0_pay40 g) (k0_pay41 m) k0_pay42 (ix2 r d) = m (ix2 r d) * inv 0x44800000#32 (fun k => m (ix2 r k)) * g (ix2 0 d) := by
  pointwise [k0_pay43, k0_pay40, k0_pay41, k0_pay42]; rfl
theorem pay44_at : k0_pay44 m g (ix2 r d) = m (ix2 r d) * inv 0x44800000#32 (fun k => m (ix2 r k)) * g (ix2 0 d) := by
  pointwise [k0_pay44]; rfl
theorem pay48_at : k0_pay48 m (k0_pay45 g) (k0_pay46 m) k0_pay47 (ix2 r d) = m (ix2 r d) * inv 0x44800000#32 (fun k => m (ix2 r k)) * g (ix2 0 d) := by
  pointwise [k0_pay48, k0_pay45, k0_pay46, k0_pay47]; rfl

theorem pay61_at : k0_pay61 (k0_pay57 x) m (k0_pay58 g) (k0_pay59 m) k0_pay60 (ix2 r d)
    = x (ix2 r d) + m (ix2 r d) * inv 0x44800000#32 (fun k => m (ix2 r k)) * g (ix2 0 d) := by
  pointwise [k0_pay61, k0_pay57, k0_pay58, k0_pay59, k0_pay60]; rfl
theorem pay62_at : k0_pay62 x m g (ix2 r d)
    = x (ix2 r d) + m (ix2 r d) * inv 0x44800000#32 (fun k => m (ix2 r k)) * g (ix2 0 d) := by
  pointwise [k0_pay62]; rfl
theorem pay66_at : k0_pay66 (k0_pay63 x) m (k0_pay64 g) (k0_pay65 m) (ix2 r d)
    = x (ix2 r d) + m (ix2 r d) * inv 0x44800000#32 (fun k => m (ix2 r k)) * g (ix2 0 d) := by
  pointwise [k0_pay66, k0_pay63, k0_pay64, k0_pay65]; rfl
theorem pay67_at : k0_pay67 x m g (ix2 r d)
    = x (ix2 r d) + m (ix2 r d) * inv 0x44800000#32 (fun k => m (ix2 r k)) * g (ix2 0 d) := by
  pointwise [k0_pay67]; rfl

end Rows

theorem pay49_at (r : Fin 512) (d : Fin 1024) : k0_pay49 (F := Ideal) (ix2 r d) = 0 := by
  pointwise [k0_pay49]
theorem pay21_at (c : Vec Ideal S1x11x8x256 .f32) (j : Fin 11) (q : Fin 8) (x : Fin 256) : k0_pay21 c (ix3 j q x) = c (ix4 0 j q x) := by
  pointwise [k0_pay21]
theorem pay1_at (c : Vec Ideal S11x8x256 .f32) (j : Fin 11) (q : Fin 8) (x : Fin 256) : k0_pay1 c (ix4 0 j q x) = c (ix3 j q x) := by
  pointwise [k0_pay1]

end Ffn
end
-- ==== Proof.FfnTrip.lean ====
module

public import proofs.«01_k».proof.Proof.FfnStep
public import proofs.«01_k».proof.Proof.Gen.FfnKernelIdeal.Loops
public import Idealize.ShloMosaic.Lib.Pipeline.ValueKit
public import Idealize.ShloMosaic.Lib.WritesUnit
public import Idealize.ShloMosaic.Lib.VecWindow
public import Idealize.ShloMosaic.Lib.Pipeline.ReadBack

/-! # The chunk loop of one tile

The loop takes two chunks of 256 hidden columns a trip. What the buffers hold before a trip is stated over the
tile's mathematics, and one trip is shown to carry it two chunks on. -/

@[expose] public section

set_option maxRecDepth 16384

noncomputable section

namespace Ffn

open Idealize.ShloMosaic Idealize.ShloMosaic.Pointwise Idealize.ShloMosaic.TcCoe Idealize.SL Idealize.SL.RA
open Cert.FfnKernelIdeal Cert.FfnKernelIdeal.Gen

/-- Column `x` of chunk `j`. -/
def col (j : Fin 11) (x : Fin 256) : Fin 2816 := ⟨256 * j.1 + x.1, by omega⟩

/-- One tile of 512 rows: its normalised rows, the weights, and the two gate rows before it. -/
structure Tile where
  h : Fin 512 → Fin 1024 → EReal
  wu : Fin 1024 → Fin 5632 → EReal
  wd : Fin 2816 → Fin 1024 → EReal
  cw : Fin 8 → Fin 2816 → EReal
  pv : Fin 2 → Fin 2816 → EReal

namespace Tile
variable (T : Tile)

/-- The gate columns. -/
def gate (r : Fin 512) (f : Fin 2816) : EReal := ∑ d : Fin 1024, T.h r d * T.wu d ⟨f.1, by omega⟩
/-- The up columns. -/
def up (r : Fin 512) (f : Fin 2816) : EReal := ∑ d : Fin 1024, T.h r d * T.wu d ⟨2816 + f.1, by omega⟩
/-- The convolved gate. -/
def cg (r : Fin 512) (f : Fin 2816) : EReal :=
  conv (fun r' => T.gate r' f) (T.pv 0 f) (T.pv 1 f) (T.cw 0 f) (T.cw 1 f) (T.cw 2 f) (T.cw 3 f) r
/-- What one hidden column gives to an output column. -/
def term (r : Fin 512) (d : Fin 1024) (f : Fin 2816) : EReal := gelu (T.cg r f) * T.up r f * T.wd f d
/-- What one chunk gives. -/
def part (j : Fin 11) (r : Fin 512) (d : Fin 1024) : EReal := ∑ x : Fin 256, T.term r d (col j x)
/-- What the first `n` chunks give. -/
def acc (T : Tile) (r : Fin 512) (d : Fin 1024) : Nat → EReal
  | 0 => 0
  | n + 1 => acc T r d n + if h : n < 11 then T.part ⟨n, h⟩ r d else 0

theorem acc_succ (r : Fin 512) (d : Fin 1024) (n : Nat) (h : n < 11) : T.acc r d (n + 1) = T.acc r d n + T.part ⟨n, h⟩ r d := by
  rw [acc, dif_pos h]

/-- What the buffers hold when `n` chunks are done and the next one's columns are made. -/
structure Inv (n : Nat) (a18 : Vec Ideal S512x1024 .f32) (a19 : Vec Ideal S11x8x256 .f32) (a20 a21 : Vec Ideal S2x512x256 .f32) : Prop where
  sum : ∀ r d, a18 (ix2 r d) = T.acc r d n
  done : ∀ (j : Fin 11) (q : Fin 8) (x : Fin 256), j.1 < n → a19 (ix3 j q x) = T.gate ⟨504 + q.1, by omega⟩ (col j x)
  prev0 : ∀ (j : Fin 11) (x : Fin 256), n ≤ j.1 → a19 (ix3 j 6 x) = T.pv 0 (col j x)
  prev1 : ∀ (j : Fin 11) (x : Fin 256), n ≤ j.1 → a19 (ix3 j 7 x) = T.pv 1 (col j x)
  gates : ∀ (h : n < 11) (r : Fin 512) (x : Fin 256), a20 (ix3 0 r x) = T.gate r (col ⟨n, h⟩ x)
  ups : ∀ (h : n < 11) (r : Fin 512) (x : Fin 256), a21 (ix3 0 r x) = T.up r (col ⟨n, h⟩ x)

end Tile

/-- A load of a rectangle of a buffer, at an index. -/
theorem load_raw {s : Shape} {e : EltTy} (M : Memref sig .tc .vmem s e) (X : BufTy.Contents (Elt Ideal) M.view.ty) (off off' size : Fin s.rank → Nat)
    (inb : ∀ a, off a + size a ≤ s.size a) (heq : off = off') (x : (Rect.unit off size inb).shape.Idx) (i : s.Idx)
    (hi : ∀ a, (i a : Nat) = off' a + x a) :
    View.readAt (Elt Ideal) M.view (Rect.unit off size inb).toLoadRect X x = M.view.read (Elt Ideal) X i := by
  subst heq
  rw [View.readAt_eq_ld]
  exact View.ld_unit_apply_of _ off size inb x i hi

section Trip
variable (𝒱 : Variants) (c : Dev nD) (bd : Option 𝒱.V) (i : grid0.Coords) (arg2 : Memref sig .tc .vmem S512x1024 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S1x11x8x256 .f32) (harg5 : arg5.IsWhole) (arg6 : Memref sig .tc .vmem S1x512 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S1024x5632 .bf16) (harg12 : arg12.IsWhole) (arg13 : Memref sig .tc .vmem S2816x1024 .bf16) (harg13 : arg13.IsWhole) (arg14 : Memref sig .tc .vmem S8x2816 .f32) (harg14 : arg14.IsWhole) (arg15 : Memref sig .tc .vmem S512x1024 .f32) (harg15 : arg15.IsWhole) (arg16 : Memref sig .tc .vmem S1x11x8x256 .f32) (harg16 : arg16.IsWhole) (arg17 : Memref sig .tc .vmem S512x1024 .bf16) (harg17 : arg17.IsWhole) (arg18 : Memref sig .tc .vmem S512x1024 .f32) (harg18 : arg18.IsWhole) (arg19 : Memref sig .tc .vmem S11x8x256 .f32) (harg19 : arg19.IsWhole) (arg20 : Memref sig .tc .vmem S2x512x256 .f32) (harg20 : arg20.IsWhole) (arg21 : Memref sig .tc .vmem S2x512x256 .f32) (harg21 : arg21.IsWhole)
  (v162 : FVec Ideal S128x1024 .f32) (v222 : FVec Ideal S1x1024 .f32) (v225 : FVec Ideal S128x1 .f32) (v226 : FVec Ideal S128x1 .f32)
  (X12 : BufTy.Contents (Elt Ideal) arg12.view.ty) (X13 : BufTy.Contents (Elt Ideal) arg13.view.ty) (X14 : BufTy.Contents (Elt Ideal) arg14.view.ty) (X17 : BufTy.Contents (Elt Ideal) arg17.view.ty)

/-- The tile's rows and weights are what the buffers hold. -/
structure Holds (T : Tile) : Prop where
  h : ∀ r d, arg17.view.read (Elt Ideal) X17 (ix2 r d) = T.h r d
  wu : ∀ d f, arg12.view.read (Elt Ideal) X12 (ix2 d f) = T.wu d f
  wd : ∀ f d, arg13.view.read (Elt Ideal) X13 (ix2 f d) = T.wd f d
  cw : ∀ k f, arg14.view.read (Elt Ideal) X14 (ix2 k f) = T.cw k f

/-- A chunk's part of the output from the chunk's own vectors. -/
theorem part_of (T : Tile) (j : Fin 11) (g : Vec Ideal S1x512x256 .f32) (w : Vec Ideal S8x256 .f32) (p : Vec Ideal S1x8x256 .f32)
    (u : Vec Ideal S1x512x256 .f32) (wd : Vec Ideal S256x1024 .bf16)
    (hg : ∀ r x, g (ix3 0 r x) = T.gate r (col j x)) (hw : ∀ m x, w (ix2 m x) = T.cw m (col j x))
    (h0 : ∀ x, p (ix3 0 6 x) = T.pv 0 (col j x)) (h1 : ∀ x, p (ix3 0 7 x) = T.pv 1 (col j x))
    (hu : ∀ r x, u (ix3 0 r x) = T.up r (col j x)) (hd : ∀ x d, wd (ix2 x d) = T.wd (col j x) d) (r : Fin 512) (d : Fin 1024) :
    ∑ x : Fin 256, gelu (cv g w p r x) * u (ix3 0 r x) * wd (ix2 x d) = T.part j r d := by
  unfold Tile.part Tile.term Tile.cg cv
  simp only [hg, hw, h0, h1, hu, hd]

/-- A chunk's gate columns from the tile's rows and the chunk's weights. -/
theorem gate_of (T : Tile) (j : Fin 11) (h : Vec Ideal S512x1024 .bf16) (w : Vec Ideal S1024x256 .bf16)
    (hh : ∀ r d, h (ix2 r d) = T.h r d) (hw : ∀ d x, w (ix2 d x) = T.wu d ⟨(col j x).1, by omega⟩) (r : Fin 512) (x : Fin 256) :
    (∑ d : Fin 1024, h (ix2 r d) * w (ix2 d x) : EReal) = T.gate r (col j x) := by
  unfold Tile.gate; simp only [hh, hw]

/-- A chunk's up columns from the tile's rows and the chunk's weights. -/
theorem up_of (T : Tile) (j : Fin 11) (h : Vec Ideal S512x1024 .bf16) (w : Vec Ideal S1024x256 .bf16)
    (hh : ∀ r d, h (ix2 r d) = T.h r d) (hw : ∀ d x, w (ix2 d x) = T.wu d ⟨2816 + (col j x).1, by omega⟩) (r : Fin 512) (x : Fin 256) :
    (∑ d : Fin 1024, h (ix2 r d) * w (ix2 d x) : EReal) = T.up r (col j x) := by
  unfold Tile.up; simp only [hh, hw]

variable {arg12 arg13 arg14 arg17 X12 X13 X14 X17}

section Loads
variable (T : Tile) (H : Holds arg12 arg13 arg14 arg17 X12 X13 X14 X17 T)
include H

/-- The tile's rows, loaded whole. -/
theorem h_load (inb) (r : Fin 512) (d : Fin 1024) :
    View.readAt (Elt Ideal) arg17.view (Rect.unit (s := S512x1024) ![0, 0] S512x1024.size inb).toLoadRect X17 (ix2 r d) = T.h r d :=
  (load_raw arg17 X17 _ _ _ inb rfl (ix2 r d) (ix2 r d) (by intro a; fin_cases a <;> exact (Nat.zero_add _).symm)).trans (H.h r d)

/-- A chunk of the gate and up weights. -/
theorem wu_load (off : Fin 2 → Nat) (o : Nat) (ho : off = ![0, o]) (inb) (d : Fin 1024) (x : Fin 256) (f : Fin 5632) (hf : f.1 = o + x.1) :
    View.readAt (Elt Ideal) arg12.view (Rect.unit (s := S1024x5632) off S1024x256.size inb).toLoadRect X12 (ix2 d x) = T.wu d f :=
  (load_raw arg12 X12 off _ _ inb ho (ix2 d x) (ix2 d f) (by
    intro a; fin_cases a
    · exact (Nat.zero_add _).symm
    · exact hf)).trans (H.wu d f)

/-- A chunk of the down weights. -/
theorem wd_load (off : Fin 2 → Nat) (o : Nat) (ho : off = ![o, 0]) (inb) (d : Fin 1024) (x : Fin 256) (f : Fin 2816) (hf : f.1 = o + x.1) :
    View.readAt (Elt Ideal) arg13.view (Rect.unit (s := S2816x1024) off S256x1024.size inb).toLoadRect X13 (ix2 x d) = T.wd f d :=
  (load_raw arg13 X13 off _ _ inb ho (ix2 x d) (ix2 f d) (by
    intro a; fin_cases a
    · exact hf
    · exact (Nat.zero_add _).symm)).trans (H.wd f d)

/-- A chunk of the convolution's taps. -/
theorem cw_load (off : Fin 2 → Nat) (o : Nat) (ho : off = ![0, o]) (inb) (m : Fin 8) (x : Fin 256) (f : Fin 2816) (hf : f.1 = o + x.1) :
    View.readAt (Elt Ideal) arg14.view (Rect.unit (s := S8x2816) off S8x256.size inb).toLoadRect X14 (ix2 m x) = T.cw m f :=
  (load_raw arg14 X14 off _ _ inb ho (ix2 m x) (ix2 m f) (by
    intro a; fin_cases a
    · exact (Nat.zero_add _).symm
    · exact hf)).trans (H.cw m f)

end Loads

/-- A chunk of the carried rows. -/
theorem carry_load (M : Memref sig .tc .vmem S11x8x256 .f32) (X : BufTy.Contents (Elt Ideal) M.view.ty) (off : Fin 3 → Nat) (j : Fin 11)
    (ho : off = ![j.1, 0, 0]) (inb) (q : Fin 8) (x : Fin 256) :
    View.readAt (Elt Ideal) M.view (Rect.unit (s := S11x8x256) off S1x8x256.size inb).toLoadRect X (ix3 0 q x) = M.view.read (Elt Ideal) X (ix3 j q x) :=
  load_raw M X off _ _ inb ho (ix3 0 q x) (ix3 j q x) (by
    intro a; fin_cases a
    · exact (Nat.add_zero _).symm
    · exact (Nat.zero_add _).symm
    · exact (Nat.zero_add _).symm)

/-- A slot of the two-slot chunk buffers. -/
theorem slot_load (M : Memref sig .tc .vmem S2x512x256 .f32) (X : BufTy.Contents (Elt Ideal) M.view.ty) (s : Fin 2) (inb) (r : Fin 512) (x : Fin 256) :
    View.readAt (Elt Ideal) M.view (Rect.unit (s := S2x512x256) ![s.1, 0, 0] S1x512x256.size inb).toLoadRect X (ix3 0 r x) = M.view.read (Elt Ideal) X (ix3 s r x) :=
  load_raw M X _ _ _ inb rfl (ix3 0 r x) (ix3 s r x) (by
    intro a; fin_cases a
    · exact (Nat.add_zero _).symm
    · exact (Nat.zero_add _).symm
    · exact (Nat.zero_add _).symm)

/-- The first slot of a chunk buffer, just written. -/
theorem slot_write (M : Memref sig .tc .vmem S2x512x256 .f32) (X : BufTy.Contents (Elt Ideal) M.view.ty) (inb) (w : Vec Ideal S1x512x256 .f32)
    (L : List (View.Piece (Elt Ideal) S2x512x256 .f32)) (r : Fin 512) (x : Fin 256) :
    M.view.read (Elt Ideal) (M.view.writes (Elt Ideal) X (⟨Rect.unit (s := S2x512x256) ![0, 0, 0] S1x512x256.size inb, w⟩ :: L)) (ix3 0 r x) = w (ix3 0 r x) :=
  View.read_writes_cons_unit_of_mem M.view X (off' := ![0, 0, 0]) inb w L (ix3 0 r x) (ix3 0 r x) rfl (by
    intro a; fin_cases a
    · rfl
    · exact (Nat.zero_add r.1).symm
    · exact (Nat.zero_add x.1).symm)

/-- A chunk of the carried rows, just written. -/
theorem carry_write (M : Memref sig .tc .vmem S11x8x256 .f32) (X : BufTy.Contents (Elt Ideal) M.view.ty) (off : Fin 3 → Nat) (o : Nat)
    (ho : off = ![o, 0, 0]) (inb) (w : Vec Ideal S1x8x256 .f32) (L : List (View.Piece (Elt Ideal) S11x8x256 .f32)) (j : Fin 11) (q : Fin 8) (x : Fin 256) (hj : j.1 = o) :
    M.view.read (Elt Ideal) (M.view.writes (Elt Ideal) X (⟨Rect.unit (s := S11x8x256) off S1x8x256.size inb, w⟩ :: L)) (ix3 j q x) = w (ix3 0 q x) :=
  View.read_writes_cons_unit_of_mem M.view X (off' := ![o, 0, 0]) inb w L (ix3 j q x) (ix3 0 q x) ho (by
    intro a; fin_cases a
    · exact hj
    · exact (Nat.zero_add q.1).symm
    · exact (Nat.zero_add x.1).symm)

/-- A chunk of the carried rows other than the one just written. -/
theorem carry_write_ne (M : Memref sig .tc .vmem S11x8x256 .f32) (X : BufTy.Contents (Elt Ideal) M.view.ty) (off : Fin 3 → Nat) (o : Nat)
    (ho : off = ![o, 0, 0]) (inb) (w : Vec Ideal S1x8x256 .f32) (L : List (View.Piece (Elt Ideal) S11x8x256 .f32)) (j : Fin 11) (q : Fin 8) (x : Fin 256) (hj : j.1 ≠ o) :
    M.view.read (Elt Ideal) (M.view.writes (Elt Ideal) X (⟨Rect.unit (s := S11x8x256) off S1x8x256.size inb, w⟩ :: L)) (ix3 j q x)
      = M.view.read (Elt Ideal) (M.view.writes (Elt Ideal) X L) (ix3 j q x) :=
  View.read_writes_cons_unit_of_not_mem M.view X (off' := ![o, 0, 0]) inb w L (ix3 j q x) ho 0 (by
    show j.1 < o ∨ o + 1 ≤ j.1; omega)

section Values
variable (T : Tile) (H : Holds arg12 arg13 arg14 arg17 X12 X13 X14 X17 T) (k : Fin k0_t1_loop.trips) (hk : k.1 < 5)
include H

theorem v530_at (r : Fin 512) (x : Fin 256) :
    trip_k0_t1.sl.v530 arg12 arg17 arg20 X12 X17 k (ix3 0 r x) = T.gate r (col ⟨2 * k.1 + 1, by omega⟩ x) := by
  unfold trip_k0_t1.sl.v530 trip_k0_t1.sl.HW_arg20_2
  rw [View.readCov_skip _ _ _ _ _ (by decide), View.readCov_cons_toLoadRect]
  exact (pay2_at _ _ r x).trans (gate_of T _ _ _ (h_load T H _) (fun d x => wu_load T H _ _ (k0_off1_eq k 0) _ d x _ (by
    show 256 * (2 * k.1 + 1) + x.1 = 2816 * 0 + 512 * k.1 + 256 + x.1; omega)) r x)

theorem v593_at (r : Fin 512) (x : Fin 256) :
    trip_k0_t1.sl.v593 arg12 arg17 arg21 X12 X17 k (ix3 0 r x) = T.up r (col ⟨2 * k.1 + 1, by omega⟩ x) := by
  unfold trip_k0_t1.sl.v593 trip_k0_t1.sl.HW_arg21_2
  rw [View.readCov_skip _ _ _ _ _ (by decide), View.readCov_cons_toLoadRect]
  exact (pay3_at _ _ r x).trans (up_of T _ _ _ (h_load T H _) (fun d x => wu_load T H _ _ (k0_off1_eq k 1) _ d x _ (by
    show 2816 + (256 * (2 * k.1 + 1) + x.1) = 2816 * 1 + 512 * k.1 + 256 + x.1; omega)) r x)

end Values

theorem trip_step (T : Tile) (H : Holds arg12 arg13 arg14 arg17 X12 X13 X14 X17 T) (k : Fin k0_t1_loop.trips)
    (f18 : BufTy.Contents (Elt Ideal) arg18.view.ty) (f19 : BufTy.Contents (Elt Ideal) arg19.view.ty) (f20 : BufTy.Contents (Elt Ideal) arg20.view.ty) (f21 : BufTy.Contents (Elt Ideal) arg21.view.ty)
    (I : T.Inv (2 * k.1) (arg18.view.read (Elt Ideal) f18) (arg19.view.read (Elt Ideal) f19) (arg20.view.read (Elt Ideal) f20) (arg21.view.read (Elt Ideal) f21)) :
    T.Inv (2 * k.1 + 2) (arg18.view.read (Elt Ideal) (arg18.view.writes (Elt Ideal) f18 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v162 v222 v225 v226 rowIota X12 X13 X14 X17 k f18 f19 f20 f21).1))
      (arg19.view.read (Elt Ideal) (arg19.view.writes (Elt Ideal) f19 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v162 v222 v225 v226 rowIota X12 X13 X14 X17 k f18 f19 f20 f21).2.1))
      (arg20.view.read (Elt Ideal) (arg20.view.writes (Elt Ideal) f20 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v162 v222 v225 v226 rowIota X12 X13 X14 X17 k f18 f19 f20 f21).2.2.1))
      (arg21.view.read (Elt Ideal) (arg21.view.writes (Elt Ideal) f21 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v162 v222 v225 v226 rowIota X12 X13 X14 X17 k f18 f19 f20 f21).2.2.2)) := by
  have hk : k.1 < 5 := k.isLt
  unfold tripL_k0_t1 trip_k0_t1
  dsimp only
  clear * - H I hk
  have g0 : ∀ r x, trip_k0_t1.sl.v530 arg12 arg17 arg20 X12 X17 k (ix3 0 r x) = T.gate r (col ⟨2 * k.1 + 1, by omega⟩ x) := v530_at arg20 T H k hk
  refine ⟨?_, ?_, ?_, ?_, ?_, ?_⟩
  · intro r d
    rw [View.read_writes_full, pay52_at]
    unfold trip_k0_t1.sl.v592 trip_k0_t1.sl.HW_arg18_1
    rw [View.readCov_full, T.acc_succ r d (2 * k.1 + 1) (by omega), T.acc_succ r d (2 * k.1) (by omega)]
    unfold trip_k0_t1.sl.r_2 trip_k0_t1.sl.r_3 trip_k0_t1.sl.r trip_k0_t1.sl.r_9 trip_k0_t1.sl.r_5 trip_k0_t1.sl.r_6 trip_k0_t1.sl.r_7 trip_k0_t1.sl.r_8
    rw [pay20_at]
    erw [pay10_at]
    refine congr (congrArg _ (congr (congrArg _ ?_) ?_)) ?_
    · exact (load_raw arg18 f18 _ _ _ _ rfl (ix2 r d) (ix2 r d) (by intro a; fin_cases a <;> exact (Nat.zero_add _).symm)).trans (I.sum r d)
    · refine part_of T ⟨2 * k.1, by omega⟩ _ _ _ _ _ ?_ ?_ ?_ ?_ ?_ ?_ r d
      · exact fun r x => (slot_load arg20 f20 0 _ r x).trans (I.gates (by omega) r x)
      · exact fun m x => cw_load T H _ _ (k0_off2_eq k) _ m x _ (by show 256 * (2 * k.1) + x.1 = 512 * k.1 + x.1; omega)
      · exact fun x => (carry_load arg19 f19 _ ⟨2 * k.1, by omega⟩ (k0_off3_eq k) _ 6 x).trans (I.prev0 _ x (Nat.le_refl _))
      · exact fun x => (carry_load arg19 f19 _ ⟨2 * k.1, by omega⟩ (k0_off3_eq k) _ 7 x).trans (I.prev1 _ x (Nat.le_refl _))
      · exact fun r x => (slot_load arg21 f21 0 _ r x).trans (I.ups (by omega) r x)
      · exact fun x d => wd_load T H _ _ (k0_off4_eq k) _ d x _ (by show 256 * (2 * k.1) + x.1 = 512 * k.1 + x.1; omega)
    · refine part_of T ⟨2 * k.1 + 1, by omega⟩ _ _ _ _ _ g0 ?_ ?_ ?_ (v593_at arg21 T H k hk) ?_ r d
      · exact fun m x => cw_load T H _ _ (k0_off6_eq k) _ m x _ (by show 256 * (2 * k.1 + 1) + x.1 = 512 * k.1 + 256 + x.1; omega)
      · exact fun x => (carry_load arg19 f19 _ ⟨2 * k.1 + 1, by omega⟩ (k0_off7_eq k) _ 6 x).trans (I.prev0 _ x (by show 2 * k.1 ≤ 2 * k.1 + 1; omega))
      · exact fun x => (carry_load arg19 f19 _ ⟨2 * k.1 + 1, by omega⟩ (k0_off7_eq k) _ 7 x).trans (I.prev1 _ x (by show 2 * k.1 ≤ 2 * k.1 + 1; omega))
      · exact fun x d => wd_load T H _ _ (k0_off8_eq k) _ d x _ (by show 256 * (2 * k.1 + 1) + x.1 = 512 * k.1 + 256 + x.1; omega)
  · intro j q x hj
    by_cases e1 : j.1 = 2 * k.1 + 1
    · rw [carry_write _ _ _ _ (k0_off7_eq k) _ _ _ j q x e1]
      unfold trip_k0_t1.sl.r_5
      rw [pay19_at, g0]
      exact congrArg (fun j => T.gate _ (col j x)) (Fin.ext e1.symm)
    rw [carry_write_ne _ _ _ _ (k0_off7_eq k) _ _ _ j q x (by omega)]
    by_cases e0 : j.1 = 2 * k.1
    · rw [carry_write _ _ _ _ (k0_off3_eq k) _ _ _ j q x e0]
      unfold trip_k0_t1.sl.r
      rw [pay7_at]
      refine ((slot_load arg20 f20 0 _ _ x).trans (I.gates (by omega) _ x)).trans ?_
      exact congrArg (fun j => T.gate _ (col j x)) (Fin.ext e0.symm)
    rw [carry_write_ne _ _ _ _ (k0_off3_eq k) _ _ _ j q x (by omega)]
    exact I.done j q x (by omega)
  · intro j x hj
    rw [carry_write_ne _ _ _ _ (k0_off7_eq k) _ _ _ j 6 x (by omega),
      carry_write_ne _ _ _ _ (k0_off3_eq k) _ _ _ j 6 x (by omega)]
    exact I.prev0 j x (by omega)
  · intro j x hj
    rw [carry_write_ne _ _ _ _ (k0_off7_eq k) _ _ _ j 7 x (by omega),
      carry_write_ne _ _ _ _ (k0_off3_eq k) _ _ _ j 7 x (by omega)]
    exact I.prev1 j x (by omega)
  · intro hn r x
    unfold trip_k0_t1.sl.HW_arg20_2
    rw [slot_write]
    exact (pay11_at _ _ r x).trans (gate_of T _ _ _ (h_load T H _) (fun d x => wu_load T H _ _ (k0_off5_eq k 0) _ d x _ (by
      show 256 * (2 * k.1 + 2) + x.1 = 2816 * 0 + 512 * k.1 + 512 + x.1; omega)) r x)
  · intro hn r x
    unfold trip_k0_t1.sl.HW_arg21_2 trip_k0_t1.sl.r_4
    rw [slot_write]
    exact (pay12_at _ _ r x).trans (up_of T _ _ _ (h_load T H _) (fun d x => wu_load T H _ _ (k0_off5_eq k 1) _ d x _ (by
      show 2816 + (256 * (2 * k.1 + 2) + x.1) = 2816 * 1 + 512 * k.1 + 512 + x.1; omega)) r x)

/-- The loop carries the tile from its first chunk to its last but one. -/
theorem loop_inv (T : Tile) (H : Holds arg12 arg13 arg14 arg17 X12 X13 X14 X17 T)
    (g18 : BufTy.Contents (Elt Ideal) arg18.view.ty) (g19 : BufTy.Contents (Elt Ideal) arg19.view.ty) (g20 : BufTy.Contents (Elt Ideal) arg20.view.ty) (g21 : BufTy.Contents (Elt Ideal) arg21.view.ty)
    (I : T.Inv 0 (arg18.view.read (Elt Ideal) g18) (arg19.view.read (Elt Ideal) g19) (arg20.view.read (Elt Ideal) g20) (arg21.view.read (Elt Ideal) g21)) :
    ∀ n : Nat, n ≤ k0_t1_loop.trips →
      T.Inv (2 * n) (arg18.view.read (Elt Ideal) (arg18.view.writes (Elt Ideal) g18 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v162 v222 v225 v226 rowIota X12 X13 X14 X17 g18 g19 g20 g21 n).1))
        (arg19.view.read (Elt Ideal) (arg19.view.writes (Elt Ideal) g19 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v162 v222 v225 v226 rowIota X12 X13 X14 X17 g18 g19 g20 g21 n).2.1))
        (arg20.view.read (Elt Ideal) (arg20.view.writes (Elt Ideal) g20 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v162 v222 v225 v226 rowIota X12 X13 X14 X17 g18 g19 g20 g21 n).2.2.1))
        (arg21.view.read (Elt Ideal) (arg21.view.writes (Elt Ideal) g21 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v162 v222 v225 v226 rowIota X12 X13 X14 X17 g18 g19 g20 g21 n).2.2.2)) := by
  intro n
  induction n with
  | zero => exact fun _ => I
  | succ n IH =>
    intro hn
    have st := @trip_step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v162 v222 v225 v226 X12 X13 X14 X17 T H ⟨n, hn⟩ _ _ _ _ (IH (by omega))
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v162 v222 v225 v226 rowIota X12 X13 X14 X17 g18 g19 g20 g21 ⟨n, hn⟩]
    simp only [View.writes_append]
    exact st

end Trip

end Ffn
end
-- ==== Proof.FfnSpec.lean ====
module

public import proofs.«01_k».proof.Proof.FfnTrip

/-! # The feed-forward call's formulas

The layer's last part over all its rows: the mixed heads, the two residual sums, the gated convolution and the state it leaves. -/

@[expose] public section

noncomputable section

namespace Ffn

open Idealize.ShloMosaic

/-- The arguments: rows, attention rows, scanned rows, the two gate rows before each sequence, gains and weights. -/
structure Args where
  X : Fin 16384 → Fin 1024 → EReal
  A : Fin 16384 → Fin 512 → EReal
  Y : Fin 16384 → Fin 512 → EReal
  P : Fin 8 → Fin 2 → Fin 2816 → EReal
  ga : Fin 512 → EReal
  gp : Fin 1024 → EReal
  gq : Fin 1024 → EReal
  gf : Fin 1024 → EReal
  w : Fin 1024 → Fin 1024 → EReal
  wu : Fin 1024 → Fin 5632 → EReal
  wd : Fin 2816 → Fin 1024 → EReal
  cw : Fin 3 → Fin 2816 → EReal
  cb : Fin 2816 → EReal

/-- A row number from its sequence and its place there. -/
def row (s : Fin 8) (t : Fin 2048) : Fin 16384 := ⟨s.1 * 2048 + t.1, by omega⟩

namespace Args
variable (a : Args)

/-- The normalised attention row. -/
def an (R : Fin 16384) (e : Fin 512) : EReal := a.A R e * inv 0x44000000#32 (a.A R) * a.ga e
/-- The mixed row: attention columns and scanned columns through the two halves of the weight. -/
def mix (R : Fin 16384) (d : Fin 1024) : EReal :=
  (∑ e : Fin 512, a.an R e * a.w ⟨e.1, by omega⟩ d) + ∑ e : Fin 512, a.Y R e * a.w ⟨512 + e.1, by omega⟩ d
/-- The first residual sum. -/
def x1 (R : Fin 16384) (d : Fin 1024) : EReal := a.X R d + a.mix R d * inv 0x44800000#32 (a.mix R) * a.gp d
/-- Its normalised row. -/
def hid (R : Fin 16384) (d : Fin 1024) : EReal := a.x1 R d * inv 0x44800000#32 (a.x1 R) * a.gq d
/-- The gate columns. -/
def gate (R : Fin 16384) (f : Fin 2816) : EReal := ∑ d : Fin 1024, a.hid R d * a.wu d ⟨f.1, by omega⟩
/-- The up columns. -/
def up (R : Fin 16384) (f : Fin 2816) : EReal := ∑ d : Fin 1024, a.hid R d * a.wu d ⟨2816 + f.1, by omega⟩
/-- The gate rows of a sequence with the two before it. -/
def hist (s : Fin 8) (u : Fin 2050) (f : Fin 2816) : EReal :=
  if h : u.1 < 2 then a.P s ⟨u.1, h⟩ f else a.gate (row s ⟨u.1 - 2, by omega⟩) f
/-- The convolved gate. -/
def cg (s : Fin 8) (t : Fin 2048) (f : Fin 2816) : EReal :=
  a.cb f + a.hist s ⟨t.1, by omega⟩ f * a.cw 0 f + a.hist s ⟨1 + t.1, by omega⟩ f * a.cw 1 f + a.hist s ⟨2 + t.1, by omega⟩ f * a.cw 2 f
/-- The gated row through the last weight. -/
def ffn (s : Fin 8) (t : Fin 2048) (d : Fin 1024) : EReal := ∑ f : Fin 2816, gelu (a.cg s t f) * a.up (row s t) f * a.wd f d
/-- The second residual sum: the layer's output. -/
def out (s : Fin 8) (t : Fin 2048) (d : Fin 1024) : EReal :=
  a.x1 (row s t) d + a.ffn s t d * inv 0x44800000#32 (a.ffn s t) * a.gf d

end Args

end Ffn

end
-- ==== Proof.FfnTile.lean ====
module

public import proofs.«01_k».proof.Proof.FfnSpec

/-! # One tile of the formulas

Tile `k` of sequence `s` is rows `512·k` to `512·k + 511`; its two earlier gate rows are those of the sequence. -/

@[expose] public section

set_option maxRecDepth 16384

noncomputable section

namespace Ffn

open Idealize.ShloMosaic

/-- Row `r` of tile `k`, in its sequence. -/
def place (k : Fin 4) (r : Fin 512) : Fin 2048 := ⟨512 * k.1 + r.1, by omega⟩

/-- A sum over the hidden columns, by chunks of 256. -/
theorem sum_chunks (g : Fin 2816 → EReal) : ∑ f : Fin 2816, g f = ∑ j : Fin 11, ∑ x : Fin 256, g (col j x) := by
  rw [← Fintype.sum_prod_type' (f := fun (j : Fin 11) (x : Fin 256) => g (col j x))]
  refine (Fintype.sum_equiv (finProdFinEquiv (m := 11) (n := 256)) _ _ fun p => congrArg g (Fin.ext ?_)).symm
  show 256 * p.1.1 + p.2.1 = p.2.1 + 256 * p.1.1
  omega

namespace Tile
variable (T : Tile)

theorem acc_le (r : Fin 512) (d : Fin 1024) (n : Nat) (hn : n ≤ 11) :
    T.acc r d n = ∑ j : Fin n, T.part ⟨j.1, by omega⟩ r d := by
  induction n with
  | zero => rfl
  | succ n ih => rw [T.acc_succ r d n (by omega), ih (by omega), Fin.sum_univ_castSucc]; rfl

/-- All chunks together give the sum over the hidden columns. -/
theorem acc_all (r : Fin 512) (d : Fin 1024) : T.acc r d 11 = ∑ f : Fin 2816, T.term r d f := by
  rw [T.acc_le r d 11 (le_refl _), sum_chunks]
  rfl

end Tile

namespace Args
variable (a : Args)

/-- The convolution's weights and bias as eight rows. -/
def cw8 (m : Fin 8) (f : Fin 2816) : EReal :=
  if h : m.1 < 3 then a.cw ⟨m.1, h⟩ f else if m.1 = 3 then a.cb f else 0

/-- Tile `k` of sequence `s`. -/
def tile (s : Fin 8) (k : Fin 4) : Tile where
  h r d := a.hid (row s (place k r)) d
  wu := a.wu
  wd := a.wd
  cw := a.cw8
  pv q f := a.hist s ⟨512 * k.1 + q.1, by omega⟩ f

theorem tile_gate (s : Fin 8) (k : Fin 4) (r : Fin 512) (f : Fin 2816) : (a.tile s k).gate r f = a.gate (row s (place k r)) f := rfl
theorem tile_up (s : Fin 8) (k : Fin 4) (r : Fin 512) (f : Fin 2816) : (a.tile s k).up r f = a.up (row s (place k r)) f := rfl

/-- A gate row of a tile among the sequence's gate rows. -/
theorem hist_tile (s : Fin 8) (k : Fin 4) (r : Fin 512) (u : Fin 2050) (f : Fin 2816) (hu : u.1 = 512 * k.1 + r.1 + 2) :
    a.hist s u f = (a.tile s k).gate r f := by
  rw [tile_gate]
  unfold hist
  rw [dif_neg (by omega)]
  exact congrArg (fun t => a.gate (row s t) f) (Fin.ext (show u.1 - 2 = 512 * k.1 + r.1 by omega))

/-- The two gate rows before the next tile are this tile's last. -/
theorem pv_next (s : Fin 8) (k k' : Fin 4) (hk : k'.1 = k.1 + 1) (q : Fin 2) (f : Fin 2816) :
    (a.tile s k').pv q f = (a.tile s k).gate ⟨504 + (6 + q.1), by omega⟩ f :=
  a.hist_tile s k _ _ f (show 512 * k'.1 + q.1 = 512 * k.1 + (504 + (6 + q.1)) + 2 by omega)

/-- The two gate rows before the first tile are the given ones. -/
theorem pv_first (s : Fin 8) (k : Fin 4) (hk : k.1 = 0) (q : Fin 2) (f : Fin 2816) : (a.tile s k).pv q f = a.P s q f := by
  show a.hist s ⟨512 * k.1 + q.1, _⟩ f = _
  unfold hist
  rw [dif_pos (by show 512 * k.1 + q.1 < 2; omega)]
  exact congrArg (fun t => a.P s t f) (Fin.ext (show 512 * k.1 + q.1 = q.1 by omega))

/-- The convolution inside a tile is the convolution over the sequence. -/
theorem tile_cg (s : Fin 8) (k : Fin 4) (r : Fin 512) (f : Fin 2816) : (a.tile s k).cg r f = a.cg s (place k r) f := by
  unfold Tile.cg conv cg
  beta_reduce
  have h0 : (if r.1 = 0 then (a.tile s k).pv 0 f else if r.1 = 1 then (a.tile s k).pv 1 f else (a.tile s k).gate ⟨r.1 - 2, by omega⟩ f)
      = a.hist s ⟨(place k r).1, by omega⟩ f := by
    split_ifs with h h'
    · exact congrArg (fun u => a.hist s u f) (Fin.ext (show 512 * k.1 + 0 = 512 * k.1 + r.1 by omega))
    · exact congrArg (fun u => a.hist s u f) (Fin.ext (show 512 * k.1 + 1 = 512 * k.1 + r.1 by omega))
    · exact (a.hist_tile s k _ _ f (show 512 * k.1 + r.1 = 512 * k.1 + (r.1 - 2) + 2 by omega)).symm
  have h1 : (if r.1 = 0 then (a.tile s k).pv 1 f else (a.tile s k).gate ⟨r.1 - 1, by omega⟩ f)
      = a.hist s ⟨1 + (place k r).1, by omega⟩ f := by
    split_ifs with h
    · exact congrArg (fun u => a.hist s u f) (Fin.ext (show 512 * k.1 + 1 = 1 + (512 * k.1 + r.1) by omega))
    · exact (a.hist_tile s k _ _ f (show 1 + (512 * k.1 + r.1) = 512 * k.1 + (r.1 - 1) + 2 by omega)).symm
  have h2 : (a.tile s k).gate r f = a.hist s ⟨2 + (place k r).1, by omega⟩ f :=
    (a.hist_tile s k _ _ f (show 2 + (512 * k.1 + r.1) = 512 * k.1 + r.1 + 2 by omega)).symm
  rw [h0, h1, h2]
  rfl

/-- The tile's chunks together give the gated row through the last weight. -/
theorem tile_acc (s : Fin 8) (k : Fin 4) (r : Fin 512) (d : Fin 1024) : (a.tile s k).acc r d 11 = a.ffn s (place k r) d := by
  rw [Tile.acc_all]
  refine Finset.sum_congr rfl fun f _ => ?_
  unfold Tile.term
  rw [tile_cg, tile_up]
  rfl

end Args

end Ffn

end
-- ==== Proof.FfnPiece.lean ====
module

public import proofs.«01_k».proof.Proof.FfnTile

/-! # The parts of one tile's program

The program of one tile is a sequence of parts. For each, what it returns and what it leaves in the buffers it
stores to is stated over the call's mathematics. -/

@[expose] public section

set_option maxRecDepth 16384

noncomputable section

namespace Ffn

open Idealize.ShloMosaic Idealize.ShloMosaic.Pointwise Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnKernelIdeal Cert.FfnKernelIdeal.Gen

local notation "𝕄" => MT nD τ sig Unit (Elt Ideal) ℕ (UR sig nD τ) ℕ

/-- Row `r` of piece `p` of a tile. -/
def at4 (p : Fin 4) (r : Fin 128) : Fin 512 := ⟨128 * p.1 + r.1, by omega⟩

/-- Every row is in a piece. -/
theorem exists_at4 (r : Fin 512) : ∃ p q, r = at4 p q :=
  ⟨⟨r.1 / 128, by omega⟩, ⟨r.1 % 128, by omega⟩, Fin.ext (show r.1 = 128 * (r.1 / 128) + r.1 % 128 by omega)⟩

/-- A piece of rows of 1024, loaded. -/
theorem piece_load {e : EltTy} (M : Memref sig .tc .vmem S512x1024 e) (X : BufTy.Contents (Elt Ideal) M.view.ty) (p : Fin 4) (o : Nat) (ho : o = 128 * p.1) (inb)
    (r : Fin 128) (d : Fin 1024) :
    View.readAt (Elt Ideal) M.view (Rect.unit (s := S512x1024) ![o, 0] S128x1024.size inb).toLoadRect X (ix2 r d) = M.view.read (Elt Ideal) X (ix2 (at4 p r) d) :=
  load_raw M X _ _ _ inb rfl (ix2 r d) (ix2 (at4 p r) d) (by
    intro a; fin_cases a
    · show 128 * p.1 + r.1 = o + r.1; omega
    · exact (Nat.zero_add _).symm)

/-- A piece of rows of 512, loaded. -/
theorem half_load {e : EltTy} (M : Memref sig .tc .vmem S512x512 e) (X : BufTy.Contents (Elt Ideal) M.view.ty) (p : Fin 4) (o : Nat) (ho : o = 128 * p.1) (inb)
    (r : Fin 128) (d : Fin 512) :
    View.readAt (Elt Ideal) M.view (Rect.unit (s := S512x512) ![o, 0] S128x512.size inb).toLoadRect X (ix2 r d) = M.view.read (Elt Ideal) X (ix2 (at4 p r) d) :=
  load_raw M X _ _ _ inb rfl (ix2 r d) (ix2 (at4 p r) d) (by
    intro a; fin_cases a
    · show 128 * p.1 + r.1 = o + r.1; omega
    · exact (Nat.zero_add _).symm)

/-- A row of 1024, loaded. -/
theorem row_load (M : Memref sig .tc .vmem S1x1024 .f32) (X : BufTy.Contents (Elt Ideal) M.view.ty) (inb) (d : Fin 1024) :
    View.readAt (Elt Ideal) M.view (Rect.unit (s := S1x1024) ![0, 0] S1x1024.size inb).toLoadRect X (ix2 0 d) = M.view.read (Elt Ideal) X (ix2 0 d) :=
  load_raw M X _ _ _ inb rfl (ix2 0 d) (ix2 0 d) (by intro a; fin_cases a <;> exact (Nat.zero_add _).symm)

/-- A row of 512, loaded. -/
theorem row_load' (M : Memref sig .tc .vmem S1x512 .f32) (X : BufTy.Contents (Elt Ideal) M.view.ty) (inb) (d : Fin 512) :
    View.readAt (Elt Ideal) M.view (Rect.unit (s := S1x512) ![0, 0] S1x512.size inb).toLoadRect X (ix2 0 d) = M.view.read (Elt Ideal) X (ix2 0 d) :=
  load_raw M X _ _ _ inb rfl (ix2 0 d) (ix2 0 d) (by intro a; fin_cases a <;> exact (Nat.zero_add _).symm)

/-- A matrix of 512 by 1024, loaded. -/
theorem mat_load {e : EltTy} (M : Memref sig .tc .vmem S512x1024 e) (X : BufTy.Contents (Elt Ideal) M.view.ty) (inb) (r : Fin 512) (d : Fin 1024) :
    View.readAt (Elt Ideal) M.view (Rect.unit (s := S512x1024) ![0, 0] S512x1024.size inb).toLoadRect X (ix2 r d) = M.view.read (Elt Ideal) X (ix2 r d) :=
  load_raw M X _ _ _ inb rfl (ix2 r d) (ix2 r d) (by intro a; fin_cases a <;> exact (Nat.zero_add _).symm)

/-- A piece of rows, just written. -/
theorem piece_write {e : EltTy} (M : Memref sig .tc .vmem S512x1024 e) (X : BufTy.Contents (Elt Ideal) M.view.ty) (p : Fin 4) (o : Nat) (ho : o = 128 * p.1) (inb)
    (w : Vec Ideal S128x1024 e) (L : List (View.Piece (Elt Ideal) S512x1024 e)) (r : Fin 128) (d : Fin 1024) :
    M.view.read (Elt Ideal) (M.view.writes (Elt Ideal) X (⟨Rect.unit (s := S512x1024) ![o, 0] S128x1024.size inb, w⟩ :: L)) (ix2 (at4 p r) d) = w (ix2 r d) :=
  View.read_writes_cons_unit_of_mem M.view X (off' := ![o, 0]) inb w L (ix2 (at4 p r) d) (ix2 r d) rfl (by
    intro a; fin_cases a
    · show 128 * p.1 + r.1 = o + r.1; omega
    · exact (Nat.zero_add d.1).symm)

/-- A piece of rows other than the one just written. -/
theorem piece_write_ne {e : EltTy} (M : Memref sig .tc .vmem S512x1024 e) (X : BufTy.Contents (Elt Ideal) M.view.ty) (p p' : Fin 4) (o : Nat) (ho : o = 128 * p'.1) (hp : p ≠ p') (inb)
    (w : Vec Ideal S128x1024 e) (L : List (View.Piece (Elt Ideal) S512x1024 e)) (r : Fin 128) (d : Fin 1024) :
    M.view.read (Elt Ideal) (M.view.writes (Elt Ideal) X (⟨Rect.unit (s := S512x1024) ![o, 0] S128x1024.size inb, w⟩ :: L)) (ix2 (at4 p r) d)
      = M.view.read (Elt Ideal) (M.view.writes (Elt Ideal) X L) (ix2 (at4 p r) d) :=
  View.read_writes_cons_unit_of_not_mem M.view X (off' := ![o, 0]) inb w L (ix2 (at4 p r) d) rfl 0 (by
    have h : p.1 ≠ p'.1 := fun h => hp (Fin.ext h)
    show 128 * p.1 + r.1 < o ∨ o + 128 ≤ 128 * p.1 + r.1; omega)

section Parts
variable (c : Dev nD) (i : grid0.Coords) (arg2 : Memref sig .tc .vmem S512x1024 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S1x11x8x256 .f32) (harg5 : arg5.IsWhole) (arg6 : Memref sig .tc .vmem S1x512 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S1024x5632 .bf16) (harg12 : arg12.IsWhole) (arg13 : Memref sig .tc .vmem S2816x1024 .bf16) (harg13 : arg13.IsWhole) (arg14 : Memref sig .tc .vmem S8x2816 .f32) (harg14 : arg14.IsWhole) (arg15 : Memref sig .tc .vmem S512x1024 .f32) (harg15 : arg15.IsWhole) (arg16 : Memref sig .tc .vmem S1x11x8x256 .f32) (harg16 : arg16.IsWhole) (arg17 : Memref sig .tc .vmem S512x1024 .bf16) (harg17 : arg17.IsWhole) (arg18 : Memref sig .tc .vmem S512x1024 .f32) (harg18 : arg18.IsWhole) (arg19 : Memref sig .tc .vmem S11x8x256 .f32) (harg19 : arg19.IsWhole) (arg20 : Memref sig .tc .vmem S2x512x256 .f32) (harg20 : arg20.IsWhole) (arg21 : Memref sig .tc .vmem S2x512x256 .f32) (harg21 : arg21.IsWhole)
  (a : Args) (s : Fin 8) (k : Fin 4)

/-- A piece of the normalised attention rows. -/
def An (p : Fin 4) (v : Vec Ideal S128x512 .bf16) : Prop := ∀ r e, v (ix2 r e) = a.an (row s (place k (at4 p r))) e
/-- A piece of the mixed rows. -/
def Mix (p : Fin 4) (v : Vec Ideal S128x1024 .f32) : Prop := ∀ r d, v (ix2 r d) = a.mix (row s (place k (at4 p r))) d
/-- A piece of the argument's rows. -/
def Xp (p : Fin 4) (v : Vec Ideal S128x1024 .f32) : Prop := ∀ r d, v (ix2 r d) = a.X (row s (place k (at4 p r))) d
/-- A piece of the first residual sum. -/
def X1 (p : Fin 4) (v : Vec Ideal S128x1024 .f32) : Prop := ∀ r d, v (ix2 r d) = a.x1 (row s (place k (at4 p r))) d
/-- A gain's row. -/
def Gain (g : Fin 1024 → EReal) (v : Vec Ideal S1x1024 .f32) : Prop := ∀ d, v (ix2 0 d) = g d

/-- A piece of the gated rows through the last weight. -/
def Fp (p : Fin 4) (v : Vec Ideal S128x1024 .f32) : Prop := ∀ r d, v (ix2 r d) = a.ffn s (place k (at4 p r)) d

/-- A load of all 512 rows of a buffer. -/
theorem full_load (M : Memref sig .tc .vmem S512x1024 .f32) (X : BufTy.Contents (Elt Ideal) M.view.ty) (inb) (r : Fin 512) (d : Fin 1024) :
    View.readAt (Elt Ideal) M.view (Rect.unit (s := S512x1024) ![0, 0] S512x1024.size inb).toLoadRect X (ix2 r d) = M.view.read (Elt Ideal) X (ix2 r d) :=
  load_raw M X _ _ _ inb rfl (ix2 r d) (ix2 r d) (by intro a; fin_cases a <;> exact (Nat.zero_add _).symm)

/-- A store of all 512 rows of a buffer, read back. -/
theorem full_write (M : Memref sig .tc .vmem S512x1024 .f32) (X : BufTy.Contents (Elt Ideal) M.view.ty) (inb) (w : Vec Ideal S512x1024 .f32) (r : Fin 512) (d : Fin 1024) :
    M.view.read (Elt Ideal) (M.view.writes (Elt Ideal) X [⟨Rect.unit (s := S512x1024) ![0, 0] S512x1024.size inb, w⟩]) (ix2 r d) = w (ix2 r d) := by
  rw [View.read_writes_full]

/-- The last chunk's step, over whatever vector holds the convolved gate. -/
theorem pay56_of (v : Vec Ideal S512x256 .f32) (acc : Vec Ideal S512x1024 .f32) (u : Vec Ideal S1x512x256 .f32) (wd : Vec Ideal S256x1024 .bf16) (r : Fin 512) (d : Fin 1024) :
    k0_pay56 v acc u wd (ix2 r d) = acc (ix2 r d) + ∑ x : Fin 256, gelu (v (ix2 r x)) * u (ix3 0 r x) * wd (ix2 x d) := by
  pointwise [k0_pay56]
  rfl

/-- The accumulated rows after the last chunk. -/
theorem acc_of (v : Vec Ideal S512x256 .f32) (acc : Vec Ideal S512x1024 .f32) (u : Vec Ideal S1x512x256 .f32) (wd : Vec Ideal S256x1024 .bf16)
    (hv : ∀ r x, v (ix2 r x) = (a.tile s k).cg r (col 10 x)) (ha : ∀ r d, acc (ix2 r d) = (a.tile s k).acc r d 10)
    (hu : ∀ r x, u (ix3 0 r x) = (a.tile s k).up r (col 10 x)) (hw : ∀ x d, wd (ix2 x d) = a.wd (col 10 x) d) (r : Fin 512) (d : Fin 1024) :
    k0_pay56 v acc u wd (ix2 r d) = a.ffn s (place k r) d := by
  rw [pay56_of, ← Args.tile_acc, Tile.acc_succ _ _ _ 10 (by decide), ha]
  simp only [hv, hu, hw]
  rfl

/-- The normalised attention rows of a piece. -/
theorem an_of {p : Fin 4} (v : Vec Ideal S128x512 .f32) (g : Vec Ideal S1x512 .f32) (hv : ∀ r e, v (ix2 r e) = a.A (row s (place k (at4 p r))) e)
    (hg : ∀ e, g (ix2 0 e) = a.ga e) (r : Fin 128) (e : Fin 512) :
    v (ix2 r e) * inv 0x44000000#32 (fun k => v (ix2 r k)) * g (ix2 0 e) = a.an (row s (place k (at4 p r))) e := by
  simp only [hv, hg]; rfl

/-- The mixed rows of a piece, as the sum of its two products. -/
theorem mix_of {p : Fin 4} (an : Vec Ideal S128x512 .bf16) (wa : Vec Ideal S512x1024 .bf16) (ys : Vec Ideal S128x512 .bf16) (ws : Vec Ideal S512x1024 .bf16)
    (ha : An a s k p an) (hw : ∀ e d, wa (ix2 e d) = a.w ⟨e.1, by omega⟩ d) (hy : ∀ r e, ys (ix2 r e) = a.Y (row s (place k (at4 p r))) e)
    (hs : ∀ e d, ws (ix2 e d) = a.w ⟨512 + e.1, by omega⟩ d) (r : Fin 128) (d : Fin 1024) :
    (∑ e : Fin 512, an (ix2 r e) * wa (ix2 e d) + ∑ e : Fin 512, ys (ix2 r e) * ws (ix2 e d) : EReal) = a.mix (row s (place k (at4 p r))) d := by
  have ha' : ∀ e, an (ix2 r e) = a.an (row s (place k (at4 p r))) e := ha r
  simp only [ha', hw, hy, hs]; rfl

/-- The rows after the first residual, from the mixed rows. -/
theorem x1_of {p : Fin 4} (m x : Vec Ideal S128x1024 .f32) (g : Vec Ideal S1x1024 .f32) (hm : Mix a s k p m) (hx : Xp a s k p x) (hg : Gain a.gp g)
    (r : Fin 128) (d : Fin 1024) :
    x (ix2 r d) + m (ix2 r d) * inv 0x44800000#32 (fun k => m (ix2 r k)) * g (ix2 0 d) = a.x1 (row s (place k (at4 p r))) d := by
  have hm' : ∀ d, m (ix2 r d) = a.mix (row s (place k (at4 p r))) d := hm r
  simp only [hm', hx r d, hg d]; rfl

/-- The normalised rows that enter the two wide products. -/
theorem hid_of {p : Fin 4} (m : Vec Ideal S128x1024 .f32) (g : Vec Ideal S1x1024 .f32) (hm : X1 a s k p m) (hg : Gain a.gq g) (r : Fin 128) (d : Fin 1024) :
    m (ix2 r d) * inv 0x44800000#32 (fun k => m (ix2 r k)) * g (ix2 0 d) = a.hid (row s (place k (at4 p r))) d := by
  have hm' : ∀ d, m (ix2 r d) = a.x1 (row s (place k (at4 p r))) d := hm r
  simp only [hm', hg d]; rfl

/-- The rows of the result, from the rows that leave the last weight. -/
theorem out_of {p : Fin 4} (m x : Vec Ideal S128x1024 .f32) (g : Vec Ideal S1x1024 .f32) (hm : Fp a s k p m) (hx : X1 a s k p x) (hg : Gain a.gf g)
    (r : Fin 128) (d : Fin 1024) :
    x (ix2 r d) + m (ix2 r d) * inv 0x44800000#32 (fun k => m (ix2 r k)) * g (ix2 0 d) = a.out s (place k (at4 p r)) d := by
  have hm' : ∀ d, m (ix2 r d) = a.ffn s (place k (at4 p r)) d := hm r
  simp only [hm', hx r d, hg d]; rfl

end Parts

end Ffn

end
-- ==== Proof.FfnPartsA.lean ====
module

public import proofs.«01_k».proof.Proof.FfnPiece

/-! # The parts of one tile's program

The program of one tile is a sequence of parts. For each, what it returns and what it leaves in the buffers it
stores to is stated over the call's mathematics. -/

@[expose] public section

set_option maxRecDepth 16384

noncomputable section

namespace Ffn

open Idealize.ShloMosaic Idealize.ShloMosaic.Pointwise Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnKernelIdeal Cert.FfnKernelIdeal.Gen

local notation "𝕄" => MT nD τ sig Unit (Elt Ideal) ℕ (UR sig nD τ) ℕ

section Parts
variable (c : Dev nD) (i : grid0.Coords) (arg2 : Memref sig .tc .vmem S512x1024 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S1x11x8x256 .f32) (harg5 : arg5.IsWhole) (arg6 : Memref sig .tc .vmem S1x512 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S1024x5632 .bf16) (harg12 : arg12.IsWhole) (arg13 : Memref sig .tc .vmem S2816x1024 .bf16) (harg13 : arg13.IsWhole) (arg14 : Memref sig .tc .vmem S8x2816 .f32) (harg14 : arg14.IsWhole) (arg15 : Memref sig .tc .vmem S512x1024 .f32) (harg15 : arg15.IsWhole) (arg16 : Memref sig .tc .vmem S1x11x8x256 .f32) (harg16 : arg16.IsWhole) (arg17 : Memref sig .tc .vmem S512x1024 .bf16) (harg17 : arg17.IsWhole) (arg18 : Memref sig .tc .vmem S512x1024 .f32) (harg18 : arg18.IsWhole) (arg19 : Memref sig .tc .vmem S11x8x256 .f32) (harg19 : arg19.IsWhole) (arg20 : Memref sig .tc .vmem S2x512x256 .f32) (harg20 : arg20.IsWhole) (arg21 : Memref sig .tc .vmem S2x512x256 .f32) (harg21 : arg21.IsWhole)
  (a : Args) (s : Fin 8) (k : Fin 4)

variable {arg2 arg3 arg4 arg5 arg6 arg7 arg8 arg9 arg10 arg11 arg12 arg13 arg14 arg15 arg16 arg17 arg18 arg19 arg20 arg21}
variable (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (f20 : BufTy.Contents (Elt Ideal) arg20.view.ty) (f21 : BufTy.Contents (Elt Ideal) arg21.view.ty)

set_option maxHeartbeats 1000000 in
/-- Part 6 of the program. -/
theorem part6_spec (E : Set ℕ)  (h3 : ∀ r e, arg3.view.read (Elt Ideal) f3 (ix2 r e) = a.A (row s (place k r)) e) (h6 : ∀ e, arg6.view.read (Elt Ideal) f6 (ix2 0 e) = a.ga e) (h5 : Scalar.cmpi .ne (Scalar.extui (Scalar.cmpi .eq (BitVec.ofNat 32 (i 1).val) 0#32)) 0#32 = 1#1 → ∀ (j : Fin 11) (q : Fin 2) (x : Fin 256), arg5.view.read (Elt Ideal) f5 (ix4 0 j ⟨6 + q.1, by omega⟩ x) = (a.tile s k).pv q (col j x)) (h19 : ¬ Scalar.cmpi .ne (Scalar.extui (Scalar.cmpi .eq (BitVec.ofNat 32 (i 1).val) 0#32)) 0#32 = 1#1 → (∀ (j : Fin 11) (q : Fin 2) (x : Fin 256), arg19.view.read (Elt Ideal) f19 (ix3 j ⟨6 + q.1, by omega⟩ x) = (a.tile s k).pv q (col j x))) (K : _ → sProp 𝕄) :
    iprop((arg3.view.loc (c : Thread nD τ) ↦[arg3.view.set]{fullShare} f3) ∗ (arg5.view.loc (c : Thread nD τ) ↦[arg5.view.set]{fullShare} f5) ∗ (arg6.view.loc (c : Thread nD τ) ↦[arg6.view.set]{fullShare} f6) ∗ (arg19.view.loc (c : Thread nD τ) ↦[arg19.view.set]{fullShare} f19)
        ∗ (∀ (v18 : FVec Ideal S128x512 .bf16) (v34 : FVec Ideal S128x512 .bf16) (v35 : Vec Ideal S128x512 .f32) (v36 : Vec Ideal S1x512 .f32) (g19 : BufTy.Contents (Elt Ideal) arg19.view.ty), iprop((arg3.view.loc (c : Thread nD τ) ↦[arg3.view.set]{fullShare} f3) ∗ (arg5.view.loc (c : Thread nD τ) ↦[arg5.view.set]{fullShare} f5) ∗ (arg6.view.loc (c : Thread nD τ) ↦[arg6.view.set]{fullShare} f6) ∗ (arg19.view.loc (c : Thread nD τ) ↦[arg19.view.set]{fullShare} g19) ∗ ⌜An a s k 0 v18 ∧ An a s k 1 v34 ∧ (∀ r e, v35 (ix2 r e) = a.A (row s (place k (at4 2 r))) e) ∧ (∀ e, v36 (ix2 0 e) = a.ga e) ∧ (∀ (j : Fin 11) (q : Fin 2) (x : Fin 256), arg19.view.read (Elt Ideal) g19 (ix3 j ⟨6 + q.1, by omega⟩ x) = (a.tile s k).pv q (col j x))⌝) -∗ K ⟨v18, v34, v35, v36⟩))
      ⊢ wp frame (wpE (defs₀ (F := Ideal)) Variants.none c none) E (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 ) K := by
  simp only [k0_part6_eq_skeleton]; unfold k0_part6_skel
  iintro ⟨H3, H5, H6, H19, Hk⟩
  by_cases hc : Scalar.cmpi .ne (Scalar.extui (Scalar.cmpi .eq (BitVec.ofNat 32 (i 1).val) 0#32)) 0#32 = 1#1
  · skip
    sl_exec (disch := sl_exact hc)
    sl_step
    iapply Hk
    isplitl [H3]; · iexact H3
    isplitl [H5]; · iexact H5
    isplitl [H6]; · iexact H6
    isplitl [H19]; · iexact H19
    ipureintro
    refine ⟨fun r e => ?_, fun r e => ?_, fun r e => ?_, fun e => ?_, ?_⟩
    · rw [pay22_at]; exact an_of a s k _ _ (fun r e => (half_load arg3 f3 0 _ rfl _ r e).trans (h3 _ _)) (fun e => (row_load' arg6 f6 _ e).trans (h6 e)) r e
    · rw [pay23_at]; exact an_of a s k _ _ (fun r e => (half_load arg3 f3 1 _ rfl _ r e).trans (h3 _ _)) (fun e => (row_load' arg6 f6 _ e).trans (h6 e)) r e
    · exact (half_load arg3 f3 2 _ rfl _ r e).trans (h3 _ _)
    · exact (row_load' arg6 f6 _ e).trans (h6 e)
    · intro j q x
      rw [View.read_writes_full, pay21_at]
      exact (load_raw arg5 f5 _ _ _ _ rfl (ix4 0 j _ x) (ix4 0 j _ x) (by intro a; fin_cases a <;> exact (Nat.zero_add _).symm)).trans (h5 hc j q x)
  · skip
    sl_exec (disch := sl_exact hc)
    sl_step
    iapply Hk
    isplitl [H3]; · iexact H3
    isplitl [H5]; · iexact H5
    isplitl [H6]; · iexact H6
    isplitl [H19]; · iexact H19
    ipureintro
    refine ⟨fun r e => ?_, fun r e => ?_, fun r e => ?_, fun e => ?_, ?_⟩
    · rw [pay22_at]; exact an_of a s k _ _ (fun r e => (half_load arg3 f3 0 _ rfl _ r e).trans (h3 _ _)) (fun e => (row_load' arg6 f6 _ e).trans (h6 e)) r e
    · rw [pay23_at]; exact an_of a s k _ _ (fun r e => (half_load arg3 f3 1 _ rfl _ r e).trans (h3 _ _)) (fun e => (row_load' arg6 f6 _ e).trans (h6 e)) r e
    · exact (half_load arg3 f3 2 _ rfl _ r e).trans (h3 _ _)
    · exact (row_load' arg6 f6 _ e).trans (h6 e)
    · exact h19 hc

set_option maxHeartbeats 1000000 in
/-- Part 7 of the program. -/
theorem part7_spec (E : Set ℕ) (v18 : FVec Ideal S128x512 .bf16) (v35 : Vec Ideal S128x512 .f32) (v36 : Vec Ideal S1x512 .f32) (h18 : An a s k 0 v18) (h35 : (∀ r e, v35 (ix2 r e) = a.A (row s (place k (at4 2 r))) e)) (h36 : (∀ e, v36 (ix2 0 e) = a.ga e)) (h3 : ∀ r e, arg3.view.read (Elt Ideal) f3 (ix2 r e) = a.A (row s (place k r)) e) (h4 : ∀ r e, arg4.view.read (Elt Ideal) f4 (ix2 r e) = a.Y (row s (place k r)) e) (h6 : ∀ e, arg6.view.read (Elt Ideal) f6 (ix2 0 e) = a.ga e) (h10 : ∀ (e : Fin 512) d, arg10.view.read (Elt Ideal) f10 (ix2 e d) = a.w ⟨e.1, by omega⟩ d) (h11 : ∀ (e : Fin 512) d, arg11.view.read (Elt Ideal) f11 (ix2 e d) = a.w ⟨512 + e.1, by omega⟩ d) (K : _ → sProp 𝕄) :
    iprop((arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6) ∗ (arg10.view.loc (c : Thread nD τ) ↦[arg10.view.set]{fullShare} f10) ∗ (arg11.view.loc (c : Thread nD τ) ↦[arg11.view.set]{fullShare} f11)
        ∗ (∀ (v50 : FVec Ideal S128x512 .bf16) (v66 : FVec Ideal S128x512 .bf16) (v74 : FVec Ideal S128x1024 .f32) (v76 : FVec Ideal S512x1024 .bf16), iprop((arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6) ∗ (arg10.view.loc (c : Thread nD τ) ↦[arg10.view.set]{fullShare} f10) ∗ (arg11.view.loc (c : Thread nD τ) ↦[arg11.view.set]{fullShare} f11) ∗ ⌜An a s k 2 v50 ∧ An a s k 3 v66 ∧ Mix a s k 0 v74 ∧ (∃ w : Vec Ideal S512x1024 .bf16, v76 = k0_pay27 w ∧ ∀ e d, w (ix2 e d) = a.w ⟨e.1, by omega⟩ d)⌝) -∗ K ⟨v50, v66, v74, v76⟩))
      ⊢ wp frame (wpE (defs₀ (F := Ideal)) Variants.none c none) E (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v18 v35 v36) K := by
  simp only [k0_part7_eq_skeleton]; unfold k0_part7_skel
  iintro ⟨H3, H4, H6, H10, H11, Hk⟩
  sl_exec
  sl_step
  iapply Hk
  isplitl [H3]; · iexact H3
  isplitl [H4]; · iexact H4
  isplitl [H6]; · iexact H6
  isplitl [H10]; · iexact H10
  isplitl [H11]; · iexact H11
  ipureintro
  refine ⟨fun r e => ?_, fun r e => ?_, fun r d => ?_, _, rfl, fun e d => ?_⟩
  · rw [pay24_at]; exact an_of a s k _ _ h35 h36 r e
  · rw [pay25_at]; exact an_of a s k _ _ (fun r e => (half_load arg3 f3 3 _ rfl _ r e).trans (h3 _ _)) (fun e => (row_load' arg6 f6 _ e).trans (h6 e)) r e
  · rw [pay26_at]; exact mix_of a s k _ _ _ _ h18 (fun e d => (mat_load arg10 f10 _ e d).trans (h10 e d)) (fun r e => (half_load arg4 f4 0 _ rfl _ r e).trans (h4 _ _)) (fun e d => (mat_load arg11 f11 _ e d).trans (h11 e d)) r d
  · exact (mat_load arg10 f10 _ e d).trans (h10 e d)

set_option maxHeartbeats 1000000 in
/-- Part 8 of the program. -/
theorem part8_spec (E : Set ℕ) (v34 : FVec Ideal S128x512 .bf16) (v50 : FVec Ideal S128x512 .bf16) (v66 : FVec Ideal S128x512 .bf16) (v74 : FVec Ideal S128x1024 .f32) (v76 : FVec Ideal S512x1024 .bf16) (h34 : An a s k 1 v34) (h50 : An a s k 2 v50) (h66 : An a s k 3 v66) (h76 : (∃ w : Vec Ideal S512x1024 .bf16, v76 = k0_pay27 w ∧ ∀ e d, w (ix2 e d) = a.w ⟨e.1, by omega⟩ d)) (h2 : ∀ r d, arg2.view.read (Elt Ideal) f2 (ix2 r d) = a.X (row s (place k r)) d) (h4 : ∀ r e, arg4.view.read (Elt Ideal) f4 (ix2 r e) = a.Y (row s (place k r)) e) (h7 : ∀ d, arg7.view.read (Elt Ideal) f7 (ix2 0 d) = a.gp d) (h10 : ∀ (e : Fin 512) d, arg10.view.read (Elt Ideal) f10 (ix2 e d) = a.w ⟨e.1, by omega⟩ d) (h11 : ∀ (e : Fin 512) d, arg11.view.read (Elt Ideal) f11 (ix2 e d) = a.w ⟨512 + e.1, by omega⟩ d) (K : _ → sProp 𝕄) :
    iprop((arg2.view.loc (c : Thread nD τ) ↦[arg2.view.set]{fullShare} f2) ∗ (arg4.view.loc (c : Thread nD τ) ↦[arg4.view.set]{fullShare} f4) ∗ (arg7.view.loc (c : Thread nD τ) ↦[arg7.view.set]{fullShare} f7) ∗ (arg10.view.loc (c : Thread nD τ) ↦[arg10.view.set]{fullShare} f10) ∗ (arg11.view.loc (c : Thread nD τ) ↦[arg11.view.set]{fullShare} f11)
        ∗ (∀ (v82 : FVec Ideal S128x1024 .f32) (v90 : FVec Ideal S128x1024 .f32) (v98 : FVec Ideal S128x1024 .f32) (v99 : Vec Ideal S128x1024 .f32) (v101 : FVec Ideal S1x1024 .f32) (v106 : FVec Ideal S128x1 .f32) (v107 : FVec Ideal S128x1 .f32), iprop((arg2.view.loc (c : Thread nD τ) ↦[arg2.view.set]{fullShare} f2) ∗ (arg4.view.loc (c : Thread nD τ) ↦[arg4.view.set]{fullShare} f4) ∗ (arg7.view.loc (c : Thread nD τ) ↦[arg7.view.set]{fullShare} f7) ∗ (arg10.view.loc (c : Thread nD τ) ↦[arg10.view.set]{fullShare} f10) ∗ (arg11.view.loc (c : Thread nD τ) ↦[arg11.view.set]{fullShare} f11) ∗ ⌜Mix a s k 1 v82 ∧ Mix a s k 2 v90 ∧ Mix a s k 3 v98 ∧ Xp a s k 0 v99 ∧ (∃ g : Vec Ideal S1x1024 .f32, v101 = k0_pay31 g ∧ Gain a.gp g) ∧ v106 = k0_pay32 v74 ∧ v107 = k0_pay33⌝) -∗ K ⟨v82, v90, v98, v99, v101, v106, v107⟩))
      ⊢ wp frame (wpE (defs₀ (F := Ideal)) Variants.none c none) E (k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v34 v50 v66 v74 v76) K := by
  simp only [k0_part8_eq_skeleton]; unfold k0_part8_skel
  iintro ⟨H2, H4, H7, H10, H11, Hk⟩
  sl_exec
  sl_step
  iapply Hk
  isplitl [H2]; · iexact H2
  isplitl [H4]; · iexact H4
  isplitl [H7]; · iexact H7
  isplitl [H10]; · iexact H10
  isplitl [H11]; · iexact H11
  ipureintro
  obtain ⟨w, rfl, hw⟩ := h76
  refine ⟨fun r d => ?_, fun r d => ?_, fun r d => ?_, fun r d => ?_, ⟨_, rfl, fun d => ?_⟩, rfl, rfl⟩
  · rw [pay28_at]; exact mix_of a s k _ _ _ _ h34 hw (fun r e => (half_load arg4 f4 1 _ rfl _ r e).trans (h4 _ _)) (fun e d => (mat_load arg11 f11 _ e d).trans (h11 e d)) r d
  · rw [pay29_at]; exact mix_of a s k _ _ _ _ h50 (fun e d => (mat_load arg10 f10 _ e d).trans (h10 e d)) (fun r e => (half_load arg4 f4 2 _ rfl _ r e).trans (h4 _ _)) (fun e d => (mat_load arg11 f11 _ e d).trans (h11 e d)) r d
  · rw [pay30_at]; exact mix_of a s k _ _ _ _ h66 (fun e d => (mat_load arg10 f10 _ e d).trans (h10 e d)) (fun r e => (half_load arg4 f4 3 _ rfl _ r e).trans (h4 _ _)) (fun e d => (mat_load arg11 f11 _ e d).trans (h11 e d)) r d
  · exact (piece_load arg2 f2 0 _ rfl _ r d).trans (h2 _ _)
  · exact (row_load arg7 f7 _ d).trans (h7 d)

set_option maxHeartbeats 1000000 in
/-- Part 9 of the program. -/
theorem part9_spec (E : Set ℕ) (v74 : FVec Ideal S128x1024 .f32) (v82 : FVec Ideal S128x1024 .f32) (v90 : FVec Ideal S128x1024 .f32) (v99 : Vec Ideal S128x1024 .f32) (v101 : FVec Ideal S1x1024 .f32) (v106 : FVec Ideal S128x1 .f32) (v107 : FVec Ideal S128x1 .f32) (h74 : Mix a s k 0 v74) (h82 : Mix a s k 1 v82) (h90 : Mix a s k 2 v90) (h99 : Xp a s k 0 v99) (h101 : (∃ g : Vec Ideal S1x1024 .f32, v101 = k0_pay31 g ∧ Gain a.gp g)) (h106 : v106 = k0_pay32 v74) (h107 : v107 = k0_pay33) (h2 : ∀ r d, arg2.view.read (Elt Ideal) f2 (ix2 r d) = a.X (row s (place k r)) d) (h7 : ∀ d, arg7.view.read (Elt Ideal) f7 (ix2 0 d) = a.gp d) (K : _ → sProp 𝕄) :
    iprop((arg2.view.loc (c : Thread nD τ) ↦[arg2.view.set]{fullShare} f2) ∗ (arg7.view.loc (c : Thread nD τ) ↦[arg7.view.set]{fullShare} f7)
        ∗ (∀ (v114 : FVec Ideal S128x1024 .f32) (v130 : FVec Ideal S128x1024 .f32) (v146 : FVec Ideal S128x1024 .f32) (v147 : Vec Ideal S128x1024 .f32) (v149 : FVec Ideal S1x1024 .f32), iprop((arg2.view.loc (c : Thread nD τ) ↦[arg2.view.set]{fullShare} f2) ∗ (arg7.view.loc (c : Thread nD τ) ↦[arg7.view.set]{fullShare} f7) ∗ ⌜X1 a s k 0 v114 ∧ X1 a s k 1 v130 ∧ X1 a s k 2 v146 ∧ Xp a s k 3 v147 ∧ (∃ g : Vec Ideal S1x1024 .f32, v149 = k0_pay37 g ∧ Gain a.gp g)⌝) -∗ K ⟨v114, v130, v146, v147, v149⟩))
      ⊢ wp frame (wpE (defs₀ (F := Ideal)) Variants.none c none) E (k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v74 v82 v90 v99 v101 v106 v107) K := by
  simp only [k0_part9_eq_skeleton]; unfold k0_part9_skel
  iintro ⟨H2, H7, Hk⟩
  sl_exec
  sl_step
  iapply Hk
  isplitl [H2]; · iexact H2
  isplitl [H7]; · iexact H7
  ipureintro
  obtain ⟨g, rfl, hg⟩ := h101
  subst h106; subst h107
  refine ⟨fun r d => ?_, fun r d => ?_, fun r d => ?_, fun r d => ?_, ⟨_, rfl, fun d => ?_⟩⟩
  · rw [pay34_at]; exact x1_of a s k _ _ _ h74 h99 hg r d
  · rw [pay35_at]; exact x1_of a s k _ _ _ h82 (fun r d => (piece_load arg2 f2 1 _ rfl _ r d).trans (h2 _ _)) (fun d => (row_load arg7 f7 _ d).trans (h7 d)) r d
  · rw [pay36_at]; exact x1_of a s k _ _ _ h90 (fun r d => (piece_load arg2 f2 2 _ rfl _ r d).trans (h2 _ _)) (fun d => (row_load arg7 f7 _ d).trans (h7 d)) r d
  · exact (piece_load arg2 f2 3 _ rfl _ r d).trans (h2 _ _)
  · exact (row_load arg7 f7 _ d).trans (h7 d)

end Parts

end Ffn

end
-- ==== Proof.FfnPartsB.lean ====
module

public import proofs.«01_k».proof.Proof.FfnPiece

/-! # The parts of one tile's program

The program of one tile is a sequence of parts. For each, what it returns and what it leaves in the buffers it
stores to is stated over the call's mathematics. -/

@[expose] public section

set_option maxRecDepth 16384

noncomputable section

namespace Ffn

open Idealize.ShloMosaic Idealize.ShloMosaic.Pointwise Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnKernelIdeal Cert.FfnKernelIdeal.Gen

local notation "𝕄" => MT nD τ sig Unit (Elt Ideal) ℕ (UR sig nD τ) ℕ

section Parts
variable (c : Dev nD) (i : grid0.Coords) (arg2 : Memref sig .tc .vmem S512x1024 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S1x11x8x256 .f32) (harg5 : arg5.IsWhole) (arg6 : Memref sig .tc .vmem S1x512 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S1024x5632 .bf16) (harg12 : arg12.IsWhole) (arg13 : Memref sig .tc .vmem S2816x1024 .bf16) (harg13 : arg13.IsWhole) (arg14 : Memref sig .tc .vmem S8x2816 .f32) (harg14 : arg14.IsWhole) (arg15 : Memref sig .tc .vmem S512x1024 .f32) (harg15 : arg15.IsWhole) (arg16 : Memref sig .tc .vmem S1x11x8x256 .f32) (harg16 : arg16.IsWhole) (arg17 : Memref sig .tc .vmem S512x1024 .bf16) (harg17 : arg17.IsWhole) (arg18 : Memref sig .tc .vmem S512x1024 .f32) (harg18 : arg18.IsWhole) (arg19 : Memref sig .tc .vmem S11x8x256 .f32) (harg19 : arg19.IsWhole) (arg20 : Memref sig .tc .vmem S2x512x256 .f32) (harg20 : arg20.IsWhole) (arg21 : Memref sig .tc .vmem S2x512x256 .f32) (harg21 : arg21.IsWhole)
  (a : Args) (s : Fin 8) (k : Fin 4)

variable {arg2 arg3 arg4 arg5 arg6 arg7 arg8 arg9 arg10 arg11 arg12 arg13 arg14 arg15 arg16 arg17 arg18 arg19 arg20 arg21}
variable (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (f20 : BufTy.Contents (Elt Ideal) arg20.view.ty) (f21 : BufTy.Contents (Elt Ideal) arg21.view.ty)

set_option maxHeartbeats 1000000 in
/-- Part 10 of the program. -/
theorem part10_spec (E : Set ℕ) (v98 : FVec Ideal S128x1024 .f32) (v114 : FVec Ideal S128x1024 .f32) (v130 : FVec Ideal S128x1024 .f32) (v147 : Vec Ideal S128x1024 .f32) (v149 : FVec Ideal S1x1024 .f32) (h98 : Mix a s k 3 v98) (h114 : X1 a s k 0 v114) (h130 : X1 a s k 1 v130) (h147 : Xp a s k 3 v147) (h149 : (∃ g : Vec Ideal S1x1024 .f32, v149 = k0_pay37 g ∧ Gain a.gp g)) (h8 : ∀ d, arg8.view.read (Elt Ideal) f8 (ix2 0 d) = a.gq d) (K : _ → sProp 𝕄) :
    iprop((arg8.view.loc (c : Thread nD τ) ↦[arg8.view.set]{fullShare} f8) ∗ (arg15.view.loc (c : Thread nD τ) ↦[arg15.view.set]{fullShare} f15) ∗ (arg17.view.loc (c : Thread nD τ) ↦[arg17.view.set]{fullShare} f17)
        ∗ (∀ (v162 : FVec Ideal S128x1024 .f32) (v184 : FVec Ideal S1x1024 .f32) (v187 : FVec Ideal S128x1 .f32) (v188 : FVec Ideal S128x1 .f32) (g15 : BufTy.Contents (Elt Ideal) arg15.view.ty) (g17 : BufTy.Contents (Elt Ideal) arg17.view.ty), iprop((arg8.view.loc (c : Thread nD τ) ↦[arg8.view.set]{fullShare} f8) ∗ (arg15.view.loc (c : Thread nD τ) ↦[arg15.view.set]{fullShare} g15) ∗ (arg17.view.loc (c : Thread nD τ) ↦[arg17.view.set]{fullShare} g17) ∗ ⌜X1 a s k 3 v162 ∧ (∃ g : Vec Ideal S1x1024 .f32, v184 = k0_pay40 g ∧ Gain a.gq g) ∧ v187 = k0_pay41 v130 ∧ v188 = k0_pay42 ∧ (∀ p r d, p.1 < 2 → arg15.view.read (Elt Ideal) g15 (ix2 (at4 p r) d) = a.x1 (row s (place k (at4 p r))) d) ∧ (∀ p r d, p.1 < 1 → arg17.view.read (Elt Ideal) g17 (ix2 (at4 p r) d) = a.hid (row s (place k (at4 p r))) d)⌝) -∗ K ⟨v162, v184, v187, v188⟩))
      ⊢ wp frame (wpE (defs₀ (F := Ideal)) Variants.none c none) E (k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v98 v114 v130 v147 v149) K := by
  simp only [k0_part10_eq_skeleton]; unfold k0_part10_skel
  iintro ⟨H8, H15, H17, Hk⟩
  sl_exec
  sl_step
  iapply Hk
  isplitl [H8]; · iexact H8
  isplitl [H15]; · iexact H15
  isplitl [H17]; · iexact H17
  ipureintro
  obtain ⟨g, rfl, hg⟩ := h149
  refine ⟨fun r d => ?_, ⟨_, rfl, fun d => ?_⟩, rfl, rfl, fun p r d hp => ?_, fun p r d hp => ?_⟩
  · rw [pay38_at]; exact x1_of a s k _ _ _ h98 h147 hg r d
  · exact (row_load arg8 f8 _ d).trans (h8 d)
  · match p, hp with
    | 0, _ => rw [piece_write_ne _ _ 0 1 128 rfl (by decide), piece_write _ _ 0 0 rfl]; exact h114 r d
    | 1, _ => rw [piece_write _ _ 1 128 rfl]; exact h130 r d
  · match p, hp with
    | 0, _ =>
      rw [piece_write _ _ 0 0 rfl, pay39_at]
      exact hid_of a s k _ _ h114 (fun d => (row_load arg8 f8 _ d).trans (h8 d)) r d

set_option maxHeartbeats 1000000 in
/-- Part 11 of the program. -/
theorem part11_spec (E : Set ℕ) (v130 : FVec Ideal S128x1024 .f32) (v146 : FVec Ideal S128x1024 .f32) (v162 : FVec Ideal S128x1024 .f32) (v184 : FVec Ideal S1x1024 .f32) (v187 : FVec Ideal S128x1 .f32) (v188 : FVec Ideal S128x1 .f32) (h130 : X1 a s k 1 v130) (h146 : X1 a s k 2 v146) (h162 : X1 a s k 3 v162) (h184 : (∃ g : Vec Ideal S1x1024 .f32, v184 = k0_pay40 g ∧ Gain a.gq g)) (h187 : v187 = k0_pay41 v130) (h188 : v188 = k0_pay42) (h8 : ∀ d, arg8.view.read (Elt Ideal) f8 (ix2 0 d) = a.gq d) (h15 : (∀ p r d, p.1 < 2 → arg15.view.read (Elt Ideal) f15 (ix2 (at4 p r) d) = a.x1 (row s (place k (at4 p r))) d)) (h17 : (∀ p r d, p.1 < 1 → arg17.view.read (Elt Ideal) f17 (ix2 (at4 p r) d) = a.hid (row s (place k (at4 p r))) d)) (K : _ → sProp 𝕄) :
    iprop((arg8.view.loc (c : Thread nD τ) ↦[arg8.view.set]{fullShare} f8) ∗ (arg15.view.loc (c : Thread nD τ) ↦[arg15.view.set]{fullShare} f15) ∗ (arg17.view.loc (c : Thread nD τ) ↦[arg17.view.set]{fullShare} f17)
        ∗ (∀ (v222 : FVec Ideal S1x1024 .f32) (v225 : FVec Ideal S128x1 .f32) (v226 : FVec Ideal S128x1 .f32) (g15 : BufTy.Contents (Elt Ideal) arg15.view.ty) (g17 : BufTy.Contents (Elt Ideal) arg17.view.ty), iprop((arg8.view.loc (c : Thread nD τ) ↦[arg8.view.set]{fullShare} f8) ∗ (arg15.view.loc (c : Thread nD τ) ↦[arg15.view.set]{fullShare} g15) ∗ (arg17.view.loc (c : Thread nD τ) ↦[arg17.view.set]{fullShare} g17) ∗ ⌜(∃ g : Vec Ideal S1x1024 .f32, v222 = k0_pay45 g ∧ Gain a.gq g) ∧ v225 = k0_pay46 v162 ∧ v226 = k0_pay47 ∧ (∀ p r d, arg15.view.read (Elt Ideal) g15 (ix2 (at4 p r) d) = a.x1 (row s (place k (at4 p r))) d) ∧ (∀ p r d, p.1 < 3 → arg17.view.read (Elt Ideal) g17 (ix2 (at4 p r) d) = a.hid (row s (place k (at4 p r))) d)⌝) -∗ K ⟨v222, v225, v226⟩))
      ⊢ wp frame (wpE (defs₀ (F := Ideal)) Variants.none c none) E (k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v130 v146 v162 v184 v187 v188) K := by
  simp only [k0_part11_eq_skeleton]; unfold k0_part11_skel
  iintro ⟨H8, H15, H17, Hk⟩
  sl_exec
  sl_step
  iapply Hk
  isplitl [H8]; · iexact H8
  isplitl [H15]; · iexact H15
  isplitl [H17]; · iexact H17
  ipureintro
  obtain ⟨g, rfl, hg⟩ := h184
  subst h187; subst h188
  refine ⟨⟨_, rfl, fun d => ?_⟩, rfl, rfl, fun p r d => ?_, fun p r d hp => ?_⟩
  · exact (row_load arg8 f8 _ d).trans (h8 d)
  · match p with
    | 0 => rw [piece_write_ne _ _ 0 3 384 rfl (by decide), piece_write_ne _ _ 0 2 256 rfl (by decide)]; exact h15 0 r d (by decide)
    | 1 => rw [piece_write_ne _ _ 1 3 384 rfl (by decide), piece_write_ne _ _ 1 2 256 rfl (by decide)]; exact h15 1 r d (by decide)
    | 2 => rw [piece_write_ne _ _ 2 3 384 rfl (by decide), piece_write _ _ 2 256 rfl]; exact h146 r d
    | 3 => rw [piece_write _ _ 3 384 rfl]; exact h162 r d
  · match p, hp with
    | 0, _ => rw [piece_write_ne _ _ 0 2 256 rfl (by decide), piece_write_ne _ _ 0 1 128 rfl (by decide)]; exact h17 0 r d (by decide)
    | 1, _ => rw [piece_write_ne _ _ 1 2 256 rfl (by decide), piece_write _ _ 1 128 rfl, pay43_at]; exact hid_of a s k _ _ h130 hg r d
    | 2, _ => rw [piece_write _ _ 2 256 rfl, pay44_at]; exact hid_of a s k _ _ h146 (fun d => (row_load arg8 f8 _ d).trans (h8 d)) r d

set_option maxHeartbeats 1000000 in
/-- Part 13 of the program. -/
theorem part13_spec (E : Set ℕ) (v239 : IVec S512x256 32) {a18 : Vec Ideal S512x1024 .f32} {a21 : Vec Ideal S2x512x256 .f32} (h239 : v239 = rowIota) (I : (a.tile s k).Inv 10 a18 (arg19.view.read (Elt Ideal) f19) (arg20.view.read (Elt Ideal) f20) a21) (h14 : ∀ m f, arg14.view.read (Elt Ideal) f14 (ix2 m f) = a.cw8 m f) (K : _ → sProp 𝕄) :
    iprop((arg14.view.loc (c : Thread nD τ) ↦[arg14.view.set]{fullShare} f14) ∗ (arg20.view.loc (c : Thread nD τ) ↦[arg20.view.set]{fullShare} f20) ∗ (arg19.view.loc (c : Thread nD τ) ↦[arg19.view.set]{fullShare} f19)
        ∗ (∀ (v296 : FVec Ideal S512x256 .f32) (g19 : BufTy.Contents (Elt Ideal) arg19.view.ty), iprop((arg14.view.loc (c : Thread nD τ) ↦[arg14.view.set]{fullShare} f14) ∗ (arg20.view.loc (c : Thread nD τ) ↦[arg20.view.set]{fullShare} f20) ∗ (arg19.view.loc (c : Thread nD τ) ↦[arg19.view.set]{fullShare} g19) ∗ ⌜(∀ r x, v296 (ix2 r x) = (a.tile s k).cg r (col 10 x)) ∧ (∀ (j : Fin 11) (q : Fin 8) (x : Fin 256), arg19.view.read (Elt Ideal) g19 (ix3 j q x) = (a.tile s k).gate ⟨504 + q.1, by omega⟩ (col j x))⌝) -∗ K v296))
      ⊢ wp frame (wpE (defs₀ (F := Ideal)) Variants.none c none) E (k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v239) K := by
  simp only [k0_part13_eq_skeleton]; unfold k0_part13_skel
  iintro ⟨H14, H20, H19, Hk⟩
  sl_exec
  sl_step
  iapply Hk
  isplitl [H14]; · iexact H14
  isplitl [H20]; · iexact H20
  isplitl [H19]; · iexact H19
  ipureintro
  subst h239
  have hg : ∀ r x, View.readAt (Elt Ideal) arg20.view (Rect.unit (s := S2x512x256) ![0, 0, 0] S1x512x256.size inb_S2x512x256_S1x512x256_0_0_0).toLoadRect f20 (ix3 0 r x) = (a.tile s k).gate r (col 10 x) :=
    fun r x => (slot_load arg20 f20 0 _ r x).trans (I.gates (by decide) r x)
  refine ⟨fun r x => ?_, fun j q x => ?_⟩
  · rw [pay54_at]
    unfold cv Tile.cg
    have hw : ∀ m : Fin 8, View.readAt (Elt Ideal) arg14.view (Rect.unit (s := S8x2816) ![0, 2560] S8x256.size inb_S8x2816_S8x256_0_2560).toLoadRect f14 (ix2 m x) = a.cw8 m (col 10 x) :=
      fun m => (load_raw arg14 f14 _ _ _ _ rfl (ix2 m x) (ix2 m (col 10 x)) (by
        intro a; fin_cases a
        · exact (Nat.zero_add _).symm
        · rfl)).trans (h14 m _)
    have h6 := (carry_load arg19 f19 _ 10 rfl inb_S11x8x256_S1x8x256_10_0_0 6 x).trans (I.prev0 10 x (Nat.le_refl _))
    have h7 := (carry_load arg19 f19 _ 10 rfl inb_S11x8x256_S1x8x256_10_0_0 7 x).trans (I.prev1 10 x (Nat.le_refl _))
    simp only [hg, hw]
    erw [h6, h7]
    rfl
  · by_cases e : j.1 = 10
    · rw [carry_write _ _ _ 10 rfl _ _ _ j q x e, pay55_at, hg]
      exact congrArg (fun j => (a.tile s k).gate _ (col j x)) (Fin.ext e.symm)
    · rw [carry_write_ne _ _ _ 10 rfl _ _ _ j q x e]
      exact I.done j q x (by omega)

end Parts

end Ffn

end
-- ==== Proof.FfnPartsC.lean ====
module

public import proofs.«01_k».proof.Proof.FfnPiece

/-! # The parts of one tile's program

The program of one tile is a sequence of parts. For each, what it returns and what it leaves in the buffers it
stores to is stated over the call's mathematics. -/

@[expose] public section

set_option maxRecDepth 16384

noncomputable section

namespace Ffn

open Idealize.ShloMosaic Idealize.ShloMosaic.Pointwise Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnKernelIdeal Cert.FfnKernelIdeal.Gen

local notation "𝕄" => MT nD τ sig Unit (Elt Ideal) ℕ (UR sig nD τ) ℕ

section Parts
variable (c : Dev nD) (i : grid0.Coords) (arg2 : Memref sig .tc .vmem S512x1024 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S1x11x8x256 .f32) (harg5 : arg5.IsWhole) (arg6 : Memref sig .tc .vmem S1x512 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S1024x5632 .bf16) (harg12 : arg12.IsWhole) (arg13 : Memref sig .tc .vmem S2816x1024 .bf16) (harg13 : arg13.IsWhole) (arg14 : Memref sig .tc .vmem S8x2816 .f32) (harg14 : arg14.IsWhole) (arg15 : Memref sig .tc .vmem S512x1024 .f32) (harg15 : arg15.IsWhole) (arg16 : Memref sig .tc .vmem S1x11x8x256 .f32) (harg16 : arg16.IsWhole) (arg17 : Memref sig .tc .vmem S512x1024 .bf16) (harg17 : arg17.IsWhole) (arg18 : Memref sig .tc .vmem S512x1024 .f32) (harg18 : arg18.IsWhole) (arg19 : Memref sig .tc .vmem S11x8x256 .f32) (harg19 : arg19.IsWhole) (arg20 : Memref sig .tc .vmem S2x512x256 .f32) (harg20 : arg20.IsWhole) (arg21 : Memref sig .tc .vmem S2x512x256 .f32) (harg21 : arg21.IsWhole)
  (a : Args) (s : Fin 8) (k : Fin 4)

variable {arg2 arg3 arg4 arg5 arg6 arg7 arg8 arg9 arg10 arg11 arg12 arg13 arg14 arg15 arg16 arg17 arg18 arg19 arg20 arg21}
variable (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (f20 : BufTy.Contents (Elt Ideal) arg20.view.ty) (f21 : BufTy.Contents (Elt Ideal) arg21.view.ty)

set_option maxHeartbeats 1000000 in
/-- Part 14 of the program. -/
theorem part14_spec (E : Set ℕ) (v296 : FVec Ideal S512x256 .f32) (h296 : ∀ r x, v296 (ix2 r x) = (a.tile s k).cg r (col 10 x)) {a19 : Vec Ideal S11x8x256 .f32} {a20 : Vec Ideal S2x512x256 .f32} (I : (a.tile s k).Inv 10 (arg18.view.read (Elt Ideal) f18) a19 a20 (arg21.view.read (Elt Ideal) f21)) (h9 : ∀ d, arg9.view.read (Elt Ideal) f9 (ix2 0 d) = a.gf d) (h13 : ∀ f d, arg13.view.read (Elt Ideal) f13 (ix2 f d) = a.wd f d) (h15 : (∀ p r d, arg15.view.read (Elt Ideal) f15 (ix2 (at4 p r) d) = a.x1 (row s (place k (at4 p r))) d)) (K : _ → sProp 𝕄) :
    iprop((arg9.view.loc (c : Thread nD τ) ↦[arg9.view.set]{fullShare} f9) ∗ (arg13.view.loc (c : Thread nD τ) ↦[arg13.view.set]{fullShare} f13) ∗ (arg15.view.loc (c : Thread nD τ) ↦[arg15.view.set]{fullShare} f15) ∗ (arg21.view.loc (c : Thread nD τ) ↦[arg21.view.set]{fullShare} f21) ∗ (arg18.view.loc (c : Thread nD τ) ↦[arg18.view.set]{fullShare} f18)
        ∗ (∀ (v327 : FVec Ideal S128x1024 .f32) (v328 : Vec Ideal S128x1024 .f32) (v330 : FVec Ideal S1x1024 .f32) (v335 : FVec Ideal S128x1 .f32) (v336 : FVec Ideal S128x1 .f32) (g18 : BufTy.Contents (Elt Ideal) arg18.view.ty), iprop((arg9.view.loc (c : Thread nD τ) ↦[arg9.view.set]{fullShare} f9) ∗ (arg13.view.loc (c : Thread nD τ) ↦[arg13.view.set]{fullShare} f13) ∗ (arg15.view.loc (c : Thread nD τ) ↦[arg15.view.set]{fullShare} f15) ∗ (arg21.view.loc (c : Thread nD τ) ↦[arg21.view.set]{fullShare} f21) ∗ (arg18.view.loc (c : Thread nD τ) ↦[arg18.view.set]{fullShare} g18) ∗ ⌜(∃ x : Vec Ideal S128x1024 .f32, v327 = k0_pay57 x ∧ X1 a s k 0 x) ∧ Fp a s k 0 v328 ∧ (∃ g : Vec Ideal S1x1024 .f32, v330 = k0_pay58 g ∧ Gain a.gf g) ∧ v335 = k0_pay59 v328 ∧ v336 = k0_pay60 ∧ (∀ r d, arg18.view.read (Elt Ideal) g18 (ix2 r d) = a.ffn s (place k r) d)⌝) -∗ K ⟨v327, v328, v330, v335, v336⟩))
      ⊢ wp frame (wpE (defs₀ (F := Ideal)) Variants.none c none) E (k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v296) K := by
  simp only [k0_part14_eq_skeleton]; unfold k0_part14_skel
  iintro ⟨H9, H13, H15, H21, H18, Hk⟩
  sl_exec
  sl_step
  iapply Hk
  isplitl [H9]; · iexact H9
  isplitl [H13]; · iexact H13
  isplitl [H15]; · iexact H15
  isplitl [H21]; · iexact H21
  isplitl [H18]; · iexact H18
  ipureintro
  unfold part14_spec.sl.v328 part14_spec.sl.H18_1
  have acc : ∀ (g : BufTy.Contents (Elt Ideal) arg18.view.ty) r d, arg18.view.read (Elt Ideal) (arg18.view.writes (Elt Ideal) g [⟨Rect.unit (s := S512x1024) ![0, 0] S512x1024.size inb_S512x1024_S512x1024_0_0, k0_pay56 v296 (View.readAt (Elt Ideal) arg18.view (Rect.unit (s := S512x1024) ![0, 0] S512x1024.size inb_S512x1024_S512x1024_0_0).toLoadRect f18) (View.readAt (Elt Ideal) arg21.view (Rect.unit (s := S2x512x256) ![0, 0, 0] S1x512x256.size inb_S2x512x256_S1x512x256_0_0_0).toLoadRect f21) (View.readAt (Elt Ideal) arg13.view (Rect.unit (s := S2816x1024) ![2560, 0] S256x1024.size inb_S2816x1024_S256x1024_2560_0).toLoadRect f13)⟩]) (ix2 r d) = a.ffn s (place k r) d :=
    fun g r d => (full_write arg18 g _ _ r d).trans (acc_of a s k v296 _ _ _ h296
      (fun r d => (full_load arg18 f18 _ r d).trans (I.sum r d))
      (fun r x => (slot_load arg21 f21 0 _ r x).trans (I.ups (by decide) r x))
      (fun x d => (load_raw arg13 f13 _ _ _ _ rfl (ix2 x d) (ix2 (col 10 x) d) (by
        intro a; fin_cases a
        · rfl
        · exact (Nat.zero_add _).symm)).trans (h13 _ d)) r d)
  refine ⟨⟨_, rfl, fun r d => ?_⟩, fun r d => ?_, ⟨_, rfl, fun d => ?_⟩, rfl, rfl, acc f18⟩
  · exact (piece_load arg15 f15 0 _ rfl _ r d).trans (h15 0 r d)
  · exact (piece_load arg18 (arg18.view.writes (Elt Ideal) arg18.view.junk _) 0 _ rfl _ r d).trans (acc _ _ d)
  · exact (row_load arg9 f9 _ d).trans (h9 d)

end Parts

end Ffn

end
-- ==== Proof.FfnPartsD.lean ====
module

public import proofs.«01_k».proof.Proof.FfnPiece

/-! # The parts of one tile's program

The program of one tile is a sequence of parts. For each, what it returns and what it leaves in the buffers it
stores to is stated over the call's mathematics. -/

@[expose] public section

set_option maxRecDepth 16384

noncomputable section

namespace Ffn

open Idealize.ShloMosaic Idealize.ShloMosaic.Pointwise Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnKernelIdeal Cert.FfnKernelIdeal.Gen

local notation "𝕄" => MT nD τ sig Unit (Elt Ideal) ℕ (UR sig nD τ) ℕ

section Parts
variable (c : Dev nD) (i : grid0.Coords) (arg2 : Memref sig .tc .vmem S512x1024 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S1x11x8x256 .f32) (harg5 : arg5.IsWhole) (arg6 : Memref sig .tc .vmem S1x512 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S1024x5632 .bf16) (harg12 : arg12.IsWhole) (arg13 : Memref sig .tc .vmem S2816x1024 .bf16) (harg13 : arg13.IsWhole) (arg14 : Memref sig .tc .vmem S8x2816 .f32) (harg14 : arg14.IsWhole) (arg15 : Memref sig .tc .vmem S512x1024 .f32) (harg15 : arg15.IsWhole) (arg16 : Memref sig .tc .vmem S1x11x8x256 .f32) (harg16 : arg16.IsWhole) (arg17 : Memref sig .tc .vmem S512x1024 .bf16) (harg17 : arg17.IsWhole) (arg18 : Memref sig .tc .vmem S512x1024 .f32) (harg18 : arg18.IsWhole) (arg19 : Memref sig .tc .vmem S11x8x256 .f32) (harg19 : arg19.IsWhole) (arg20 : Memref sig .tc .vmem S2x512x256 .f32) (harg20 : arg20.IsWhole) (arg21 : Memref sig .tc .vmem S2x512x256 .f32) (harg21 : arg21.IsWhole)
  (a : Args) (s : Fin 8) (k : Fin 4)

variable {arg2 arg3 arg4 arg5 arg6 arg7 arg8 arg9 arg10 arg11 arg12 arg13 arg14 arg15 arg16 arg17 arg18 arg19 arg20 arg21}
variable (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (f20 : BufTy.Contents (Elt Ideal) arg20.view.ty) (f21 : BufTy.Contents (Elt Ideal) arg21.view.ty)

set_option maxHeartbeats 1000000 in
/-- Part 15 of the program. -/
theorem part15_spec (E : Set ℕ) (v327 : FVec Ideal S128x1024 .f32) (v328 : Vec Ideal S128x1024 .f32) (v330 : FVec Ideal S1x1024 .f32) (v335 : FVec Ideal S128x1 .f32) (v336 : FVec Ideal S128x1 .f32) (h327 : ∃ x : Vec Ideal S128x1024 .f32, v327 = k0_pay57 x ∧ X1 a s k 0 x) (h328 : Fp a s k 0 v328) (h330 : (∃ g : Vec Ideal S1x1024 .f32, v330 = k0_pay58 g ∧ Gain a.gf g)) (h335 : v335 = k0_pay59 v328) (h336 : v336 = k0_pay60) (h9 : ∀ d, arg9.view.read (Elt Ideal) f9 (ix2 0 d) = a.gf d) (h15 : (∀ p r d, arg15.view.read (Elt Ideal) f15 (ix2 (at4 p r) d) = a.x1 (row s (place k (at4 p r))) d)) (h18 : ∀ r d, arg18.view.read (Elt Ideal) f18 (ix2 r d) = a.ffn s (place k r) d) (K : _ → sProp 𝕄) :
    iprop((arg9.view.loc (c : Thread nD τ) ↦[arg9.view.set]{fullShare} f9) ∗ (arg18.view.loc (c : Thread nD τ) ↦[arg18.view.set]{fullShare} f18) ∗ (arg15.view.loc (c : Thread nD τ) ↦[arg15.view.set]{fullShare} f15)
        ∗ (∀ (v365 : FVec Ideal S128x1024 .f32) (v366 : Vec Ideal S128x1024 .f32) (v368 : FVec Ideal S1x1024 .f32) (v373 : FVec Ideal S128x1 .f32) (g15 : BufTy.Contents (Elt Ideal) arg15.view.ty), iprop((arg9.view.loc (c : Thread nD τ) ↦[arg9.view.set]{fullShare} f9) ∗ (arg18.view.loc (c : Thread nD τ) ↦[arg18.view.set]{fullShare} f18) ∗ (arg15.view.loc (c : Thread nD τ) ↦[arg15.view.set]{fullShare} g15) ∗ ⌜(∃ x : Vec Ideal S128x1024 .f32, v365 = k0_pay63 x ∧ X1 a s k 2 x) ∧ Fp a s k 2 v366 ∧ (∃ g : Vec Ideal S1x1024 .f32, v368 = k0_pay64 g ∧ Gain a.gf g) ∧ v373 = k0_pay65 v366 ∧ (∀ p r d, p.1 < 2 → arg15.view.read (Elt Ideal) g15 (ix2 (at4 p r) d) = a.out s (place k (at4 p r)) d) ∧ (∀ p r d, 2 ≤ p.1 → arg15.view.read (Elt Ideal) g15 (ix2 (at4 p r) d) = a.x1 (row s (place k (at4 p r))) d)⌝) -∗ K ⟨v365, v366, v368, v373⟩))
      ⊢ wp frame (wpE (defs₀ (F := Ideal)) Variants.none c none) E (k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v327 v328 v330 v335 v336) K := by
  simp only [k0_part15_eq_skeleton]; unfold k0_part15_skel
  iintro ⟨H9, H18, H15, Hk⟩
  sl_exec
  sl_step
  iapply Hk
  isplitl [H9]; · iexact H9
  isplitl [H18]; · iexact H18
  isplitl [H15]; · iexact H15
  ipureintro
  unfold part15_spec.sl.v364 part15_spec.sl.v345
  obtain ⟨x, rfl, hx⟩ := h327
  obtain ⟨g, rfl, hg⟩ := h330
  subst h335; subst h336
  refine ⟨⟨_, rfl, fun r d => ?_⟩, fun r d => ?_, ⟨_, rfl, fun d => ?_⟩, rfl, fun p r d hp => ?_, fun p r d hp => ?_⟩
  · exact (piece_load arg15 f15 2 _ rfl _ r d).trans (h15 2 r d)
  · exact (piece_load arg18 f18 2 _ rfl _ r d).trans (h18 _ d)
  · exact (row_load arg9 f9 _ d).trans (h9 d)
  · match p, hp with
    | 0, _ => rw [piece_write_ne _ _ 0 1 128 rfl (by decide), piece_write _ _ 0 0 rfl, pay61_at]; exact out_of a s k _ _ _ h328 hx hg r d
    | 1, _ =>
      rw [piece_write _ _ 1 128 rfl, pay62_at]
      exact out_of a s k _ _ _ (fun r d => (piece_load arg18 f18 1 _ rfl _ r d).trans (h18 _ d)) (fun r d => (piece_load arg15 f15 1 _ rfl _ r d).trans (h15 1 r d))
        (fun d => (row_load arg9 f9 _ d).trans (h9 d)) r d
  · match p, hp with
    | 2, _ => rw [piece_write_ne _ _ 2 1 128 rfl (by decide), piece_write_ne _ _ 2 0 0 rfl (by decide)]; exact h15 2 r d
    | 3, _ => rw [piece_write_ne _ _ 3 1 128 rfl (by decide), piece_write_ne _ _ 3 0 0 rfl (by decide)]; exact h15 3 r d

end Parts

end Ffn

end
-- ==== Proof.FfnPartsE.lean ====
module

public import proofs.«01_k».proof.Proof.FfnPiece

/-! # The parts of one tile's program

The program of one tile is a sequence of parts. For each, what it returns and what it leaves in the buffers it
stores to is stated over the call's mathematics. -/

@[expose] public section

set_option maxRecDepth 16384

noncomputable section

namespace Ffn

open Idealize.ShloMosaic Idealize.ShloMosaic.Pointwise Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnKernelIdeal Cert.FfnKernelIdeal.Gen

local notation "𝕄" => MT nD τ sig Unit (Elt Ideal) ℕ (UR sig nD τ) ℕ

section Parts
variable (c : Dev nD) (i : grid0.Coords) (arg2 : Memref sig .tc .vmem S512x1024 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S1x11x8x256 .f32) (harg5 : arg5.IsWhole) (arg6 : Memref sig .tc .vmem S1x512 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S1024x5632 .bf16) (harg12 : arg12.IsWhole) (arg13 : Memref sig .tc .vmem S2816x1024 .bf16) (harg13 : arg13.IsWhole) (arg14 : Memref sig .tc .vmem S8x2816 .f32) (harg14 : arg14.IsWhole) (arg15 : Memref sig .tc .vmem S512x1024 .f32) (harg15 : arg15.IsWhole) (arg16 : Memref sig .tc .vmem S1x11x8x256 .f32) (harg16 : arg16.IsWhole) (arg17 : Memref sig .tc .vmem S512x1024 .bf16) (harg17 : arg17.IsWhole) (arg18 : Memref sig .tc .vmem S512x1024 .f32) (harg18 : arg18.IsWhole) (arg19 : Memref sig .tc .vmem S11x8x256 .f32) (harg19 : arg19.IsWhole) (arg20 : Memref sig .tc .vmem S2x512x256 .f32) (harg20 : arg20.IsWhole) (arg21 : Memref sig .tc .vmem S2x512x256 .f32) (harg21 : arg21.IsWhole)
  (a : Args) (s : Fin 8) (k : Fin 4)

variable {arg2 arg3 arg4 arg5 arg6 arg7 arg8 arg9 arg10 arg11 arg12 arg13 arg14 arg15 arg16 arg17 arg18 arg19 arg20 arg21}
variable (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (f20 : BufTy.Contents (Elt Ideal) arg20.view.ty) (f21 : BufTy.Contents (Elt Ideal) arg21.view.ty)

set_option maxHeartbeats 1000000 in
/-- Part 12 of the program. -/
theorem part12_spec (E : Set ℕ) (v162 : FVec Ideal S128x1024 .f32) (v222 : FVec Ideal S1x1024 .f32) (v225 : FVec Ideal S128x1 .f32) (v226 : FVec Ideal S128x1 .f32) (h162 : X1 a s k 3 v162) (h222 : (∃ g : Vec Ideal S1x1024 .f32, v222 = k0_pay45 g ∧ Gain a.gq g)) (h225 : v225 = k0_pay46 v162) (h226 : v226 = k0_pay47) (h12 : ∀ d f, arg12.view.read (Elt Ideal) f12 (ix2 d f) = a.wu d f) (h13 : ∀ f d, arg13.view.read (Elt Ideal) f13 (ix2 f d) = a.wd f d) (h14 : ∀ m f, arg14.view.read (Elt Ideal) f14 (ix2 m f) = a.cw8 m f) (h17 : (∀ p r d, p.1 < 3 → arg17.view.read (Elt Ideal) f17 (ix2 (at4 p r) d) = a.hid (row s (place k (at4 p r))) d)) (h19 : (∀ (j : Fin 11) (q : Fin 2) (x : Fin 256), arg19.view.read (Elt Ideal) f19 (ix3 j ⟨6 + q.1, by omega⟩ x) = (a.tile s k).pv q (col j x))) (K : _ → sProp 𝕄) :
    iprop((arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21)
        ∗ (∀ (v239 : IVec S512x256 32) (g17 : BufTy.Contents (Elt Ideal) arg17.view.ty) (g18 : BufTy.Contents (Elt Ideal) arg18.view.ty) (g19 : BufTy.Contents (Elt Ideal) arg19.view.ty) (g20 : BufTy.Contents (Elt Ideal) arg20.view.ty) (g21 : BufTy.Contents (Elt Ideal) arg21.view.ty), iprop((arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ ⌜v239 = rowIota ∧ (a.tile s k).Inv 10 (arg18.view.read (Elt Ideal) g18) (arg19.view.read (Elt Ideal) g19) (arg20.view.read (Elt Ideal) g20) (arg21.view.read (Elt Ideal) g21)⌝) -∗ K v239))
      ⊢ wp frame (wpE (defs₀ (F := Ideal)) Variants.none c none) E (k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v162 v222 v225 v226) K := by
  simp only [k0_part12_eq_skeleton]; unfold k0_part12_skel
  iintro ⟨H12, H13, H14, H17, H18, H19, H20, H21, Hk⟩
  sl_exec
  sl_step
  iapply Hk
  isplitl [H12]; · iexact H12
  isplitl [H13]; · iexact H13
  isplitl [H14]; · iexact H14
  isplitl [H17]; · iexact H17
  isplitl [H18]; · iexact H18
  isplitl [H19]; · iexact H19
  isplitl [H20]; · iexact H20
  isplitl [H21]; · iexact H21
  ipureintro
  refine ⟨rfl, ?_⟩
  have e239 : part12_spec.sl.v239 = rowIota := rfl
  simp only [e239]
  unfold part12_spec.sl.H17_1 part12_spec.sl.H18_1
  obtain ⟨g, rfl, hg⟩ := h222
  subst h225; subst h226
  have hh : ∀ r d, arg17.view.read (Elt Ideal) (arg17.view.writes (Elt Ideal) f17 [⟨Rect.unit (s := S512x1024) ![384, 0] S128x1024.size inb_S512x1024_S128x1024_384_0, k0_pay48 v162 (k0_pay45 g) (k0_pay46 v162) k0_pay47⟩]) (ix2 r d) = (a.tile s k).h r d := by
    intro r d
    obtain ⟨p, r, rfl⟩ := exists_at4 r
    match p with
    | 0 => rw [piece_write_ne _ _ 0 3 384 rfl (by decide)]; exact h17 0 r d (by decide)
    | 1 => rw [piece_write_ne _ _ 1 3 384 rfl (by decide)]; exact h17 1 r d (by decide)
    | 2 => rw [piece_write_ne _ _ 2 3 384 rfl (by decide)]; exact h17 2 r d (by decide)
    | 3 => rw [piece_write _ _ 3 384 rfl, pay48_at]; exact hid_of a s k _ _ h162 hg r d
  have H : Holds arg12 arg13 arg14 arg17 f12 f13 f14 _ (a.tile s k) := ⟨hh, h12, h13, h14⟩
  have e10 : 2 * k0_t1_loop.trips = 10 := by decide
  simp only [View.writes_append]
  rw [← e10]
  refine @loop_inv Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v162 (k0_pay45 g) (k0_pay46 v162) k0_pay47 _ _ _ _ (a.tile s k) H _ _ _ _ ?_ _ (Nat.le_refl _)
  refine Tile.Inv.mk ?_ ?_ ?_ ?_ ?_ ?_
  · intro r d; rw [full_write, pay49_at]; rfl
  · intro j q x hj; exact absurd hj (Nat.not_lt_zero _)
  · exact fun j x _ => h19 j 0 x
  · exact fun j x _ => h19 j 1 x
  · intro _ r x
    rw [slot_write, pay50_at]
    exact gate_of (a.tile s k) 0 _ _ (fun r d => h_load (a.tile s k) H _ r d) (fun d x => wu_load (a.tile s k) H _ 0 rfl _ d x _ (by show 256 * 0 + x.1 = 0 + x.1; omega)) r x
  · intro _ r x
    rw [slot_write, pay51_at]
    exact up_of (a.tile s k) 0 _ _ (fun r d => h_load (a.tile s k) H _ r d) (fun d x => wu_load (a.tile s k) H _ 2816 rfl _ d x _ (by show 2816 + (256 * 0 + x.1) = 2816 + x.1; omega)) r x

end Parts

end Ffn

end
-- ==== Proof.FfnBody.lean ====
module

public import proofs.«01_k».proof.Proof.FfnPartsA
public import proofs.«01_k».proof.Proof.FfnPartsB
public import proofs.«01_k».proof.Proof.FfnPartsC
public import proofs.«01_k».proof.Proof.FfnPartsD
public import proofs.«01_k».proof.Proof.FfnPartsE

/-! # One tile's program

The parts of the program one after the other: what the program of one tile leaves in its output buffers and in the
carry, over the call's mathematics. -/

@[expose] public section

set_option maxRecDepth 16384

noncomputable section

namespace Ffn

open Idealize.ShloMosaic Idealize.ShloMosaic.Pointwise Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnKernelIdeal Cert.FfnKernelIdeal.Gen

local notation "𝕄" => MT nD τ sig Unit (Elt Ideal) ℕ (UR sig nD τ) ℕ

section Parts
variable (c : Dev nD) (i : grid0.Coords) (arg2 : Memref sig .tc .vmem S512x1024 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S1x11x8x256 .f32) (harg5 : arg5.IsWhole) (arg6 : Memref sig .tc .vmem S1x512 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S1024x5632 .bf16) (harg12 : arg12.IsWhole) (arg13 : Memref sig .tc .vmem S2816x1024 .bf16) (harg13 : arg13.IsWhole) (arg14 : Memref sig .tc .vmem S8x2816 .f32) (harg14 : arg14.IsWhole) (arg15 : Memref sig .tc .vmem S512x1024 .f32) (harg15 : arg15.IsWhole) (arg16 : Memref sig .tc .vmem S1x11x8x256 .f32) (harg16 : arg16.IsWhole) (arg17 : Memref sig .tc .vmem S512x1024 .bf16) (harg17 : arg17.IsWhole) (arg18 : Memref sig .tc .vmem S512x1024 .f32) (harg18 : arg18.IsWhole) (arg19 : Memref sig .tc .vmem S11x8x256 .f32) (harg19 : arg19.IsWhole) (arg20 : Memref sig .tc .vmem S2x512x256 .f32) (harg20 : arg20.IsWhole) (arg21 : Memref sig .tc .vmem S2x512x256 .f32) (harg21 : arg21.IsWhole)
  (a : Args) (s : Fin 8) (k : Fin 4)

variable {arg2 arg3 arg4 arg5 arg6 arg7 arg8 arg9 arg10 arg11 arg12 arg13 arg14 arg15 arg16 arg17 arg18 arg19 arg20 arg21}
variable (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (f20 : BufTy.Contents (Elt Ideal) arg20.view.ty) (f21 : BufTy.Contents (Elt Ideal) arg21.view.ty)

set_option maxHeartbeats 4000000 in
/-- The program of one tile: its output rows are the call's, and the last eight gate rows are what it leaves in the
state's buffer and in the carry. -/
theorem body_spec (E : Set ℕ) (h2 : ∀ r d, arg2.view.read (Elt Ideal) f2 (ix2 r d) = a.X (row s (place k r)) d) (h3 : ∀ r e, arg3.view.read (Elt Ideal) f3 (ix2 r e) = a.A (row s (place k r)) e) (h4 : ∀ r e, arg4.view.read (Elt Ideal) f4 (ix2 r e) = a.Y (row s (place k r)) e) (h5 : Scalar.cmpi .ne (Scalar.extui (Scalar.cmpi .eq (BitVec.ofNat 32 (i 1).val) 0#32)) 0#32 = 1#1 → ∀ (j : Fin 11) (q : Fin 2) (x : Fin 256), arg5.view.read (Elt Ideal) f5 (ix4 0 j ⟨6 + q.1, by omega⟩ x) = (a.tile s k).pv q (col j x)) (h6 : ∀ e, arg6.view.read (Elt Ideal) f6 (ix2 0 e) = a.ga e) (h7 : ∀ d, arg7.view.read (Elt Ideal) f7 (ix2 0 d) = a.gp d) (h8 : ∀ d, arg8.view.read (Elt Ideal) f8 (ix2 0 d) = a.gq d) (h9 : ∀ d, arg9.view.read (Elt Ideal) f9 (ix2 0 d) = a.gf d) (h10 : ∀ (e : Fin 512) d, arg10.view.read (Elt Ideal) f10 (ix2 e d) = a.w ⟨e.1, by omega⟩ d) (h11 : ∀ (e : Fin 512) d, arg11.view.read (Elt Ideal) f11 (ix2 e d) = a.w ⟨512 + e.1, by omega⟩ d) (h12 : ∀ d f, arg12.view.read (Elt Ideal) f12 (ix2 d f) = a.wu d f) (h13 : ∀ f d, arg13.view.read (Elt Ideal) f13 (ix2 f d) = a.wd f d) (h14 : ∀ m f, arg14.view.read (Elt Ideal) f14 (ix2 m f) = a.cw8 m f) (h19 : ¬ Scalar.cmpi .ne (Scalar.extui (Scalar.cmpi .eq (BitVec.ofNat 32 (i 1).val) 0#32)) 0#32 = 1#1 → (∀ (j : Fin 11) (q : Fin 2) (x : Fin 256), arg19.view.read (Elt Ideal) f19 (ix3 j ⟨6 + q.1, by omega⟩ x) = (a.tile s k).pv q (col j x))) (K : _ → sProp 𝕄) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21)
        ∗ (∀ (g15 : BufTy.Contents (Elt Ideal) arg15.view.ty) (g16 : BufTy.Contents (Elt Ideal) arg16.view.ty) (g17 : BufTy.Contents (Elt Ideal) arg17.view.ty) (g18 : BufTy.Contents (Elt Ideal) arg18.view.ty) (g19 : BufTy.Contents (Elt Ideal) arg19.view.ty) (g20 : BufTy.Contents (Elt Ideal) arg20.view.ty) (g21 : BufTy.Contents (Elt Ideal) arg21.view.ty), iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ ⌜(∀ r d, arg15.view.read (Elt Ideal) g15 (ix2 r d) = a.out s (place k r) d) ∧ (∀ (j : Fin 11) (q : Fin 8) (x : Fin 256), arg16.view.read (Elt Ideal) g16 (ix4 0 j q x) = (a.tile s k).gate ⟨504 + q.1, by omega⟩ (col j x)) ∧ (∀ (j : Fin 11) (q : Fin 8) (x : Fin 256), arg19.view.read (Elt Ideal) g19 (ix3 j q x) = (a.tile s k).gate ⟨504 + q.1, by omega⟩ (col j x))⌝) -∗ K PUnit.unit))
      ⊢ wp frame (wpE (defs₀ (F := Ideal)) Variants.none c none) E (cc0_out_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_out_ffn_eq_skeleton]; unfold cc0_out_ffn_skel
  simp only [k0_part16_eq_skeleton]; unfold k0_part16_skel
  iintro ⟨H2, H3, H4, H5, H6, H7, H8, H9, H10, H11, H12, H13, H14, H15, H16, H17, H18, H19, H20, H21, Hk⟩
  rw [wp_bind]
  rw [wp_bind]
  iapply (part6_spec c i harg2 harg3 harg4 harg5 harg6 harg7 harg8 harg9 harg10 harg11 harg12 harg13 harg14 harg15 harg16 harg17 harg18 harg19 harg20 harg21 a s k f3 f5 f6 f19 E  h3 h6 h5 h19 _)
  isplitl [H3]; · iexact H3
  isplitl [H5]; · iexact H5
  isplitl [H6]; · iexact H6
  isplitl [H19]; · iexact H19
  iintro %v18 %v34 %v35 %v36 %g19_6 ⟨H3, H5, H6, H19, %hf⟩
  obtain ⟨h18, h34, h35, h36, hpv⟩ := hf
  dsimp only
  rw [wp_bind]
  iapply (part7_spec c i harg2 harg3 harg4 harg5 harg6 harg7 harg8 harg9 harg10 harg11 harg12 harg13 harg14 harg15 harg16 harg17 harg18 harg19 harg20 harg21 a s k f3 f4 f6 f10 f11 E _ _ _ h18 h35 h36 h3 h4 h6 h10 h11 _)
  isplitl [H3]; · iexact H3
  isplitl [H4]; · iexact H4
  isplitl [H6]; · iexact H6
  isplitl [H10]; · iexact H10
  isplitl [H11]; · iexact H11
  iintro %v50 %v66 %v74 %v76 ⟨H3, H4, H6, H10, H11, %hf⟩
  obtain ⟨h50, h66, h74, h76⟩ := hf
  dsimp only
  rw [wp_bind]
  iapply (part8_spec c i harg2 harg3 harg4 harg5 harg6 harg7 harg8 harg9 harg10 harg11 harg12 harg13 harg14 harg15 harg16 harg17 harg18 harg19 harg20 harg21 a s k f2 f4 f7 f10 f11 E _ _ _ _ _ h34 h50 h66 h76 h2 h4 h7 h10 h11 _)
  isplitl [H2]; · iexact H2
  isplitl [H4]; · iexact H4
  isplitl [H7]; · iexact H7
  isplitl [H10]; · iexact H10
  isplitl [H11]; · iexact H11
  iintro %v82 %v90 %v98 %v99 %v101 %v106 %v107 ⟨H2, H4, H7, H10, H11, %hf⟩
  obtain ⟨h82, h90, h98, h99, h101, h106, h107⟩ := hf
  dsimp only
  rw [wp_bind]
  iapply (part9_spec c i harg2 harg3 harg4 harg5 harg6 harg7 harg8 harg9 harg10 harg11 harg12 harg13 harg14 harg15 harg16 harg17 harg18 harg19 harg20 harg21 a s k f2 f7 E _ _ _ _ _ _ _ h74 h82 h90 h99 h101 h106 h107 h2 h7 _)
  isplitl [H2]; · iexact H2
  isplitl [H7]; · iexact H7
  iintro %v114 %v130 %v146 %v147 %v149 ⟨H2, H7, %hf⟩
  obtain ⟨h114, h130, h146, h147, h149⟩ := hf
  dsimp only
  rw [wp_bind]
  iapply (part10_spec c i harg2 harg3 harg4 harg5 harg6 harg7 harg8 harg9 harg10 harg11 harg12 harg13 harg14 harg15 harg16 harg17 harg18 harg19 harg20 harg21 a s k f8 f15 f17 E _ _ _ _ _ h98 h114 h130 h147 h149 h8 _)
  isplitl [H8]; · iexact H8
  isplitl [H15]; · iexact H15
  isplitl [H17]; · iexact H17
  iintro %v162 %v184 %v187 %v188 %g15_10 %g17_10 ⟨H8, H15, H17, %hf⟩
  obtain ⟨h162, h184, h187, h188, h15, h17⟩ := hf
  dsimp only
  rw [wp_bind]
  iapply (part11_spec c i harg2 harg3 harg4 harg5 harg6 harg7 harg8 harg9 harg10 harg11 harg12 harg13 harg14 harg15 harg16 harg17 harg18 harg19 harg20 harg21 a s k f8 g15_10 g17_10 E _ _ _ _ _ _ h130 h146 h162 h184 h187 h188 h8 h15 h17 _)
  isplitl [H8]; · iexact H8
  isplitl [H15]; · iexact H15
  isplitl [H17]; · iexact H17
  iintro %v222 %v225 %v226 %g15_11 %g17_11 ⟨H8, H15, H17, %hf⟩
  obtain ⟨h222, h225, h226, hx, hh⟩ := hf
  dsimp only
  rw [wp_bind]
  iapply (part12_spec c i harg2 harg3 harg4 harg5 harg6 harg7 harg8 harg9 harg10 harg11 harg12 harg13 harg14 harg15 harg16 harg17 harg18 harg19 harg20 harg21 a s k f12 f13 f14 g17_11 f18 g19_6 f20 f21 E _ _ _ _ h162 h222 h225 h226 h12 h13 h14 hh hpv _)
  isplitl [H12]; · iexact H12
  isplitl [H13]; · iexact H13
  isplitl [H14]; · iexact H14
  isplitl [H17]; · iexact H17
  isplitl [H18]; · iexact H18
  isplitl [H19]; · iexact H19
  isplitl [H20]; · iexact H20
  isplitl [H21]; · iexact H21
  iintro %v239 %g17_12 %g18_12 %g19_12 %g20_12 %g21_12 ⟨H12, H13, H14, H17, H18, H19, H20, H21, %hf⟩
  obtain ⟨h239, hI⟩ := hf

  rw [wp_bind]
  iapply (part13_spec c i harg2 harg3 harg4 harg5 harg6 harg7 harg8 harg9 harg10 harg11 harg12 harg13 harg14 harg15 harg16 harg17 harg18 harg19 harg20 harg21 a s k f14 g19_12 g20_12 E _ h239 hI h14 _)
  isplitl [H14]; · iexact H14
  isplitl [H20]; · iexact H20
  isplitl [H19]; · iexact H19
  iintro %v296 %g19_13 ⟨H14, H20, H19, %hf⟩
  obtain ⟨h296, hgate⟩ := hf

  rw [wp_bind]
  iapply (part14_spec c i harg2 harg3 harg4 harg5 harg6 harg7 harg8 harg9 harg10 harg11 harg12 harg13 harg14 harg15 harg16 harg17 harg18 harg19 harg20 harg21 a s k f9 f13 g15_11 g18_12 g21_12 E _ h296 hI h9 h13 hx _)
  isplitl [H9]; · iexact H9
  isplitl [H13]; · iexact H13
  isplitl [H15]; · iexact H15
  isplitl [H21]; · iexact H21
  isplitl [H18]; · iexact H18
  iintro %v327 %v328 %v330 %v335 %v336 %g18_14 ⟨H9, H13, H15, H21, H18, %hf⟩
  obtain ⟨h327, h328, h330, h335, h336, hacc⟩ := hf
  dsimp only
  rw [wp_bind]
  iapply (part15_spec c i harg2 harg3 harg4 harg5 harg6 harg7 harg8 harg9 harg10 harg11 harg12 harg13 harg14 harg15 harg16 harg17 harg18 harg19 harg20 harg21 a s k f9 g15_11 g18_14 E _ _ _ _ _ h327 h328 h330 h335 h336 h9 hx hacc _)
  isplitl [H9]; · iexact H9
  isplitl [H18]; · iexact H18
  isplitl [H15]; · iexact H15
  iintro %v365 %v366 %v368 %v373 %g15_15 ⟨H9, H18, H15, %hf⟩
  obtain ⟨h365, h366, h368, h373, hlo, hhi⟩ := hf
  dsimp only
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  ipureintro
  unfold body_spec.sl.v383 body_spec.sl.r
  obtain ⟨x2, rfl, hx2⟩ := h365
  obtain ⟨g, rfl, hg⟩ := h368
  subst h373
  refine ⟨fun r d => ?_, fun j q x => ?_, hgate⟩
  · obtain ⟨p, r, rfl⟩ := exists_at4 r
    match p with
    | 0 =>
      refine (piece_write_ne _ _ 0 3 384 rfl (by decide) _ _ _ r d).trans ((piece_write_ne _ _ 0 2 256 rfl (by decide) _ _ _ r d).trans ?_)
      exact hlo 0 r d (by decide)
    | 1 =>
      refine (piece_write_ne _ _ 1 3 384 rfl (by decide) _ _ _ r d).trans ((piece_write_ne _ _ 1 2 256 rfl (by decide) _ _ _ r d).trans ?_)
      exact hlo 1 r d (by decide)
    | 2 =>
      refine (piece_write_ne _ _ 2 3 384 rfl (by decide) _ _ _ r d).trans ((piece_write _ _ 2 256 rfl _ _ _ r d).trans ?_)
      rw [pay66_at]
      exact out_of a s k _ _ _ h366 hx2 hg r d
    | 3 =>
      refine (piece_write _ _ 3 384 rfl _ _ _ r d).trans ?_
      rw [pay67_at]
      exact out_of a s k _ _ _ (fun r d => (piece_load arg18 g18_14 3 _ rfl _ r d).trans (hacc _ d)) (fun r d => (piece_load arg15 g15_15 3 _ rfl _ r d).trans (hhi 3 r d (by decide)))
        (fun d => (row_load arg9 f9 _ d).trans (h9 d)) r d
  · refine (congrFun (View.read_writes_full arg16.view f16 _ _ []) (ix4 0 j q x)).trans ?_
    rw [pay1_at]
    exact (load_raw arg19 g19_13 _ _ _ _ rfl (ix3 j q x) (ix3 j q x) (by intro a; fin_cases a <;> exact (Nat.zero_add _).symm)).trans (hgate j q x)

end Parts

end Ffn

end
-- ==== Proof.FfnRefValue.lean ====
module

public import proofs.«01_k».proof.Proof.FfnSpec
public import proofs.«01_k».proof.Proof.Gen.FfnRefIdeal.Read

/-! # The reference's two results are the formulas -/

@[expose] public section

set_option maxRecDepth 16384

noncomputable section

namespace Ffn

open Idealize.ShloMosaic Idealize.ShloMosaic.Pointwise Idealize.ShloMosaic.WordCmp Cert.FfnRefIdeal Cert.FfnRefIdeal.Gen
open Cert.FfnRefIdeal.Read

variable (x0 : Vec Ideal S16384x1024 .f32) (x1 : Vec Ideal S16384x512 .f32) (x2 : Vec Ideal S16384x512 .bf16)
  (x3 : Vec Ideal S8x2x2816 .f32) (x4 : Vec Ideal S512 .f32) (x5 x6 x7 : Vec Ideal S1024 .f32) (x8 : Vec Ideal S1024x1024 .f32)
  (x9 : Vec Ideal S1024x5632 .f32) (x10 : Vec Ideal S2816x1024 .f32) (x11 : Vec Ideal S3x2816 .f32) (x12 : Vec Ideal S2816 .f32)

/-- The arrays as the formulas' arguments. -/
def argsOf : Args where
  X R d := x0 (ix2 R d)
  A R e := x1 (ix2 R e)
  Y R e := x2 (ix2 R e)
  P s k f := x3 (ix3 s k f)
  ga e := x4 (ix1 e)
  gp d := x5 (ix1 d)
  gq d := x6 (ix1 d)
  gf d := x7 (ix1 d)
  w e d := x8 (ix2 e d)
  wu d f := x9 (ix2 d f)
  wd f d := x10 (ix2 f d)
  cw k f := x11 (ix2 k f)
  cb f := x12 (ix1 f)

theorem ref_an (R : Fin 16384) (e : Fin 512) : val_main_v12 (F := Ideal) x1 x4 (ix2 R e) = (argsOf x0 x1 x2 x3 x4 x5 x6 x7 x8 x9 x10 x11 x12).an R e := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem ref_mix (R : Fin 16384) (d : Fin 1024) : val_main_v15 (F := Ideal) x1 x2 x4 x8 (ix2 R d) = (argsOf x0 x1 x2 x3 x4 x5 x6 x7 x8 x9 x10 x11 x12).mix R d := by
  have hA : ∀ e : Fin 512, val_main_v14 (F := Ideal) x1 x2 x4 (ix2 R (⟨e.1, by omega⟩ : Fin 1024)) = (argsOf x0 x1 x2 x3 x4 x5 x6 x7 x8 x9 x10 x11 x12).an R e := fun e => by
    rw [← ref_an x0 x1 x2 x3 x4 x5 x6 x7 x8 x9 x10 x11 x12 R e]
    pointwise [val_main_v14]
  have hY : ∀ e : Fin 512, val_main_v14 (F := Ideal) x1 x2 x4 (ix2 R (⟨512 + e.1, by omega⟩ : Fin 1024)) = x2 (ix2 R e) := fun e => by
    pointwise [val_main_v14]
    pointwise [val_main_v13]
  pointwise [val_main_v15]
  unfold Args.mix
  rw [Fin.sum_univ_add (a := 512) (b := 512)]
  refine congrArg₂ (· + ·) (Finset.sum_congr rfl fun e _ => ?_) (Finset.sum_congr rfl fun e _ => ?_)
  · exact congrArg (· * _) (hA e)
  · exact congrArg (· * _) (hY e)

theorem ref_x1 (R : Fin 16384) (d : Fin 1024) : val_main_v29 (F := Ideal) x0 x1 x2 x4 x5 x8 (ix2 R d) = (argsOf x0 x1 x2 x3 x4 x5 x6 x7 x8 x9 x10 x11 x12).x1 R d := by
  pointwise [val_main_v29, val_main_v28, val_main_v27, val_main_v26, val_main_v25, val_main_v24, val_main_v23, val_main_v22, val_main_v21, val_main_v20, val_main_v19, val_main_v18, val_main_v17, val_main_v16, val_main_cst_2, val_main_cst_3, val_main_cst_4]
  simp only [ref_mix x0 x1 x2 x3 x4 x5 x6 x7 x8 x9 x10 x11 x12]
  rfl

theorem ref_hid (R : Fin 16384) (d : Fin 1024) : val_main_v42 (F := Ideal) x0 x1 x2 x4 x5 x6 x8 (ix2 R d) = (argsOf x0 x1 x2 x3 x4 x5 x6 x7 x8 x9 x10 x11 x12).hid R d := by
  pointwise [val_main_v42, val_main_v41, val_main_v40, val_main_v39, val_main_v38, val_main_v37, val_main_v36, val_main_v35, val_main_v34, val_main_v33, val_main_v32, val_main_v31, val_main_v30, val_main_cst_5, val_main_cst_6, val_main_cst_7]
  simp only [ref_x1 x0 x1 x2 x3 x4 x5 x6 x7 x8 x9 x10 x11 x12]
  rfl

theorem ref_proj (R : Fin 16384) (f : Fin 5632) :
    val_main_v43 (F := Ideal) x0 x1 x2 x4 x5 x6 x8 x9 (ix2 R f) = ∑ d : Fin 1024, (argsOf x0 x1 x2 x3 x4 x5 x6 x7 x8 x9 x10 x11 x12).hid R d * x9 (ix2 d f) := by
  pointwise [val_main_v43]
  simp only [ref_hid x0 x1 x2 x3 x4 x5 x6 x7 x8 x9 x10 x11 x12]
  try rfl

theorem ref_hist (s : Fin 8) (u : Fin 2050) (f : Fin 2816) :
    val_main_v47 (F := Ideal) x0 x1 x2 x3 x4 x5 x6 x8 x9 (ix3 s u f) = (argsOf x0 x1 x2 x3 x4 x5 x6 x7 x8 x9 x10 x11 x12).hist s u f := by
  unfold Args.hist
  pointwise [val_main_v47, val_main_v45, val_main_v44]
  split
  · rfl
  · exact ref_proj x0 x1 x2 x3 x4 x5 x6 x7 x8 x9 x10 x11 x12 _ _

theorem ref_cg (s : Fin 8) (t : Fin 2048) (f : Fin 2816) :
    val_main_v69 (F := Ideal) x0 x1 x2 x3 x4 x5 x6 x8 x9 x11 x12 (ix3 s t f) = (argsOf x0 x1 x2 x3 x4 x5 x6 x7 x8 x9 x10 x11 x12).cg s t f := by
  pointwise [val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48]
  simp only [ref_hist x0 x1 x2 x3 x4 x5 x6 x7 x8 x9 x10 x11 x12]
  rfl

/-- The two ways of multiplying the gelu's factors agree. -/
theorem gelu_eq (x : EReal) : x * (half * (1 + Ideal.tanh (gs * (x + gk * (x * x * x))))) = gelu x := by
  unfold gelu
  rw [← mul_assoc, mul_comm x half]

theorem ref_gelu (s : Fin 8) (t : Fin 2048) (f : Fin 2816) :
    val_main_v82 (F := Ideal) x0 x1 x2 x3 x4 x5 x6 x8 x9 x11 x12 (ix3 s t f) = gelu ((argsOf x0 x1 x2 x3 x4 x5 x6 x7 x8 x9 x10 x11 x12).cg s t f) := by
  rw [← gelu_eq]
  pointwise [val_main_v82, val_main_v81, val_main_v80, val_main_v79, val_main_v78, val_main_v77, val_main_v76, val_main_v75, val_main_v74, val_main_v73, val_main_v72, val_main_v71, val_main_v70, val_main_cst_8, val_main_cst_9, val_main_cst_10, val_main_cst_11]
  simp only [ref_cg x0 x1 x2 x3 x4 x5 x6 x7 x8 x9 x10 x11 x12]
  rfl

theorem ref_gated (s : Fin 8) (t : Fin 2048) (f : Fin 2816) :
    val_main_v84 (F := Ideal) x0 x1 x2 x3 x4 x5 x6 x8 x9 x11 x12 (ix2 (row s t) f) = gelu ((argsOf x0 x1 x2 x3 x4 x5 x6 x7 x8 x9 x10 x11 x12).cg s t f) * (argsOf x0 x1 x2 x3 x4 x5 x6 x7 x8 x9 x10 x11 x12).up (row s t) f := by
  have e83 : val_main_v83 (F := Ideal) x0 x1 x2 x3 x4 x5 x6 x8 x9 x11 x12 (ix2 (row s t) f) = gelu ((argsOf x0 x1 x2 x3 x4 x5 x6 x7 x8 x9 x10 x11 x12).cg s t f) := by
    rw [← ref_gelu x0 x1 x2 x3 x4 x5 x6 x7 x8 x9 x10 x11 x12, val_main_v83_apply]
    refine congrArg _ (funext fun a => Fin.ext ?_)
    match a with
    | ⟨0, _⟩ => show ((s.1 * 2048 + t.1) * 2816 + f.1) / 5767168 = s.1; omega
    | ⟨1, _⟩ => show ((s.1 * 2048 + t.1) * 2816 + f.1) / 2816 % 2048 = t.1; omega
    | ⟨2, _⟩ => show ((s.1 * 2048 + t.1) * 2816 + f.1) % 2816 = f.1; omega
  have e46 : val_main_v46 (F := Ideal) x0 x1 x2 x4 x5 x6 x8 x9 (ix2 (row s t) f) = (argsOf x0 x1 x2 x3 x4 x5 x6 x7 x8 x9 x10 x11 x12).up (row s t) f := by
    pointwise [val_main_v46]
    exact ref_proj x0 x1 x2 x3 x4 x5 x6 x7 x8 x9 x10 x11 x12 _ _
  rw [val_main_v84_apply, e83, e46]
  rfl

theorem ref_ffn (s : Fin 8) (t : Fin 2048) (d : Fin 1024) :
    val_main_v85 (F := Ideal) x0 x1 x2 x3 x4 x5 x6 x8 x9 x10 x11 x12 (ix2 (row s t) d) = (argsOf x0 x1 x2 x3 x4 x5 x6 x7 x8 x9 x10 x11 x12).ffn s t d := by
  pointwise [val_main_v85]
  simp only [ref_gated x0 x1 x2 x3 x4 x5 x6 x7 x8 x9 x10 x11 x12]
  rfl

/-- The reference's output rows. -/
theorem ref_out (s : Fin 8) (t : Fin 2048) (d : Fin 1024) :
    val_main_v99 (F := Ideal) x0 x1 x2 x3 x4 x5 x6 x7 x8 x9 x10 x11 x12 (ix2 (row s t) d) = (argsOf x0 x1 x2 x3 x4 x5 x6 x7 x8 x9 x10 x11 x12).out s t d := by
  pointwise [val_main_v99, val_main_v98, val_main_v97, val_main_v96, val_main_v95, val_main_v94, val_main_v93, val_main_v92, val_main_v91, val_main_v90, val_main_v89, val_main_v88, val_main_v87, val_main_v86, val_main_cst_12, val_main_cst_13, val_main_cst_14]
  simp only [ref_ffn x0 x1 x2 x3 x4 x5 x6 x7 x8 x9 x10 x11 x12, ref_x1 x0 x1 x2 x3 x4 x5 x6 x7 x8 x9 x10 x11 x12]
  rfl

/-- The reference's state: the last eight gate rows of each sequence, by groups of 256 columns. -/
theorem ref_state (s : Fin 8) (j : Fin 11) (q : Fin 8) (x : Fin 256) :
    val_main_v102 (F := Ideal) x0 x1 x2 x3 x4 x5 x6 x8 x9 (ix4 s j q x) = (argsOf x0 x1 x2 x3 x4 x5 x6 x7 x8 x9 x10 x11 x12).hist s ⟨2042 + q.1, by omega⟩ (col j x) := by
  rw [val_main_v102_apply, val_main_v101_apply, val_main_v100_apply, ← ref_hist x0 x1 x2 x3 x4 x5 x6 x7 x8 x9 x10 x11 x12]
  refine congrArg _ (funext fun a => Fin.ext ?_)
  match a with
  | ⟨0, _⟩ => show (((s.1 * 8 + q.1) * 11 + j.1) * 256 + x.1) / 22528 = s.1; omega
  | ⟨1, _⟩ => show 2042 + (((s.1 * 8 + q.1) * 11 + j.1) * 256 + x.1) / 2816 % 8 = 2042 + q.1; omega
  | ⟨2, _⟩ => show (((s.1 * 8 + q.1) * 11 + j.1) * 256 + x.1) % 2816 = 256 * j.1 + x.1; omega

end Ffn

end
-- ==== Proof.FfnWindows.lean ====
module

public import proofs.«01_k».proof.Proof.FfnTile
public import proofs.«01_k».proof.Proof.FfnRefValue
public import proofs.«01_k».proof.Proof.Gen.FfnKernelIdeal.Frame
public import Idealize.ShloMosaic.Lib.Claim
public import Idealize.ShloMosaic.Lib.Pipeline.ValueKit

/-! # What the feed-forward call's input blocks hold

Point `4·s + k` of the grid works on tile `k` of sequence `s`. -/

@[expose] public section

set_option maxRecDepth 16384

noncomputable section

namespace Ffn

open Idealize.ShloMosaic Idealize.ShloMosaic.Pointwise Idealize.ShloMosaic.WordCmp Idealize.ShloMosaic.TcCoe Idealize.SL.Sem
open Cert.FfnKernelIdeal Cert.FfnKernelIdeal.Gen

variable (m : (ℓ : Loc nD τ sig) → Buf (Elt Ideal) ℓ) (c : Dev nD)

theorem index0 : ∀ t : Fin grid0.N, win0_0.index t = ![t.1, 0] := by decide +kernel
theorem index1 : ∀ t : Fin grid0.N, win0_1.index t = ![t.1, 0] := by decide +kernel
theorem index2 : ∀ t : Fin grid0.N, win0_2.index t = ![t.1, 0] := by decide +kernel
theorem index3 : ∀ t : Fin grid0.N, win0_3.index t = ![t.1 / 4, 0, 0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![0, 0] := by decide +kernel
theorem index10 : ∀ t : Fin grid0.N, win0_10.index t = ![0, 0] := by decide +kernel
theorem index11 : ∀ t : Fin grid0.N, win0_11.index t = ![0, 0] := by decide +kernel
theorem index12 : ∀ t : Fin grid0.N, win0_12.index t = ![0, 0] := by decide +kernel
theorem index13 : ∀ t : Fin grid0.N, win0_13.index t = ![t.1, 0] := by decide +kernel
theorem index14 : ∀ t : Fin grid0.N, win0_14.index t = ![t.1 / 4, 0, 0, 0] := by decide +kernel

/-- Input block 0 of point `t`. -/
theorem blk0 (t : Fin cfg0.N) (R : Fin 16384) (r : Fin 512) (hR : R.1 = 512 * t.1 + r.1) (d : Fin 1024) :
    iblk m c 0 t (ix2 r d) = (V m c main_arg0 : Vec Ideal S16384x1024 .f32) (ix2 R d) := by
  unfold iblk
  rw [View.read_apply]
  show V m c main_arg0 _ = _
  congr 1
  funext a
  apply Fin.ext
  have h := index0 t
  match a with
  | ⟨0, _⟩ => show win0_0.index t 0 * 512 + 1 * r.1 = R.1; rw [h, hR]; show t.1 * 512 + 1 * r.1 = 512 * t.1 + r.1; omega
  | ⟨1, _⟩ => show win0_0.index t 1 * 1024 + 1 * d.1 = d.1; rw [h]; show 0 * 1024 + 1 * d.1 = d.1; omega

/-- Input block 1 of point `t`. -/
theorem blk1 (t : Fin cfg0.N) (R : Fin 16384) (r : Fin 512) (hR : R.1 = 512 * t.1 + r.1) (d : Fin 512) :
    iblk m c 1 t (ix2 r d) = (V m c main_arg1 : Vec Ideal S16384x512 .f32) (ix2 R d) := by
  unfold iblk
  rw [View.read_apply]
  show V m c main_arg1 _ = _
  congr 1
  funext a
  apply Fin.ext
  have h := index1 t
  match a with
  | ⟨0, _⟩ => show win0_1.index t 0 * 512 + 1 * r.1 = R.1; rw [h, hR]; show t.1 * 512 + 1 * r.1 = 512 * t.1 + r.1; omega
  | ⟨1, _⟩ => show win0_1.index t 1 * 512 + 1 * d.1 = d.1; rw [h]; show 0 * 512 + 1 * d.1 = d.1; omega

/-- Input block 2 of point `t`. -/
theorem blk2 (t : Fin cfg0.N) (R : Fin 16384) (r : Fin 512) (hR : R.1 = 512 * t.1 + r.1) (d : Fin 512) :
    iblk m c 2 t (ix2 r d) = (V m c main_arg2 : Vec Ideal S16384x512 .bf16) (ix2 R d) := by
  unfold iblk
  rw [View.read_apply]
  show V m c main_arg2 _ = _
  congr 1
  funext a
  apply Fin.ext
  have h := index2 t
  match a with
  | ⟨0, _⟩ => show win0_2.index t 0 * 512 + 1 * r.1 = R.1; rw [h, hR]; show t.1 * 512 + 1 * r.1 = 512 * t.1 + r.1; omega
  | ⟨1, _⟩ => show win0_2.index t 1 * 512 + 1 * d.1 = d.1; rw [h]; show 0 * 512 + 1 * d.1 = d.1; omega

/-- Input block 3 of point `t`. -/
theorem blk3 (t : Fin cfg0.N) (s : Fin 8) (hs : s.1 = t.1 / 4) (j : Fin 11) (q : Fin 8) (x : Fin 256) :
    iblk m c 3 t (ix4 0 j q x) = (V m c main_v16 : Vec Ideal S8x11x8x256 .f32) (ix4 s j q x) := by
  unfold iblk
  rw [View.read_apply]
  show V m c main_v16 _ = _
  congr 1
  funext a
  apply Fin.ext
  have h := index3 t
  match a with
  | ⟨0, _⟩ => show win0_3.index t 0 * 1 + 1 * 0 = s.1; rw [h, hs]; show t.1 / 4 * 1 + 1 * 0 = t.1 / 4; omega
  | ⟨1, _⟩ => show win0_3.index t 1 * 11 + 1 * j.1 = j.1; rw [h]; show 0 * 11 + 1 * j.1 = j.1; omega
  | ⟨2, _⟩ => show win0_3.index t 2 * 8 + 1 * q.1 = q.1; rw [h]; show 0 * 8 + 1 * q.1 = q.1; omega
  | ⟨3, _⟩ => show win0_3.index t 3 * 256 + 1 * x.1 = x.1; rw [h]; show 0 * 256 + 1 * x.1 = x.1; omega

/-- Input block 4 of point `t`. -/
theorem blk4 (t : Fin cfg0.N) (p : Fin 1) (q : Fin 512) :
    iblk m c 4 t (ix2 p q) = (V m c main_v3 : Vec Ideal S1x512 .f32) (ix2 p q) := by
  unfold iblk
  rw [View.read_apply]
  show V m c main_v3 _ = _
  congr 1
  funext a
  apply Fin.ext
  have h := index4 t
  match a with
  | ⟨0, _⟩ => show win0_4.index t 0 * 1 + 1 * p.1 = p.1; rw [h]; show 0 * 1 + 1 * p.1 = p.1; omega
  | ⟨1, _⟩ => show win0_4.index t 1 * 512 + 1 * q.1 = q.1; rw [h]; show 0 * 512 + 1 * q.1 = q.1; omega

/-- Input block 5 of point `t`. -/
theorem blk5 (t : Fin cfg0.N) (p : Fin 1) (q : Fin 1024) :
    iblk m c 5 t (ix2 p q) = (V m c main_v4 : Vec Ideal S1x1024 .f32) (ix2 p q) := by
  unfold iblk
  rw [View.read_apply]
  show V m c main_v4 _ = _
  congr 1
  funext a
  apply Fin.ext
  have h := index5 t
  match a with
  | ⟨0, _⟩ => show win0_5.index t 0 * 1 + 1 * p.1 = p.1; rw [h]; show 0 * 1 + 1 * p.1 = p.1; omega
  | ⟨1, _⟩ => show win0_5.index t 1 * 1024 + 1 * q.1 = q.1; rw [h]; show 0 * 1024 + 1 * q.1 = q.1; omega

/-- Input block 6 of point `t`. -/
theorem blk6 (t : Fin cfg0.N) (p : Fin 1) (q : Fin 1024) :
    iblk m c 6 t (ix2 p q) = (V m c main_v5 : Vec Ideal S1x1024 .f32) (ix2 p q) := by
  unfold iblk
  rw [View.read_apply]
  show V m c main_v5 _ = _
  congr 1
  funext a
  apply Fin.ext
  have h := index6 t
  match a with
  | ⟨0, _⟩ => show win0_6.index t 0 * 1 + 1 * p.1 = p.1; rw [h]; show 0 * 1 + 1 * p.1 = p.1; omega
  | ⟨1, _⟩ => show win0_6.index t 1 * 1024 + 1 * q.1 = q.1; rw [h]; show 0 * 1024 + 1 * q.1 = q.1; omega

/-- Input block 7 of point `t`. -/
theorem blk7 (t : Fin cfg0.N) (p : Fin 1) (q : Fin 1024) :
    iblk m c 7 t (ix2 p q) = (V m c main_v6 : Vec Ideal S1x1024 .f32) (ix2 p q) := by
  unfold iblk
  rw [View.read_apply]
  show V m c main_v6 _ = _
  congr 1
  funext a
  apply Fin.ext
  have h := index7 t
  match a with
  | ⟨0, _⟩ => show win0_7.index t 0 * 1 + 1 * p.1 = p.1; rw [h]; show 0 * 1 + 1 * p.1 = p.1; omega
  | ⟨1, _⟩ => show win0_7.index t 1 * 1024 + 1 * q.1 = q.1; rw [h]; show 0 * 1024 + 1 * q.1 = q.1; omega

/-- Input block 8 of point `t`. -/
theorem blk8 (t : Fin cfg0.N) (p : Fin 512) (q : Fin 1024) :
    iblk m c 8 t (ix2 p q) = (V m c main_v8 : Vec Ideal S512x1024 .bf16) (ix2 p q) := by
  unfold iblk
  rw [View.read_apply]
  show V m c main_v8 _ = _
  congr 1
  funext a
  apply Fin.ext
  have h := index8 t
  match a with
  | ⟨0, _⟩ => show win0_8.index t 0 * 512 + 1 * p.1 = p.1; rw [h]; show 0 * 512 + 1 * p.1 = p.1; omega
  | ⟨1, _⟩ => show win0_8.index t 1 * 1024 + 1 * q.1 = q.1; rw [h]; show 0 * 1024 + 1 * q.1 = q.1; omega

/-- Input block 9 of point `t`. -/
theorem blk9 (t : Fin cfg0.N) (p : Fin 512) (q : Fin 1024) :
    iblk m c 9 t (ix2 p q) = (V m c main_v10 : Vec Ideal S512x1024 .bf16) (ix2 p q) := by
  unfold iblk
  rw [View.read_apply]
  show V m c main_v10 _ = _
  congr 1
  funext a
  apply Fin.ext
  have h := index9 t
  match a with
  | ⟨0, _⟩ => show win0_9.index t 0 * 512 + 1 * p.1 = p.1; rw [h]; show 0 * 512 + 1 * p.1 = p.1; omega
  | ⟨1, _⟩ => show win0_9.index t 1 * 1024 + 1 * q.1 = q.1; rw [h]; show 0 * 1024 + 1 * q.1 = q.1; omega

/-- Input block 10 of point `t`. -/
theorem blk10 (t : Fin cfg0.N) (p : Fin 1024) (q : Fin 5632) :
    iblk m c 10 t (ix2 p q) = (V m c main_v11 : Vec Ideal S1024x5632 .bf16) (ix2 p q) := by
  unfold iblk
  rw [View.read_apply]
  show V m c main_v11 _ = _
  congr 1
  funext a
  apply Fin.ext
  have h := index10 t
  match a with
  | ⟨0, _⟩ => show win0_10.index t 0 * 1024 + 1 * p.1 = p.1; rw [h]; show 0 * 1024 + 1 * p.1 = p.1; omega
  | ⟨1, _⟩ => show win0_10.index t 1 * 5632 + 1 * q.1 = q.1; rw [h]; show 0 * 5632 + 1 * q.1 = q.1; omega

/-- Input block 11 of point `t`. -/
theorem blk11 (t : Fin cfg0.N) (p : Fin 2816) (q : Fin 1024) :
    iblk m c 11 t (ix2 p q) = (V m c main_v12 : Vec Ideal S2816x1024 .bf16) (ix2 p q) := by
  unfold iblk
  rw [View.read_apply]
  show V m c main_v12 _ = _
  congr 1
  funext a
  apply Fin.ext
  have h := index11 t
  match a with
  | ⟨0, _⟩ => show win0_11.index t 0 * 2816 + 1 * p.1 = p.1; rw [h]; show 0 * 2816 + 1 * p.1 = p.1; omega
  | ⟨1, _⟩ => show win0_11.index t 1 * 1024 + 1 * q.1 = q.1; rw [h]; show 0 * 1024 + 1 * q.1 = q.1; omega

/-- Input block 12 of point `t`. -/
theorem blk12 (t : Fin cfg0.N) (p : Fin 8) (q : Fin 2816) :
    iblk m c 12 t (ix2 p q) = (V m c main_v2 : Vec Ideal S8x2816 .f32) (ix2 p q) := by
  unfold iblk
  rw [View.read_apply]
  show V m c main_v2 _ = _
  congr 1
  funext a
  apply Fin.ext
  have h := index12 t
  match a with
  | ⟨0, _⟩ => show win0_12.index t 0 * 8 + 1 * p.1 = p.1; rw [h]; show 0 * 8 + 1 * p.1 = p.1; omega
  | ⟨1, _⟩ => show win0_12.index t 1 * 2816 + 1 * q.1 = q.1; rw [h]; show 0 * 2816 + 1 * q.1 = q.1; omega

/-- The arguments as launched. -/
abbrev args : Args := argsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

theorem entry_ga (e : Fin 512) : (V m c main_v3 : Vec Ideal S1x512 .f32) (ix2 0 e) = (args m c).ga e := by
  unfold V
  simp only [hostOps0, hostOps0_1, hostOps0_2, List.flatten_cons, List.flatten_nil, List.append_nil,
    List.cons_append, List.nil_append]
  after_results
  show shapeCast S1x512 _ _ _ = _
  pointwise []
  rfl

theorem entry_gp (e : Fin 1024) : (V m c main_v4 : Vec Ideal S1x1024 .f32) (ix2 0 e) = (args m c).gp e := by
  unfold V
  simp only [hostOps0, hostOps0_1, hostOps0_2, List.flatten_cons, List.flatten_nil, List.append_nil,
    List.cons_append, List.nil_append]
  after_results
  show shapeCast S1x1024 _ _ _ = _
  pointwise []
  rfl

theorem entry_gq (e : Fin 1024) : (V m c main_v5 : Vec Ideal S1x1024 .f32) (ix2 0 e) = (args m c).gq e := by
  unfold V
  simp only [hostOps0, hostOps0_1, hostOps0_2, List.flatten_cons, List.flatten_nil, List.append_nil,
    List.cons_append, List.nil_append]
  after_results
  show shapeCast S1x1024 _ _ _ = _
  pointwise []
  rfl

theorem entry_gf (e : Fin 1024) : (V m c main_v6 : Vec Ideal S1x1024 .f32) (ix2 0 e) = (args m c).gf e := by
  unfold V
  simp only [hostOps0, hostOps0_1, hostOps0_2, List.flatten_cons, List.flatten_nil, List.append_nil,
    List.cons_append, List.nil_append]
  after_results
  show shapeCast S1x1024 _ _ _ = _
  pointwise []
  rfl

theorem entry_wa (e : Fin 512) (d : Fin 1024) : (V m c main_v8 : Vec Ideal S512x1024 .bf16) (ix2 e d) = (args m c).w ⟨e.1, by omega⟩ d := by
  unfold V
  simp only [hostOps0, hostOps0_1, hostOps0_2, List.flatten_cons, List.flatten_nil, List.append_nil,
    List.cons_append, List.nil_append]
  after_results
  pointwise []
  rfl

theorem entry_ws (e : Fin 512) (d : Fin 1024) : (V m c main_v10 : Vec Ideal S512x1024 .bf16) (ix2 e d) = (args m c).w ⟨512 + e.1, by omega⟩ d := by
  unfold V
  simp only [hostOps0, hostOps0_1, hostOps0_2, List.flatten_cons, List.flatten_nil, List.append_nil,
    List.cons_append, List.nil_append]
  after_results
  pointwise []
  rfl

theorem entry_wu (d : Fin 1024) (f : Fin 5632) : (V m c main_v11 : Vec Ideal S1024x5632 .bf16) (ix2 d f) = (args m c).wu d f := by
  unfold V
  simp only [hostOps0, hostOps0_1, hostOps0_2, List.flatten_cons, List.flatten_nil, List.append_nil,
    List.cons_append, List.nil_append]
  after_results
  pointwise []
  rfl

theorem entry_wd (f : Fin 2816) (d : Fin 1024) : (V m c main_v12 : Vec Ideal S2816x1024 .bf16) (ix2 f d) = (args m c).wd f d := by
  unfold V
  simp only [hostOps0, hostOps0_1, hostOps0_2, List.flatten_cons, List.flatten_nil, List.append_nil,
    List.cons_append, List.nil_append]
  after_results
  pointwise []
  rfl

theorem entry_cw (k : Fin 8) (f : Fin 2816) : (V m c main_v2 : Vec Ideal S8x2816 .f32) (ix2 k f) = (args m c).cw8 k f := by
  unfold V
  simp only [hostOps0, hostOps0_1, hostOps0_2, List.flatten_cons, List.flatten_nil, List.append_nil,
    List.cons_append, List.nil_append]
  after_results
  let v0 : Vec Ideal S1x2816 .f32 := broadcastInDim S1x2816 ![1] bcast_S2816_S1x2816_1 (m ((c : Thread nD τ).loc main_arg12) : Vec Ideal S2816 .f32)
  let v1 : Vec Ideal S4x2816 .f32 := broadcastInDim S4x2816 ![] bcast_S_S4x2816 (constant (F := Ideal) S_ .f32 0x00000000#32)
  change (concatenate S8x2816 0 [⟨S3x2816, (m ((c : Thread nD τ).loc main_arg11) : Vec Ideal S3x2816 .f32)⟩, ⟨S1x2816, v0⟩, ⟨S4x2816, v1⟩]
    concatenates_S3x2816_S1x2816_S4x2816_S8x2816_d0 : Vec Ideal S8x2816 .f32) (ix2 k f) = _
  have h0 : ∀ i : Fin 1, v0 (ix2 i f) = (args m c).cb f := fun i => by
    show broadcastInDim S1x2816 _ _ _ _ = _
    pointwise []
    rfl
  have h1 : ∀ i : Fin 4, v1 (ix2 i f) = 0 := fun i => by
    show broadcastInDim S4x2816 _ _ _ _ = _
    pointwise []
  clear_value v0 v1
  unfold Args.cw8
  pointwise []
  by_cases h : k.1 < 3
  · rw [dif_pos h, dif_pos h]; rfl
  · rw [dif_neg h, dif_neg h]
    by_cases h' : k.1 = 3
    · rw [dif_pos (by omega), if_pos h', h0]
    · rw [dif_neg (by omega), if_neg h', h1]

theorem entry_pv (s : Fin 8) (j : Fin 11) (q : Fin 2) (x : Fin 256) :
    (V m c main_v16 : Vec Ideal S8x11x8x256 .f32) (ix4 s j ⟨6 + q.1, by omega⟩ x) = (args m c).P s q (col j x) := by
  unfold V
  simp only [hostOps0, hostOps0_1, hostOps0_2, List.flatten_cons, List.flatten_nil, List.append_nil,
    List.cons_append, List.nil_append]
  after_results
  let x0 : Vec Ideal S8x1x2x11x256 .f32 := shapeCast S8x1x2x11x256 (m ((c : Thread nD τ).loc main_arg3) : Vec Ideal S8x2x2816 .f32) shapeCasts_S8x2x2816_S8x1x2x11x256
  let v : Vec Ideal S_ .f32 := sitofp (F := Ideal) .f32 (constantI S_ 32 0#32)
  have hx : x0 (ix5 s 0 q j x) = (args m c).P s q (col j x) := by
    refine shapeCast_apply _ shapeCasts_S8x2x2816_S8x1x2x11x256 (ix5 s 0 q j x) (ix3 s q (col j x)) ?_
    rewrite [Shape.rowMajor_val_three, Shape.rowMajor_val_five]
    show (s.1 * 2 + q.1) * 2816 + (256 * j.1 + x.1) = (((s.1 * 1 + 0) * 2 + q.1) * 11 + j.1) * 256 + x.1
    omega
  rw [← hx]
  change shapeCast S8x11x8x256 (transpose S8x11x1x8x256 [0, 3, 1, 2, 4]
    (pad S8x1x8x11x256 ![0, 0, 6, 0, 0] ![0, 0, 0, 0, 0] ![0, 0, 0, 0, 0] x0 v pads_S8x1x2x11x256_S8x1x8x11x256_000_000_600_000_000 h_S_)
    transposes_S8x1x8x11x256_S8x11x1x8x256_0_3_1_2_4) shapeCasts_S8x11x1x8x256_S8x11x8x256 (ix4 s j ⟨6 + q.1, by omega⟩ x) = _
  clear_value x0 v
  rw [shapeCast_apply _ shapeCasts_S8x11x1x8x256_S8x11x8x256 (ix4 s j ⟨6 + q.1, by omega⟩ x) (ix5 s j 0 ⟨6 + q.1, by omega⟩ x) (by
    rewrite [Shape.rowMajor_val_four, Shape.rowMajor_val_five]
    show (((s.1 * 11 + j.1) * 1 + 0) * 8 + (6 + q.1)) * 256 + x.1 = ((s.1 * 11 + j.1) * 8 + (6 + q.1)) * 256 + x.1
    omega)]
  rw [transpose_apply [0, 3, 1, 2, 4] _ transposes_S8x1x8x11x256_S8x11x1x8x256_0_3_1_2_4 (ix5 s j 0 ⟨6 + q.1, by omega⟩ x)
    (ix5 s 0 ⟨6 + q.1, by omega⟩ j x) (fun b => match b with | ⟨0, _⟩ => rfl | ⟨1, _⟩ => rfl | ⟨2, _⟩ => rfl | ⟨3, _⟩ => rfl | ⟨4, _⟩ => rfl)]
  unfold pad
  have hq := q.2
  have hs := s.2
  have hj := j.2
  have hx' := x.2
  rw [dif_pos]
  · congr 1
    funext a
    apply Fin.ext
    match a with
    | ⟨0, _⟩ => show (s.1 - 0) / 1 = s.1; omega
    | ⟨1, _⟩ => show (0 - 0) / 1 = 0; rfl
    | ⟨2, _⟩ => show (6 + q.1 - 6) / 1 = q.1; omega
    | ⟨3, _⟩ => show (j.1 - 0) / 1 = j.1; omega
    | ⟨4, _⟩ => show (x.1 - 0) / 1 = x.1; omega
  · intro a
    match a with
    | ⟨0, _⟩ => show 0 ≤ s.1 ∧ (s.1 - 0) % 1 = 0 ∧ (s.1 - 0) / 1 < 8; omega
    | ⟨1, _⟩ => show 0 ≤ 0 ∧ (0 - 0) % 1 = 0 ∧ (0 - 0) / 1 < 1; omega
    | ⟨2, _⟩ => show 6 ≤ 6 + q.1 ∧ (6 + q.1 - 6) % 1 = 0 ∧ (6 + q.1 - 6) / 1 < 2; omega
    | ⟨3, _⟩ => show 0 ≤ j.1 ∧ (j.1 - 0) % 1 = 0 ∧ (j.1 - 0) / 1 < 11; omega
    | ⟨4, _⟩ => show 0 ≤ x.1 ∧ (x.1 - 0) % 1 = 0 ∧ (x.1 - 0) / 1 < 256; omega

end Ffn

end
-- ==== Proof.FfnRun.lean ====
module

public import proofs.«01_k».proof.Proof.FfnBody
public import proofs.«01_k».proof.Proof.FfnWindows

/-! # The feed-forward call's run

Point `4·s + k` of the grid leaves tile `k` of sequence `s` in the output's buffer, that tile's last eight gate rows in
the state's buffer, and the same rows in the carry, from which the next tile of the sequence takes its first two. -/

@[expose] public section

set_option maxRecDepth 16384

noncomputable section

namespace Ffn

open Idealize.ShloMosaic Idealize.ShloMosaic.Pointwise Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.FfnKernelIdeal Cert.FfnKernelIdeal.Gen

local notation "𝕄" => MT nD τ sig Unit (Elt Ideal) ℕ (UR sig nD τ) ℕ

/-- A buffer owned at some contents is its elements held at some contents. -/
theorem raw_of_owns {s : Shape} {e : EltTy} (c : Dev nD) (M : Memref sig .tc .vmem s e) :
    (iprop(∃ d, owns (c : Thread nD τ) M fullShare d) : sProp 𝕄) ⊢ iprop(∃ f, M.view.loc (c : Thread nD τ) ↦[M.view.set]{fullShare} f) := by
  unfold owns
  iintro ⟨%d, %f, -, H⟩; iexists f; iexact H

/-- and the other way. -/
theorem owns_of_raw {s : Shape} {e : EltTy} (c : Dev nD) (M : Memref sig .tc .vmem s e) :
    (iprop(∃ f, M.view.loc (c : Thread nD τ) ↦[M.view.set]{fullShare} f) : sProp 𝕄) ⊢ iprop(∃ d, owns (c : Thread nD τ) M fullShare d) := by
  unfold owns
  iintro ⟨%f, H⟩; iexists _, f; isplitr
  swap; · iexact H
  ipureintro; rfl

/-! ## The buffers of a point -/

/-- The staging buffer a window is on at a point, and that it is a whole buffer. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x11x8x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x5632 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2816x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x2816 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x11x8x256 .f32 := win0_14.stage (cfg0.slots t 14)
abbrev hs0_14 (t : Fin cfg0.N) : (ms0_14 t).IsWhole := hstage0_14 ((cfg0.slots t 14).cast nbuf0_14)
/-- The scratch buffers. -/
abbrev scM0_0 : Memref sig .tc .vmem S512x1024 .bf16 := Memref.whole cc0_scratch0
abbrev scM0_1 : Memref sig .tc .vmem S512x1024 .f32 := Memref.whole cc0_scratch1
abbrev scM0_2 : Memref sig .tc .vmem S11x8x256 .f32 := Memref.whole cc0_scratch2
abbrev scM0_3 : Memref sig .tc .vmem S2x512x256 .f32 := Memref.whole cc0_scratch3
abbrev scM0_4 : Memref sig .tc .vmem S2x512x256 .f32 := Memref.whole cc0_scratch4

/-- What the body is handed beside the windows: each scratch buffer at some contents, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

variable (m : (ℓ : Loc nD τ sig) → Buf (Elt Ideal) ℓ) (ρ : Dev nD → PrngReg) (c : Dev nD)

/-! ## What each point leaves -/

/-- The sequence of a point. -/
def seqOf (t : Fin cfg0.N) : Fin 8 := ⟨t.1 / 4, by have h : t.1 < 32 := lt_of_lt_of_eq t.isLt N_0; omega⟩
/-- The tile of a point. -/
def tileOf (t : Fin cfg0.N) : Fin 4 := ⟨t.1 % 4, Nat.mod_lt _ (by decide)⟩

/-- The output rows of a point. -/
def outTile (t : Fin cfg0.N) : Vec Ideal S512x1024 .f32 := fun j => (args m c).out (seqOf t) (place (tileOf t) (j 0)) (j 1)
/-- The last eight gate rows of a point's tile. -/
def stTile (t : Fin cfg0.N) : Vec Ideal S1x11x8x256 .f32 := fun j =>
  ((args m c).tile (seqOf t) (tileOf t)).gate ⟨504 + (j 2).1, by have h : (j 2).1 < 8 := (j 2).isLt; omega⟩ (col (j 1) (j 3))

/-- The program takes the given rows at the first tile of a sequence. -/
theorem first_iff : ∀ t : Fin grid0.N, Scalar.cmpi .ne (Scalar.extui (Scalar.cmpi .eq (BitVec.ofNat 32 (grid0.coords t 1).val) 0#32)) 0#32 = 1#1 ↔ t.1 % 4 = 0 := by
  decide +kernel

/-- The row of the arrays a point's row is. -/
theorem row_of (t : Fin cfg0.N) (r : Fin 512) : (row (seqOf t) (place (tileOf t) r)).1 = 512 * t.1 + r.1 := by
  show t.1 / 4 * 2048 + (512 * (t.1 % 4) + r.1) = 512 * t.1 + r.1
  omega

/-- What the carry holds before a point: the last gate rows of the tile before, unless a sequence begins. -/
def Carried (n : Nat) (C : Vec Ideal S11x8x256 .f32) : Prop :=
  ∀ (s : Fin 8) (k : Fin 4), n = 4 * s.1 + k.1 → k.1 ≠ 0 → ∀ (j : Fin 11) (q : Fin 2) (x : Fin 256),
    C (ix3 j ⟨6 + q.1, by omega⟩ x) = ((args m c).tile s k).pv q (col j x)

/-- The last gate rows of a point's tile are what the next point needs. -/
theorem carried_next (t : Fin cfg0.N) (C : Vec Ideal S11x8x256 .f32)
    (h : ∀ (j : Fin 11) (q : Fin 8) (x : Fin 256), C (ix3 j q x) = ((args m c).tile (seqOf t) (tileOf t)).gate ⟨504 + q.1, by omega⟩ (col j x)) :
    Carried m c (t.1 + 1) C := by
  intro s k hn hk j q x
  obtain rfl : seqOf t = s := Fin.ext (show t.1 / 4 = s.1 by omega)
  rw [h j ⟨6 + q.1, by omega⟩ x]
  exact ((args m c).pv_next (seqOf t) (tileOf t) k (show k.1 = t.1 % 4 + 1 by omega) q (col j x)).symm

/-- What the body is handed beside the windows: the carry at what the point needs, the other scratch at anything. -/
def Phi (n : Nat) : sProp 𝕄 :=
  iprop(∃ f, (scM0_2.view.loc (c : Thread nD τ) ↦[scM0_2.view.set]{fullShare} f)
    ∗ ⌜Carried m c n (scM0_2.view.read (Elt Ideal) f)⌝
    ∗ (∃ f, scM0_0.view.loc (c : Thread nD τ) ↦[scM0_0.view.set]{fullShare} f)
    ∗ (∃ f, scM0_1.view.loc (c : Thread nD τ) ↦[scM0_1.view.set]{fullShare} f)
    ∗ (∃ f, scM0_3.view.loc (c : Thread nD τ) ↦[scM0_3.view.set]{fullShare} f)
    ∗ (∃ f, scM0_4.view.loc (c : Thread nD τ) ↦[scM0_4.view.set]{fullShare} f)
    ∗ (∃ r, prngReg c r))

/-- Any scratch will do at the start. -/
theorem Phi_in : (Pipeline.ΦA spec0 c : sProp 𝕄) ⊢ Phi m c 0 := by
  rw [PhiA0_eq]
  unfold Phi owns
  iintro ⟨⟨⟨%d0, %f0, -, H0⟩, ⟨%d1, %f1, -, H1⟩, ⟨%d2, %f2, -, H2⟩, ⟨%d3, %f3, -, H3⟩, ⟨%d4, %f4, -, H4⟩⟩, Hg⟩
  iexists f2
  isplitl [H2]; · iexact H2
  isplitr
  · ipureintro
    intro s k hn hk
    exact absurd hn (by omega)
  isplitl [H0]; · iexists f0; iexact H0
  isplitl [H1]; · iexists f1; iexact H1
  isplitl [H3]; · iexists f3; iexact H3
  isplitl [H4]; · iexists f4; iexact H4
  iexact Hg

/-- At the end nothing more is said of the scratch. -/
theorem Phi_out (n : Nat) : Phi m c n ⊢ (Pipeline.ΦA spec0 c : sProp 𝕄) := by
  rw [PhiA0_eq]
  unfold Phi
  iintro ⟨%f2, H2, -, H0, H1, H3, H4, Hg⟩
  isplitl [H0 H1 H2 H3 H4]
  · isplitl [H0]; · iapply (owns_of_raw c _); iexact H0
    isplitl [H1]; · iapply (owns_of_raw c _); iexact H1
    isplitl [H2]; · iapply (owns_of_raw c _); iexists f2; iexact H2
    isplitl [H3]; · iapply (owns_of_raw c _); iexact H3
    iapply (owns_of_raw c _); iexact H4
  iexact Hg

/-! ## The proof data -/

/-- The proof data: the arrays as the region finds them, each input's buffer at its block, each output's at the point's
tile. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outTile m c t
    | ⟨14, _⟩ => stTile m c t
  Φ t := Phi m c t.1
  q _ := fullShare
  owed _ := 0

theorem A_eq (c : Dev nD) (w : Fin cfg0.W) : (dats m 0 c).A w = V m c (Pipeline.arrRef spec0 w) := by
  dsimp only [dats]

theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = iblk m c 2 t := by dsimp only [dats]
theorem after0_3 (t : Fin cfg0.N) : (dats m 0 c).after 3 t = iblk m c 3 t := by dsimp only [dats]
theorem after0_4 (t : Fin cfg0.N) : (dats m 0 c).after 4 t = iblk m c 4 t := by dsimp only [dats]
theorem after0_5 (t : Fin cfg0.N) : (dats m 0 c).after 5 t = iblk m c 5 t := by dsimp only [dats]
theorem after0_6 (t : Fin cfg0.N) : (dats m 0 c).after 6 t = iblk m c 6 t := by dsimp only [dats]
theorem after0_7 (t : Fin cfg0.N) : (dats m 0 c).after 7 t = iblk m c 7 t := by dsimp only [dats]
theorem after0_8 (t : Fin cfg0.N) : (dats m 0 c).after 8 t = iblk m c 8 t := by dsimp only [dats]
theorem after0_9 (t : Fin cfg0.N) : (dats m 0 c).after 9 t = iblk m c 9 t := by dsimp only [dats]
theorem after0_10 (t : Fin cfg0.N) : (dats m 0 c).after 10 t = iblk m c 10 t := by dsimp only [dats]
theorem after0_11 (t : Fin cfg0.N) : (dats m 0 c).after 11 t = iblk m c 11 t := by dsimp only [dats]
theorem after0_12 (t : Fin cfg0.N) : (dats m 0 c).after 12 t = iblk m c 12 t := by dsimp only [dats]
theorem after0_13 (t : Fin cfg0.N) : (dats m 0 c).after 13 t = outTile m c t := by dsimp only [dats]
theorem after0_14 (t : Fin cfg0.N) : (dats m 0 c).after 14 t = stTile m c t := by dsimp only [dats]

theorem before0_0 (t : Fin cfg0.N) (d) : (dats m 0 c).before 0 t d = iblk m c 0 t :=
  before0_0_of m (dats m 0 c) (A_eq m c 0) (after0_0 m c) t d
theorem before0_1 (t : Fin cfg0.N) (d) : (dats m 0 c).before 1 t d = iblk m c 1 t :=
  before0_1_of m (dats m 0 c) (A_eq m c 1) (after0_1 m c) t d
theorem before0_2 (t : Fin cfg0.N) (d) : (dats m 0 c).before 2 t d = iblk m c 2 t :=
  before0_2_of m (dats m 0 c) (A_eq m c 2) (after0_2 m c) t d
theorem before0_3 (t : Fin cfg0.N) (d) : (dats m 0 c).before 3 t d = iblk m c 3 t :=
  before0_3_of m (dats m 0 c) (A_eq m c 3) (after0_3 m c) t d
theorem before0_4 (t : Fin cfg0.N) (d) : (dats m 0 c).before 4 t d = iblk m c 4 t :=
  before0_4_of m (dats m 0 c) (A_eq m c 4) (after0_4 m c) t d
theorem before0_5 (t : Fin cfg0.N) (d) : (dats m 0 c).before 5 t d = iblk m c 5 t :=
  before0_5_of m (dats m 0 c) (A_eq m c 5) (after0_5 m c) t d
theorem before0_6 (t : Fin cfg0.N) (d) : (dats m 0 c).before 6 t d = iblk m c 6 t :=
  before0_6_of m (dats m 0 c) (A_eq m c 6) (after0_6 m c) t d
theorem before0_7 (t : Fin cfg0.N) (d) : (dats m 0 c).before 7 t d = iblk m c 7 t :=
  before0_7_of m (dats m 0 c) (A_eq m c 7) (after0_7 m c) t d
theorem before0_8 (t : Fin cfg0.N) (d) : (dats m 0 c).before 8 t d = iblk m c 8 t :=
  before0_8_of m (dats m 0 c) (A_eq m c 8) (after0_8 m c) t d
theorem before0_9 (t : Fin cfg0.N) (d) : (dats m 0 c).before 9 t d = iblk m c 9 t :=
  before0_9_of m (dats m 0 c) (A_eq m c 9) (after0_9 m c) t d
theorem before0_10 (t : Fin cfg0.N) (d) : (dats m 0 c).before 10 t d = iblk m c 10 t :=
  before0_10_of m (dats m 0 c) (A_eq m c 10) (after0_10 m c) t d
theorem before0_11 (t : Fin cfg0.N) (d) : (dats m 0 c).before 11 t d = iblk m c 11 t :=
  before0_11_of m (dats m 0 c) (A_eq m c 11) (after0_11 m c) t d
theorem before0_12 (t : Fin cfg0.N) (d) : (dats m 0 c).before 12 t d = iblk m c 12 t :=
  before0_12_of m (dats m 0 c) (A_eq m c 12) (after0_12 m c) t d

/-! ## The body at a point -/

/-- What the body is called with at a point. -/
def bodyPre (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- What it returns. -/
def bodyPost (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 2000000 in
/-- The body at any point takes the one to the other. -/
theorem sound_body (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl]
  rw [show (dats m 0 c).Φ t.castSucc = Phi m c t.1 from rfl, show (dats m 0 c).Φ t.succ = Phi m c (t.1 + 1) from rfl]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  rw [show (dats m 0 c).leavesExact 4 t = owns (c : Thread nD τ) (ms0_4 t) fullShare ((dats m 0 c).after 4 t) from rfl, after0_4]
  rw [show (dats m 0 c).leavesExact 5 t = owns (c : Thread nD τ) (ms0_5 t) fullShare ((dats m 0 c).after 5 t) from rfl, after0_5]
  rw [show (dats m 0 c).leavesExact 6 t = owns (c : Thread nD τ) (ms0_6 t) fullShare ((dats m 0 c).after 6 t) from rfl, after0_6]
  rw [show (dats m 0 c).leavesExact 7 t = owns (c : Thread nD τ) (ms0_7 t) fullShare ((dats m 0 c).after 7 t) from rfl, after0_7]
  rw [show (dats m 0 c).leavesExact 8 t = owns (c : Thread nD τ) (ms0_8 t) fullShare ((dats m 0 c).after 8 t) from rfl, after0_8]
  rw [show (dats m 0 c).leavesExact 9 t = owns (c : Thread nD τ) (ms0_9 t) fullShare ((dats m 0 c).after 9 t) from rfl, after0_9]
  rw [show (dats m 0 c).leavesExact 10 t = owns (c : Thread nD τ) (ms0_10 t) fullShare ((dats m 0 c).after 10 t) from rfl, after0_10]
  rw [show (dats m 0 c).leavesExact 11 t = owns (c : Thread nD τ) (ms0_11 t) fullShare ((dats m 0 c).after 11 t) from rfl, after0_11]
  rw [show (dats m 0 c).leavesExact 12 t = owns (c : Thread nD τ) (ms0_12 t) fullShare ((dats m 0 c).after 12 t) from rfl, after0_12]
  rw [show (dats m 0 c).leavesExact 13 t = owns (c : Thread nD τ) (ms0_13 t) fullShare ((dats m 0 c).after 13 t) from rfl, after0_13]
  rw [show (dats m 0 c).leavesExact 14 t = owns (c : Thread nD τ) (ms0_14 t) fullShare ((dats m 0 c).after 14 t) from rfl, after0_14]
  unfold Phi owns
  iintro ⟨⟨%f19, H19, %hC, ⟨%f17, H17⟩, ⟨%f18, H18⟩, ⟨%f20, H20⟩, ⟨%f21, H21⟩, Hg⟩, Ho, ⟨%d0, %f2, %e2, H2⟩, ⟨%d1, %f3, %e3, H3⟩, ⟨%d2, %f4, %e4, H4⟩, ⟨%d3, %f5, %e5, H5⟩, ⟨%d4, %f6, %e6, H6⟩, ⟨%d5, %f7, %e7, H7⟩, ⟨%d6, %f8, %e8, H8⟩, ⟨%d7, %f9, %e9, H9⟩, ⟨%d8, %f10, %e10, H10⟩, ⟨%d9, %f11, %e11, H11⟩, ⟨%d10, %f12, %e12, H12⟩, ⟨%d11, %f13, %e13, H13⟩, ⟨%d12, %f14, %e14, H14⟩, ⟨%d13, %f15, %e15, H15⟩, ⟨%d14, %f16, %e16, H16⟩⟩
  iapply (body_spec c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) _ _ _ _ _ (args m c) (seqOf t) (tileOf t) f2 f3 f4 f5 f6 f7 f8 f9 f10 f11 f12 f13 f14 f15 f16 f17 f18 f19 f20 f21 Set.univ
    (fun r d => (congrFun e2 (ix2 r d)).trans ((blk0 m c t (row (seqOf t) (place (tileOf t) r)) r (row_of t r) d).trans (congrFun (V_main_arg0 m c) _)))
    (fun r e => (congrFun e3 (ix2 r e)).trans ((blk1 m c t (row (seqOf t) (place (tileOf t) r)) r (row_of t r) e).trans (congrFun (V_main_arg1 m c) _)))
    (fun r e => (congrFun e4 (ix2 r e)).trans ((blk2 m c t (row (seqOf t) (place (tileOf t) r)) r (row_of t r) e).trans (congrFun (V_main_arg2 m c) _)))
    (fun hc j q x => (congrFun e5 _).trans ((blk3 m c t (seqOf t) rfl j _ x).trans ((entry_pv m c (seqOf t) j q x).trans ((args m c).pv_first (seqOf t) (tileOf t) ((first_iff t).mp hc) q (col j x)).symm)))
    (fun e => (congrFun e6 _).trans ((blk4 m c t 0 e).trans (entry_ga m c e)))
    (fun d => (congrFun e7 _).trans ((blk5 m c t 0 d).trans (entry_gp m c d)))
    (fun d => (congrFun e8 _).trans ((blk6 m c t 0 d).trans (entry_gq m c d)))
    (fun d => (congrFun e9 _).trans ((blk7 m c t 0 d).trans (entry_gf m c d)))
    (fun e d => (congrFun e10 _).trans ((blk8 m c t e d).trans (entry_wa m c e d)))
    (fun e d => (congrFun e11 _).trans ((blk9 m c t e d).trans (entry_ws m c e d)))
    (fun d f => (congrFun e12 _).trans ((blk10 m c t d f).trans (entry_wu m c d f)))
    (fun f d => (congrFun e13 _).trans ((blk11 m c t f d).trans (entry_wd m c f d)))
    (fun k f => (congrFun e14 _).trans ((blk12 m c t k f).trans (entry_cw m c k f)))
    (fun hc => hC (seqOf t) (tileOf t) (by show t.1 = 4 * (t.1 / 4) + t.1 % 4; omega) (fun h => hc ((first_iff t).mpr h))) _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iintro %g15 %g16 %g17 %g18 %g19 %g20 %g21 ⟨H2, H3, H4, H5, H6, H7, H8, H9, H10, H11, H12, H13, H14, H15, H16, H17, H18, H19, H20, H21, %hf⟩
  obtain ⟨hout, hst, hcar⟩ := hf
  isplitl [H17 H18 H19 H20 H21 Hg]
  · iexists g19
    isplitl [H19]; · iexact H19
    isplitr
    · ipureintro; exact carried_next m c t _ hcar
    isplitl [H17]; · iexists g17; iexact H17
    isplitl [H18]; · iexists g18; iexact H18
    isplitl [H20]; · iexists g20; iexact H20
    isplitl [H21]; · iexists g21; iexact H21
    iexact Hg
  isplitl [Ho]; · iexact Ho
  isplitl [H2]
  · iexists f2; isplitr
    · ipureintro; exact e2
    iexact H2
  isplitl [H3]
  · iexists f3; isplitr
    · ipureintro; exact e3
    iexact H3
  isplitl [H4]
  · iexists f4; isplitr
    · ipureintro; exact e4
    iexact H4
  isplitl [H5]
  · iexists f5; isplitr
    · ipureintro; exact e5
    iexact H5
  isplitl [H6]
  · iexists f6; isplitr
    · ipureintro; exact e6
    iexact H6
  isplitl [H7]
  · iexists f7; isplitr
    · ipureintro; exact e7
    iexact H7
  isplitl [H8]
  · iexists f8; isplitr
    · ipureintro; exact e8
    iexact H8
  isplitl [H9]
  · iexists f9; isplitr
    · ipureintro; exact e9
    iexact H9
  isplitl [H10]
  · iexists f10; isplitr
    · ipureintro; exact e10
    iexact H10
  isplitl [H11]
  · iexists f11; isplitr
    · ipureintro; exact e11
    iexact H11
  isplitl [H12]
  · iexists f12; isplitr
    · ipureintro; exact e12
    iexact H12
  isplitl [H13]
  · iexists f13; isplitr
    · ipureintro; exact e13
    iexact H13
  isplitl [H14]
  · iexists f14; isplitr
    · ipureintro; exact e14
    iexact H14
  isplitl [H15]
  · iexists g15; isplitr
    · ipureintro
      funext j
      obtain ⟨r, d, rfl⟩ : ∃ (r : Fin 512) (d : Fin 1024), j = ix2 r d := ⟨j 0, j 1, by funext a; fin_cases a <;> rfl⟩
      exact hout r d
    iexact H15
  iexists g16; isplitr
  · ipureintro
    funext j
    obtain ⟨o, i, q, x, rfl⟩ : ∃ (o : Fin 1) (i : Fin 11) (q : Fin 8) (x : Fin 256), j = ix4 o i q x :=
      ⟨j 0, j 1, j 2, j 3, by funext a; fin_cases a <;> rfl⟩
    obtain rfl : o = 0 := Subsingleton.elim _ _
    exact hst i q x
  iexact H16

/-- The body table's row at a point is the body. -/
theorem defs₀_row (t : Fin cfg0.N) :
    defs₀ (F := Ideal) .tc cfg0.body (cfg0.bodyArgs t (cfg0.slots t)) = bodyAt0 t := by
  unfold defs₀; rw [Defs.onTc_tc]

/-- The pipeline's obligation on the body. -/
theorem body_obligation : BodyObligation (dats m 0 c) (defs₀ (F := Ideal)) Variants.none () Set.univ := fun t => by
  rw [bigSep_W0, bigSep_W0, defs₀_row]
  exact triple_restated (sound_body m c t) rfl .rfl fun _ => .rfl

/-! ## The run -/

set_option backward.isDefEq.respectTransparency.types false in
/-- The run: the arrays end as the proof data say, nothing else is touched, and every semaphore counter is zero. -/
theorem run_main : θ_run defs (onTc (τ := τ) (main (F := Ideal))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Phi_in m c) (hout := fun c => Phi_out m c _)

end Ffn

end
-- ==== Proof.FfnValue.lean ====
module

public import proofs.«01_k».proof.Proof.FfnRun
public import proofs.«01_k».proof.Proof.Gen.FfnRefIdeal.Run

/-! # The feed-forward call's two result arrays

The tiles the points write back are the blocks of the reference's two results. -/

@[expose] public section

set_option maxRecDepth 16384

noncomputable section

namespace Ffn

open Idealize.ShloMosaic Idealize.ShloMosaic.Pointwise Idealize.ShloMosaic.TcCoe Idealize.SL.Sem
open Cert.FfnKernelIdeal Cert.FfnKernelIdeal.Gen

variable (m : (ℓ : Loc nD τ sig) → Buf (Elt Ideal) ℓ) (ρ : Dev nD → PrngReg) (c : Dev nD)

/-- The first result: the reference's output. -/
def resOut : Vec Ideal S16384x1024 .f32 := Cert.FfnRefIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
/-- The second result: the reference's state. -/
def resState : Vec Ideal S8x11x8x256 .f32 := Cert.FfnRefIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9))

/-- RESULT 1 after the run is the reference's. -/
theorem final_out : (dats m 0 c).arrAt 13 cfg0.N = resOut m c := by
  refine (dats m 0 c).arrAt_eq_of_cover 13 (resOut m c) (fun t _ => ?_) (Pipeline.Window.Covers.cover win0_13 (by decide +kernel) (arr_whole0 13))
  funext j
  obtain ⟨r, d, rfl⟩ : ∃ (r : Fin 512) (d : Fin 1024), j = (ix2 r d : S512x1024.Idx) := ⟨j 0, j 1, by funext a; fin_cases a <;> rfl⟩
  rw [View.read_apply]
  have e : ((cfg0.win 13).blk t).view.emb (ix2 r d : S512x1024.Idx) = (ix2 (row (seqOf t) (place (tileOf t) r)) d : S16384x1024.Idx) := by
    funext a
    apply Fin.ext
    have h := index13 t
    match a with
    | ⟨0, _⟩ =>
      refine Eq.trans ?_ (row_of t r).symm
      show win0_13.index t 0 * 512 + 1 * r.1 = 512 * t.1 + r.1; rw [h]; show t.1 * 512 + 1 * r.1 = 512 * t.1 + r.1; omega
    | ⟨1, _⟩ => show win0_13.index t 1 * 1024 + 1 * d.1 = d.1; rw [h]; show 0 * 1024 + 1 * d.1 = d.1; omega
  refine Eq.trans (b := (args m c).out (seqOf t) (place (tileOf t) r) d) rfl ?_
  refine (ref_out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (seqOf t) (place (tileOf t) r) d).symm.trans ?_
  exact (congrArg (resOut m c) e).symm

/-- RESULT 2 after the run is the reference's. -/
theorem final_state : (dats m 0 c).arrAt 14 cfg0.N = resState m c := by
  refine (dats m 0 c).arrAt_eq_of_cover 14 (resState m c) (fun t ht => ?_) (Pipeline.Window.Covers.cover win0_14 (by decide +kernel) (arr_whole0 14))
  have h3 : t.1 % 4 = 3 := (flush0_14 t).mp ht
  funext y
  obtain ⟨o, j, q, x, rfl⟩ : ∃ (o : Fin 1) (j : Fin 11) (q : Fin 8) (x : Fin 256), y = (ix4 o j q x : S1x11x8x256.Idx) :=
    ⟨y 0, y 1, y 2, y 3, by funext a; fin_cases a <;> rfl⟩
  obtain rfl : o = 0 := Subsingleton.elim _ _
  rw [View.read_apply]
  have e : ((cfg0.win 14).blk t).view.emb (ix4 0 j q x : S1x11x8x256.Idx) = (ix4 (seqOf t) j q x : S8x11x8x256.Idx) := by
    funext a
    apply Fin.ext
    have h := index14 t
    match a with
    | ⟨0, _⟩ => show win0_14.index t 0 * 1 + 1 * 0 = t.1 / 4; rw [h]; show t.1 / 4 * 1 + 1 * 0 = t.1 / 4; omega
    | ⟨1, _⟩ => show win0_14.index t 1 * 11 + 1 * j.1 = j.1; rw [h]; show 0 * 11 + 1 * j.1 = j.1; omega
    | ⟨2, _⟩ => show win0_14.index t 2 * 8 + 1 * q.1 = q.1; rw [h]; show 0 * 8 + 1 * q.1 = q.1; omega
    | ⟨3, _⟩ => show win0_14.index t 3 * 256 + 1 * x.1 = x.1; rw [h]; show 0 * 256 + 1 * x.1 = x.1; omega
  refine Eq.trans (b := ((args m c).tile (seqOf t) (tileOf t)).gate ⟨504 + q.1, by omega⟩ (col j x)) rfl ?_
  refine ((args m c).hist_tile (seqOf t) (tileOf t) _ ⟨2042 + q.1, by omega⟩ (col j x) (by show 2042 + q.1 = 512 * (t.1 % 4) + (504 + q.1) + 2; omega)).symm.trans ?_
  refine (ref_state (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (seqOf t) j q x).symm.trans ?_
  exact (congrArg (resState m c) e).symm

/-- The run leaves the arguments as they were. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) ((θ_run defs _ _).mono (fun _ h => h.1) (run_main m ρ))

/-- The run leaves every semaphore counter at zero. -/
theorem counters : θ_run defs (onTc (τ := τ) (main (F := Ideal))) (s₀ m ρ) (fun r => r.2.sem = fun _ => 0) :=
  (θ_run defs _ _).mono (fun _ h => h.2) (run_main m ρ)

/-- The run leaves the reference's results in the two result arrays. -/
theorem results : θ_run defs (onTc (τ := τ) (main (F := Ideal))) (s₀ m ρ) (fun r => ∀ c : Dev nD,
    r.2.mem ((c.tc : Thread nD τ).loc main_v17_0) = resOut m c ∧ r.2.mem ((c.tc : Thread nD τ).loc main_v17_1) = resState m c) :=
  (θ_run defs _ _).mono (fun _ h c => ⟨((h.1 c).1 13).trans (final_out m c), ((h.1 c).1 14).trans (final_state m c)⟩) (run_main m ρ)

end Ffn

end
-- ==== Proof.ProjLayout.lean ====
module

public import Idealize.ShloMosaic.PureOps
public import Idealize.ShloMosaic.Lib.Pointwise

/-! # Padding and blocks of an array, for the input projection of either batch -/

@[expose] public section

noncomputable section

namespace Proj

open Idealize.ShloMosaic Idealize.ShloMosaic.Pointwise

section
variable {α : Type} {s t u : Shape} {lo hi interior : Fin s.rank → Nat} (x : s.Idx → α) (v : u.Idx → α)
  (h : s.Pads lo hi interior t) (hu : 0 < u.numel) (hl : ∀ a, lo a = 0) (hn : ∀ a, interior a = 0) (j : t.Idx)
include hl hn

/-- Padding at the ends only: inside the array it is the array. -/
theorem pad_in (i : s.Idx) (e : ∀ a, (j (a.cast h.1)).1 = (i a).1) : pad t lo hi interior x v h hu j = x i := by
  unfold pad
  rw [dif_pos]
  · congr 1
    funext a
    apply Fin.ext
    show ((j (a.cast h.1)).1 - lo a) / (interior a + 1) = _
    rw [e, hl, hn, Nat.sub_zero, Nat.zero_add, Nat.div_one]
  · intro a
    rw [e, hl, hn, Nat.sub_zero, Nat.zero_add, Nat.div_one]
    exact ⟨Nat.zero_le _, Nat.mod_one _, (i a).2⟩

/-- Past the array's end on some axis it is the padding value. -/
theorem pad_out (a : Fin s.rank) (e : s.size a ≤ (j (a.cast h.1)).1) : pad t lo hi interior x v h hu j = v (Shape.Idx.first hu) := by
  unfold pad
  rw [dif_neg]
  intro q
  have := (q a).2.2
  rw [hl, hn, Nat.sub_zero, Nat.zero_add, Nat.div_one] at this
  exact absurd this (Nat.not_lt.mpr e)

end

/-- A block at offset zero is read where it lies in the array. -/
theorem whole {s : Shape} {i j : s.Idx} {at_ size : Fin s.rank → Nat} (z : ∀ a, at_ a = 0)
    (e : ∀ a, (i a).1 = at_ a * size a + 1 * (j a).1) : i = j :=
  funext fun a => Fin.ext (by rw [e, z, Nat.zero_mul, Nat.zero_add, Nat.one_mul])

/-- An index of a block that is one wide on its first axis. -/
theorem split3 {n k : Nat} (j : (⟨3, ![1, n, k]⟩ : Shape).Idx) : ∃ (r : Fin n) (f : Fin k), j = ix3 0 r f :=
  ⟨j 1, j 2, by funext a; match a with | ⟨0, _⟩ => exact Subsingleton.elim (α := Fin 1) _ _ | ⟨1, _⟩ => rfl | ⟨2, _⟩ => rfl⟩
theorem split4 {n k l : Nat} (j : (⟨4, ![1, n, k, l]⟩ : Shape).Idx) : ∃ (r : Fin n) (h : Fin k) (p : Fin l), j = ix4 0 r h p :=
  ⟨j 1, j 2, j 3, by funext a; match a with | ⟨0, _⟩ => exact Subsingleton.elim (α := Fin 1) _ _ | ⟨1, _⟩ => rfl | ⟨2, _⟩ => rfl | ⟨3, _⟩ => rfl⟩

end Proj

end
-- ==== Proof.ProjSpec.lean ====
module

public import proofs.«01_k».proof.Proof.FfnStep
public import proofs.«01_k».proof.Proof.ProjLayout

/-! # The input projection's formulas

One row: its norm, the projected columns, and the step sizes. -/

@[expose] public section

noncomputable section

namespace Proj

open Idealize.ShloMosaic

/-- The arguments: rows (indexed by `R`), gain, weight and the step sizes' bias. -/
structure Args (R : Type) where
  X : R → Fin 1024 → EReal
  g : Fin 1024 → EReal
  w : Fin 1024 → Fin 2824 → EReal
  b : Fin 8 → EReal

/-- The logarithm of `1 + exp x`, in the form that does not overflow. -/
def softplus (x : EReal) : EReal := max x 0 + Ideal.log1p (Ideal.exp (-(max x (-x))))

namespace Args
variable {R : Type} (a : Args R)

/-- The normalised row. -/
def hid (r : R) (d : Fin 1024) : EReal := a.X r d * Ffn.inv 0x44800000#32 (a.X r) * a.g d
/-- A projected column. -/
def proj (r : R) (f : Fin 2824) : EReal := ∑ d : Fin 1024, a.hid r d * a.w d f
/-- The step size before its softplus: zero past the eight heads. -/
def pre (r : R) (h : Fin 128) : EReal :=
  if hh : h.1 < 8 then a.proj r ⟨2816 + h.1, by omega⟩ + a.b ⟨h.1, hh⟩ else 0

end Args

end Proj

end
-- ==== Proof.ProjBlock.lean ====
module

public import proofs.«01_k».proof.Proof.ProjSpec
public import proofs.«01_k».proof.Proof.Gen.ProjKernelIdeal.Skeleton
public import Idealize.ShloMosaic.Lib.Pointwise

/-! # The input projection's vector expressions, read at an index -/

@[expose] public section

set_option maxRecDepth 16384

noncomputable section

namespace Proj

open Idealize.ShloMosaic Idealize.ShloMosaic.Pointwise Cert.ProjKernelIdeal Cert.ProjKernelIdeal.Gen

/-- 128 columns of the keys or values, as 64 groups of eight rows. -/
abbrev pair (s : FVec Ideal S512x128 .f32) : FVec Ideal S64x1x8x128 .f32 :=
  shapeCast S64x1x8x128 (shapeCast S64x8x128 s shapeCasts_S512x128_S64x8x128) shapeCasts_S64x8x128_S64x1x8x128
/-- The same with the second half of the columns turned to the front. -/
abbrev turned (s : FVec Ideal S512x128 .f32) : FVec Ideal S64x1x8x128 .f32 :=
  pair (dynamicRotate 1 64#32 none s rotates_S512x128_d1)

/-- The eight heads, each in the first 64 lanes of a row of its own. -/
def heads (u : FVec Ideal S512x512 .f32) : FVec Ideal S1x512x8x64 .f32 :=
  have s0 : FVec Ideal S512x128 .f32 := extractStridedSlice S512x128 ![0, 0] u slices_S512x512_o0_0_S512x128
  have s1 : FVec Ideal S512x128 .f32 := extractStridedSlice S512x128 ![0, 128] u slices_S512x512_o0_128_S512x128
  have s2 : FVec Ideal S512x128 .f32 := extractStridedSlice S512x128 ![0, 256] u slices_S512x512_o0_256_S512x128
  have s3 : FVec Ideal S512x128 .f32 := extractStridedSlice S512x128 ![0, 384] u slices_S512x512_o0_384_S512x128
  have t : FVec Ideal S64x8x8x128 .f32 := concatenate S64x8x8x128 1 [⟨S64x1x8x128, pair s0⟩, ⟨S64x1x8x128, turned s0⟩, ⟨S64x1x8x128, pair s1⟩, ⟨S64x1x8x128, turned s1⟩, ⟨S64x1x8x128, pair s2⟩, ⟨S64x1x8x128, turned s2⟩, ⟨S64x1x8x128, pair s3⟩, ⟨S64x1x8x128, turned s3⟩] concatenates_S64x1x8x128_S64x1x8x128_S64x1x8x128_S64x1x8x128_S64x1x8x128_S64x1x8x128_S64x1x8x128_S64x1x8x128_S64x8x8x128_d1
  shapeCast S1x512x8x64 (extractStridedSlice S512x8x64 ![0, 0, 0] (shapeCast S512x8x128
    (transpose S64x8x8x128 [0, 2, 1, 3] t transposes_S64x8x8x128_p0_2_1_3_S64x8x8x128) shapeCasts_S64x8x8x128_S512x8x128)
    slices_S512x8x128_o0_0_0_S512x8x64) shapeCasts_S512x8x64_S1x512x8x64

theorem pay8_heads (v16 : FVec Ideal S512x1024 .bf16) (v33 : Vec Ideal S512x1024 .bf16) : k0_pay8 v16 v33 = heads (k0_pay6 v16 v33) := rfl
theorem pay14_heads (u : FVec Ideal S512x512 .f32) : k0_pay14 u (k0_pay10 u) (k0_pay11 u) (k0_pay12 u) (k0_pay13 u) = heads u := rfl

theorem heads_at (u : FVec Ideal S512x512 .f32) (r : Fin 512) (h : Fin 8) (p : Fin 64) :
    heads u (ix4 0 r h p) = u (ix2 r ⟨64 * h.1 + p.1, by omega⟩) := by
  fin_cases h <;> pointwise [heads]
  all_goals
    refine congrArg u (congrArg (ix2 r) (Fin.ext ?_))
    have := p.2
    dsimp only
    omega

/-- Row `r` of the block of rows. -/
abbrev hidOf (x : Vec Ideal S1x512x1024 .f32) (g : Vec Ideal S1x1024 .f32) (r : Fin 512) (d : Fin 1024) : EReal :=
  x (ix3 0 r d) * Ffn.inv 0x44800000#32 (fun k => x (ix3 0 r k)) * g (ix2 0 d)

variable (x : Vec Ideal S1x512x1024 .f32) (g : Vec Ideal S1x1024 .f32) (h : FVec Ideal S512x1024 .bf16)
  (w : Vec Ideal S512x1024 .bf16) (w' : Vec Ideal S768x1024 .bf16) (wd : Vec Ideal S128x1024 .bf16) (bd : Vec Ideal S1x128 .f32)
  (r : Fin 512)

theorem pay2_at (d : Fin 1024) : k0_pay2 x g (ix2 r d) = hidOf x g r d := by
  pointwise [k0_pay2]; rfl
theorem pay3_at (j : Fin 512) : k0_pay3 x g w (ix2 r j) = (∑ d : Fin 1024, hidOf x g r d * w (ix2 j d) : EReal) := by
  pointwise [k0_pay3]; simp only [pay2_at]
theorem pay4_at (j : Fin 512) : k0_pay4 x g w (ix3 0 r j) = (∑ d : Fin 1024, hidOf x g r d * w (ix2 j d) : EReal) * Ideal.ofBits .f32 0x3E000000#32 := by
  pointwise [k0_pay4]; simp only [pay2_at]
theorem pay5_at (j : Fin 512) : k0_pay5 x g w (ix3 0 r j) = (∑ d : Fin 1024, hidOf x g r d * w (ix2 j d) : EReal) := by
  pointwise [k0_pay5]; simp only [pay3_at]
theorem pay6_at (j : Fin 512) : k0_pay6 h w (ix2 r j) = (∑ d : Fin 1024, h (ix2 r d) * w (ix2 j d) : EReal) := by
  pointwise [k0_pay6]
theorem pay7_at (j : Fin 512) : k0_pay7 h w (ix3 0 r j) = (∑ d : Fin 1024, h (ix2 r d) * w (ix2 j d) : EReal) := by
  pointwise [k0_pay7]; simp only [pay6_at]
theorem pay15_at (j : Fin 512) : k0_pay15 h w (ix3 0 r j) = (∑ d : Fin 1024, h (ix2 r d) * w (ix2 j d) : EReal) := by
  pointwise [k0_pay15]
theorem pay16_at (j : Fin 768) : k0_pay16 h w' (ix3 0 r j) = (∑ d : Fin 1024, h (ix2 r d) * w' (ix2 j d) : EReal) := by
  pointwise [k0_pay16]
theorem pay1_at (j : Fin 128) : k0_pay1 h wd bd (ix3 0 r j) = softplus ((∑ d : Fin 1024, h (ix2 r d) * wd (ix2 j d) : EReal) + bd (ix2 0 j)) := by
  pointwise [k0_pay1]; simp only [zero_sub, softplus]; rfl

end Proj

end
-- ==== Proof.ProjRefValue.lean ====
module

public import proofs.«01_k».proof.Proof.ProjSpec
public import proofs.«01_k».proof.Proof.Gen.ProjRefIdeal.Read
public import Idealize.ShloMosaic.Lib.Pointwise

/-! # The projection reference's eight results are the formulas -/

@[expose] public section

set_option maxRecDepth 16384

noncomputable section

namespace Proj

open Idealize.ShloMosaic Idealize.ShloMosaic.Pointwise Cert.ProjRefIdeal Cert.ProjRefIdeal.Gen Cert.ProjRefIdeal.Read

variable (x0 : Vec Ideal S512x1024 .f32) (x1 : Vec Ideal S1024 .f32) (x2 : Vec Ideal S1024x2824 .f32) (x3 : Vec Ideal S8 .f32)

/-- The arguments as formulas read them. -/
def argsOf : Args (Fin 512) where
  X r d := x0 (ix2 r d)
  g d := x1 (ix1 d)
  w d f := x2 (ix2 d f)
  b h := x3 (ix1 h)

theorem ref_hid (r : Fin 512) (d : Fin 1024) : val_main_v12 (F := Ideal) x0 x1 (ix2 r d) = (argsOf x0 x1 x2 x3).hid r d := by
  pointwise [val_main_v12, val_main_v11, val_main_v10, val_main_v9, val_main_v8, val_main_v7, val_main_v6, val_main_v5,
    val_main_cst_1, val_main_v4, val_main_v3, val_main_cst_0, val_main_v2, val_main_v1, val_main_cst, val_main_v0]
  rfl

theorem ref_proj (r : Fin 512) (f : Fin 2824) : val_main_v14 (F := Ideal) x0 x1 x2 (ix3 0 r f) = (argsOf x0 x1 x2 x3).proj r f := by
  pointwise [val_main_v14, val_main_v13]
  simp only [ref_hid x0 x1 x2 x3]
  rfl

variable (r : Fin 512)

theorem ref_q (j : Fin 512) : val_main_v28 (F := Ideal) x0 x1 x2 (ix3 0 r j)
    = (argsOf x0 x1 x2 x3).proj r ⟨j.1, by omega⟩ * Ideal.ofBits .f32 0x3E000000#32 := by
  pointwise [val_main_v28, val_main_v27, val_main_v26, val_main_cst_2, val_main_v15]
  simp only [ref_proj x0 x1 x2 x3]
theorem ref_k (j : Fin 512) : val_main_v29 (F := Ideal) x0 x1 x2 (ix3 0 r j) = (argsOf x0 x1 x2 x3).proj r ⟨512 + j.1, by omega⟩ := by
  pointwise [val_main_v29, val_main_v16]
  simp only [ref_proj x0 x1 x2 x3]
theorem ref_v (j : Fin 512) : val_main_v30 (F := Ideal) x0 x1 x2 (ix3 0 r j) = (argsOf x0 x1 x2 x3).proj r ⟨1024 + j.1, by omega⟩ := by
  pointwise [val_main_v30, val_main_v17]
  simp only [ref_proj x0 x1 x2 x3]
theorem ref_kh (h : Fin 8) (p : Fin 64) : val_main_v31 (F := Ideal) x0 x1 x2 (ix4 0 r h p)
    = (argsOf x0 x1 x2 x3).proj r ⟨512 + (64 * h.1 + p.1), by omega⟩ := by
  pointwise [val_main_v31, val_main_v16]
  simp only [ref_proj x0 x1 x2 x3]
  exact congrArg _ (Fin.ext (by dsimp only; omega))
theorem ref_vh (h : Fin 8) (p : Fin 64) : val_main_v32 (F := Ideal) x0 x1 x2 (ix4 0 r h p)
    = (argsOf x0 x1 x2 x3).proj r ⟨1024 + (64 * h.1 + p.1), by omega⟩ := by
  pointwise [val_main_v32, val_main_v17]
  simp only [ref_proj x0 x1 x2 x3]
  exact congrArg _ (Fin.ext (by dsimp only; omega))
theorem ref_z (j : Fin 512) : val_main_v18 (F := Ideal) x0 x1 x2 (ix3 0 r j) = (argsOf x0 x1 x2 x3).proj r ⟨1536 + j.1, by omega⟩ := by
  pointwise [val_main_v18]
  simp only [ref_proj x0 x1 x2 x3]
theorem ref_xbc (j : Fin 768) : val_main_v19 (F := Ideal) x0 x1 x2 (ix3 0 r j) = (argsOf x0 x1 x2 x3).proj r ⟨2048 + j.1, by omega⟩ := by
  pointwise [val_main_v19]
  simp only [ref_proj x0 x1 x2 x3]

theorem ref_pre (h : Fin 128) : val_main_v24 (F := Ideal) x0 x1 x2 x3 (ix3 0 r h) = (argsOf x0 x1 x2 x3).pre r h := by
  unfold val_main_v24
  have e : ∀ k : Fin 8, val_main_v23 (F := Ideal) x0 x1 x2 x3 (ix3 0 r k)
      = (argsOf x0 x1 x2 x3).proj r ⟨2816 + k.1, by omega⟩ + (argsOf x0 x1 x2 x3).b k := by
    intro k
    pointwise [val_main_v23, val_main_v22, val_main_v21, val_main_v20]
    simp only [ref_proj x0 x1 x2 x3]
    rfl
  have z : ∀ i, val_main_call0_v0 (F := Ideal) i = 0 := by
    intro i
    pointwise [val_main_call0_v0, val_main_c]
    exact EReal.coe_eq_coe_iff.mpr (by norm_num)
  unfold Args.pre
  by_cases hh : h.1 < 8
  · rw [dif_pos hh, ← e ⟨h.1, hh⟩]
    exact pad_in _ _ _ _ (by decide) (by decide) _ (ix3 0 r ⟨h.1, hh⟩) (fun | ⟨0, _⟩ => rfl | ⟨1, _⟩ => rfl | ⟨2, _⟩ => rfl)
  · rw [dif_neg hh]
    exact (pad_out _ _ _ _ (by decide) (by decide) _ ⟨2, by decide⟩ (Nat.not_lt.mp hh)).trans (z _)

theorem ref_dt (h : Fin 128) : val_main_v25 (F := Ideal) x0 x1 x2 x3 (ix3 0 r h) = softplus ((argsOf x0 x1 x2 x3).pre r h) := by
  pointwise [val_main_v25, val_main_call1_v11, val_main_call1_v10, val_main_call1_v9, val_main_call1_v8, val_main_call1_v7,
    val_main_call1_v6, val_main_call1_v5, val_main_call1_v4, val_main_call1_v3, val_main_call1_v2, val_main_call1_v1,
    val_main_call1_v0, val_main_call1_cst]
  simp only [ref_pre x0 x1 x2 x3]
  rw [if_neg (not_not.mpr rfl)]
  rfl

end Proj

end
-- ==== Proof.ProjValue.lean ====
module

public import proofs.«01_k».proof.Proof.ProjBlock
public import proofs.«01_k».proof.Proof.ProjRefValue
public import proofs.«01_k».proof.Proof.Gen.ProjKernelIdeal.Value
public import Idealize.ShloMosaic.Lib.Claim
public import Idealize.ShloMosaic.Lib.Pipeline.ValueKit

/-! # The projection's eight result arrays

The grid has one point. Its input blocks are whole arrays, and each output block is a whole result array. -/

@[expose] public section

set_option maxRecDepth 16384

noncomputable section

namespace Proj

open Idealize.ShloMosaic Idealize.ShloMosaic.Pointwise Idealize.ShloMosaic.TcCoe Idealize.SL.Sem
open Cert.ProjKernelIdeal Cert.ProjKernelIdeal.Gen
open Idealize.ShloMosaic.Pipeline (Dat)

/-! ## What the body leaves in each output block -/

/-- The input blocks hold the arguments, the weight transposed. -/
structure Blocks (x0 : Vec Ideal S1x512x1024 .f32) (x1 : Vec Ideal S1x1024 .f32) (x2 : Vec Ideal S2824x1024 .bf16)
    (x3 : Vec Ideal S128x1024 .bf16) (x4 : Vec Ideal S1x128 .f32) (a : Args (Fin 512)) : Prop where
  x r d : x0 (ix3 0 r d) = a.X r d
  g d : x1 (ix2 0 d) = a.g d
  w f d : x2 (ix2 f d) = a.w d f
  wd (h : Fin 128) d : x3 (ix2 h d) = if hh : h.1 < 8 then a.w d ⟨2816 + h.1, by omega⟩ else 0
  bd (h : Fin 128) : x4 (ix2 0 h) = if hh : h.1 < 8 then a.b ⟨h.1, hh⟩ else 0

section
variable {x0 : Vec Ideal S1x512x1024 .f32} {x1 : Vec Ideal S1x1024 .f32} {x2 : Vec Ideal S2824x1024 .bf16}
  {x3 : Vec Ideal S128x1024 .bf16} {x4 : Vec Ideal S1x128 .f32} {a : Args (Fin 512)} (B : Blocks x0 x1 x2 x3 x4 a)

include B

theorem hidOf_eq (r : Fin 512) (d : Fin 1024) : hidOf x0 x1 r d = a.hid r d := by
  unfold hidOf Args.hid
  rw [B.x, B.g, show (fun k => x0 (ix3 0 r k)) = a.X r from funext fun k => B.x r k]

theorem ld_x : View.ld x0 r0_0 = x0 := View.ld_unit_lit _ _ (by decide)
theorem ld_g : View.ld x1 r0_1 = x1 := View.ld_unit_lit _ _ (by decide)

theorem normed_at (r : Fin 512) (d : Fin 1024) : k0_pay2 (View.ld x0 r0_0) (View.ld x1 r0_1) (ix2 r d) = a.hid r d := by
  rw [ld_x B, ld_g B, pay2_at, hidOf_eq B]

/-- A block of rows of the transposed weight, from row `off`. -/
theorem rows {n : Nat} (off : Nat) (hn : off + n ≤ 2824) (inb) (j : Fin n) (d : Fin 1024) :
    View.ld x2 (Rect.unit (s := S2824x1024) ![off, 0] (⟨2, ![n, 1024]⟩ : Shape).size inb) (ix2 j d) = a.w d ⟨off + j.1, by omega⟩ :=
  (View.ld_unit_apply_of x2 _ _ _ (ix2 j d) (ix2 ⟨off + j.1, by omega⟩ d)
    (fun | ⟨0, _⟩ => rfl | ⟨1, _⟩ => (Nat.zero_add _).symm)).trans (B.w _ d)

/-- A row of the hidden state against a block of rows of the weight. -/
theorem dotRows {n : Nat} (off : Nat) (hn : off + n ≤ 2824) (inb) (r : Fin 512) (j : Fin n) :
    (∑ d : Fin 1024, a.hid r d * View.ld x2 (Rect.unit (s := S2824x1024) ![off, 0] (⟨2, ![n, 1024]⟩ : Shape).size inb) (ix2 j d) : EReal)
      = a.proj r ⟨off + j.1, by omega⟩ :=
  Finset.sum_congr rfl fun d _ => congrArg (a.hid r d * ·) (rows B off hn inb j d)

theorem values_at (r j : Fin 512) : k0_pay3 (View.ld x0 r0_0) (View.ld x1 r0_1) (View.ld x2 r0_3) (ix2 r j) = a.proj r ⟨1024 + j.1, by omega⟩ := by
  rw [ld_x B, ld_g B, pay3_at]
  simp only [hidOf_eq B]
  exact dotRows B 1024 (by omega) _ r j

theorem q_at (r j : Fin 512) : out0_5 x0 x1 x2 x3 x4 (ix3 0 r j) = a.proj r ⟨j.1, by omega⟩ * Ideal.ofBits .f32 0x3E000000#32 := by
  unfold_out out0_5
  rw [View.canon_cons_unit_lit _ _ _ (by decide), ld_x B, ld_g B, pay4_at]
  simp only [hidOf_eq B]
  refine congrArg (· * _) ((dotRows B 0 (by omega) _ r j).trans ?_)
  exact congrArg (a.proj r) (Fin.ext (Nat.zero_add _))

theorem k_at (r j : Fin 512) : out0_6 x0 x1 x2 x3 x4 (ix3 0 r j) = a.proj r ⟨512 + j.1, by omega⟩ := by
  unfold_out out0_6
  rw [View.canon_cons_unit_lit _ _ _ (by decide), pay7_at]
  simp only [normed_at B]
  exact dotRows B 512 (by omega) _ r j

theorem v_at (r j : Fin 512) : out0_7 x0 x1 x2 x3 x4 (ix3 0 r j) = a.proj r ⟨1024 + j.1, by omega⟩ := by
  unfold_out out0_7
  rw [View.canon_cons_unit_lit _ _ _ (by decide), ld_x B, ld_g B, pay5_at]
  simp only [hidOf_eq B]
  exact dotRows B 1024 (by omega) _ r j

theorem kh_at (r : Fin 512) (h : Fin 8) (p : Fin 64) : out0_8 x0 x1 x2 x3 x4 (ix4 0 r h p) = a.proj r ⟨512 + (64 * h.1 + p.1), by omega⟩ := by
  unfold_out out0_8
  rw [View.canon_cons_unit_lit _ _ _ (by decide), pay8_heads, heads_at, pay6_at]
  simp only [normed_at B]
  exact dotRows B 512 (by omega) _ r _

theorem vh_at (r : Fin 512) (h : Fin 8) (p : Fin 64) : out0_9 x0 x1 x2 x3 x4 (ix4 0 r h p) = a.proj r ⟨1024 + (64 * h.1 + p.1), by omega⟩ := by
  unfold_out out0_9
  rw [View.canon_cons_unit_lit _ _ _ (by decide), pay14_heads, heads_at, values_at B]

theorem z_at (r j : Fin 512) : out0_10 x0 x1 x2 x3 x4 (ix3 0 r j) = a.proj r ⟨1536 + j.1, by omega⟩ := by
  unfold_out out0_10
  rw [View.canon_cons_unit_lit _ _ _ (by decide), pay15_at]
  simp only [normed_at B]
  exact dotRows B 1536 (by omega) _ r j

theorem xbc_at (r : Fin 512) (j : Fin 768) : out0_11 x0 x1 x2 x3 x4 (ix3 0 r j) = a.proj r ⟨2048 + j.1, by omega⟩ := by
  unfold_out out0_11
  rw [View.canon_cons_unit_lit _ _ _ (by decide), pay16_at]
  simp only [normed_at B]
  exact dotRows B 2048 (by omega) _ r j

theorem dt_at (r : Fin 512) (h : Fin 128) : out0_12 x0 x1 x2 x3 x4 (ix3 0 r h) = softplus (a.pre r h) := by
  unfold_out out0_12
  rw [View.canon_cons_unit_lit _ _ _ (by decide), show View.ld x3 r0_10 = x3 from View.ld_unit_lit _ _ (by decide),
    show View.ld x4 r0_11 = x4 from View.ld_unit_lit _ _ (by decide), pay1_at]
  simp only [normed_at B, B.wd, B.bd]
  unfold Args.pre
  by_cases hh : h.1 < 8
  · simp only [dif_pos hh]; rfl
  · simp only [dif_neg hh, mul_zero, Finset.sum_const_zero, add_zero]

end

/-! ## The input blocks -/

variable (m : (ℓ : Loc nD τ sig) → Buf (Elt Ideal) ℓ) (c : Dev nD)

theorem index0 : ∀ (t : Fin grid0.N) a, win0_0.index t a = 0 := by decide +kernel
theorem index1 : ∀ (t : Fin grid0.N) a, win0_1.index t a = 0 := by decide +kernel
theorem index2 : ∀ (t : Fin grid0.N) a, win0_2.index t a = 0 := by decide +kernel
theorem index3 : ∀ (t : Fin grid0.N) a, win0_3.index t a = 0 := by decide +kernel
theorem index4 : ∀ (t : Fin grid0.N) a, win0_4.index t a = 0 := by decide +kernel
theorem index5 : ∀ (t : Fin grid0.N) a, win0_5.index t a = 0 := by decide +kernel
theorem index6 : ∀ (t : Fin grid0.N) a, win0_6.index t a = 0 := by decide +kernel
theorem index7 : ∀ (t : Fin grid0.N) a, win0_7.index t a = 0 := by decide +kernel
theorem index8 : ∀ (t : Fin grid0.N) a, win0_8.index t a = 0 := by decide +kernel
theorem index9 : ∀ (t : Fin grid0.N) a, win0_9.index t a = 0 := by decide +kernel
theorem index10 : ∀ (t : Fin grid0.N) a, win0_10.index t a = 0 := by decide +kernel
theorem index11 : ∀ (t : Fin grid0.N) a, win0_11.index t a = 0 := by decide +kernel
theorem index12 : ∀ (t : Fin grid0.N) a, win0_12.index t a = 0 := by decide +kernel

theorem blk0 (t : Fin cfg0.N) : (iblk m c 0 t : Vec Ideal S1x512x1024 .f32) = V m c main_v4 :=
  funext fun i => congrArg (V m c main_v4) (whole (i := ((cfg0.win 0).blk t).view.emb i) (index0 t) fun _ => rfl)

theorem blk1 (t : Fin cfg0.N) : (iblk m c 1 t : Vec Ideal S1x1024 .f32) = V m c main_v5 :=
  funext fun i => congrArg (V m c main_v5) (whole (i := ((cfg0.win 1).blk t).view.emb i) (index1 t) fun _ => rfl)

theorem blk2 (t : Fin cfg0.N) : (iblk m c 2 t : Vec Ideal S2824x1024 .bf16) = V m c main_v1 :=
  funext fun i => congrArg (V m c main_v1) (whole (i := ((cfg0.win 2).blk t).view.emb i) (index2 t) fun _ => rfl)

theorem blk3 (t : Fin cfg0.N) : (iblk m c 3 t : Vec Ideal S128x1024 .bf16) = V m c main_v3 :=
  funext fun i => congrArg (V m c main_v3) (whole (i := ((cfg0.win 3).blk t).view.emb i) (index3 t) fun _ => rfl)

theorem blk4 (t : Fin cfg0.N) : (iblk m c 4 t : Vec Ideal S1x128 .f32) = V m c main_v7 :=
  funext fun i => congrArg (V m c main_v7) (whole (i := ((cfg0.win 4).blk t).view.emb i) (index4 t) fun _ => rfl)

/-- The arguments as launched. -/
abbrev args : Args (Fin 512) := argsOf (m ((c : Thread nD τ).loc main_arg0)) (m ((c : Thread nD τ).loc main_arg1)) (m ((c : Thread nD τ).loc main_arg2)) (m ((c : Thread nD τ).loc main_arg3))

theorem entry_x (r : Fin 512) (d : Fin 1024) : (V m c main_v4 : Vec Ideal S1x512x1024 .f32) (ix3 0 r d) = (args m c).X r d := by
  unfold V
  simp only [hostOps0, hostOps0_1, hostOps0_2, hostOps0_3, List.flatten_cons, List.flatten_nil, List.append_nil,
    List.cons_append, List.nil_append]
  after_results
  pointwise []
  rfl

theorem entry_g (d : Fin 1024) : (V m c main_v5 : Vec Ideal S1x1024 .f32) (ix2 0 d) = (args m c).g d := by
  unfold V
  simp only [hostOps0, hostOps0_1, hostOps0_2, hostOps0_3, List.flatten_cons, List.flatten_nil, List.append_nil,
    List.cons_append, List.nil_append]
  after_results
  pointwise []
  rfl

theorem entry_w (f : Fin 2824) (d : Fin 1024) : (V m c main_v1 : Vec Ideal S2824x1024 .bf16) (ix2 f d) = (args m c).w d f := by
  unfold V
  simp only [hostOps0, hostOps0_1, hostOps0_2, hostOps0_3, List.flatten_cons, List.flatten_nil, List.append_nil,
    List.cons_append, List.nil_append]
  after_results
  pointwise []
  rfl

theorem entry_wd (h : Fin 128) (d : Fin 1024) : (V m c main_v3 : Vec Ideal S128x1024 .bf16) (ix2 h d)
    = if hh : h.1 < 8 then (args m c).w d ⟨2816 + h.1, by omega⟩ else 0 := by
  unfold V
  simp only [hostOps0, hostOps0_1, hostOps0_2, hostOps0_3, List.flatten_cons, List.flatten_nil, List.append_nil,
    List.cons_append, List.nil_append]
  after_results
  let y : Vec Ideal S1024x2824 .f32 := m ((c : Thread nD τ).loc main_arg2)
  let x : Vec Ideal S8x1024 .bf16 := extractStridedSlice S8x1024 ![2816, 0] (truncf (F := Ideal) .bf16 (transpose S2824x1024 [1, 0] y transposes_S1024x2824_S2824x1024_1_0) bitsLt_bf16_f32) slices_S2824x1024_S8x1024_2816_0
  let v : Vec Ideal S_ .bf16 := sitofp (F := Ideal) .bf16 (constantI S_ 32 0#32)
  have hx : ∀ k : Fin 8, x (ix2 k d) = (args m c).w d ⟨2816 + k.1, by omega⟩ := by
    intro k
    show extractStridedSlice S8x1024 _ _ _ _ = _
    pointwise []
    rfl
  have hv : ∀ i, v i = 0 := fun _ => EReal.coe_eq_coe_iff.mpr (by norm_num [constantI])
  change pad S128x1024 ![0, 0] ![120, 0] ![0, 0] x v pads_S8x1024_S128x1024_01200_000 h_S_ (ix2 h d) = _
  clear_value x v
  by_cases hh : h.1 < 8
  · rw [dif_pos hh, ← hx ⟨h.1, hh⟩]
    exact pad_in _ _ _ _ (by decide) (by decide) _ (ix2 ⟨h.1, hh⟩ d) (fun | ⟨0, _⟩ => rfl | ⟨1, _⟩ => rfl)
  · rw [dif_neg hh]
    exact (pad_out _ _ _ _ (by decide) (by decide) _ ⟨0, by decide⟩ (Nat.not_lt.mp hh)).trans (hv _)

theorem entry_bd (h : Fin 128) : (V m c main_v7 : Vec Ideal S1x128 .f32) (ix2 0 h)
    = if hh : h.1 < 8 then (args m c).b ⟨h.1, hh⟩ else 0 := by
  unfold V
  simp only [hostOps0, hostOps0_1, hostOps0_2, hostOps0_3, List.flatten_cons, List.flatten_nil, List.append_nil,
    List.cons_append, List.nil_append]
  after_results
  let x : Vec Ideal S1x8 .f32 := shapeCast S1x8 (m ((c : Thread nD τ).loc main_arg3) : Vec Ideal S8 .f32) shapeCasts_S8_S1x8
  let v : Vec Ideal S_ .f32 := sitofp (F := Ideal) .f32 (constantI S_ 32 0#32)
  have hx : ∀ k : Fin 8, x (ix2 0 k) = (args m c).b k := by
    intro k
    show shapeCast S1x8 _ _ _ = _
    pointwise []
    rfl
  have hv : ∀ i, v i = 0 := fun _ => EReal.coe_eq_coe_iff.mpr (by norm_num [constantI])
  change pad S1x128 ![0, 0] ![0, 120] ![0, 0] x v pads_S1x8_S1x128_000_01200 h_S_ (ix2 0 h) = _
  clear_value x v
  by_cases hh : h.1 < 8
  · rw [dif_pos hh, ← hx ⟨h.1, hh⟩]
    exact pad_in _ _ _ _ (by decide) (by decide) _ (ix2 0 ⟨h.1, hh⟩) (fun | ⟨0, _⟩ => rfl | ⟨1, _⟩ => rfl)
  · rw [dif_neg hh]
    exact (pad_out _ _ _ _ (by decide) (by decide) _ ⟨1, by decide⟩ (Nat.not_lt.mp hh)).trans (hv _)

/-- The input blocks hold the arguments. -/
theorem blocks (t : Fin cfg0.N) : Blocks (iblk m c 0 t) (iblk m c 1 t) (iblk m c 2 t) (iblk m c 3 t) (iblk m c 4 t) (args m c) where
  x r d := (congrFun (blk0 m c t) _).trans (entry_x m c r d)
  g d := (congrFun (blk1 m c t) _).trans (entry_g m c d)
  w f d := (congrFun (blk2 m c t) _).trans (entry_w m c f d)
  wd h d := (congrFun (blk3 m c t) _).trans (entry_wd m c h d)
  bd h := (congrFun (blk4 m c t) _).trans (entry_bd m c h)

/-! ## The result arrays

Each block of a result is the whole array, so what the one point writes back is the array. -/

/-- The reference's queries. -/
def resQ : Vec Ideal S1x512x512 .bf16 := Cert.ProjRefIdeal.Read.val_main_v28 (F := Ideal) (m ((c : Thread nD τ).loc main_arg0)) (m ((c : Thread nD τ).loc main_arg1)) (m ((c : Thread nD τ).loc main_arg2))

theorem final5 : (dats m 0 c).arrAt 5 cfg0.N = resQ m c := by
  refine (dats m 0 c).arrAt_eq_of_cover 5 _ (fun t _ => funext fun j => ?_) (Pipeline.Window.Covers.cover win0_5 (by decide +kernel) (arr_whole0 5))
  rw [Value.flushed5]
  obtain ⟨r, f, rfl⟩ := split3 j
  exact (q_at (blocks m c t) r f).trans ((ref_q _ _ _ (m ((c : Thread nD τ).loc main_arg3)) r f).symm.trans
    (congrArg (resQ m c) (whole (i := ((cfg0.win 5).blk t).view.emb _) (index5 t) fun _ => rfl).symm))

/-- The reference's keys. -/
def resK : Vec Ideal S1x512x512 .bf16 := Cert.ProjRefIdeal.Read.val_main_v29 (F := Ideal) (m ((c : Thread nD τ).loc main_arg0)) (m ((c : Thread nD τ).loc main_arg1)) (m ((c : Thread nD τ).loc main_arg2))

theorem final6 : (dats m 0 c).arrAt 6 cfg0.N = resK m c := by
  refine (dats m 0 c).arrAt_eq_of_cover 6 _ (fun t _ => funext fun j => ?_) (Pipeline.Window.Covers.cover win0_6 (by decide +kernel) (arr_whole0 6))
  rw [Value.flushed6]
  obtain ⟨r, f, rfl⟩ := split3 j
  exact (k_at (blocks m c t) r f).trans ((ref_k _ _ _ (m ((c : Thread nD τ).loc main_arg3)) r f).symm.trans
    (congrArg (resK m c) (whole (i := ((cfg0.win 6).blk t).view.emb _) (index6 t) fun _ => rfl).symm))

/-- The reference's values. -/
def resV : Vec Ideal S1x512x512 .bf16 := Cert.ProjRefIdeal.Read.val_main_v30 (F := Ideal) (m ((c : Thread nD τ).loc main_arg0)) (m ((c : Thread nD τ).loc main_arg1)) (m ((c : Thread nD τ).loc main_arg2))

theorem final7 : (dats m 0 c).arrAt 7 cfg0.N = resV m c := by
  refine (dats m 0 c).arrAt_eq_of_cover 7 _ (fun t _ => funext fun j => ?_) (Pipeline.Window.Covers.cover win0_7 (by decide +kernel) (arr_whole0 7))
  rw [Value.flushed7]
  obtain ⟨r, f, rfl⟩ := split3 j
  exact (v_at (blocks m c t) r f).trans ((ref_v _ _ _ (m ((c : Thread nD τ).loc main_arg3)) r f).symm.trans
    (congrArg (resV m c) (whole (i := ((cfg0.win 7).blk t).view.emb _) (index7 t) fun _ => rfl).symm))

/-- The reference's keys by head. -/
def resKH : Vec Ideal S1x512x8x64 .f32 := Cert.ProjRefIdeal.Read.val_main_v31 (F := Ideal) (m ((c : Thread nD τ).loc main_arg0)) (m ((c : Thread nD τ).loc main_arg1)) (m ((c : Thread nD τ).loc main_arg2))

theorem final8 : (dats m 0 c).arrAt 8 cfg0.N = resKH m c := by
  refine (dats m 0 c).arrAt_eq_of_cover 8 _ (fun t _ => funext fun j => ?_) (Pipeline.Window.Covers.cover win0_8 (by decide +kernel) (arr_whole0 8))
  rw [Value.flushed8]
  obtain ⟨r, h, p, rfl⟩ := split4 j
  exact (kh_at (blocks m c t) r h p).trans ((ref_kh _ _ _ (m ((c : Thread nD τ).loc main_arg3)) r h p).symm.trans
    (congrArg (resKH m c) (whole (i := ((cfg0.win 8).blk t).view.emb _) (index8 t) fun _ => rfl).symm))

/-- The reference's values by head. -/
def resVH : Vec Ideal S1x512x8x64 .f32 := Cert.ProjRefIdeal.Read.val_main_v32 (F := Ideal) (m ((c : Thread nD τ).loc main_arg0)) (m ((c : Thread nD τ).loc main_arg1)) (m ((c : Thread nD τ).loc main_arg2))

theorem final9 : (dats m 0 c).arrAt 9 cfg0.N = resVH m c := by
  refine (dats m 0 c).arrAt_eq_of_cover 9 _ (fun t _ => funext fun j => ?_) (Pipeline.Window.Covers.cover win0_9 (by decide +kernel) (arr_whole0 9))
  rw [Value.flushed9]
  obtain ⟨r, h, p, rfl⟩ := split4 j
  exact (vh_at (blocks m c t) r h p).trans ((ref_vh _ _ _ (m ((c : Thread nD τ).loc main_arg3)) r h p).symm.trans
    (congrArg (resVH m c) (whole (i := ((cfg0.win 9).blk t).view.emb _) (index9 t) fun _ => rfl).symm))

/-- The reference's gate. -/
def resZ : Vec Ideal S1x512x512 .f32 := Cert.ProjRefIdeal.Read.val_main_v18 (F := Ideal) (m ((c : Thread nD τ).loc main_arg0)) (m ((c : Thread nD τ).loc main_arg1)) (m ((c : Thread nD τ).loc main_arg2))

theorem final10 : (dats m 0 c).arrAt 10 cfg0.N = resZ m c := by
  refine (dats m 0 c).arrAt_eq_of_cover 10 _ (fun t _ => funext fun j => ?_) (Pipeline.Window.Covers.cover win0_10 (by decide +kernel) (arr_whole0 10))
  rw [Value.flushed10]
  obtain ⟨r, f, rfl⟩ := split3 j
  exact (z_at (blocks m c t) r f).trans ((ref_z _ _ _ (m ((c : Thread nD τ).loc main_arg3)) r f).symm.trans
    (congrArg (resZ m c) (whole (i := ((cfg0.win 10).blk t).view.emb _) (index10 t) fun _ => rfl).symm))

/-- The reference's recurrence's input. -/
def resX : Vec Ideal S1x512x768 .f32 := Cert.ProjRefIdeal.Read.val_main_v19 (F := Ideal) (m ((c : Thread nD τ).loc main_arg0)) (m ((c : Thread nD τ).loc main_arg1)) (m ((c : Thread nD τ).loc main_arg2))

theorem final11 : (dats m 0 c).arrAt 11 cfg0.N = resX m c := by
  refine (dats m 0 c).arrAt_eq_of_cover 11 _ (fun t _ => funext fun j => ?_) (Pipeline.Window.Covers.cover win0_11 (by decide +kernel) (arr_whole0 11))
  rw [Value.flushed11]
  obtain ⟨r, f, rfl⟩ := split3 j
  exact (xbc_at (blocks m c t) r f).trans ((ref_xbc _ _ _ (m ((c : Thread nD τ).loc main_arg3)) r f).symm.trans
    (congrArg (resX m c) (whole (i := ((cfg0.win 11).blk t).view.emb _) (index11 t) fun _ => rfl).symm))

/-- The reference's step sizes. -/
def resD : Vec Ideal S1x512x128 .f32 := Cert.ProjRefIdeal.Read.val_main_v25 (F := Ideal) (m ((c : Thread nD τ).loc main_arg0)) (m ((c : Thread nD τ).loc main_arg1)) (m ((c : Thread nD τ).loc main_arg2)) (m ((c : Thread nD τ).loc main_arg3))

theorem final12 : (dats m 0 c).arrAt 12 cfg0.N = resD m c := by
  refine (dats m 0 c).arrAt_eq_of_cover 12 _ (fun t _ => funext fun j => ?_) (Pipeline.Window.Covers.cover win0_12 (by decide +kernel) (arr_whole0 12))
  rw [Value.flushed12]
  obtain ⟨r, f, rfl⟩ := split3 j
  exact (dt_at (blocks m c t) r f).trans ((ref_dt _ _ _ (m ((c : Thread nD τ).loc main_arg3)) r f).symm.trans
    (congrArg (resD m c) (whole (i := ((cfg0.win 12).blk t).view.emb _) (index12 t) fun _ => rfl).symm))

end Proj

end
-- ==== Proof.ProjPromptBlock.lean ====
module

public import proofs.«01_k».proof.Proof.ProjSpec
public import proofs.«01_k».proof.Proof.Gen.ProjPromptKernelIdeal.Skeleton
public import Idealize.ShloMosaic.Lib.Pointwise

/-! # The prompt's input projection: its vector expressions, read at an index -/

@[expose] public section

set_option maxRecDepth 16384

noncomputable section

namespace ProjPrompt

open Idealize.ShloMosaic Idealize.ShloMosaic.Pointwise Cert.ProjPromptKernelIdeal Cert.ProjPromptKernelIdeal.Gen
open Proj (softplus)

/-- Row `r` of the block of rows, normalised. -/
abbrev hidOf (x : Vec Ideal S1x1024x1024 .f32) (g : Vec Ideal S1x1024 .f32) (r d : Fin 1024) : EReal :=
  x (ix3 0 r d) * Ffn.inv 0x44800000#32 (fun k => x (ix3 0 r k)) * g (ix2 0 d)

variable (x : Vec Ideal S1x1024x1024 .f32) (g : Vec Ideal S1x1024 .f32) (h : FVec Ideal S1024x1024 .bf16)
  (w : Vec Ideal S512x1024 .bf16) (w' : Vec Ideal S768x1024 .bf16) (wd : Vec Ideal S128x1024 .bf16) (bd : Vec Ideal S1x128 .f32)
  (r : Fin 1024)

theorem pay2_at (d : Fin 1024) : k0_pay2 x g (ix2 r d) = hidOf x g r d := by
  pointwise [k0_pay2]; rfl
theorem pay3_at (j : Fin 512) : k0_pay3 x g w (ix2 r j) = (∑ d : Fin 1024, hidOf x g r d * w (ix2 j d) : EReal) := by
  pointwise [k0_pay3]; simp only [pay2_at]
/-- The keys come transposed, with the factors of each product in the other order. -/
theorem pay144_at (j : Fin 512) : k0_pay144 h w (ix2 j r) = (∑ d : Fin 1024, h (ix2 r d) * w (ix2 j d) : EReal) := by
  pointwise [k0_pay144]; exact Finset.sum_congr rfl fun d _ => mul_comm _ _
theorem pay145_at (j : Fin 512) : k0_pay145 h w (ix3 0 j r) = (∑ d : Fin 1024, h (ix2 r d) * w (ix2 j d) : EReal) := by
  pointwise [k0_pay145]; simp only [pay144_at]
theorem pay146_at (a : Fin 8) (p : Fin 64) : k0_pay146 h w (ix4 0 a p r) = k0_pay144 h w (ix2 ⟨64 * a.1 + p.1, by omega⟩ r) := by
  pointwise [k0_pay146]
  exact congrArg (fun i => k0_pay144 h w (ix2 i r)) (Fin.ext (by dsimp only; omega))
theorem pay147_at (v : FVec Ideal S1024x512 .f32) (a : Fin 8) (p : Fin 64) : k0_pay147 v (ix4 0 a p r) = v (ix2 r ⟨64 * a.1 + p.1, by omega⟩) := by
  pointwise [k0_pay147]
  exact congrArg (fun i => v (ix2 r i)) (Fin.ext (by dsimp only; omega))
theorem pay149_at (j : Fin 512) : k0_pay149 h (k0_pay148 w) (ix3 0 r j) = (∑ d : Fin 1024, h (ix2 r d) * w (ix2 j d) : EReal) := by
  pointwise [k0_pay149, k0_pay148]
theorem pay150_at (j : Fin 768) : k0_pay150 h w' (ix3 0 r j) = (∑ d : Fin 1024, h (ix2 r d) * w' (ix2 j d) : EReal) := by
  pointwise [k0_pay150]
theorem pay1_at (j : Fin 128) : k0_pay1 (k0_pay152 h wd bd) (k0_pay153 h wd bd) (Scalar.ofBits .f32 0x00000000#32) (ix3 0 r j)
    = softplus ((∑ d : Fin 1024, h (ix2 r d) * wd (ix2 j d) : EReal) + bd (ix2 0 j)) := by
  pointwise [k0_pay1, k0_pay152, k0_pay153, k0_pay151]; simp only [zero_sub, softplus]; rfl

end ProjPrompt

end
-- ==== Proof.ProjPromptRefValue.lean ====
module

public import proofs.«01_k».proof.Proof.ProjSpec
public import proofs.«01_k».proof.Proof.Gen.ProjPromptRefIdeal.Read
public import Idealize.ShloMosaic.Lib.Pointwise

/-! # The prompt's projection reference: its six results are the formulas -/

@[expose] public section

set_option maxRecDepth 16384

noncomputable section

namespace ProjPrompt

open Idealize.ShloMosaic Idealize.ShloMosaic.Pointwise Cert.ProjPromptRefIdeal Cert.ProjPromptRefIdeal.Gen Cert.ProjPromptRefIdeal.Read
open Proj (Args softplus pad_in pad_out)

/-- A row of the prompt: its sequence and its place there. -/
abbrev Row : Type := Fin 8 × Fin 2048

variable (x0 : Vec Ideal S8x2048x1024 .f32) (x1 : Vec Ideal S1024 .f32) (x2 : Vec Ideal S1024x2824 .f32) (x3 : Vec Ideal S8 .f32)

/-- The arguments as formulas read them. -/
def argsOf : Args Row where
  X r d := x0 (ix3 r.1 r.2 d)
  g d := x1 (ix1 d)
  w d f := x2 (ix2 d f)
  b h := x3 (ix1 h)

variable (r : Row)

theorem ref_hid (d : Fin 1024) : val_main_v12 (F := Ideal) x0 x1 (ix3 r.1 r.2 d) = (argsOf x0 x1 x2 x3).hid r d := by
  pointwise [val_main_v12, val_main_v11, val_main_v10, val_main_v9, val_main_v8, val_main_v7, val_main_v6, val_main_v5,
    val_main_cst_1, val_main_v4, val_main_v3, val_main_cst_0, val_main_v2, val_main_v1, val_main_cst, val_main_v0]
  rfl

theorem ref_proj (f : Fin 2824) : val_main_v13 (F := Ideal) x0 x1 x2 (ix3 r.1 r.2 f) = (argsOf x0 x1 x2 x3).proj r f := by
  pointwise [val_main_v13]
  simp only [ref_hid x0 x1 x2 x3]
  rfl

theorem ref_k (j : Fin 512) : val_main_v25 (F := Ideal) x0 x1 x2 (ix3 r.1 j r.2) = (argsOf x0 x1 x2 x3).proj r ⟨512 + j.1, by omega⟩ := by
  pointwise [val_main_v25, val_main_v24, val_main_v14]
  simp only [ref_proj x0 x1 x2 x3]
theorem ref_kh (h : Fin 8) (p : Fin 64) : val_main_v27 (F := Ideal) x0 x1 x2 (ix4 r.1 h p r.2)
    = (argsOf x0 x1 x2 x3).proj r ⟨512 + (64 * h.1 + p.1), by omega⟩ := by
  pointwise [val_main_v27, val_main_v26, val_main_v14]
  simp only [ref_proj x0 x1 x2 x3]
  exact congrArg _ (Fin.ext (by dsimp only; omega))
theorem ref_vh (h : Fin 8) (p : Fin 64) : val_main_v29 (F := Ideal) x0 x1 x2 (ix4 r.1 h p r.2)
    = (argsOf x0 x1 x2 x3).proj r ⟨1024 + (64 * h.1 + p.1), by omega⟩ := by
  pointwise [val_main_v29, val_main_v28, val_main_v15]
  simp only [ref_proj x0 x1 x2 x3]
  exact congrArg _ (Fin.ext (by dsimp only; omega))
theorem ref_z (j : Fin 512) : val_main_v16 (F := Ideal) x0 x1 x2 (ix3 r.1 r.2 j) = (argsOf x0 x1 x2 x3).proj r ⟨1536 + j.1, by omega⟩ := by
  pointwise [val_main_v16]
  simp only [ref_proj x0 x1 x2 x3]
theorem ref_xbc (j : Fin 768) : val_main_v17 (F := Ideal) x0 x1 x2 (ix3 r.1 r.2 j) = (argsOf x0 x1 x2 x3).proj r ⟨2048 + j.1, by omega⟩ := by
  pointwise [val_main_v17]
  simp only [ref_proj x0 x1 x2 x3]

theorem ref_pre (h : Fin 128) : val_main_v22 (F := Ideal) x0 x1 x2 x3 (ix3 r.1 r.2 h) = (argsOf x0 x1 x2 x3).pre r h := by
  unfold val_main_v22
  have e : ∀ k : Fin 8, val_main_v21 (F := Ideal) x0 x1 x2 x3 (ix3 r.1 r.2 k)
      = (argsOf x0 x1 x2 x3).proj r ⟨2816 + k.1, by omega⟩ + (argsOf x0 x1 x2 x3).b k := by
    intro k
    pointwise [val_main_v21, val_main_v20, val_main_v19, val_main_v18]
    simp only [ref_proj x0 x1 x2 x3]
    rfl
  have z : ∀ i, val_main_call0_v0 (F := Ideal) i = 0 := by
    intro i
    pointwise [val_main_call0_v0, val_main_c]
    exact EReal.coe_eq_coe_iff.mpr (by norm_num)
  unfold Args.pre
  by_cases hh : h.1 < 8
  · rw [dif_pos hh, ← e ⟨h.1, hh⟩]
    exact pad_in _ _ _ _ (by decide) (by decide) _ (ix3 r.1 r.2 ⟨h.1, hh⟩) (fun | ⟨0, _⟩ => rfl | ⟨1, _⟩ => rfl | ⟨2, _⟩ => rfl)
  · rw [dif_neg hh]
    exact (pad_out _ _ _ _ (by decide) (by decide) _ ⟨2, by decide⟩ (Nat.not_lt.mp hh)).trans (z _)

theorem ref_dt (h : Fin 128) : val_main_v23 (F := Ideal) x0 x1 x2 x3 (ix3 r.1 r.2 h) = softplus ((argsOf x0 x1 x2 x3).pre r h) := by
  pointwise [val_main_v23, val_main_call1_v11, val_main_call1_v10, val_main_call1_v9, val_main_call1_v8, val_main_call1_v7,
    val_main_call1_v6, val_main_call1_v5, val_main_call1_v4, val_main_call1_v3, val_main_call1_v2, val_main_call1_v1,
    val_main_call1_v0, val_main_call1_cst]
  simp only [ref_pre x0 x1 x2 x3]
  rw [if_neg (not_not.mpr rfl)]
  rfl

end ProjPrompt

end
-- ==== Proof.ProjPromptValue.lean ====
module

public import proofs.«01_k».proof.Proof.ProjPromptBlock
public import proofs.«01_k».proof.Proof.ProjPromptRefValue
public import proofs.«01_k».proof.Proof.Gen.ProjPromptKernelIdeal.Frame
public import Idealize.ShloMosaic.Lib.Claim
public import Idealize.ShloMosaic.Lib.Pipeline.ValueKit

/-! # The prompt's projection: six of its result arrays

The grid is the eight sequences by two tiles of 1024 rows. A point's block of each result is the formulas on its own rows. -/

@[expose] public section

set_option maxRecDepth 16384

noncomputable section

namespace ProjPrompt

open Idealize.ShloMosaic Idealize.ShloMosaic.Pointwise Idealize.ShloMosaic.TcCoe Idealize.SL.Sem
open Cert.ProjPromptKernelIdeal Cert.ProjPromptKernelIdeal.Gen
open Idealize.ShloMosaic.Pipeline (Dat)
open Proj (Args softplus pad_in pad_out whole split3 split4)

/-! ## What the body leaves in each output block -/

/-- The input blocks hold the rows `ρ` of the arguments, and the weight transposed. -/
structure Blocks (x0 : Vec Ideal S1x1024x1024 .f32) (x1 : Vec Ideal S1x1024 .f32) (x2 : Vec Ideal S2824x1024 .bf16)
    (x3 : Vec Ideal S128x1024 .bf16) (x4 : Vec Ideal S1x128 .f32) (a : Args Row) (ρ : Fin 1024 → Row) : Prop where
  x r d : x0 (ix3 0 r d) = a.X (ρ r) d
  g d : x1 (ix2 0 d) = a.g d
  w f d : x2 (ix2 f d) = a.w d f
  wd (h : Fin 128) d : x3 (ix2 h d) = if hh : h.1 < 8 then a.w d ⟨2816 + h.1, by omega⟩ else 0
  bd (h : Fin 128) : x4 (ix2 0 h) = if hh : h.1 < 8 then a.b ⟨h.1, hh⟩ else 0

section
variable {x0 : Vec Ideal S1x1024x1024 .f32} {x1 : Vec Ideal S1x1024 .f32} {x2 : Vec Ideal S2824x1024 .bf16}
  {x3 : Vec Ideal S128x1024 .bf16} {x4 : Vec Ideal S1x128 .f32} {a : Args Row} {ρ : Fin 1024 → Row} (B : Blocks x0 x1 x2 x3 x4 a ρ)

include B

theorem hidOf_eq (r d : Fin 1024) : hidOf x0 x1 r d = a.hid (ρ r) d := by
  unfold hidOf Args.hid
  rw [B.x, B.g, show (fun k => x0 (ix3 0 r k)) = a.X (ρ r) from funext fun k => B.x r k]

theorem ld_x : View.ld x0 r0_0 = x0 := View.ld_unit_lit _ _ (by decide)
theorem ld_g : View.ld x1 r0_1 = x1 := View.ld_unit_lit _ _ (by decide)

theorem normed_at (r d : Fin 1024) : k0_pay2 (View.ld x0 r0_0) (View.ld x1 r0_1) (ix2 r d) = a.hid (ρ r) d := by
  rw [ld_x B, ld_g B, pay2_at, hidOf_eq B]

/-- A block of rows of the transposed weight, from row `off`. -/
theorem rows {n : Nat} (off : Nat) (hn : off + n ≤ 2824) (inb) (j : Fin n) (d : Fin 1024) :
    View.ld x2 (Rect.unit (s := S2824x1024) ![off, 0] (⟨2, ![n, 1024]⟩ : Shape).size inb) (ix2 j d) = a.w d ⟨off + j.1, by omega⟩ :=
  (View.ld_unit_apply_of x2 _ _ _ (ix2 j d) (ix2 ⟨off + j.1, by omega⟩ d)
    (fun | ⟨0, _⟩ => rfl | ⟨1, _⟩ => (Nat.zero_add _).symm)).trans (B.w _ d)

/-- A row of the hidden state against a block of rows of the weight. -/
theorem dotRows {n : Nat} (off : Nat) (hn : off + n ≤ 2824) (inb) (r : Fin 1024) (j : Fin n) :
    (∑ d : Fin 1024, a.hid (ρ r) d * View.ld x2 (Rect.unit (s := S2824x1024) ![off, 0] (⟨2, ![n, 1024]⟩ : Shape).size inb) (ix2 j d) : EReal)
      = a.proj (ρ r) ⟨off + j.1, by omega⟩ :=
  Finset.sum_congr rfl fun d _ => congrArg (a.hid (ρ r) d * ·) (rows B off hn inb j d)

theorem values_at (r : Fin 1024) (j : Fin 512) : k0_pay3 (View.ld x0 r0_0) (View.ld x1 r0_1) (View.ld x2 r0_3) (ix2 r j)
    = a.proj (ρ r) ⟨1024 + j.1, by omega⟩ := by
  rw [ld_x B, ld_g B, pay3_at]
  simp only [hidOf_eq B]
  exact dotRows B 1024 (by omega) _ r j

theorem k_at (r : Fin 1024) (j : Fin 512) : out0_6 x0 x1 x2 x3 x4 (ix3 0 j r) = a.proj (ρ r) ⟨512 + j.1, by omega⟩ := by
  unfold_out out0_6
  rw [View.canon_cons_unit_lit _ _ _ (by decide), pay145_at]
  simp only [normed_at B]
  exact dotRows B 512 (by omega) _ r j

theorem kh_at (r : Fin 1024) (h : Fin 8) (p : Fin 64) : out0_8 x0 x1 x2 x3 x4 (ix4 0 h p r) = a.proj (ρ r) ⟨512 + (64 * h.1 + p.1), by omega⟩ := by
  unfold_out out0_8
  rw [View.canon_cons_unit_lit _ _ _ (by decide), pay146_at, pay144_at]
  simp only [normed_at B]
  exact dotRows B 512 (by omega) _ r _

theorem vh_at (r : Fin 1024) (h : Fin 8) (p : Fin 64) : out0_9 x0 x1 x2 x3 x4 (ix4 0 h p r) = a.proj (ρ r) ⟨1024 + (64 * h.1 + p.1), by omega⟩ := by
  unfold_out out0_9
  rw [View.canon_cons_unit_lit _ _ _ (by decide), pay147_at, values_at B]

theorem z_at (r : Fin 1024) (j : Fin 512) : out0_10 x0 x1 x2 x3 x4 (ix3 0 r j) = a.proj (ρ r) ⟨1536 + j.1, by omega⟩ := by
  unfold_out out0_10
  rw [View.canon_cons_unit_lit _ _ _ (by decide), pay149_at]
  simp only [normed_at B]
  exact dotRows B 1536 (by omega) _ r j

theorem xbc_at (r : Fin 1024) (j : Fin 768) : out0_11 x0 x1 x2 x3 x4 (ix3 0 r j) = a.proj (ρ r) ⟨2048 + j.1, by omega⟩ := by
  unfold_out out0_11
  rw [View.canon_cons_unit_lit _ _ _ (by decide), pay150_at]
  simp only [normed_at B]
  exact dotRows B 2048 (by omega) _ r j

theorem dt_at (r : Fin 1024) (h : Fin 128) : out0_12 x0 x1 x2 x3 x4 (ix3 0 r h) = softplus (a.pre (ρ r) h) := by
  unfold_out out0_12
  rw [View.canon_cons_unit_lit _ _ _ (by decide), show View.ld x3 r0_107 = x3 from View.ld_unit_lit _ _ (by decide),
    show View.ld x4 r0_108 = x4 from View.ld_unit_lit _ _ (by decide), pay1_at]
  simp only [normed_at B, B.wd, B.bd]
  unfold Args.pre
  by_cases hh : h.1 < 8
  · simp only [dif_pos hh]; rfl
  · simp only [dif_neg hh, mul_zero, Finset.sum_const_zero, add_zero]

end

/-! ## The input blocks -/

variable (m : (ℓ : Loc nD τ sig) → Buf (Elt Ideal) ℓ) (c : Dev nD)

theorem index0 : ∀ t : Fin grid0.N, win0_0.index t = ![t.1 / 2, t.1 % 2, 0] := by decide +kernel
theorem index1 : ∀ (t : Fin grid0.N) a, win0_1.index t a = 0 := by decide +kernel
theorem index2 : ∀ (t : Fin grid0.N) a, win0_2.index t a = 0 := by decide +kernel
theorem index3 : ∀ (t : Fin grid0.N) a, win0_3.index t a = 0 := by decide +kernel
theorem index4 : ∀ (t : Fin grid0.N) a, win0_4.index t a = 0 := by decide +kernel
theorem index6 : ∀ t : Fin grid0.N, win0_6.index t = ![t.1 / 2, 0, t.1 % 2] := by decide +kernel
theorem index8 : ∀ t : Fin grid0.N, win0_8.index t = ![t.1 / 2, 0, 0, t.1 % 2] := by decide +kernel
theorem index9 : ∀ t : Fin grid0.N, win0_9.index t = ![t.1 / 2, 0, 0, t.1 % 2] := by decide +kernel
theorem index10 : ∀ t : Fin grid0.N, win0_10.index t = ![t.1 / 2, t.1 % 2, 0] := by decide +kernel
theorem index11 : ∀ t : Fin grid0.N, win0_11.index t = ![t.1 / 2, t.1 % 2, 0] := by decide +kernel
theorem index12 : ∀ t : Fin grid0.N, win0_12.index t = ![t.1 / 2, t.1 % 2, 0] := by decide +kernel

/-- Row `r` of point `t`'s tile: its sequence, and its place there. -/
def rowOf (t : Fin grid0.N) (r : Fin 1024) : Row :=
  (⟨t.1 / 2, by have : t.1 < 16 := t.2; omega⟩, ⟨1024 * (t.1 % 2) + r.1, by have := r.2; omega⟩)

/-- Where a block of whole rows lies in its array. -/
theorem place_rows {n : Nat} {at_ : Fin 3 → Nat} (t : Fin grid0.N) (z : at_ = ![t.1 / 2, t.1 % 2, 0]) (r : Fin 1024) (f : Fin n)
    (i : (⟨3, ![8, 2048, n]⟩ : Shape).Idx) (e : ∀ a, (i a).1 = at_ a * ![1, 1024, n] a + 1 * (![0, r.1, f.1] : Fin 3 → Nat) a) :
    i = ix3 (rowOf t r).1 (rowOf t r).2 f := by
  subst z
  funext a
  apply Fin.ext
  refine (e a).trans ?_
  match a with
  | ⟨0, _⟩ => show t.1 / 2 * 1 + 1 * 0 = t.1 / 2; omega
  | ⟨1, _⟩ => show t.1 % 2 * 1024 + 1 * r.1 = 1024 * (t.1 % 2) + r.1; omega
  | ⟨2, _⟩ => show 0 * n + 1 * f.1 = f.1; omega

/-- Where a block of columns lies, the rows being on the last of three axes. -/
theorem place_cols {n : Nat} {at_ : Fin 3 → Nat} (t : Fin grid0.N) (z : at_ = ![t.1 / 2, 0, t.1 % 2]) (f : Fin n) (r : Fin 1024)
    (i : (⟨3, ![8, n, 2048]⟩ : Shape).Idx) (e : ∀ a, (i a).1 = at_ a * ![1, n, 1024] a + 1 * (![0, f.1, r.1] : Fin 3 → Nat) a) :
    i = ix3 (rowOf t r).1 f (rowOf t r).2 := by
  subst z
  funext a
  apply Fin.ext
  refine (e a).trans ?_
  match a with
  | ⟨0, _⟩ => show t.1 / 2 * 1 + 1 * 0 = t.1 / 2; omega
  | ⟨1, _⟩ => show 0 * n + 1 * f.1 = f.1; omega
  | ⟨2, _⟩ => show t.1 % 2 * 1024 + 1 * r.1 = 1024 * (t.1 % 2) + r.1; omega

/-- The same with a head axis before it. -/
theorem place_heads {n k : Nat} {at_ : Fin 4 → Nat} (t : Fin grid0.N) (z : at_ = ![t.1 / 2, 0, 0, t.1 % 2]) (h : Fin n) (p : Fin k) (r : Fin 1024)
    (i : (⟨4, ![8, n, k, 2048]⟩ : Shape).Idx) (e : ∀ a, (i a).1 = at_ a * ![1, n, k, 1024] a + 1 * (![0, h.1, p.1, r.1] : Fin 4 → Nat) a) :
    i = ix4 (rowOf t r).1 h p (rowOf t r).2 := by
  subst z
  funext a
  apply Fin.ext
  refine (e a).trans ?_
  match a with
  | ⟨0, _⟩ => show t.1 / 2 * 1 + 1 * 0 = t.1 / 2; omega
  | ⟨1, _⟩ => show 0 * n + 1 * h.1 = h.1; omega
  | ⟨2, _⟩ => show 0 * k + 1 * p.1 = p.1; omega
  | ⟨3, _⟩ => show t.1 % 2 * 1024 + 1 * r.1 = 1024 * (t.1 % 2) + r.1; omega

/-- The arguments as launched. -/
abbrev args : Args Row := argsOf (m ((c : Thread nD τ).loc main_arg0)) (m ((c : Thread nD τ).loc main_arg1)) (m ((c : Thread nD τ).loc main_arg2)) (m ((c : Thread nD τ).loc main_arg3))

/-- Input block 0 is the tile's rows. -/
theorem blk0 (t : Fin cfg0.N) (r d : Fin 1024) : (iblk m c 0 t : Vec Ideal S1x1024x1024 .f32) (ix3 0 r d) = (args m c).X (rowOf t r) d := by
  unfold iblk
  rw [View.read_apply]
  show V m c main_arg0 _ = _
  rw [V_main_arg0]
  show (m ((c : Thread nD τ).loc main_arg0) : Vec Ideal S8x2048x1024 .f32) _ = (m ((c : Thread nD τ).loc main_arg0) : Vec Ideal S8x2048x1024 .f32) _
  exact congrArg _ (place_rows t (index0 t) r d _ (fun | ⟨0, _⟩ => rfl | ⟨1, _⟩ => rfl | ⟨2, _⟩ => rfl))

theorem blk1 (t : Fin cfg0.N) : (iblk m c 1 t : Vec Ideal S1x1024 .f32) = V m c main_v4 :=
  funext fun i => congrArg (V m c main_v4) (whole (i := ((cfg0.win 1).blk t).view.emb i) (index1 t) fun _ => rfl)

theorem blk2 (t : Fin cfg0.N) : (iblk m c 2 t : Vec Ideal S2824x1024 .bf16) = V m c main_v1 :=
  funext fun i => congrArg (V m c main_v1) (whole (i := ((cfg0.win 2).blk t).view.emb i) (index2 t) fun _ => rfl)

theorem blk3 (t : Fin cfg0.N) : (iblk m c 3 t : Vec Ideal S128x1024 .bf16) = V m c main_v3 :=
  funext fun i => congrArg (V m c main_v3) (whole (i := ((cfg0.win 3).blk t).view.emb i) (index3 t) fun _ => rfl)

theorem blk4 (t : Fin cfg0.N) : (iblk m c 4 t : Vec Ideal S1x128 .f32) = V m c main_v6 :=
  funext fun i => congrArg (V m c main_v6) (whole (i := ((cfg0.win 4).blk t).view.emb i) (index4 t) fun _ => rfl)

theorem entry_g (d : Fin 1024) : (V m c main_v4 : Vec Ideal S1x1024 .f32) (ix2 0 d) = (args m c).g d := by
  unfold V
  simp only [hostOps0, hostOps0_1, hostOps0_2, hostOps0_3, List.flatten_cons, List.flatten_nil, List.append_nil,
    List.cons_append, List.nil_append]
  after_results
  pointwise []
  rfl

theorem entry_w (f : Fin 2824) (d : Fin 1024) : (V m c main_v1 : Vec Ideal S2824x1024 .bf16) (ix2 f d) = (args m c).w d f := by
  unfold V
  simp only [hostOps0, hostOps0_1, hostOps0_2, hostOps0_3, List.flatten_cons, List.flatten_nil, List.append_nil,
    List.cons_append, List.nil_append]
  after_results
  pointwise []
  rfl

theorem entry_wd (h : Fin 128) (d : Fin 1024) : (V m c main_v3 : Vec Ideal S128x1024 .bf16) (ix2 h d)
    = if hh : h.1 < 8 then (args m c).w d ⟨2816 + h.1, by omega⟩ else 0 := by
  unfold V
  simp only [hostOps0, hostOps0_1, hostOps0_2, hostOps0_3, List.flatten_cons, List.flatten_nil, List.append_nil,
    List.cons_append, List.nil_append]
  after_results
  let y : Vec Ideal S1024x2824 .f32 := m ((c : Thread nD τ).loc main_arg2)
  let x : Vec Ideal S8x1024 .bf16 := extractStridedSlice S8x1024 ![2816, 0] (truncf (F := Ideal) .bf16 (transpose S2824x1024 [1, 0] y transposes_S1024x2824_S2824x1024_1_0) bitsLt_bf16_f32) slices_S2824x1024_S8x1024_2816_0
  let v : Vec Ideal S_ .bf16 := sitofp (F := Ideal) .bf16 (constantI S_ 32 0#32)
  have hx : ∀ k : Fin 8, x (ix2 k d) = (args m c).w d ⟨2816 + k.1, by omega⟩ := by
    intro k
    show extractStridedSlice S8x1024 _ _ _ _ = _
    pointwise []
    rfl
  have hv : ∀ i, v i = 0 := fun _ => EReal.coe_eq_coe_iff.mpr (by norm_num [constantI])
  change pad S128x1024 ![0, 0] ![120, 0] ![0, 0] x v pads_S8x1024_S128x1024_01200_000 h_S_ (ix2 h d) = _
  clear_value x v
  by_cases hh : h.1 < 8
  · rw [dif_pos hh, ← hx ⟨h.1, hh⟩]
    exact pad_in _ _ _ _ (by decide) (by decide) _ (ix2 ⟨h.1, hh⟩ d) (fun | ⟨0, _⟩ => rfl | ⟨1, _⟩ => rfl)
  · rw [dif_neg hh]
    exact (pad_out _ _ _ _ (by decide) (by decide) _ ⟨0, by decide⟩ (Nat.not_lt.mp hh)).trans (hv _)

theorem entry_bd (h : Fin 128) : (V m c main_v6 : Vec Ideal S1x128 .f32) (ix2 0 h)
    = if hh : h.1 < 8 then (args m c).b ⟨h.1, hh⟩ else 0 := by
  unfold V
  simp only [hostOps0, hostOps0_1, hostOps0_2, hostOps0_3, List.flatten_cons, List.flatten_nil, List.append_nil,
    List.cons_append, List.nil_append]
  after_results
  let x : Vec Ideal S1x8 .f32 := shapeCast S1x8 (m ((c : Thread nD τ).loc main_arg3) : Vec Ideal S8 .f32) shapeCasts_S8_S1x8
  let v : Vec Ideal S_ .f32 := sitofp (F := Ideal) .f32 (constantI S_ 32 0#32)
  have hx : ∀ k : Fin 8, x (ix2 0 k) = (args m c).b k := by
    intro k
    show shapeCast S1x8 _ _ _ = _
    pointwise []
    rfl
  have hv : ∀ i, v i = 0 := fun _ => EReal.coe_eq_coe_iff.mpr (by norm_num [constantI])
  change pad S1x128 ![0, 0] ![0, 120] ![0, 0] x v pads_S1x8_S1x128_000_01200 h_S_ (ix2 0 h) = _
  clear_value x v
  by_cases hh : h.1 < 8
  · rw [dif_pos hh, ← hx ⟨h.1, hh⟩]
    exact pad_in _ _ _ _ (by decide) (by decide) _ (ix2 0 ⟨h.1, hh⟩) (fun | ⟨0, _⟩ => rfl | ⟨1, _⟩ => rfl)
  · rw [dif_neg hh]
    exact (pad_out _ _ _ _ (by decide) (by decide) _ ⟨1, by decide⟩ (Nat.not_lt.mp hh)).trans (hv _)

/-- The input blocks hold the tile's rows and the arguments. -/
theorem blocks (t : Fin cfg0.N) : Blocks (iblk m c 0 t) (iblk m c 1 t) (iblk m c 2 t) (iblk m c 3 t) (iblk m c 4 t) (args m c) (rowOf t) where
  x r d := blk0 m c t r d
  g d := (congrFun (blk1 m c t) _).trans (entry_g m c d)
  w f d := (congrFun (blk2 m c t) _).trans (entry_w m c f d)
  wd h d := (congrFun (blk3 m c t) _).trans (entry_wd m c h d)
  bd h := (congrFun (blk4 m c t) _).trans (entry_bd m c h)

/-! ## The result arrays -/

/-- The reference's keys, transposed. -/
def resK : Vec Ideal S8x512x2048 .bf16 := Cert.ProjPromptRefIdeal.Read.val_main_v25 (F := Ideal) (m ((c : Thread nD τ).loc main_arg0)) (m ((c : Thread nD τ).loc main_arg1)) (m ((c : Thread nD τ).loc main_arg2))

theorem final6 : (dats m 0 c).arrAt 6 cfg0.N = resK m c := by
  refine (dats m 0 c).arrAt_eq_of_cover 6 _ (fun t _ => funext fun j => ?_) (Pipeline.Window.Covers.cover win0_6 (by decide +kernel) (arr_whole0 6))
  show (cfg0.win 6).cut (grid0.coords t) ((dats m 0 c).after 6 t) j = _
  rw [after0_6]
  obtain ⟨f, r, rfl⟩ := split3 j
  exact (k_at (blocks m c t) r f).trans ((ref_k _ _ _ (m ((c : Thread nD τ).loc main_arg3)) (rowOf t r) f).symm.trans
    (congrArg (resK m c) (place_cols t (index6 t) f r (((cfg0.win 6).blk t).view.emb _) (fun | ⟨0, _⟩ => rfl | ⟨1, _⟩ => rfl | ⟨2, _⟩ => rfl)).symm))

/-- The reference's keys by head. -/
def resKH : Vec Ideal S8x8x64x2048 .f32 := Cert.ProjPromptRefIdeal.Read.val_main_v27 (F := Ideal) (m ((c : Thread nD τ).loc main_arg0)) (m ((c : Thread nD τ).loc main_arg1)) (m ((c : Thread nD τ).loc main_arg2))

theorem final8 : (dats m 0 c).arrAt 8 cfg0.N = resKH m c := by
  refine (dats m 0 c).arrAt_eq_of_cover 8 _ (fun t _ => funext fun j => ?_) (Pipeline.Window.Covers.cover win0_8 (by decide +kernel) (arr_whole0 8))
  show (cfg0.win 8).cut (grid0.coords t) ((dats m 0 c).after 8 t) j = _
  rw [after0_8]
  obtain ⟨h, p, r, rfl⟩ := split4 j
  exact (kh_at (blocks m c t) r h p).trans ((ref_kh _ _ _ (m ((c : Thread nD τ).loc main_arg3)) (rowOf t r) h p).symm.trans
    (congrArg (resKH m c) (place_heads t (index8 t) h p r (((cfg0.win 8).blk t).view.emb _) (fun | ⟨0, _⟩ => rfl | ⟨1, _⟩ => rfl | ⟨2, _⟩ => rfl | ⟨3, _⟩ => rfl)).symm))

/-- The reference's values by head. -/
def resVH : Vec Ideal S8x8x64x2048 .f32 := Cert.ProjPromptRefIdeal.Read.val_main_v29 (F := Ideal) (m ((c : Thread nD τ).loc main_arg0)) (m ((c : Thread nD τ).loc main_arg1)) (m ((c : Thread nD τ).loc main_arg2))

theorem final9 : (dats m 0 c).arrAt 9 cfg0.N = resVH m c := by
  refine (dats m 0 c).arrAt_eq_of_cover 9 _ (fun t _ => funext fun j => ?_) (Pipeline.Window.Covers.cover win0_9 (by decide +kernel) (arr_whole0 9))
  show (cfg0.win 9).cut (grid0.coords t) ((dats m 0 c).after 9 t) j = _
  rw [after0_9]
  obtain ⟨h, p, r, rfl⟩ := split4 j
  exact (vh_at (blocks m c t) r h p).trans ((ref_vh _ _ _ (m ((c : Thread nD τ).loc main_arg3)) (rowOf t r) h p).symm.trans
    (congrArg (resVH m c) (place_heads t (index9 t) h p r (((cfg0.win 9).blk t).view.emb _) (fun | ⟨0, _⟩ => rfl | ⟨1, _⟩ => rfl | ⟨2, _⟩ => rfl | ⟨3, _⟩ => rfl)).symm))

/-- The reference's gate. -/
def resZ : Vec Ideal S8x2048x512 .f32 := Cert.ProjPromptRefIdeal.Read.val_main_v16 (F := Ideal) (m ((c : Thread nD τ).loc main_arg0)) (m ((c : Thread nD τ).loc main_arg1)) (m ((c : Thread nD τ).loc main_arg2))

theorem final10 : (dats m 0 c).arrAt 10 cfg0.N = resZ m c := by
  refine (dats m 0 c).arrAt_eq_of_cover 10 _ (fun t _ => funext fun j => ?_) (Pipeline.Window.Covers.cover win0_10 (by decide +kernel) (arr_whole0 10))
  show (cfg0.win 10).cut (grid0.coords t) ((dats m 0 c).after 10 t) j = _
  rw [after0_10]
  obtain ⟨r, f, rfl⟩ := split3 j
  exact (z_at (blocks m c t) r f).trans ((ref_z _ _ _ (m ((c : Thread nD τ).loc main_arg3)) (rowOf t r) f).symm.trans
    (congrArg (resZ m c) (place_rows t (index10 t) r f (((cfg0.win 10).blk t).view.emb _) (fun | ⟨0, _⟩ => rfl | ⟨1, _⟩ => rfl | ⟨2, _⟩ => rfl)).symm))

/-- The reference's recurrence's input. -/
def resX : Vec Ideal S8x2048x768 .f32 := Cert.ProjPromptRefIdeal.Read.val_main_v17 (F := Ideal) (m ((c : Thread nD τ).loc main_arg0)) (m ((c : Thread nD τ).loc main_arg1)) (m ((c : Thread nD τ).loc main_arg2))

theorem final11 : (dats m 0 c).arrAt 11 cfg0.N = resX m c := by
  refine (dats m 0 c).arrAt_eq_of_cover 11 _ (fun t _ => funext fun j => ?_) (Pipeline.Window.Covers.cover win0_11 (by decide +kernel) (arr_whole0 11))
  show (cfg0.win 11).cut (grid0.coords t) ((dats m 0 c).after 11 t) j = _
  rw [after0_11]
  obtain ⟨r, f, rfl⟩ := split3 j
  exact (xbc_at (blocks m c t) r f).trans ((ref_xbc _ _ _ (m ((c : Thread nD τ).loc main_arg3)) (rowOf t r) f).symm.trans
    (congrArg (resX m c) (place_rows t (index11 t) r f (((cfg0.win 11).blk t).view.emb _) (fun | ⟨0, _⟩ => rfl | ⟨1, _⟩ => rfl | ⟨2, _⟩ => rfl)).symm))

/-- The reference's step sizes. -/
def resD : Vec Ideal S8x2048x128 .f32 := Cert.ProjPromptRefIdeal.Read.val_main_v23 (F := Ideal) (m ((c : Thread nD τ).loc main_arg0)) (m ((c : Thread nD τ).loc main_arg1)) (m ((c : Thread nD τ).loc main_arg2)) (m ((c : Thread nD τ).loc main_arg3))

theorem final12 : (dats m 0 c).arrAt 12 cfg0.N = resD m c := by
  refine (dats m 0 c).arrAt_eq_of_cover 12 _ (fun t _ => funext fun j => ?_) (Pipeline.Window.Covers.cover win0_12 (by decide +kernel) (arr_whole0 12))
  show (cfg0.win 12).cut (grid0.coords t) ((dats m 0 c).after 12 t) j = _
  rw [after0_12]
  obtain ⟨r, f, rfl⟩ := split3 j
  exact (dt_at (blocks m c t) r f).trans ((ref_dt _ _ _ (m ((c : Thread nD τ).loc main_arg3)) (rowOf t r) f).symm.trans
    (congrArg (resD m c) (place_rows t (index12 t) r f (((cfg0.win 12).blk t).view.emb _) (fun | ⟨0, _⟩ => rfl | ⟨1, _⟩ => rfl | ⟨2, _⟩ => rfl)).symm))

end ProjPrompt

end
-- ==== Proof.lean ====
module

public import proofs.«01_k».proof.Defs
public import proofs.«01_k».proof.Proof.Gen.SsdKernel
public import proofs.«01_k».proof.Proof.Gen.SsdKernel.Skeleton
public import proofs.«01_k».proof.Proof.Gen.SsdKernel.Launch
public import proofs.«01_k».proof.Proof.Gen.SsdKernel.Points
public import proofs.«01_k».proof.Proof.Gen.SsdKernel.Frame
public import proofs.«01_k».proof.Proof.Gen.SsdKernelIdeal
public import proofs.«01_k».proof.Proof.Gen.SsdKernelIdeal.Skeleton
public import proofs.«01_k».proof.Proof.Gen.SsdKernelIdeal.Launch
public import proofs.«01_k».proof.Proof.Gen.SsdKernelIdeal.Points
public import proofs.«01_k».proof.Proof.Gen.SsdKernelIdeal.Frame
public import proofs.«01_k».proof.Proof.Gen.SsdRefIdeal
public import proofs.«01_k».proof.Proof.Gen.SsdKernelIdeal.Value
public import proofs.«01_k».proof.Proof.Gen.SsdRefIdeal.Run
public import proofs.«01_k».proof.Proof.Gen.SsdRefIdeal.Read
public import proofs.«01_k».proof.Proof.Gen.Pre_dt_nonneg
public import proofs.«01_k».proof.Proof.Gen.ProjKernel
public import proofs.«01_k».proof.Proof.Gen.ProjKernelIdeal
public import proofs.«01_k».proof.Proof.Gen.ProjKernel.Frame
public import proofs.«01_k».proof.Proof.Gen.ProjKernelIdeal.Frame
public import proofs.«01_k».proof.Proof.Gen.ProjKernelIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.SsdValue
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernel.Loops
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnKernelIdeal.Loops
public import proofs.«01_k».proof.Proof.Gen.FfnRefIdeal
public import proofs.«01_k».proof.Proof.Gen.FfnRefIdeal.Run
public import proofs.«01_k».proof.Proof.Gen.FfnRefIdeal.Read
public import proofs.«01_k».proof.Proof.FfnFrame
public import proofs.«01_k».proof.Proof.FfnValue
public import proofs.«01_k».proof.Proof.ProjValue
public import proofs.«01_k».proof.Proof.ProjPromptValue
public import Idealize.ShloMosaic.Lib.Claim
public import Idealize.ShloMosaic.Adequacy
public import Idealize.ShloMosaic.Init
public import proofs.«01_k».proof.Proof.Gen.ProjPromptKernel
public import proofs.«01_k».proof.Proof.Gen.ProjPromptKernel.Frame
public import proofs.«01_k».proof.Proof.Gen.ProjPromptKernelIdeal
public import proofs.«01_k».proof.Proof.Gen.ProjPromptKernelIdeal.Frame
public import proofs.«01_k».proof.Proof.Gen.ProjPromptRefIdeal
public import proofs.«01_k».proof.Proof.Gen.ProjPromptRefIdeal.Run
public import proofs.«01_k».proof.Proof.Gen.ProjPromptRefIdeal.Read

/-! # The certificate

The frames come from the programs' own runs; the value claim puts the kernel's result arrays (`Ssd.final11`,
`Ssd.final12` for the recurrence, `Ffn.final_out`, `Ffn.final_state` for the feed-forward call, `Proj.final5` to
`Proj.final12` for the sample's input projection, `ProjPrompt.final6` to `ProjPrompt.final12` for the prompt's) beside the reference's run. -/

@[expose] public section

noncomputable section

namespace Cert.Proof

open Idealize.ShloMosaic Idealize.ShloMosaic.Pointwise Idealize.SL.Sem

/-- The printed precondition says that no step size is negative. -/
theorem dt_of_pre (m : (ℓ : Loc Cert.SsdKernelIdeal.nD Cert.SsdKernelIdeal.τ Cert.SsdKernelIdeal.sig) → Buf (Elt Ideal) ℓ)
    (h : Cert.Pre_SsdKernelIdeal_dt_nonneg m) (c : Dev Cert.SsdKernelIdeal.nD) : Ssd.DtNonneg m c := by
  intro b t l
  have e := congrFun (h c) (ix3 b t l)
  unfold Cert.Pre_dt_nonneg.fn at e
  pointwise [] at e
  by_contra hn
  rw [decide_eq_false hn] at e
  exact absurd e (by decide)

/-- Kernel and reference end with the same two result arrays. -/
theorem ssd_algebraic : Cert.algebraic_SsdKernelIdeal_SsdRefIdeal_pre_dt_nonneg := by
  intro m g m' g' hpre hagree
  refine ⟨fun c => Ssd.resY m c, fun c => Ssd.resS m c, ?_, ?_⟩
  · refine (θ_run Cert.SsdKernelIdeal.defs _ _).mono (fun r h c => ?_) (Cert.SsdKernelIdeal.Value.run_blocks m g)
    obtain ⟨h11, h12, hrest⟩ := h c
    exact ⟨h11.trans (Ssd.final11 m c (dt_of_pre m hpre c)), h12.trans (Ssd.final12 m c (dt_of_pre m hpre c)), hrest⟩
  · refine (θ_run Cert.SsdRefIdeal.defs _ _).mono (fun r h c => ?_) (Cert.SsdRefIdeal.Value.run m' g')
    obtain ⟨hy, hs, hrest⟩ := h c
    obtain ⟨a0, a1, a2, a3, a4, a5, a6, a7, a8, a9⟩ := hagree c
    refine ⟨hy.trans ?_, hs.trans ?_, hrest⟩
    · rw [Cert.SsdRefIdeal.Read.val_main_v117_eq, a0, a1, a2, a3, a4, a5, a6, a7, a8, a9]; rfl
    · rw [Cert.SsdRefIdeal.Read.val_main_v118_eq, a0, a2, a3, a4, a5, a6, a7]; rfl

/-- The reference leaves its arguments and every counter as they were. -/
theorem ssd_ref_frame : Cert.quiescent_SsdRefIdeal := by
  intro m g _
  refine (θ_run Cert.SsdRefIdeal.defs _ _).mono (fun r h => ⟨fun c => (h c).2.2, ?_⟩) (Cert.SsdRefIdeal.Value.run m g)
  funext x
  have he : IsEmpty (SemLoc Cert.SsdRefIdeal.sig) := by
    rw [← Fintype.card_eq_zero_iff]; decide
  exact he.elim x.2

/-- The feed-forward call and its reference end with the same two result arrays. -/
theorem ffn_algebraic : Cert.algebraic_FfnKernelIdeal_FfnRefIdeal := by
  intro m g m' g' _ hagree
  refine ⟨fun c => Ffn.resOut m c, fun c => Ffn.resState m c, ?_, ?_⟩
  · refine (θ_run Cert.FfnKernelIdeal.defs _ _).mono (fun r h c => ?_) (θ_run_and (Ffn.results m g) (Ffn.unchanged m g))
    exact ⟨(h.1 c).1, (h.1 c).2, h.2 c⟩
  · refine (θ_run Cert.FfnRefIdeal.defs _ _).mono (fun r h c => ?_) (Cert.FfnRefIdeal.Value.run m' g')
    obtain ⟨ho, hs, hrest⟩ := h c
    obtain ⟨a0, a1, a2, a3, a4, a5, a6, a7, a8, a9, a10, a11, a12⟩ := hagree c
    refine ⟨ho.trans ?_, hs.trans ?_, hrest⟩
    · refine (Cert.FfnRefIdeal.Read.val_main_v99_eq _).trans ?_
      show Cert.FfnRefIdeal.Read.val_main_v99 (F := Ideal) (m' (c.tc.loc Cert.FfnRefIdeal.main_arg0)) (m' (c.tc.loc Cert.FfnRefIdeal.main_arg1)) (m' (c.tc.loc Cert.FfnRefIdeal.main_arg2)) (m' (c.tc.loc Cert.FfnRefIdeal.main_arg3)) (m' (c.tc.loc Cert.FfnRefIdeal.main_arg4)) (m' (c.tc.loc Cert.FfnRefIdeal.main_arg5)) (m' (c.tc.loc Cert.FfnRefIdeal.main_arg6)) (m' (c.tc.loc Cert.FfnRefIdeal.main_arg7)) (m' (c.tc.loc Cert.FfnRefIdeal.main_arg8)) (m' (c.tc.loc Cert.FfnRefIdeal.main_arg9)) (m' (c.tc.loc Cert.FfnRefIdeal.main_arg10)) (m' (c.tc.loc Cert.FfnRefIdeal.main_arg11)) (m' (c.tc.loc Cert.FfnRefIdeal.main_arg12)) = _
      rw [a0, a1, a2, a3, a4, a5, a6, a7, a8, a9, a10, a11, a12]; rfl
    · refine (Cert.FfnRefIdeal.Read.val_main_v102_eq _).trans ?_
      show Cert.FfnRefIdeal.Read.val_main_v102 (F := Ideal) (m' (c.tc.loc Cert.FfnRefIdeal.main_arg0)) (m' (c.tc.loc Cert.FfnRefIdeal.main_arg1)) (m' (c.tc.loc Cert.FfnRefIdeal.main_arg2)) (m' (c.tc.loc Cert.FfnRefIdeal.main_arg3)) (m' (c.tc.loc Cert.FfnRefIdeal.main_arg4)) (m' (c.tc.loc Cert.FfnRefIdeal.main_arg5)) (m' (c.tc.loc Cert.FfnRefIdeal.main_arg6)) (m' (c.tc.loc Cert.FfnRefIdeal.main_arg8)) (m' (c.tc.loc Cert.FfnRefIdeal.main_arg9)) = _
      rw [a0, a1, a2, a3, a4, a5, a6, a8, a9]; rfl

/-- The feed-forward reference leaves its arguments and every counter as they were. -/
theorem ffn_ref_frame : Cert.quiescent_FfnRefIdeal := by
  intro m g _
  refine (θ_run Cert.FfnRefIdeal.defs _ _).mono (fun r h => ⟨fun c => (h c).2.2, ?_⟩) (Cert.FfnRefIdeal.Value.run m g)
  funext x
  have he : IsEmpty (SemLoc Cert.FfnRefIdeal.sig) := by
    rw [← Fintype.card_eq_zero_iff]; decide
  exact he.elim x.2

/-- The input projection and its reference end with the same eight result arrays. -/
theorem proj_algebraic : Cert.algebraic_ProjKernelIdeal_ProjRefIdeal := by
  intro m g m' g' _ hagree
  refine ⟨fun c => Proj.resQ m c, fun c => Proj.resK m c, fun c => Proj.resV m c, fun c => Proj.resKH m c, fun c => Proj.resVH m c,
    fun c => Proj.resZ m c, fun c => Proj.resX m c, fun c => Proj.resD m c, ?_, ?_⟩
  · refine (θ_run Cert.ProjKernelIdeal.defs _ _).mono (fun r h c => ?_) (Cert.ProjKernelIdeal.Value.run_blocks m g)
    obtain ⟨h5, h6, h7, h8, h9, h10, h11, h12, hrest⟩ := h c
    exact ⟨h5.trans (Proj.final5 m c), h6.trans (Proj.final6 m c), h7.trans (Proj.final7 m c), h8.trans (Proj.final8 m c),
      h9.trans (Proj.final9 m c), h10.trans (Proj.final10 m c), h11.trans (Proj.final11 m c), h12.trans (Proj.final12 m c), hrest⟩
  · refine (θ_run Cert.ProjRefIdeal.defs _ _).mono (fun r h c => ?_) (Cert.ProjRefIdeal.Value.run m' g')
    obtain ⟨hq, hk, hv, hkh, hvh, hz, hx, hd, hrest⟩ := h c
    obtain ⟨a0, a1, a2, a3⟩ := hagree c
    refine ⟨hq.trans ?_, hk.trans ?_, hv.trans ?_, hkh.trans ?_, hvh.trans ?_, hz.trans ?_, hx.trans ?_, hd.trans ?_, hrest⟩
    · rw [Cert.ProjRefIdeal.Read.val_main_v28_eq, a0, a1, a2]; rfl
    · rw [Cert.ProjRefIdeal.Read.val_main_v29_eq, a0, a1, a2]; rfl
    · rw [Cert.ProjRefIdeal.Read.val_main_v30_eq, a0, a1, a2]; rfl
    · rw [Cert.ProjRefIdeal.Read.val_main_v31_eq, a0, a1, a2]; rfl
    · rw [Cert.ProjRefIdeal.Read.val_main_v32_eq, a0, a1, a2]; rfl
    · rw [Cert.ProjRefIdeal.Read.val_main_v18_eq, a0, a1, a2]; rfl
    · rw [Cert.ProjRefIdeal.Read.val_main_v19_eq, a0, a1, a2]; rfl
    · rw [Cert.ProjRefIdeal.Read.val_main_v25_eq, a0, a1, a2, a3]; rfl

/-- The input projection's reference leaves its arguments and every counter as they were. -/
theorem proj_ref_frame : Cert.quiescent_ProjRefIdeal := by
  intro m g _
  refine (θ_run Cert.ProjRefIdeal.defs _ _).mono (fun r h => ⟨fun c => (h c).2.2.2.2.2.2.2.2, ?_⟩) (Cert.ProjRefIdeal.Value.run m g)
  funext x
  have he : IsEmpty (SemLoc Cert.ProjRefIdeal.sig) := by
    rw [← Fintype.card_eq_zero_iff]; decide
  exact he.elim x.2

/-- The prompt's input projection and its reference end with the same six result arrays. -/
theorem proj_prompt_algebraic : Cert.algebraic_ProjPromptKernelIdeal_ProjPromptRefIdeal := by
  intro m g m' g' _ hagree
  refine ⟨fun c => ProjPrompt.resK m c, fun c => ProjPrompt.resKH m c, fun c => ProjPrompt.resVH m c,
    fun c => ProjPrompt.resZ m c, fun c => ProjPrompt.resX m c, fun c => ProjPrompt.resD m c, ?_, ?_⟩
  · refine (θ_run Cert.ProjPromptKernelIdeal.defs _ _).mono (fun r h c => ?_)
      (θ_run_and (Cert.ProjPromptKernelIdeal.Gen.run_main m g) (Cert.ProjPromptKernelIdeal.Gen.unchanged m g))
    have a := (h.1 c).1
    exact ⟨(a 6).trans (ProjPrompt.final6 m c), (a 8).trans (ProjPrompt.final8 m c), (a 9).trans (ProjPrompt.final9 m c),
      (a 10).trans (ProjPrompt.final10 m c), (a 11).trans (ProjPrompt.final11 m c), (a 12).trans (ProjPrompt.final12 m c), h.2 c⟩
  · refine (θ_run Cert.ProjPromptRefIdeal.defs _ _).mono (fun r h c => ?_) (Cert.ProjPromptRefIdeal.Value.run m' g')
    obtain ⟨hk, hkh, hvh, hz, hx, hd, hrest⟩ := h c
    obtain ⟨a0, a1, a2, a3⟩ := hagree c
    refine ⟨hk.trans ?_, hkh.trans ?_, hvh.trans ?_, hz.trans ?_, hx.trans ?_, hd.trans ?_, hrest⟩
    · rw [Cert.ProjPromptRefIdeal.Read.val_main_v25_eq, a0, a1, a2]; rfl
    · rw [Cert.ProjPromptRefIdeal.Read.val_main_v27_eq, a0, a1, a2]; rfl
    · rw [Cert.ProjPromptRefIdeal.Read.val_main_v29_eq, a0, a1, a2]; rfl
    · rw [Cert.ProjPromptRefIdeal.Read.val_main_v16_eq, a0, a1, a2]; rfl
    · rw [Cert.ProjPromptRefIdeal.Read.val_main_v17_eq, a0, a1, a2]; rfl
    · rw [Cert.ProjPromptRefIdeal.Read.val_main_v23_eq, a0, a1, a2, a3]; rfl

/-- The prompt's input projection's reference leaves its arguments and every counter as they were. -/
theorem proj_prompt_ref_frame : Cert.quiescent_ProjPromptRefIdeal := by
  intro m g _
  refine (θ_run Cert.ProjPromptRefIdeal.defs _ _).mono (fun r h => ⟨fun c => (h c).2.2.2.2.2.2, ?_⟩) (Cert.ProjPromptRefIdeal.Value.run m g)
  funext x
  have he : IsEmpty (SemLoc Cert.ProjPromptRefIdeal.sig) := by
    rw [← Fintype.card_eq_zero_iff]; decide
  exact he.elim x.2

/-- All the claims. -/
theorem claim : Cert.Claim := ⟨Cert.SsdKernel.Gen.facts, Cert.SsdKernelIdeal.Gen.facts, Cert.SsdRefIdeal.Gen.facts,
  Cert.FfnKernel.Gen.facts, Cert.FfnKernelIdeal.Gen.facts, Cert.FfnRefIdeal.Gen.facts,
  Cert.ProjKernel.Gen.facts, Cert.ProjKernelIdeal.Gen.facts, Cert.ProjRefIdeal.Gen.facts,
  Cert.ProjPromptKernel.Gen.facts, Cert.ProjPromptKernelIdeal.Gen.facts, Cert.ProjPromptRefIdeal.Gen.facts, Cert.Pre_dt_nonneg.Gen.facts,
  fun m g _ => Cert.SsdKernel.Gen.frame m g, fun m g _ => Cert.SsdKernelIdeal.Gen.frame m g, fun m g _ => Cert.SsdKernelIdeal.Gen.frame m g,
  ssd_ref_frame, fun m g _ => ssd_ref_frame m g trivial,
  fun m g _ => Cert.FfnKernel.Run.frame m g, fun m g _ => θ_run_and (Ffn.unchanged m g) (Ffn.counters m g), ffn_ref_frame,
  fun m g _ => Cert.ProjKernel.Gen.frame m g, fun m g _ => Cert.ProjKernelIdeal.Gen.frame m g, proj_ref_frame,
  fun m g _ => Cert.ProjPromptKernel.Gen.frame m g, fun m g _ => Cert.ProjPromptKernelIdeal.Gen.frame m g, proj_prompt_ref_frame,
  trivial, ssd_algebraic, trivial, ffn_algebraic, trivial, proj_algebraic, trivial, proj_prompt_algebraic⟩

end Cert.Proof

end
